-- ==== Defs.lean ====
def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Experts [hPre_in_range : Cert.Pre_in_range.Facts] (m : (ℓ : Loc Cert.Experts.nD Cert.Experts.τ Cert.Experts.sig) → Buf (Elt Bits) ℓ) : Prop :=
  ∀ c : Dev Cert.Experts.nD,
    (Cert.Pre_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_in_range : Cert.Pre_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsRefIdeal [hPre_in_range : Cert.Pre_in_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_in_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))) = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Samp (m : (ℓ : Loc Cert.Samp.nD Cert.Samp.τ Cert.Samp.sig) → Buf (Elt Bits) ℓ) : Prop :=
  True

def Pre_SampIdeal (m : (ℓ : Loc Cert.SampIdeal.nD Cert.SampIdeal.τ Cert.SampIdeal.sig) → Buf (Elt Ideal) ℓ) : Prop :=
  True

def Pre_SampRefIdeal (m : (ℓ : Loc Cert.SampRefIdeal.nD Cert.SampRefIdeal.τ Cert.SampRefIdeal.sig) → Buf (Elt Ideal) ℓ) : Prop :=
  True

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Experts [hExperts : Cert.Experts.Facts] [hPre_in_range : Cert.Pre_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_in_range : Cert.Pre_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] [hPre_in_range : Cert.Pre_in_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9))
      ∧ r.2.sem = fun _ => 0)

def quiescent_Samp [hSamp : Cert.Samp.Facts] : Prop :=
  ∀ (m : (ℓ : Loc Cert.Samp.nD Cert.Samp.τ Cert.Samp.sig) → Buf (Elt Bits) ℓ) (g : Dev Cert.Samp.nD → PrngReg), Pre_Samp m →
    θ_run (Cert.Samp.defs (F := Bits)) (onTc (τ := Cert.Samp.τ) (Cert.Samp.main (F := Bits))) ⟨m, fun _ => 0, g⟩ (fun r => (∀ c : Dev Cert.Samp.nD,
      r.2.mem ((c.tc : Thread Cert.Samp.nD Cert.Samp.τ).loc Cert.Samp.main_arg0) = m ((c.tc : Thread Cert.Samp.nD Cert.Samp.τ).loc Cert.Samp.main_arg0)
      ∧ r.2.mem ((c.tc : Thread Cert.Samp.nD Cert.Samp.τ).loc Cert.Samp.main_arg1) = m ((c.tc : Thread Cert.Samp.nD Cert.Samp.τ).loc Cert.Samp.main_arg1)
      ∧ r.2.mem ((c.tc : Thread Cert.Samp.nD Cert.Samp.τ).loc Cert.Samp.main_arg2) = m ((c.tc : Thread Cert.Samp.nD Cert.Samp.τ).loc Cert.Samp.main_arg2)
      ∧ r.2.mem ((c.tc : Thread Cert.Samp.nD Cert.Samp.τ).loc Cert.Samp.main_arg3) = m ((c.tc : Thread Cert.Samp.nD Cert.Samp.τ).loc Cert.Samp.main_arg3)
      ∧ r.2.mem ((c.tc : Thread Cert.Samp.nD Cert.Samp.τ).loc Cert.Samp.main_arg4) = m ((c.tc : Thread Cert.Samp.nD Cert.Samp.τ).loc Cert.Samp.main_arg4))
      ∧ r.2.sem = fun _ => 0)

def quiescent_SampIdeal [hSampIdeal : Cert.SampIdeal.Facts] : Prop :=
  ∀ (m : (ℓ : Loc Cert.SampIdeal.nD Cert.SampIdeal.τ Cert.SampIdeal.sig) → Buf (Elt Ideal) ℓ) (g : Dev Cert.SampIdeal.nD → PrngReg), Pre_SampIdeal m →
    θ_run (Cert.SampIdeal.defs (F := Ideal)) (onTc (τ := Cert.SampIdeal.τ) (Cert.SampIdeal.main (F := Ideal))) ⟨m, fun _ => 0, g⟩ (fun r => (∀ c : Dev Cert.SampIdeal.nD,
      r.2.mem ((c.tc : Thread Cert.SampIdeal.nD Cert.SampIdeal.τ).loc Cert.SampIdeal.main_arg0) = m ((c.tc : Thread Cert.SampIdeal.nD Cert.SampIdeal.τ).loc Cert.SampIdeal.main_arg0)
      ∧ r.2.mem ((c.tc : Thread Cert.SampIdeal.nD Cert.SampIdeal.τ).loc Cert.SampIdeal.main_arg1) = m ((c.tc : Thread Cert.SampIdeal.nD Cert.SampIdeal.τ).loc Cert.SampIdeal.main_arg1)
      ∧ r.2.mem ((c.tc : Thread Cert.SampIdeal.nD Cert.SampIdeal.τ).loc Cert.SampIdeal.main_arg2) = m ((c.tc : Thread Cert.SampIdeal.nD Cert.SampIdeal.τ).loc Cert.SampIdeal.main_arg2)
      ∧ r.2.mem ((c.tc : Thread Cert.SampIdeal.nD Cert.SampIdeal.τ).loc Cert.SampIdeal.main_arg3) = m ((c.tc : Thread Cert.SampIdeal.nD Cert.SampIdeal.τ).loc Cert.SampIdeal.main_arg3)
      ∧ r.2.mem ((c.tc : Thread Cert.SampIdeal.nD Cert.SampIdeal.τ).loc Cert.SampIdeal.main_arg4) = m ((c.tc : Thread Cert.SampIdeal.nD Cert.SampIdeal.τ).loc Cert.SampIdeal.main_arg4))
      ∧ r.2.sem = fun _ => 0)

def quiescent_SampRefIdeal [hSampRefIdeal : Cert.SampRefIdeal.Facts] : Prop :=
  ∀ (m : (ℓ : Loc Cert.SampRefIdeal.nD Cert.SampRefIdeal.τ Cert.SampRefIdeal.sig) → Buf (Elt Ideal) ℓ) (g : Dev Cert.SampRefIdeal.nD → PrngReg), Pre_SampRefIdeal m →
    θ_run (Cert.SampRefIdeal.defs (F := Ideal)) (onTc (τ := Cert.SampRefIdeal.τ) (Cert.SampRefIdeal.main (F := Ideal))) ⟨m, fun _ => 0, g⟩ (fun r => (∀ c : Dev Cert.SampRefIdeal.nD,
      r.2.mem ((c.tc : Thread Cert.SampRefIdeal.nD Cert.SampRefIdeal.τ).loc Cert.SampRefIdeal.main_arg0) = m ((c.tc : Thread Cert.SampRefIdeal.nD Cert.SampRefIdeal.τ).loc Cert.SampRefIdeal.main_arg0)
      ∧ r.2.mem ((c.tc : Thread Cert.SampRefIdeal.nD Cert.SampRefIdeal.τ).loc Cert.SampRefIdeal.main_arg1) = m ((c.tc : Thread Cert.SampRefIdeal.nD Cert.SampRefIdeal.τ).loc Cert.SampRefIdeal.main_arg1)
      ∧ r.2.mem ((c.tc : Thread Cert.SampRefIdeal.nD Cert.SampRefIdeal.τ).loc Cert.SampRefIdeal.main_arg2) = m ((c.tc : Thread Cert.SampRefIdeal.nD Cert.SampRefIdeal.τ).loc Cert.SampRefIdeal.main_arg2)
      ∧ r.2.mem ((c.tc : Thread Cert.SampRefIdeal.nD Cert.SampRefIdeal.τ).loc Cert.SampRefIdeal.main_arg3) = m ((c.tc : Thread Cert.SampRefIdeal.nD Cert.SampRefIdeal.τ).loc Cert.SampRefIdeal.main_arg3)
      ∧ r.2.mem ((c.tc : Thread Cert.SampRefIdeal.nD Cert.SampRefIdeal.τ).loc Cert.SampRefIdeal.main_arg4) = m ((c.tc : Thread Cert.SampRefIdeal.nD Cert.SampRefIdeal.τ).loc Cert.SampRefIdeal.main_arg4))
      ∧ r.2.sem = fun _ => 0)

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v14_0)) (v1 : (c : Dev Cert.ProjIdeal.nD) → Buf (Elt Ideal) ((c.tc : Thread Cert.ProjIdeal.nD Cert.ProjIdeal.τ).loc Cert.ProjIdeal.main_v14_1)) (v2 : (c : Dev Cert.ProjIdeal.nD) → Buf (Elt Ideal) ((c.tc : Thread Cert.ProjIdeal.nD Cert.ProjIdeal.τ).loc Cert.ProjIdeal.main_v14_2)) (v3 : (c : Dev Cert.ProjIdeal.nD) → Buf (Elt Ideal) ((c.tc : Thread Cert.ProjIdeal.nD Cert.ProjIdeal.τ).loc Cert.ProjIdeal.main_v14_3)) (v4 : (c : Dev Cert.ProjIdeal.nD) → Buf (Elt Ideal) ((c.tc : Thread Cert.ProjIdeal.nD Cert.ProjIdeal.τ).loc Cert.ProjIdeal.main_v14_4)) (v5 : (c : Dev Cert.ProjIdeal.nD) → Buf (Elt Ideal) ((c.tc : Thread Cert.ProjIdeal.nD Cert.ProjIdeal.τ).loc Cert.ProjIdeal.main_v14_5)) (v6 : (c : Dev Cert.ProjIdeal.nD) → Buf (Elt Ideal) ((c.tc : Thread Cert.ProjIdeal.nD Cert.ProjIdeal.τ).loc Cert.ProjIdeal.main_v14_6)) (v7 : (c : Dev Cert.ProjIdeal.nD) → Buf (Elt Ideal) ((c.tc : Thread Cert.ProjIdeal.nD Cert.ProjIdeal.τ).loc Cert.ProjIdeal.main_v14_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v14_0) = v0 c
          ∧ r.2.mem ((c.tc : Thread Cert.ProjIdeal.nD Cert.ProjIdeal.τ).loc Cert.ProjIdeal.main_v14_1) = v1 c
          ∧ r.2.mem ((c.tc : Thread Cert.ProjIdeal.nD Cert.ProjIdeal.τ).loc Cert.ProjIdeal.main_v14_2) = v2 c
          ∧ r.2.mem ((c.tc : Thread Cert.ProjIdeal.nD Cert.ProjIdeal.τ).loc Cert.ProjIdeal.main_v14_3) = v3 c
          ∧ r.2.mem ((c.tc : Thread Cert.ProjIdeal.nD Cert.ProjIdeal.τ).loc Cert.ProjIdeal.main_v14_4) = v4 c
          ∧ r.2.mem ((c.tc : Thread Cert.ProjIdeal.nD Cert.ProjIdeal.τ).loc Cert.ProjIdeal.main_v14_5) = v5 c
          ∧ r.2.mem ((c.tc : Thread Cert.ProjIdeal.nD Cert.ProjIdeal.τ).loc Cert.ProjIdeal.main_v14_6) = v6 c
          ∧ r.2.mem ((c.tc : Thread Cert.ProjIdeal.nD Cert.ProjIdeal.τ).loc Cert.ProjIdeal.main_v14_7) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v48) = v0 c
          ∧ r.2.mem ((c.tc : Thread Cert.ProjRefIdeal.nD Cert.ProjRefIdeal.τ).loc Cert.ProjRefIdeal.main_v45) = v1 c
          ∧ r.2.mem ((c.tc : Thread Cert.ProjRefIdeal.nD Cert.ProjRefIdeal.τ).loc Cert.ProjRefIdeal.main_v49) = v2 c
          ∧ r.2.mem ((c.tc : Thread Cert.ProjRefIdeal.nD Cert.ProjRefIdeal.τ).loc Cert.ProjRefIdeal.main_v50) = v3 c
          ∧ r.2.mem ((c.tc : Thread Cert.ProjRefIdeal.nD Cert.ProjRefIdeal.τ).loc Cert.ProjRefIdeal.main_v51) = v4 c
          ∧ r.2.mem ((c.tc : Thread Cert.ProjRefIdeal.nD Cert.ProjRefIdeal.τ).loc Cert.ProjRefIdeal.main_v53) = v5 c
          ∧ r.2.mem ((c.tc : Thread Cert.ProjRefIdeal.nD Cert.ProjRefIdeal.τ).loc Cert.ProjRefIdeal.main_v54) = v6 c
          ∧ r.2.mem ((c.tc : Thread Cert.ProjRefIdeal.nD Cert.ProjRefIdeal.τ).loc Cert.ProjRefIdeal.main_v47) = v7 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Experts_ExpertsIdeal : Prop :=
  True

def algebraic_ExpertsIdeal_ExpertsRefIdeal [hExpertsIdeal : Cert.ExpertsIdeal.Facts] [hExpertsRefIdeal : Cert.ExpertsRefIdeal.Facts] [hPre_in_range : Cert.Pre_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v5)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v5) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v62) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)
      ∧ m' ((c.tc : Thread Cert.OutRefIdeal.nD Cert.OutRefIdeal.τ).loc Cert.OutRefIdeal.main_arg9) = m ((c.tc : Thread Cert.OutIdeal.nD Cert.OutIdeal.τ).loc Cert.OutIdeal.main_arg9)) →
    ∃ (v0 : (c : Dev Cert.OutIdeal.nD) → Buf (Elt Ideal) ((c.tc : Thread Cert.OutIdeal.nD Cert.OutIdeal.τ).loc Cert.OutIdeal.main_v21_0)) (v1 : (c : Dev Cert.OutIdeal.nD) → Buf (Elt Ideal) ((c.tc : Thread Cert.OutIdeal.nD Cert.OutIdeal.τ).loc Cert.OutIdeal.main_v21_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v21_0) = v0 c
          ∧ r.2.mem ((c.tc : Thread Cert.OutIdeal.nD Cert.OutIdeal.τ).loc Cert.OutIdeal.main_v21_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_v18) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9))

def preserves_Samp_SampIdeal : Prop :=
  True

def algebraic_SampIdeal_SampRefIdeal [hSampIdeal : Cert.SampIdeal.Facts] [hSampRefIdeal : Cert.SampRefIdeal.Facts] : Prop :=
  ∀ (m : (ℓ : Loc Cert.SampIdeal.nD Cert.SampIdeal.τ Cert.SampIdeal.sig) → Buf (Elt Ideal) ℓ) (g : Dev Cert.SampIdeal.nD → PrngReg)
    (m' : (ℓ : Loc Cert.SampRefIdeal.nD Cert.SampRefIdeal.τ Cert.SampRefIdeal.sig) → Buf (Elt Ideal) ℓ) (g' : Dev Cert.SampRefIdeal.nD → PrngReg), Pre_SampIdeal m →
    (∀ c : Dev Cert.SampIdeal.nD,
      m' ((c.tc : Thread Cert.SampRefIdeal.nD Cert.SampRefIdeal.τ).loc Cert.SampRefIdeal.main_arg0) = m ((c.tc : Thread Cert.SampIdeal.nD Cert.SampIdeal.τ).loc Cert.SampIdeal.main_arg0)
      ∧ m' ((c.tc : Thread Cert.SampRefIdeal.nD Cert.SampRefIdeal.τ).loc Cert.SampRefIdeal.main_arg1) = m ((c.tc : Thread Cert.SampIdeal.nD Cert.SampIdeal.τ).loc Cert.SampIdeal.main_arg1)
      ∧ m' ((c.tc : Thread Cert.SampRefIdeal.nD Cert.SampRefIdeal.τ).loc Cert.SampRefIdeal.main_arg2) = m ((c.tc : Thread Cert.SampIdeal.nD Cert.SampIdeal.τ).loc Cert.SampIdeal.main_arg2)
      ∧ m' ((c.tc : Thread Cert.SampRefIdeal.nD Cert.SampRefIdeal.τ).loc Cert.SampRefIdeal.main_arg3) = m ((c.tc : Thread Cert.SampIdeal.nD Cert.SampIdeal.τ).loc Cert.SampIdeal.main_arg3)
      ∧ m' ((c.tc : Thread Cert.SampRefIdeal.nD Cert.SampRefIdeal.τ).loc Cert.SampRefIdeal.main_arg4) = m ((c.tc : Thread Cert.SampIdeal.nD Cert.SampIdeal.τ).loc Cert.SampIdeal.main_arg4)) →
    ∃ (v0 : (c : Dev Cert.SampIdeal.nD) → Buf (Elt Ideal) ((c.tc : Thread Cert.SampIdeal.nD Cert.SampIdeal.τ).loc Cert.SampIdeal.main_v14_0)) (v1 : (c : Dev Cert.SampIdeal.nD) → Buf (Elt Ideal) ((c.tc : Thread Cert.SampIdeal.nD Cert.SampIdeal.τ).loc Cert.SampIdeal.main_v14_1)) (v2 : (c : Dev Cert.SampIdeal.nD) → Buf (Elt Ideal) ((c.tc : Thread Cert.SampIdeal.nD Cert.SampIdeal.τ).loc Cert.SampIdeal.main_v14_2)) (v3 : (c : Dev Cert.SampIdeal.nD) → Buf (Elt Ideal) ((c.tc : Thread Cert.SampIdeal.nD Cert.SampIdeal.τ).loc Cert.SampIdeal.main_v14_3)) (v4 : (c : Dev Cert.SampIdeal.nD) → Buf (Elt Ideal) ((c.tc : Thread Cert.SampIdeal.nD Cert.SampIdeal.τ).loc Cert.SampIdeal.main_v14_4)) (v5 : (c : Dev Cert.SampIdeal.nD) → Buf (Elt Ideal) ((c.tc : Thread Cert.SampIdeal.nD Cert.SampIdeal.τ).loc Cert.SampIdeal.main_v14_5)) (v6 : (c : Dev Cert.SampIdeal.nD) → Buf (Elt Ideal) ((c.tc : Thread Cert.SampIdeal.nD Cert.SampIdeal.τ).loc Cert.SampIdeal.main_v14_6)) (v7 : (c : Dev Cert.SampIdeal.nD) → Buf (Elt Ideal) ((c.tc : Thread Cert.SampIdeal.nD Cert.SampIdeal.τ).loc Cert.SampIdeal.main_v14_7)),
      θ_run (Cert.SampIdeal.defs (F := Ideal)) (onTc (τ := Cert.SampIdeal.τ) (Cert.SampIdeal.main (F := Ideal))) ⟨m, fun _ => 0, g⟩ (fun r => ∀ c : Dev Cert.SampIdeal.nD,
          r.2.mem ((c.tc : Thread Cert.SampIdeal.nD Cert.SampIdeal.τ).loc Cert.SampIdeal.main_v14_0) = v0 c
          ∧ r.2.mem ((c.tc : Thread Cert.SampIdeal.nD Cert.SampIdeal.τ).loc Cert.SampIdeal.main_v14_1) = v1 c
          ∧ r.2.mem ((c.tc : Thread Cert.SampIdeal.nD Cert.SampIdeal.τ).loc Cert.SampIdeal.main_v14_2) = v2 c
          ∧ r.2.mem ((c.tc : Thread Cert.SampIdeal.nD Cert.SampIdeal.τ).loc Cert.SampIdeal.main_v14_3) = v3 c
          ∧ r.2.mem ((c.tc : Thread Cert.SampIdeal.nD Cert.SampIdeal.τ).loc Cert.SampIdeal.main_v14_4) = v4 c
          ∧ r.2.mem ((c.tc : Thread Cert.SampIdeal.nD Cert.SampIdeal.τ).loc Cert.SampIdeal.main_v14_5) = v5 c
          ∧ r.2.mem ((c.tc : Thread Cert.SampIdeal.nD Cert.SampIdeal.τ).loc Cert.SampIdeal.main_v14_6) = v6 c
          ∧ r.2.mem ((c.tc : Thread Cert.SampIdeal.nD Cert.SampIdeal.τ).loc Cert.SampIdeal.main_v14_7) = v7 c
          ∧ r.2.mem ((c.tc : Thread Cert.SampIdeal.nD Cert.SampIdeal.τ).loc Cert.SampIdeal.main_arg0) = m ((c.tc : Thread Cert.SampIdeal.nD Cert.SampIdeal.τ).loc Cert.SampIdeal.main_arg0)
          ∧ r.2.mem ((c.tc : Thread Cert.SampIdeal.nD Cert.SampIdeal.τ).loc Cert.SampIdeal.main_arg1) = m ((c.tc : Thread Cert.SampIdeal.nD Cert.SampIdeal.τ).loc Cert.SampIdeal.main_arg1)
          ∧ r.2.mem ((c.tc : Thread Cert.SampIdeal.nD Cert.SampIdeal.τ).loc Cert.SampIdeal.main_arg2) = m ((c.tc : Thread Cert.SampIdeal.nD Cert.SampIdeal.τ).loc Cert.SampIdeal.main_arg2)
          ∧ r.2.mem ((c.tc : Thread Cert.SampIdeal.nD Cert.SampIdeal.τ).loc Cert.SampIdeal.main_arg3) = m ((c.tc : Thread Cert.SampIdeal.nD Cert.SampIdeal.τ).loc Cert.SampIdeal.main_arg3)
          ∧ r.2.mem ((c.tc : Thread Cert.SampIdeal.nD Cert.SampIdeal.τ).loc Cert.SampIdeal.main_arg4) = m ((c.tc : Thread Cert.SampIdeal.nD Cert.SampIdeal.τ).loc Cert.SampIdeal.main_arg4))
      ∧ θ_run (Cert.SampRefIdeal.defs (F := Ideal)) (onTc (τ := Cert.SampRefIdeal.τ) (Cert.SampRefIdeal.main (F := Ideal))) ⟨m', fun _ => 0, g'⟩ (fun r => ∀ c : Dev Cert.SampRefIdeal.nD,
          r.2.mem ((c.tc : Thread Cert.SampRefIdeal.nD Cert.SampRefIdeal.τ).loc Cert.SampRefIdeal.main_v48) = v0 c
          ∧ r.2.mem ((c.tc : Thread Cert.SampRefIdeal.nD Cert.SampRefIdeal.τ).loc Cert.SampRefIdeal.main_v45) = v1 c
          ∧ r.2.mem ((c.tc : Thread Cert.SampRefIdeal.nD Cert.SampRefIdeal.τ).loc Cert.SampRefIdeal.main_v49) = v2 c
          ∧ r.2.mem ((c.tc : Thread Cert.SampRefIdeal.nD Cert.SampRefIdeal.τ).loc Cert.SampRefIdeal.main_v50) = v3 c
          ∧ r.2.mem ((c.tc : Thread Cert.SampRefIdeal.nD Cert.SampRefIdeal.τ).loc Cert.SampRefIdeal.main_v51) = v4 c
          ∧ r.2.mem ((c.tc : Thread Cert.SampRefIdeal.nD Cert.SampRefIdeal.τ).loc Cert.SampRefIdeal.main_v53) = v5 c
          ∧ r.2.mem ((c.tc : Thread Cert.SampRefIdeal.nD Cert.SampRefIdeal.τ).loc Cert.SampRefIdeal.main_v54) = v6 c
          ∧ r.2.mem ((c.tc : Thread Cert.SampRefIdeal.nD Cert.SampRefIdeal.τ).loc Cert.SampRefIdeal.main_v47) = v7 c
          ∧ r.2.mem ((c.tc : Thread Cert.SampRefIdeal.nD Cert.SampRefIdeal.τ).loc Cert.SampRefIdeal.main_arg0) = m' ((c.tc : Thread Cert.SampRefIdeal.nD Cert.SampRefIdeal.τ).loc Cert.SampRefIdeal.main_arg0)
          ∧ r.2.mem ((c.tc : Thread Cert.SampRefIdeal.nD Cert.SampRefIdeal.τ).loc Cert.SampRefIdeal.main_arg1) = m' ((c.tc : Thread Cert.SampRefIdeal.nD Cert.SampRefIdeal.τ).loc Cert.SampRefIdeal.main_arg1)
          ∧ r.2.mem ((c.tc : Thread Cert.SampRefIdeal.nD Cert.SampRefIdeal.τ).loc Cert.SampRefIdeal.main_arg2) = m' ((c.tc : Thread Cert.SampRefIdeal.nD Cert.SampRefIdeal.τ).loc Cert.SampRefIdeal.main_arg2)
          ∧ r.2.mem ((c.tc : Thread Cert.SampRefIdeal.nD Cert.SampRefIdeal.τ).loc Cert.SampRefIdeal.main_arg3) = m' ((c.tc : Thread Cert.SampRefIdeal.nD Cert.SampRefIdeal.τ).loc Cert.SampRefIdeal.main_arg3)
          ∧ r.2.mem ((c.tc : Thread Cert.SampRefIdeal.nD Cert.SampRefIdeal.τ).loc Cert.SampRefIdeal.main_arg4) = m' ((c.tc : Thread Cert.SampRefIdeal.nD Cert.SampRefIdeal.τ).loc Cert.SampRefIdeal.main_arg4))

def Claim : Prop :=
  ∃ (hProj : Cert.Proj.Facts) (hProjIdeal : Cert.ProjIdeal.Facts) (hProjRefIdeal : Cert.ProjRefIdeal.Facts) (hExperts : Cert.Experts.Facts) (hExpertsIdeal : Cert.ExpertsIdeal.Facts) (hExpertsRefIdeal : Cert.ExpertsRefIdeal.Facts) (hOut : Cert.Out.Facts) (hOutIdeal : Cert.OutIdeal.Facts) (hOutRefIdeal : Cert.OutRefIdeal.Facts) (hSamp : Cert.Samp.Facts) (hSampIdeal : Cert.SampIdeal.Facts) (hSampRefIdeal : Cert.SampRefIdeal.Facts) (hPre_in_range : Cert.Pre_in_range.Facts),
    quiescent_Proj (hProj := hProj)
    ∧ quiescent_ProjIdeal (hProjIdeal := hProjIdeal)
    ∧ quiescent_ProjRefIdeal (hProjRefIdeal := hProjRefIdeal)
    ∧ quiescent_Experts (hExperts := hExperts) (hPre_in_range := hPre_in_range)
    ∧ quiescent_ExpertsIdeal (hExpertsIdeal := hExpertsIdeal) (hPre_in_range := hPre_in_range)
    ∧ quiescent_ExpertsRefIdeal (hExpertsRefIdeal := hExpertsRefIdeal) (hPre_in_range := hPre_in_range)
    ∧ quiescent_Out (hOut := hOut)
    ∧ quiescent_OutIdeal (hOutIdeal := hOutIdeal)
    ∧ quiescent_OutRefIdeal (hOutRefIdeal := hOutRefIdeal)
    ∧ quiescent_Samp (hSamp := hSamp)
    ∧ quiescent_SampIdeal (hSampIdeal := hSampIdeal)
    ∧ quiescent_SampRefIdeal (hSampRefIdeal := hSampRefIdeal)
    ∧ preserves_Proj_ProjIdeal
    ∧ algebraic_ProjIdeal_ProjRefIdeal (hProjIdeal := hProjIdeal) (hProjRefIdeal := hProjRefIdeal)
    ∧ preserves_Experts_ExpertsIdeal
    ∧ algebraic_ExpertsIdeal_ExpertsRefIdeal (hExpertsIdeal := hExpertsIdeal) (hExpertsRefIdeal := hExpertsRefIdeal) (hPre_in_range := hPre_in_range)
    ∧ preserves_Out_OutIdeal
    ∧ algebraic_OutIdeal_OutRefIdeal (hOutIdeal := hOutIdeal) (hOutRefIdeal := hOutRefIdeal)
    ∧ preserves_Samp_SampIdeal
    ∧ algebraic_SampIdeal_SampRefIdeal (hSampIdeal := hSampIdeal) (hSampRefIdeal := hSampRefIdeal)
-- ==== Pre_in_range.lean ====
abbrev S321 : Shape := ⟨1, ![321]⟩
abbrev S1 : Shape := ⟨1, ![1]⟩
abbrev S165376x1024 : Shape := ⟨2, ![165376, 1024]⟩
abbrev S32x1024x2048 : Shape := ⟨3, ![32, 1024, 2048]⟩
abbrev S32x1024x1024 : Shape := ⟨3, ![32, 1024, 1024]⟩
abbrev S32x2048 : Shape := ⟨2, ![32, 2048]⟩
abbrev S32x1024 : Shape := ⟨2, ![32, 1024]⟩
abbrev S_ : Shape := ⟨0, ![]⟩

class Facts : Prop where
  bcast_S_S321 : S_.BroadcastsInDim S321 (![] : Fin 0 → Fin S321.rank)
  reducesTo_S321_S_d0 : S321.ReducesTo [0] S_
  h_S_ : 0 < S_.numel
  shapeCasts_S1_S_ : S1.ShapeCasts S_

variable [Facts]

def fn {F : FTy → Type} [FloatOps F] (main_arg0 : IVec S321 32) (main_arg1 : IVec S1 32) (main_arg2 : FVec F S165376x1024 .f32) (main_arg3 : FVec F S32x1024x2048 .f32) (main_arg4 : FVec F S32x1024x1024 .f32) (main_arg5 : FVec F S32x2048 .f32) (main_arg6 : FVec F S32x1024 .f32) : IVec S_ 1 :=
  let main_c : IVec S_ 32 := constantI S_ 32 0#32
  let main_v0 : IVec S321 32 := broadcastInDim S321 ![] bcast_S_S321 main_c
  let main_v1 : IVec S321 1 := cmpi .sge main_arg0 main_v0
  let main_c_0 : IVec S_ 32 := constantI S_ 32 32#32
  let main_v2 : IVec S321 32 := broadcastInDim S321 ![] bcast_S_S321 main_c_0
  let main_v3 : IVec S321 1 := cmpi .slt main_arg0 main_v2
  let main_v4 : IVec S321 1 := andi main_v1 main_v3
  let main_c_1 : IVec S_ 1 := constantI S_ 1 1#1
  let main_v5 : IVec S_ 1 := (fun x v => Host.reduce IntOp.andi x v reducesTo_S321_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  let main_v9 : IVec S_ 32 := shapeCast S_ main_arg1 shapeCasts_S1_S_
  let main_c_3 : IVec S_ 32 := constantI S_ 32 321#32
  let main_v10 : IVec S_ 1 := cmpi .sle main_v9 main_c_3
  let main_v11 : IVec S_ 1 := andi main_v8 main_v10
  main_v11
-- ==== Proj.lean ====
abbrev S32768x1024 : Shape := ⟨2, ![32768, 1024]⟩
abbrev S1024 : Shape := ⟨1, ![1024]⟩
abbrev S1024x3600 : Shape := ⟨2, ![1024, 3600]⟩
abbrev S64 : Shape := ⟨1, ![64]⟩
abbrev S256x256 : Shape := ⟨2, ![256, 256]⟩
abbrev S1x1024 : Shape := ⟨2, ![1, 1024]⟩
abbrev S1024x3584 : Shape := ⟨2, ![1024, 3584]⟩
abbrev S1024x16 : Shape := ⟨2, ![1024, 16]⟩
abbrev S_ : Shape := ⟨0, ![]⟩
abbrev S1024x128 : Shape := ⟨2, ![1024, 128]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S32768x512 : Shape := ⟨2, ![32768, 512]⟩
abbrev S32768x128 : Shape := ⟨2, ![32768, 128]⟩
abbrev S512x1024 : Shape := ⟨2, ![512, 1024]⟩
abbrev S512x512 : Shape := ⟨2, ![512, 512]⟩
abbrev S512x128 : Shape := ⟨2, ![512, 128]⟩
abbrev S512x1 : Shape := ⟨2, ![512, 1]⟩
abbrev S1024x512 : Shape := ⟨2, ![1024, 512]⟩
abbrev S512x256 : Shape := ⟨2, ![512, 256]⟩

abbrev nBuf : Space → Nat
  | .hbm => 30
  | .vmem => 24
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3600, .f32⟩
  | .hbm, ⟨3, _⟩ => ⟨S64, .f32⟩
  | .hbm, ⟨4, _⟩ => ⟨S64, .f32⟩
  | .hbm, ⟨5, _⟩ => ⟨S256x256, .bf16⟩
  | .hbm, ⟨6, _⟩ => ⟨S1x1024, .f32⟩
  | .hbm, ⟨7, _⟩ => ⟨S1024x3584, .f32⟩
  | .hbm, ⟨8, _⟩ => ⟨S1024x3584, .bf16⟩
  | .hbm, ⟨9, _⟩ => ⟨S1024x16, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S1x64, .f32⟩
  | .hbm, ⟨15, _⟩ => ⟨S8x64, .f32⟩
  | .hbm, ⟨16, _⟩ => ⟨S512, .f32⟩
  | .hbm, ⟨17, _⟩ => ⟨S1x512, .f32⟩
  | .hbm, ⟨18, _⟩ => ⟨S1x64, .f32⟩
  | .hbm, ⟨19, _⟩ => ⟨S8x64, .f32⟩
  | .hbm, ⟨20, _⟩ => ⟨S512, .f32⟩
  | .hbm, ⟨21, _⟩ => ⟨S1x512, .f32⟩
  | .hbm, ⟨22, _⟩ => ⟨S32768x512, .bf16⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S32768x512, .bf16⟩
  | .hbm, ⟨28, _⟩ => ⟨S32768x512, .f32⟩
  | .hbm, ⟨29, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S1024x128, .bf16⟩
  | .local _ .vmem, ⟨5, _⟩ => ⟨S1x512, .f32⟩
  | .local _ .vmem, ⟨6, _⟩ => ⟨S1x512, .f32⟩
  | .local _ .vmem, ⟨7, _⟩ => ⟨S256x256, .bf16⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .bf16⟩
  | .local _ .vmem, ⟨19, _⟩ => ⟨S512x512, .bf16⟩
  | .local _ .vmem, ⟨20, _⟩ => ⟨S512x512, .f32⟩
  | .local _ .vmem, ⟨21, _⟩ => ⟨S512x512, .f32⟩
  | .local _ .vmem, ⟨22, _⟩ => ⟨S512x128, .f32⟩
  | .local _ .vmem, ⟨23, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v14_3 : Ref sig .tc := ⟨.hbm, 25, rfl⟩
abbrev main_v14_4 : Ref sig .tc := ⟨.hbm, 26, rfl⟩
abbrev main_v14_5 : Ref sig .tc := ⟨.hbm, 27, rfl⟩
abbrev main_v14_6 : Ref sig .tc := ⟨.hbm, 28, rfl⟩
abbrev main_v14_7 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ProjIdeal.lean ====
abbrev S32768x1024 : Shape := ⟨2, ![32768, 1024]⟩
abbrev S1024 : Shape := ⟨1, ![1024]⟩
abbrev S1024x3600 : Shape := ⟨2, ![1024, 3600]⟩
abbrev S64 : Shape := ⟨1, ![64]⟩
abbrev S256x256 : Shape := ⟨2, ![256, 256]⟩
abbrev S1x1024 : Shape := ⟨2, ![1, 1024]⟩
abbrev S1024x3584 : Shape := ⟨2, ![1024, 3584]⟩
abbrev S1024x16 : Shape := ⟨2, ![1024, 16]⟩
abbrev S_ : Shape := ⟨0, ![]⟩
abbrev S1024x128 : Shape := ⟨2, ![1024, 128]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S32768x512 : Shape := ⟨2, ![32768, 512]⟩
abbrev S32768x128 : Shape := ⟨2, ![32768, 128]⟩
abbrev S512x1024 : Shape := ⟨2, ![512, 1024]⟩
abbrev S512x512 : Shape := ⟨2, ![512, 512]⟩
abbrev S512x128 : Shape := ⟨2, ![512, 128]⟩
abbrev S512x1 : Shape := ⟨2, ![512, 1]⟩
abbrev S1024x512 : Shape := ⟨2, ![1024, 512]⟩
abbrev S512x256 : Shape := ⟨2, ![512, 256]⟩

abbrev nBuf : Space → Nat
  | .hbm => 30
  | .vmem => 24
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3600, .f32⟩
  | .hbm, ⟨3, _⟩ => ⟨S64, .f32⟩
  | .hbm, ⟨4, _⟩ => ⟨S64, .f32⟩
  | .hbm, ⟨5, _⟩ => ⟨S256x256, .bf16⟩
  | .hbm, ⟨6, _⟩ => ⟨S1x1024, .f32⟩
  | .hbm, ⟨7, _⟩ => ⟨S1024x3584, .f32⟩
  | .hbm, ⟨8, _⟩ => ⟨S1024x3584, .bf16⟩
  | .hbm, ⟨9, _⟩ => ⟨S1024x16, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S1x64, .f32⟩
  | .hbm, ⟨15, _⟩ => ⟨S8x64, .f32⟩
  | .hbm, ⟨16, _⟩ => ⟨S512, .f32⟩
  | .hbm, ⟨17, _⟩ => ⟨S1x512, .f32⟩
  | .hbm, ⟨18, _⟩ => ⟨S1x64, .f32⟩
  | .hbm, ⟨19, _⟩ => ⟨S8x64, .f32⟩
  | .hbm, ⟨20, _⟩ => ⟨S512, .f32⟩
  | .hbm, ⟨21, _⟩ => ⟨S1x512, .f32⟩
  | .hbm, ⟨22, _⟩ => ⟨S32768x512, .bf16⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S32768x512, .bf16⟩
  | .hbm, ⟨28, _⟩ => ⟨S32768x512, .f32⟩
  | .hbm, ⟨29, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S1024x128, .bf16⟩
  | .local _ .vmem, ⟨5, _⟩ => ⟨S1x512, .f32⟩
  | .local _ .vmem, ⟨6, _⟩ => ⟨S1x512, .f32⟩
  | .local _ .vmem, ⟨7, _⟩ => ⟨S256x256, .bf16⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .bf16⟩
  | .local _ .vmem, ⟨19, _⟩ => ⟨S512x512, .bf16⟩
  | .local _ .vmem, ⟨20, _⟩ => ⟨S512x512, .f32⟩
  | .local _ .vmem, ⟨21, _⟩ => ⟨S512x512, .f32⟩
  | .local _ .vmem, ⟨22, _⟩ => ⟨S512x128, .f32⟩
  | .local _ .vmem, ⟨23, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v14_3 : Ref sig .tc := ⟨.hbm, 25, rfl⟩
abbrev main_v14_4 : Ref sig .tc := ⟨.hbm, 26, rfl⟩
abbrev main_v14_5 : Ref sig .tc := ⟨.hbm, 27, rfl⟩
abbrev main_v14_6 : Ref sig .tc := ⟨.hbm, 28, rfl⟩
abbrev main_v14_7 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ProjRefIdeal.lean ====
abbrev S32768x1024 : Shape := ⟨2, ![32768, 1024]⟩
abbrev S1024 : Shape := ⟨1, ![1024]⟩
abbrev S1024x3600 : Shape := ⟨2, ![1024, 3600]⟩
abbrev S64 : Shape := ⟨1, ![64]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3600 : Shape := ⟨2, ![32768, 3600]⟩
abbrev S32768x512 : Shape := ⟨2, ![32768, 512]⟩
abbrev S32768x8x64 : Shape := ⟨3, ![32768, 8, 64]⟩
abbrev S32768x8 : Shape := ⟨2, ![32768, 8]⟩
abbrev S32768x8x1 : Shape := ⟨3, ![32768, 8, 1]⟩
abbrev S1x1x64 : Shape := ⟨3, ![1, 1, 64]⟩
abbrev S32768x16 : Shape := ⟨2, ![32768, 16]⟩
abbrev S32768x128 : Shape := ⟨2, ![32768, 128]⟩

abbrev nBuf : Space → Nat
  | .hbm => 71
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3600, .f32⟩
  | .hbm, ⟨3, _⟩ => ⟨S64, .f32⟩
  | .hbm, ⟨4, _⟩ => ⟨S64, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x3600, .f32⟩
  | .hbm, ⟨22, _⟩ => ⟨S32768x512, .f32⟩
  | .hbm, ⟨23, _⟩ => ⟨S32768x8x64, .f32⟩
  | .hbm, ⟨24, _⟩ => ⟨S32768x8x64, .f32⟩
  | .hbm, ⟨25, _⟩ => ⟨S_, .f32⟩
  | .hbm, ⟨26, _⟩ => ⟨S32768x8, .f32⟩
  | .hbm, ⟨27, _⟩ => ⟨S32768x8x1, .f32⟩
  | .hbm, ⟨28, _⟩ => ⟨S_, .f32⟩
  | .hbm, ⟨29, _⟩ => ⟨S32768x8x1, .f32⟩
  | .hbm, ⟨30, _⟩ => ⟨S32768x8x1, .f32⟩
  | .hbm, ⟨31, _⟩ => ⟨S_, .f32⟩
  | .hbm, ⟨32, _⟩ => ⟨S32768x8x1, .f32⟩
  | .hbm, ⟨33, _⟩ => ⟨S32768x8x1, .f32⟩
  | .hbm, ⟨34, _⟩ => ⟨S32768x8x1, .f32⟩
  | .hbm, ⟨35, _⟩ => ⟨S32768x8x64, .f32⟩
  | .hbm, ⟨36, _⟩ => ⟨S32768x8x64, .f32⟩
  | .hbm, ⟨37, _⟩ => ⟨S1x1x64, .f32⟩
  | .hbm, ⟨38, _⟩ => ⟨S32768x8x64, .f32⟩
  | .hbm, ⟨39, _⟩ => ⟨S32768x8x64, .f32⟩
  | .hbm, ⟨40, _⟩ => ⟨S32768x512, .f32⟩
  | .hbm, ⟨41, _⟩ => ⟨S32768x512, .f32⟩
  | .hbm, ⟨42, _⟩ => ⟨S32768x8x64, .f32⟩
  | .hbm, ⟨43, _⟩ => ⟨S32768x8x64, .f32⟩
  | .hbm, ⟨44, _⟩ => ⟨S_, .f32⟩
  | .hbm, ⟨45, _⟩ => ⟨S32768x8, .f32⟩
  | .hbm, ⟨46, _⟩ => ⟨S32768x8x1, .f32⟩
  | .hbm, ⟨47, _⟩ => ⟨S_, .f32⟩
  | .hbm, ⟨48, _⟩ => ⟨S32768x8x1, .f32⟩
  | .hbm, ⟨49, _⟩ => ⟨S32768x8x1, .f32⟩
  | .hbm, ⟨50, _⟩ => ⟨S_, .f32⟩
  | .hbm, ⟨51, _⟩ => ⟨S32768x8x1, .f32⟩
  | .hbm, ⟨52, _⟩ => ⟨S32768x8x1, .f32⟩
  | .hbm, ⟨53, _⟩ => ⟨S32768x8x1, .f32⟩
  | .hbm, ⟨54, _⟩ => ⟨S32768x8x64, .f32⟩
  | .hbm, ⟨55, _⟩ => ⟨S32768x8x64, .f32⟩
  | .hbm, ⟨56, _⟩ => ⟨S1x1x64, .f32⟩
  | .hbm, ⟨57, _⟩ => ⟨S32768x8x64, .f32⟩
  | .hbm, ⟨58, _⟩ => ⟨S32768x8x64, .f32⟩
  | .hbm, ⟨59, _⟩ => ⟨S32768x512, .f32⟩
  | .hbm, ⟨60, _⟩ => ⟨S32768x16, .f32⟩
  | .hbm, ⟨61, _⟩ => ⟨S_, .i32⟩
  | .hbm, ⟨62, _⟩ => ⟨S_, .f32⟩
  | .hbm, ⟨63, _⟩ => ⟨S32768x128, .f32⟩
  | .hbm, ⟨64, _⟩ => ⟨S32768x512, .bf16⟩
  | .hbm, ⟨65, _⟩ => ⟨S32768x512, .f32⟩
  | .hbm, ⟨66, _⟩ => ⟨S32768x512, .f32⟩
  | .hbm, ⟨67, _⟩ => ⟨S32768x512, .f32⟩
  | .hbm, ⟨68, _⟩ => ⟨S32768x512, .f32⟩
  | .hbm, ⟨69, _⟩ => ⟨S32768x512, .bf16⟩
  | .hbm, ⟨70, _⟩ => ⟨S32768x512, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c : Ref sig .tc := ⟨.hbm, 61, rfl⟩
abbrev main_call0_v0 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩

abbrev nD : Nat := 1
abbrev τ : Topo := Topo.v7x

variable {F : FTy → Type} [FloatOps F]
-- ==== Experts.lean ====
abbrev S321 : Shape := ⟨1, ![321]⟩
abbrev S1 : Shape := ⟨1, ![1]⟩
abbrev S165376x1024 : Shape := ⟨2, ![165376, 1024]⟩
abbrev S32x1024x2048 : Shape := ⟨3, ![32, 1024, 2048]⟩
abbrev S32x1024x1024 : Shape := ⟨3, ![32, 1024, 1024]⟩
abbrev S32x2048 : Shape := ⟨2, ![32, 2048]⟩
abbrev S32x1024 : Shape := ⟨2, ![32, 1024]⟩
abbrev S256x256 : Shape := ⟨2, ![256, 256]⟩
abbrev S32x1x1024 : Shape := ⟨3, ![32, 1, 1024]⟩
abbrev S164352x1024 : Shape := ⟨2, ![164352, 1024]⟩
abbrev S512x1024 : Shape := ⟨2, ![512, 1024]⟩
abbrev S1x1024x2048 : Shape := ⟨3, ![1, 1024, 2048]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024x256 : Shape := ⟨3, ![1, 1024, 256]⟩
abbrev S1024x256 : Shape := ⟨2, ![1024, 256]⟩
abbrev S1024x128 : Shape := ⟨2, ![1024, 128]⟩
abbrev S1x1024 : Shape := ⟨2, ![1, 1024]⟩

abbrev nBuf : Space → Nat
  | .hbm => 12
  | .vmem => 18
  | .smem => 2
  | _ => 0

abbrev bufTy : (tb : Table) → Fin (tcTables nBuf tb) → BufTy
  | .hbm, ⟨0, _⟩ => ⟨S165376x1024, .f32⟩
  | .hbm, ⟨1, _⟩ => ⟨S32x1024x2048, .f32⟩
  | .hbm, ⟨2, _⟩ => ⟨S32x1024x1024, .f32⟩
  | .hbm, ⟨3, _⟩ => ⟨S32x2048, .f32⟩
  | .hbm, ⟨4, _⟩ => ⟨S32x1024, .f32⟩
  | .hbm, ⟨5, _⟩ => ⟨S256x256, .bf16⟩
  | .hbm, ⟨6, _⟩ => ⟨S32x1024, .f32⟩
  | .hbm, ⟨7, _⟩ => ⟨S32x1x1024, .f32⟩
  | .hbm, ⟨8, _⟩ => ⟨S32x1024, .f32⟩
  | .hbm, ⟨9, _⟩ => ⟨S32x1x1024, .f32⟩
  | .hbm, ⟨10, _⟩ => ⟨S32x1x1024, .f32⟩
  | .hbm, ⟨11, _⟩ => ⟨S164352x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1024x1024, .f32⟩
  | .local _ .vmem, ⟨5, _⟩ => ⟨S1x1024x1024, .f32⟩
  | .local _ .vmem, ⟨6, _⟩ => ⟨S256x256, .bf16⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S512x1024, .f32⟩
  | .local _ .vmem, ⟨14, _⟩ => ⟨S512x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .smem, ⟨0, _⟩ => ⟨S321, .i32⟩
  | .local _ .smem, ⟨1, _⟩ => ⟨S1, .i32⟩
  | _, _ => ⟨S165376x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![321], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_off3 (i : grid0.Coords) : Fin 1 → Nat :=
  let arg0 : BitVec 32 := BitVec.ofNat 32 (i 0).val
  let c1_i32 : BitVec 32 := 1#32
  let v7 : BitVec 32 := Scalar.subi arg0 c1_i32
  let c0_i32_1 : BitVec 32 := 0#32
  let v8 : BitVec 32 := Scalar.maxsi v7 c0_i32_1
  let v9 : Index := Scalar.indexCast v8
  ![v9.toNat]
def k0_cond1 (i : grid0.Coords) (v0 : BitVec 32) : BitVec 1 :=
  let arg0 : BitVec 32 := BitVec.ofNat 32 (i 0).val
  let v1 : BitVec 1 := Scalar.cmpi .sge arg0 v0
  let v2 : BitVec 32 := Scalar.extui v1
  let c0_i32 : BitVec 32 := 0#32
  let v3 : BitVec 1 := Scalar.cmpi .ne v2 c0_i32
  v3

def k0_cond3 (i : grid0.Coords) (v0 : BitVec 32) : BitVec 1 :=
  let arg0 : BitVec 32 := BitVec.ofNat 32 (i 0).val
  let v15 : BitVec 1 := Scalar.cmpi .slt arg0 v0
  let v16 : BitVec 32 := Scalar.extui v15
  let c0_i32_3 : BitVec 32 := 0#32
  let v17 : BitVec 1 := Scalar.cmpi .ne v16 c0_i32_3
  v17

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S321.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S321) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S321.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S321) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1.size a ≤ S321.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S321) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S321.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S321) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S321.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S321) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ExpertsRefIdeal.lean ====
abbrev S321 : Shape := ⟨1, ![321]⟩
abbrev S1 : Shape := ⟨1, ![1]⟩
abbrev S165376x1024 : Shape := ⟨2, ![165376, 1024]⟩
abbrev S32x1024x2048 : Shape := ⟨3, ![32, 1024, 2048]⟩
abbrev S32x1024x1024 : Shape := ⟨3, ![32, 1024, 1024]⟩
abbrev S32x2048 : Shape := ⟨2, ![32, 2048]⟩
abbrev S32x1024 : Shape := ⟨2, ![32, 1024]⟩
abbrev S164352x1024 : Shape := ⟨2, ![164352, 1024]⟩
abbrev S321x512x1024 : Shape := ⟨3, ![321, 512, 1024]⟩
abbrev S_ : Shape := ⟨0, ![]⟩
abbrev S321x1 : Shape := ⟨2, ![321, 1]⟩
abbrev S321x1024x2048 : Shape := ⟨3, ![321, 1024, 2048]⟩
abbrev S321x512x2048 : Shape := ⟨3, ![321, 512, 2048]⟩
abbrev S321x2048 : Shape := ⟨2, ![321, 2048]⟩
abbrev S321x1x2048 : Shape := ⟨3, ![321, 1, 2048]⟩
abbrev S321x1024x1024 : Shape := ⟨3, ![321, 1024, 1024]⟩
abbrev S321x1024 : Shape := ⟨2, ![321, 1024]⟩
abbrev S321x1x1024 : Shape := ⟨3, ![321, 1, 1024]⟩
abbrev S164352 : Shape := ⟨1, ![164352]⟩
abbrev S164352x1 : Shape := ⟨2, ![164352, 1]⟩

abbrev nBuf : Space → Nat
  | .hbm => 95
  | .vmem => 0
  | .smem => 0
  | _ => 0

abbrev bufTy : (tb : Table) → Fin (tcTables nBuf tb) → BufTy
  | .hbm, ⟨0, _⟩ => ⟨S321, .i32⟩
  | .hbm, ⟨1, _⟩ => ⟨S1, .i32⟩
  | .hbm, ⟨2, _⟩ => ⟨S165376x1024, .f32⟩
  | .hbm, ⟨3, _⟩ => ⟨S32x1024x2048, .f32⟩
  | .hbm, ⟨4, _⟩ => ⟨S32x1024x1024, .f32⟩
  | .hbm, ⟨5, _⟩ => ⟨S32x2048, .f32⟩
  | .hbm, ⟨6, _⟩ => ⟨S32x1024, .f32⟩
  | .hbm, ⟨7, _⟩ => ⟨S164352x1024, .f32⟩
  | .hbm, ⟨8, _⟩ => ⟨S321x512x1024, .f32⟩
  | .hbm, ⟨9, _⟩ => ⟨S_, .i32⟩
  | .hbm, ⟨10, _⟩ => ⟨S321, .i32⟩
  | .hbm, ⟨11, _⟩ => ⟨S321, .i1⟩
  | .hbm, ⟨12, _⟩ => ⟨S_, .i32⟩
  | .hbm, ⟨13, _⟩ => ⟨S321, .i32⟩
  | .hbm, ⟨14, _⟩ => ⟨S321, .i32⟩
  | .hbm, ⟨15, _⟩ => ⟨S321, .i32⟩
  | .hbm, ⟨16, _⟩ => ⟨S321x1, .i32⟩
  | .hbm, ⟨17, _⟩ => ⟨S321x1024x2048, .f32⟩
  | .hbm, ⟨18, _⟩ => ⟨S321x512x2048, .f32⟩
  | .hbm, ⟨19, _⟩ => ⟨S_, .i32⟩
  | .hbm, ⟨20, _⟩ => ⟨S321, .i32⟩
  | .hbm, ⟨21, _⟩ => ⟨S321, .i1⟩
  | .hbm, ⟨22, _⟩ => ⟨S_, .i32⟩
  | .hbm, ⟨23, _⟩ => ⟨S321, .i32⟩
  | .hbm, ⟨24, _⟩ => ⟨S321, .i32⟩
  | .hbm, ⟨25, _⟩ => ⟨S321, .i32⟩
  | .hbm, ⟨26, _⟩ => ⟨S321x1, .i32⟩
  | .hbm, ⟨27, _⟩ => ⟨S321x2048, .f32⟩
  | .hbm, ⟨28, _⟩ => ⟨S321x1x2048, .f32⟩
  | .hbm, ⟨29, _⟩ => ⟨S321x512x2048, .f32⟩
  | .hbm, ⟨30, _⟩ => ⟨S321x512x2048, .f32⟩
  | .hbm, ⟨31, _⟩ => ⟨S321x512x1024, .f32⟩
  | .hbm, ⟨32, _⟩ => ⟨S_, .f32⟩
  | .hbm, ⟨33, _⟩ => ⟨S321x512x1024, .f32⟩
  | .hbm, ⟨34, _⟩ => ⟨S321x512x1024, .f32⟩
  | .hbm, ⟨35, _⟩ => ⟨S321x512x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S321x512x1024, .f32⟩
  | .hbm, ⟨40, _⟩ => ⟨S321x512x1024, .f32⟩
  | .hbm, ⟨41, _⟩ => ⟨S_, .f32⟩
  | .hbm, ⟨42, _⟩ => ⟨S321x512x1024, .f32⟩
  | .hbm, ⟨43, _⟩ => ⟨S321x512x1024, .f32⟩
  | .hbm, ⟨44, _⟩ => ⟨S_, .f32⟩
  | .hbm, ⟨45, _⟩ => ⟨S321x512x1024, .f32⟩
  | .hbm, ⟨46, _⟩ => ⟨S321x512x1024, .f32⟩
  | .hbm, ⟨47, _⟩ => ⟨S321x512x1024, .f32⟩
  | .hbm, ⟨48, _⟩ => ⟨S321x512x1024, .f32⟩
  | .hbm, ⟨49, _⟩ => ⟨S_, .f32⟩
  | .hbm, ⟨50, _⟩ => ⟨S321x512x1024, .f32⟩
  | .hbm, ⟨51, _⟩ => ⟨S321x512x1024, .f32⟩
  | .hbm, ⟨52, _⟩ => ⟨S_, .f32⟩
  | .hbm, ⟨53, _⟩ => ⟨S321x512x1024, .f32⟩
  | .hbm, ⟨54, _⟩ => ⟨S321x512x1024, .f32⟩
  | .hbm, ⟨55, _⟩ => ⟨S321x512x1024, .f32⟩
  | .hbm, ⟨56, _⟩ => ⟨S_, .f32⟩
  | .hbm, ⟨57, _⟩ => ⟨S321x512x1024, .f32⟩
  | .hbm, ⟨58, _⟩ => ⟨S321x512x1024, .f32⟩
  | .hbm, ⟨59, _⟩ => ⟨S321x512x1024, .f32⟩
  | .hbm, ⟨60, _⟩ => ⟨S_, .i32⟩
  | .hbm, ⟨61, _⟩ => ⟨S321, .i32⟩
  | .hbm, ⟨62, _⟩ => ⟨S321, .i1⟩
  | .hbm, ⟨63, _⟩ => ⟨S_, .i32⟩
  | .hbm, ⟨64, _⟩ => ⟨S321, .i32⟩
  | .hbm, ⟨65, _⟩ => ⟨S321, .i32⟩
  | .hbm, ⟨66, _⟩ => ⟨S321, .i32⟩
  | .hbm, ⟨67, _⟩ => ⟨S321x1, .i32⟩
  | .hbm, ⟨68, _⟩ => ⟨S321x1024x1024, .f32⟩
  | .hbm, ⟨69, _⟩ => ⟨S321x512x1024, .f32⟩
  | .hbm, ⟨70, _⟩ => ⟨S_, .i32⟩
  | .hbm, ⟨71, _⟩ => ⟨S321, .i32⟩
  | .hbm, ⟨72, _⟩ => ⟨S321, .i1⟩
  | .hbm, ⟨73, _⟩ => ⟨S_, .i32⟩
  | .hbm, ⟨74, _⟩ => ⟨S321, .i32⟩
  | .hbm, ⟨75, _⟩ => ⟨S321, .i32⟩
  | .hbm, ⟨76, _⟩ => ⟨S321, .i32⟩
  | .hbm, ⟨77, _⟩ => ⟨S321x1, .i32⟩
  | .hbm, ⟨78, _⟩ => ⟨S321x1024, .f32⟩
  | .hbm, ⟨79, _⟩ => ⟨S321x1x1024, .f32⟩
  | .hbm, ⟨80, _⟩ => ⟨S321x512x1024, .f32⟩
  | .hbm, ⟨81, _⟩ => ⟨S321x512x1024, .f32⟩
  | .hbm, ⟨82, _⟩ => ⟨S164352, .i32⟩
  | .hbm, ⟨83, _⟩ => ⟨S164352x1, .i32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S164352x1, .i32⟩
  | .hbm, ⟨88, _⟩ => ⟨S164352x1, .i1⟩
  | .hbm, ⟨89, _⟩ => ⟨S164352x1024, .f32⟩
  | .hbm, ⟨90, _⟩ => ⟨S_, .f32⟩
  | .hbm, ⟨91, _⟩ => ⟨S_, .f32⟩
  | .hbm, ⟨92, _⟩ => ⟨S164352x1024, .i1⟩
  | .hbm, ⟨93, _⟩ => ⟨S164352x1024, .f32⟩
  | .hbm, ⟨94, _⟩ => ⟨S164352x1024, .f32⟩
  | _, _ => ⟨S321, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_9 : Ref sig .tc := ⟨.hbm, 60, rfl⟩
abbrev main_v37 : Ref sig .tc := ⟨.hbm, 61, rfl⟩
abbrev main_v38 : Ref sig .tc := ⟨.hbm, 62, rfl⟩
abbrev main_c_10 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_11 : Ref sig .tc := ⟨.hbm, 70, rfl⟩
abbrev main_v45 : Ref sig .tc := ⟨.hbm, 71, rfl⟩
abbrev main_v46 : Ref sig .tc := ⟨.hbm, 72, rfl⟩
abbrev main_c_12 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_c_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_14 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_v62 : Ref sig .tc := ⟨.hbm, 94, rfl⟩

abbrev nD : Nat := 1
abbrev τ : Topo := Topo.v7x

variable {F : FTy → Type} [FloatOps F]
-- ==== Out.lean ====
abbrev S32768x1024 : Shape := ⟨2, ![32768, 1024]⟩
abbrev S512x1024 : Shape := ⟨2, ![512, 1024]⟩
abbrev S32768x512 : Shape := ⟨2, ![32768, 512]⟩
abbrev S512x512 : Shape := ⟨2, ![512, 512]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S1x1024 : Shape := ⟨2, ![1, 1024]⟩
abbrev S_ : Shape := ⟨0, ![]⟩
abbrev S1024x128 : Shape := ⟨2, ![1024, 128]⟩
abbrev S3072x128 : Shape := ⟨2, ![3072, 128]⟩
abbrev S128 : Shape := ⟨1, ![128]⟩
abbrev S1x128 : Shape := ⟨2, ![1, 128]⟩
abbrev S128x128 : Shape := ⟨2, ![128, 128]⟩
abbrev S33280x1024 : Shape := ⟨2, ![33280, 1024]⟩
abbrev S33280x128 : Shape := ⟨2, ![33280, 128]⟩
abbrev S520x128 : Shape := ⟨2, ![520, 128]⟩
abbrev S512x128 : Shape := ⟨2, ![512, 128]⟩
abbrev S8x128 : Shape := ⟨2, ![8, 128]⟩
abbrev S512 : Shape := ⟨1, ![512]⟩
abbrev S512x1 : Shape := ⟨2, ![512, 1]⟩
abbrev S512x3072 : Shape := ⟨2, ![512, 3072]⟩

abbrev nBuf : Space → Nat
  | .hbm => 40
  | .vmem => 29
  | .smem => 0
  | _ => 0

abbrev bufTy : (tb : Table) → Fin (tcTables nBuf tb) → BufTy
  | .hbm, ⟨0, _⟩ => ⟨S32768x1024, .f32⟩
  | .hbm, ⟨1, _⟩ => ⟨S512x1024, .f32⟩
  | .hbm, ⟨2, _⟩ => ⟨S32768x512, .bf16⟩
  | .hbm, ⟨3, _⟩ => ⟨S512x512, .bf16⟩
  | .hbm, ⟨4, _⟩ => ⟨S32768x512, .bf16⟩
  | .hbm, ⟨5, _⟩ => ⟨S512x512, .bf16⟩
  | .hbm, ⟨6, _⟩ => ⟨S1024x1024, .f32⟩
  | .hbm, ⟨7, _⟩ => ⟨S1024, .f32⟩
  | .hbm, ⟨8, _⟩ => ⟨S1024x32, .f32⟩
  | .hbm, ⟨9, _⟩ => ⟨S32, .f32⟩
  | .hbm, ⟨10, _⟩ => ⟨S512x1024, .f32⟩
  | .hbm, ⟨11, _⟩ => ⟨S512x1024, .bf16⟩
  | .hbm, ⟨12, _⟩ => ⟨S512x1024, .f32⟩
  | .hbm, ⟨13, _⟩ => ⟨S512x1024, .bf16⟩
  | .hbm, ⟨14, _⟩ => ⟨S1x1024, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x128, .bf16⟩
  | .hbm, ⟨19, _⟩ => ⟨S1024x128, .f32⟩
  | .hbm, ⟨20, _⟩ => ⟨S1024x128, .f32⟩
  | .hbm, ⟨21, _⟩ => ⟨S1024x128, .bf16⟩
  | .hbm, ⟨22, _⟩ => ⟨S3072x128, .bf16⟩
  | .hbm, ⟨23, _⟩ => ⟨S_, .i32⟩
  | .hbm, ⟨24, _⟩ => ⟨S_, .f32⟩
  | .hbm, ⟨25, _⟩ => ⟨S128, .f32⟩
  | .hbm, ⟨26, _⟩ => ⟨S1x128, .f32⟩
  | .hbm, ⟨27, _⟩ => ⟨S512x512, .i32⟩
  | .hbm, ⟨28, _⟩ => ⟨S512x512, .i32⟩
  | .hbm, ⟨29, _⟩ => ⟨S512x512, .i1⟩
  | .hbm, ⟨30, _⟩ => ⟨S512x512, .bf16⟩
  | .hbm, ⟨31, _⟩ => ⟨S128x128, .i32⟩
  | .hbm, ⟨32, _⟩ => ⟨S128x128, .i32⟩
  | .hbm, ⟨33, _⟩ => ⟨S128x128, .i1⟩
  | .hbm, ⟨34, _⟩ => ⟨S128x128, .bf16⟩
  | .hbm, ⟨35, _⟩ => ⟨S33280x1024, .f32⟩
  | .hbm, ⟨36, _⟩ => ⟨S33280x1024, .f32⟩
  | .hbm, ⟨37, _⟩ => ⟨S33280x128, .f32⟩
  | .hbm, ⟨38, _⟩ => ⟨S33280x128, .f32⟩
  | .hbm, ⟨39, _⟩ => ⟨S520x128, .i32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S3072x128, .bf16⟩
  | .local _ .vmem, ⟨16, _⟩ => ⟨S1x128, .f32⟩
  | .local _ .vmem, ⟨17, _⟩ => ⟨S512x512, .bf16⟩
  | .local _ .vmem, ⟨18, _⟩ => ⟨S128x128, .bf16⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S8x128, .i32⟩
  | .local _ .vmem, ⟨28, _⟩ => ⟨S8x128, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev main_v21_2 : Ref sig .tc := ⟨.hbm, 37, rfl⟩
abbrev main_v21_3 : Ref sig .tc := ⟨.hbm, 38, rfl⟩
abbrev main_v21_4 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3072x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x128 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== OutRefIdeal.lean ====
abbrev S32768x1024 : Shape := ⟨2, ![32768, 1024]⟩
abbrev S512x1024 : Shape := ⟨2, ![512, 1024]⟩
abbrev S32768x512 : Shape := ⟨2, ![32768, 512]⟩
abbrev S512x512 : Shape := ⟨2, ![512, 512]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S33280x1024 : Shape := ⟨2, ![33280, 1024]⟩
abbrev S33280x512 : Shape := ⟨2, ![33280, 512]⟩
abbrev S_ : Shape := ⟨0, ![]⟩
abbrev S33280 : Shape := ⟨1, ![33280]⟩
abbrev S33280x1 : Shape := ⟨2, ![33280, 1]⟩
abbrev S1x1024 : Shape := ⟨2, ![1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S512x1024, .f32⟩
  | .hbm, ⟨2, _⟩ => ⟨S32768x512, .bf16⟩
  | .hbm, ⟨3, _⟩ => ⟨S512x512, .bf16⟩
  | .hbm, ⟨4, _⟩ => ⟨S32768x512, .bf16⟩
  | .hbm, ⟨5, _⟩ => ⟨S512x512, .bf16⟩
  | .hbm, ⟨6, _⟩ => ⟨S1024x1024, .f32⟩
  | .hbm, ⟨7, _⟩ => ⟨S1024, .f32⟩
  | .hbm, ⟨8, _⟩ => ⟨S1024x32, .f32⟩
  | .hbm, ⟨9, _⟩ => ⟨S32, .f32⟩
  | .hbm, ⟨10, _⟩ => ⟨S33280x1024, .f32⟩
  | .hbm, ⟨11, _⟩ => ⟨S33280x512, .bf16⟩
  | .hbm, ⟨12, _⟩ => ⟨S33280x512, .bf16⟩
  | .hbm, ⟨13, _⟩ => ⟨S33280x1024, .bf16⟩
  | .hbm, ⟨14, _⟩ => ⟨S33280x1024, .f32⟩
  | .hbm, ⟨15, _⟩ => ⟨S33280x1024, .f32⟩
  | .hbm, ⟨16, _⟩ => ⟨S33280x1024, .f32⟩
  | .hbm, ⟨17, _⟩ => ⟨S_, .f32⟩
  | .hbm, ⟨18, _⟩ => ⟨S33280, .f32⟩
  | .hbm, ⟨19, _⟩ => ⟨S33280x1, .f32⟩
  | .hbm, ⟨20, _⟩ => ⟨S_, .f32⟩
  | .hbm, ⟨21, _⟩ => ⟨S33280x1, .f32⟩
  | .hbm, ⟨22, _⟩ => ⟨S33280x1, .f32⟩
  | .hbm, ⟨23, _⟩ => ⟨S_, .f32⟩
  | .hbm, ⟨24, _⟩ => ⟨S33280x1, .f32⟩
  | .hbm, ⟨25, _⟩ => ⟨S33280x1, .f32⟩
  | .hbm, ⟨26, _⟩ => ⟨S33280x1, .f32⟩
  | .hbm, ⟨27, _⟩ => ⟨S33280x1024, .f32⟩
  | .hbm, ⟨28, _⟩ => ⟨S33280x1024, .f32⟩
  | .hbm, ⟨29, _⟩ => ⟨S1x1024, .f32⟩
  | .hbm, ⟨30, _⟩ => ⟨S33280x1024, .f32⟩
  | .hbm, ⟨31, _⟩ => ⟨S33280x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩

abbrev nD : Nat := 1
abbrev τ : Topo := Topo.v7x

variable {F : FTy → Type} [FloatOps F]
-- ==== Samp.lean ====
abbrev S512x1024 : Shape := ⟨2, ![512, 1024]⟩
abbrev S1024 : Shape := ⟨1, ![1024]⟩
abbrev S1024x3600 : Shape := ⟨2, ![1024, 3600]⟩
abbrev S64 : Shape := ⟨1, ![64]⟩
abbrev S256x256 : Shape := ⟨2, ![256, 256]⟩
abbrev S1x1024 : Shape := ⟨2, ![1, 1024]⟩
abbrev S1024x3584 : Shape := ⟨2, ![1024, 3584]⟩
abbrev S1024x16 : Shape := ⟨2, ![1024, 16]⟩
abbrev S_ : Shape := ⟨0, ![]⟩
abbrev S1024x128 : Shape := ⟨2, ![1024, 128]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S512x512 : Shape := ⟨2, ![512, 512]⟩
abbrev S512x128 : Shape := ⟨2, ![512, 128]⟩
abbrev S512x1 : Shape := ⟨2, ![512, 1]⟩
abbrev S1024x512 : Shape := ⟨2, ![1024, 512]⟩
abbrev S512x256 : Shape := ⟨2, ![512, 256]⟩

abbrev nBuf : Space → Nat
  | .hbm => 30
  | .vmem => 15
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x3600, .f32⟩
  | .hbm, ⟨3, _⟩ => ⟨S64, .f32⟩
  | .hbm, ⟨4, _⟩ => ⟨S64, .f32⟩
  | .hbm, ⟨5, _⟩ => ⟨S256x256, .bf16⟩
  | .hbm, ⟨6, _⟩ => ⟨S1x1024, .f32⟩
  | .hbm, ⟨7, _⟩ => ⟨S1024x3584, .f32⟩
  | .hbm, ⟨8, _⟩ => ⟨S1024x3584, .bf16⟩
  | .hbm, ⟨9, _⟩ => ⟨S1024x16, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x128, .bf16⟩
  | .hbm, ⟨14, _⟩ => ⟨S1x64, .f32⟩
  | .hbm, ⟨15, _⟩ => ⟨S8x64, .f32⟩
  | .hbm, ⟨16, _⟩ => ⟨S512, .f32⟩
  | .hbm, ⟨17, _⟩ => ⟨S1x512, .f32⟩
  | .hbm, ⟨18, _⟩ => ⟨S1x64, .f32⟩
  | .hbm, ⟨19, _⟩ => ⟨S8x64, .f32⟩
  | .hbm, ⟨20, _⟩ => ⟨S512, .f32⟩
  | .hbm, ⟨21, _⟩ => ⟨S1x512, .f32⟩
  | .hbm, ⟨22, _⟩ => ⟨S512x512, .bf16⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S512x512, .bf16⟩
  | .hbm, ⟨28, _⟩ => ⟨S512x512, .f32⟩
  | .hbm, ⟨29, _⟩ => ⟨S512x128, .f32⟩
  | .local _ .vmem, ⟨0, _⟩ => ⟨S512x1024, .f32⟩
  | .local _ .vmem, ⟨1, _⟩ => ⟨S1x1024, .f32⟩
  | .local _ .vmem, ⟨2, _⟩ => ⟨S1024x3584, .bf16⟩
  | .local _ .vmem, ⟨3, _⟩ => ⟨S1024x128, .bf16⟩
  | .local _ .vmem, ⟨4, _⟩ => ⟨S1x512, .f32⟩
  | .local _ .vmem, ⟨5, _⟩ => ⟨S1x512, .f32⟩
  | .local _ .vmem, ⟨6, _⟩ => ⟨S256x256, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .f32⟩
  | .local _ .vmem, ⟨14, _⟩ => ⟨S512x128, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v14_3 : Ref sig .tc := ⟨.hbm, 25, rfl⟩
abbrev main_v14_4 : Ref sig .tc := ⟨.hbm, 26, rfl⟩
abbrev main_v14_5 : Ref sig .tc := ⟨.hbm, 27, rfl⟩
abbrev main_v14_6 : Ref sig .tc := ⟨.hbm, 28, rfl⟩
abbrev main_v14_7 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S512x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S512x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== SampRefIdeal.lean ====
abbrev S512x1024 : Shape := ⟨2, ![512, 1024]⟩
abbrev S1024 : Shape := ⟨1, ![1024]⟩
abbrev S1024x3600 : Shape := ⟨2, ![1024, 3600]⟩
abbrev S64 : Shape := ⟨1, ![64]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x3600 : Shape := ⟨2, ![512, 3600]⟩
abbrev S512x512 : Shape := ⟨2, ![512, 512]⟩
abbrev S512x8x64 : Shape := ⟨3, ![512, 8, 64]⟩
abbrev S512x8 : Shape := ⟨2, ![512, 8]⟩
abbrev S512x8x1 : Shape := ⟨3, ![512, 8, 1]⟩
abbrev S1x1x64 : Shape := ⟨3, ![1, 1, 64]⟩
abbrev S512x16 : Shape := ⟨2, ![512, 16]⟩
abbrev S512x128 : Shape := ⟨2, ![512, 128]⟩

abbrev nBuf : Space → Nat
  | .hbm => 71
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x3600, .f32⟩
  | .hbm, ⟨3, _⟩ => ⟨S64, .f32⟩
  | .hbm, ⟨4, _⟩ => ⟨S64, .f32⟩
  | .hbm, ⟨5, _⟩ => ⟨S512x1024, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S512x1, .f32⟩
  | .hbm, ⟨16, _⟩ => ⟨S512x1024, .f32⟩
  | .hbm, ⟨17, _⟩ => ⟨S512x1024, .f32⟩
  | .hbm, ⟨18, _⟩ => ⟨S1x1024, .f32⟩
  | .hbm, ⟨19, _⟩ => ⟨S512x1024, .f32⟩
  | .hbm, ⟨20, _⟩ => ⟨S512x1024, .f32⟩
  | .hbm, ⟨21, _⟩ => ⟨S512x3600, .f32⟩
  | .hbm, ⟨22, _⟩ => ⟨S512x512, .f32⟩
  | .hbm, ⟨23, _⟩ => ⟨S512x8x64, .f32⟩
  | .hbm, ⟨24, _⟩ => ⟨S512x8x64, .f32⟩
  | .hbm, ⟨25, _⟩ => ⟨S_, .f32⟩
  | .hbm, ⟨26, _⟩ => ⟨S512x8, .f32⟩
  | .hbm, ⟨27, _⟩ => ⟨S512x8x1, .f32⟩
  | .hbm, ⟨28, _⟩ => ⟨S_, .f32⟩
  | .hbm, ⟨29, _⟩ => ⟨S512x8x1, .f32⟩
  | .hbm, ⟨30, _⟩ => ⟨S512x8x1, .f32⟩
  | .hbm, ⟨31, _⟩ => ⟨S_, .f32⟩
  | .hbm, ⟨32, _⟩ => ⟨S512x8x1, .f32⟩
  | .hbm, ⟨33, _⟩ => ⟨S512x8x1, .f32⟩
  | .hbm, ⟨34, _⟩ => ⟨S512x8x1, .f32⟩
  | .hbm, ⟨35, _⟩ => ⟨S512x8x64, .f32⟩
  | .hbm, ⟨36, _⟩ => ⟨S512x8x64, .f32⟩
  | .hbm, ⟨37, _⟩ => ⟨S1x1x64, .f32⟩
  | .hbm, ⟨38, _⟩ => ⟨S512x8x64, .f32⟩
  | .hbm, ⟨39, _⟩ => ⟨S512x8x64, .f32⟩
  | .hbm, ⟨40, _⟩ => ⟨S512x512, .f32⟩
  | .hbm, ⟨41, _⟩ => ⟨S512x512, .f32⟩
  | .hbm, ⟨42, _⟩ => ⟨S512x8x64, .f32⟩
  | .hbm, ⟨43, _⟩ => ⟨S512x8x64, .f32⟩
  | .hbm, ⟨44, _⟩ => ⟨S_, .f32⟩
  | .hbm, ⟨45, _⟩ => ⟨S512x8, .f32⟩
  | .hbm, ⟨46, _⟩ => ⟨S512x8x1, .f32⟩
  | .hbm, ⟨47, _⟩ => ⟨S_, .f32⟩
  | .hbm, ⟨48, _⟩ => ⟨S512x8x1, .f32⟩
  | .hbm, ⟨49, _⟩ => ⟨S512x8x1, .f32⟩
  | .hbm, ⟨50, _⟩ => ⟨S_, .f32⟩
  | .hbm, ⟨51, _⟩ => ⟨S512x8x1, .f32⟩
  | .hbm, ⟨52, _⟩ => ⟨S512x8x1, .f32⟩
  | .hbm, ⟨53, _⟩ => ⟨S512x8x1, .f32⟩
  | .hbm, ⟨54, _⟩ => ⟨S512x8x64, .f32⟩
  | .hbm, ⟨55, _⟩ => ⟨S512x8x64, .f32⟩
  | .hbm, ⟨56, _⟩ => ⟨S1x1x64, .f32⟩
  | .hbm, ⟨57, _⟩ => ⟨S512x8x64, .f32⟩
  | .hbm, ⟨58, _⟩ => ⟨S512x8x64, .f32⟩
  | .hbm, ⟨59, _⟩ => ⟨S512x512, .f32⟩
  | .hbm, ⟨60, _⟩ => ⟨S512x16, .f32⟩
  | .hbm, ⟨61, _⟩ => ⟨S_, .i32⟩
  | .hbm, ⟨62, _⟩ => ⟨S_, .f32⟩
  | .hbm, ⟨63, _⟩ => ⟨S512x128, .f32⟩
  | .hbm, ⟨64, _⟩ => ⟨S512x512, .bf16⟩
  | .hbm, ⟨65, _⟩ => ⟨S512x512, .f32⟩
  | .hbm, ⟨66, _⟩ => ⟨S512x512, .f32⟩
  | .hbm, ⟨67, _⟩ => ⟨S512x512, .f32⟩
  | .hbm, ⟨68, _⟩ => ⟨S512x512, .f32⟩
  | .hbm, ⟨69, _⟩ => ⟨S512x512, .bf16⟩
  | .hbm, ⟨70, _⟩ => ⟨S512x512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c : Ref sig .tc := ⟨.hbm, 61, rfl⟩
abbrev main_call0_v0 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩

abbrev nD : Nat := 1
abbrev τ : Topo := Topo.v7x

variable {F : FTy → Type} [FloatOps F]
-- ==== Proof.Sums.lean ====
module

public import Idealize.ShloMosaic.Lib.Pointwise
public import Idealize.ShloMosaic.Lib.IdealHost

@[expose] public section

noncomputable section

namespace Cert.Sums

open Idealize.ShloMosaic

/-- A finite sum times a real that is not negative is the sum of the products. -/
theorem sum_mul_real {n : ℕ} (f : Fin n → EReal) {w : EReal} (h0 : 0 ≤ w) (ht : w ≠ ⊤) :
    ∑ x, f x * w = (∑ x, f x) * w := by
  refine Finset.induction_on (Finset.univ : Finset (Fin n)) (by simp) fun a s ha ih => ?_
  rw [Finset.sum_insert ha, Finset.sum_insert ha, ih, EReal.right_distrib_of_nonneg_of_ne_top h0 ht]

/-- A sum over 256 positions that keeps one block of 64 is the sum over that block. -/
theorem sum_block (F : Fin 256 → EReal) (q : ℕ) (hq : q < 4) :
    ∑ x : Fin 256, (if x.val / 64 = q then F x else 0) = ∑ y : Fin 64, F ⟨q * 64 + y.val, by omega⟩ := by
  rw [← (finProdFinEquiv : Fin 4 × Fin 64 ≃ Fin 256).sum_comp, Fintype.sum_prod_type, Finset.sum_eq_single (⟨q, hq⟩ : Fin 4)]
  · refine Finset.sum_congr rfl fun y _ => ?_
    have hy := y.isLt
    rw [if_pos (by simp only [finProdFinEquiv_apply_val]; omega)]
    exact congrArg F (Fin.ext (by simp only [finProdFinEquiv_apply_val]; omega))
  · intro a _ ha
    refine Finset.sum_eq_zero fun y _ => if_neg ?_
    have hy := y.isLt
    have : a.val ≠ q := fun h => ha (Fin.ext h)
    simp only [finProdFinEquiv_apply_val]
    omega
  · exact fun h => absurd (Finset.mem_univ _) h

/-- The float32 word of 64. -/
theorem ofBits_64 : Ideal.ofBits .f32 0x42800000#32 = ((64 : ℝ) : EReal) := by
  simp [Ideal.ofBits, Ideal.ieee, -EReal.coe_mul]; norm_num

/-- The bfloat16 word of one sixty-fourth. -/
theorem ofBits_inv64 : Ideal.ofBits .bf16 0x3C80#16 = (((1 : ℝ) / 64 : ℝ) : EReal) := by
  simp [Ideal.ofBits, Ideal.ieee, -EReal.coe_mul]; norm_num

/-- Division by 64 is multiplication by one sixty-fourth. -/
theorem div_64 (x : EReal) : Ideal.div x ((64 : ℝ) : EReal) = x * (((1 : ℝ) / 64 : ℝ) : EReal) := by
  unfold Ideal.div
  rw [if_neg (by norm_num), ← EReal.coe_inv]
  norm_num

end Cert.Sums

end
-- ==== Proof.ProjBody.lean ====
module

public import proofs.«01_k».proof.Proof.Gen.ProjIdeal.Skeleton
public import Idealize.ShloMosaic.Lib.Pointwise
public import proofs.«01_k».proof.Proof.Sums

@[expose] public section

set_option maxRecDepth 16384

noncomputable section

namespace Cert.ProjIdeal.Read

open Cert.ProjIdeal Cert.ProjIdeal.Gen Idealize.ShloMosaic Idealize.ShloMosaic.TcCoe Idealize.SL.Sem

theorem norm_apply (x : FVec Ideal S512x1024 .f32) (g : FVec Ideal S1x1024 .f32) (r : Fin 512) (k : Fin 1024) :
    (k0_pay4 (F := Ideal) x g (ix2 r k) : EReal) = x (ix2 r k) * Ideal.rsqrt (Ideal.div (∑ j : Fin 1024, x (ix2 r j) * x (ix2 r j)) (Ideal.ofBits .f32 0x44800000#32)
      + Ideal.ofBits .f32 0x358637BD#32) * g (ix2 0 k) := by
  pointwise [k0_pay4]

theorem pay1_apply (v : FVec Ideal S512x1024 .bf16) (w : FVec Ideal S1024x512 .bf16) (r c : Fin 512) :
    k0_pay1 v w (ix2 r c) = ∑ j : Fin 1024, v (ix2 r j) * w (ix2 j c) := by
  pointwise [k0_pay1]

theorem pay2_apply (v : FVec Ideal S512x1024 .bf16) (w : FVec Ideal S1024x512 .bf16) (r c : Fin 512) :
    k0_pay2 v w (ix2 r c) = ∑ j : Fin 1024, v (ix2 r j) * w (ix2 j c) := by
  pointwise [k0_pay2]

theorem pay3_apply (v : FVec Ideal S512x1024 .bf16) (w : FVec Ideal S1024x128 .bf16) (r : Fin 512) (c : Fin 128) :
    k0_pay3 v w (ix2 r c) = ∑ j : Fin 1024, v (ix2 r j) * w (ix2 j c) := by
  pointwise [k0_pay3]

/-- What the table of group means must be for the kernel's normalisation to be the reference's. -/
def IsMeans (G : FVec Ideal S256x256 .bf16) : Prop :=
  ∀ x y : Fin 256, G (ix2 x y) = if x.val / 64 = y.val / 64 then Ideal.ofBits .bf16 0x3C80#16 else 0

/-- The product with the table of group means, over the two halves, is the mean of the head's 64 entries. -/
theorem means_apply (f : Fin 512 → EReal) (G : FVec Ideal S256x256 .bf16) (hG : IsMeans G) (c : Fin 512) :
    (if h : c.val < 256 then ∑ x : Fin 256, f ⟨x.val, by omega⟩ * G (ix2 x ⟨c.val, h⟩)
      else ∑ x : Fin 256, f ⟨256 + x.val, by omega⟩ * G (ix2 x ⟨c.val - 256, by omega⟩))
    = Ideal.div (∑ x : Fin 64, f ⟨c.val / 64 * 64 + x.val, by omega⟩) (Ideal.ofBits .f32 0x42800000#32) := by
  have hw0 : (0 : EReal) ≤ (((1 : ℝ) / 64 : ℝ) : EReal) := by exact_mod_cast (by norm_num : (0 : ℝ) ≤ 1 / 64)
  rw [Sums.ofBits_64, Sums.div_64, ← Sums.sum_mul_real _ hw0 (EReal.coe_ne_top _)]
  split
  · rename_i h
    simp only [hG _ _, Sums.ofBits_inv64, mul_ite, mul_zero]
    rw [Sums.sum_block (fun x => f ⟨x.val, by omega⟩ * _) _ (by omega)]
  · rename_i h
    simp only [hG _ _, Sums.ofBits_inv64, mul_ite, mul_zero]
    rw [Sums.sum_block (fun x => f ⟨256 + x.val, by omega⟩ * _) _ (by omega)]
    refine Finset.sum_congr rfl fun y _ => ?_
    refine congrArg (fun i => f i * _) (Fin.ext ?_)
    dsimp only
    omega

theorem pay6_apply (v : FVec Ideal S512x1024 .bf16) (w : FVec Ideal S1024x512 .bf16) (G : FVec Ideal S256x256 .bf16) (hG : IsMeans G)
    (g : FVec Ideal S1x512 .f32) (z : Fin 512 → EReal) (r c : Fin 512) (hz : ∀ c, ∑ j : Fin 1024, v (ix2 r j) * w (ix2 j c) = z c) :
    k0_pay6 v w G g (ix2 r c) = z c * Ideal.rsqrt (Ideal.div (∑ x : Fin 64, z ⟨c.val / 64 * 64 + x.val, by omega⟩
        * z ⟨c.val / 64 * 64 + x.val, by omega⟩) (Ideal.ofBits .f32 0x42800000#32)
      + Ideal.ofBits .f32 0x358637BD#32) * g (ix2 0 c) := by
  pointwise [k0_pay6]
  simp only [hz]
  rw [means_apply (fun c => z c * z c) G hG c]

theorem pay5_apply (x : FVec Ideal S512x1024 .f32) (g0 : FVec Ideal S1x1024 .f32) (w : FVec Ideal S1024x512 .bf16) (G : FVec Ideal S256x256 .bf16) (hG : IsMeans G)
    (g : FVec Ideal S1x512 .f32) (z : Fin 512 → EReal) (r c : Fin 512) (hz : ∀ c, ∑ j : Fin 1024, (k0_pay4 (F := Ideal) x g0 (ix2 r j) : EReal) * w (ix2 j c) = z c) :
    (k0_pay5 (F := Ideal) x g0 w G g (ix2 r c) : EReal) = z c * Ideal.rsqrt (Ideal.div (∑ x : Fin 64, z ⟨c.val / 64 * 64 + x.val, by omega⟩
        * z ⟨c.val / 64 * 64 + x.val, by omega⟩) (Ideal.ofBits .f32 0x42800000#32)
      + Ideal.ofBits .f32 0x358637BD#32) * g (ix2 0 c) := by
  pointwise [k0_pay5]
  simp only [hz]
  rw [means_apply (fun c => z c * z c) G hG c]

end Cert.ProjIdeal.Read

end
-- ==== Proof.ProjRef.lean ====
module

public import proofs.«01_k».proof.Proof.Gen.ProjRefIdeal.Run
public import Idealize.ShloMosaic.Lib.Pointwise

@[expose] public section

set_option maxRecDepth 16384

noncomputable section

namespace Cert.ProjRefIdeal.Read

open Cert.ProjRefIdeal Cert.ProjRefIdeal.Gen Idealize.ShloMosaic Idealize.ShloMosaic.TcCoe Idealize.SL.Sem

/-- The reference's normalised rows. -/
def xn (X : FVec Ideal S32768x1024 .f32) (g : FVec Ideal S1024 .f32) : FVec Ideal S32768x1024 .f32 :=
  mulf (mulf X (broadcastInDim S32768x1024 ![0, 1] bcast_S32768x1_S32768x1024_0_1 (Host.rsqrt (addf (Host.divf (broadcastInDim S32768x1 ![0] bcast_S32768_S32768x1_0 (Host.reduceAdd (mulf X X) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

/-- The reference's projected rows. -/
def zz (X : FVec Ideal S32768x1024 .f32) (g : FVec Ideal S1024 .f32) (W : FVec Ideal S1024x3600 .f32) : FVec Ideal S32768x3600 .f32 :=
  Host.dotGeneral dot_S32768x1024_S1024x3600_S32768x3600_1_0_0_1_n_n none (xn X g) W

/-- The reference's normalisation of each head's 64 entries. -/
def hn (Y : FVec Ideal S32768x512 .f32) (g : FVec Ideal S64 .f32) : FVec Ideal S32768x512 .f32 :=
  shapeCast _ (mulf (mulf (shapeCast _ Y shapeCasts_S32768x512_S32768x8x64) (broadcastInDim S32768x8x64 ![0, 1, 2] bcast_S32768x8x1_S32768x8x64_0_1_2 (Host.rsqrt (addf (Host.divf (broadcastInDim S32768x8x1 ![0, 1] bcast_S32768x8_S32768x8x1_0_1 (Host.reduceAdd (mulf (shapeCast _ Y shapeCasts_S32768x512_S32768x8x64) (shapeCast _ Y shapeCasts_S32768x512_S32768x8x64)) (constant S_ .f32 0x00000000#32) reducesTo_S32768x8x64_S32768x8_d2 h_S_)) (broadcastInDim S32768x8x1 ![] bcast_S_S32768x8x1 (constant S_ .f32 0x42800000#32))) (broadcastInDim S32768x8x1 ![] bcast_S_S32768x8x1 (constant S_ .f32 0x358637BD#32)))))) (broadcastInDim S32768x8x64 ![0, 1, 2] bcast_S1x1x64_S32768x8x64_0_1_2 (broadcastInDim S1x1x64 ![2] bcast_S64_S1x1x64_2 g))) shapeCasts_S32768x8x64_S32768x512

theorem xn_apply (X : FVec Ideal S32768x1024 .f32) (g : FVec Ideal S1024 .f32) (R : Fin 32768) (k : Fin 1024) :
    xn X g (ix2 R k) = X (ix2 R k) * Ideal.rsqrt (Ideal.div (∑ x : Fin 1024, X (ix2 R x) * X (ix2 R x)) (Ideal.ofBits .f32 0x44800000#32)
      + Ideal.ofBits .f32 0x358637BD#32) * g (ix1 k) := by
  pointwise [xn]

theorem zz_apply (X : FVec Ideal S32768x1024 .f32) (g : FVec Ideal S1024 .f32) (W : FVec Ideal S1024x3600 .f32) (R : Fin 32768) (k : Fin 3600) :
    zz X g W (ix2 R k) = ∑ j : Fin 1024, xn X g (ix2 R j) * W (ix2 j k) := by
  pointwise [zz]

theorem hn_apply (Y : FVec Ideal S32768x512 .f32) (g : FVec Ideal S64 .f32) (R : Fin 32768) (k : Fin 512) :
    hn Y g (ix2 R k) = Y (ix2 R k) * Ideal.rsqrt (Ideal.div (∑ x : Fin 64, Y (ix2 R ⟨k.val / 64 * 64 + x.val, by omega⟩)
        * Y (ix2 R ⟨k.val / 64 * 64 + x.val, by omega⟩)) (Ideal.ofBits .f32 0x42800000#32)
      + Ideal.ofBits .f32 0x358637BD#32) * g (ix1 ⟨k.val % 64, by omega⟩) := by
  pointwise [hn]

end Cert.ProjRefIdeal.Read

end
-- ==== Proof.ProjValue.lean ====
module

public import proofs.«01_k».proof.Proof.Gen.ProjIdeal.Value
public import proofs.«01_k».proof.Proof.ProjBody
public import proofs.«01_k».proof.Proof.ProjRef
public import Idealize.ShloMosaic.Lib.StableHlo.Run

@[expose] public section

set_option maxRecDepth 16384

noncomputable section

namespace Cert.ProjIdeal.Read

open Cert.ProjIdeal Cert.ProjIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The argument arrays of device `c`. -/
abbrev aX (c : Dev nD) : FVec Ideal S32768x1024 .f32 := m ((c : Thread nD τ).loc main_arg0)
abbrev aG (c : Dev nD) : FVec Ideal S1024 .f32 := m ((c : Thread nD τ).loc main_arg1)
abbrev aW (c : Dev nD) : FVec Ideal S1024x3600 .f32 := m ((c : Thread nD τ).loc main_arg2)
abbrev aQ (c : Dev nD) : FVec Ideal S64 .f32 := m ((c : Thread nD τ).loc main_arg3)
abbrev aK (c : Dev nD) : FVec Ideal S64 .f32 := m ((c : Thread nD τ).loc main_arg4)

theorem V_v0 (c : Dev nD) (k : Fin 1024) : (V m c main_v0 : FVec Ideal S1x1024 .f32) (ix2 0 k) = aG m c (ix1 k) := by
  have e : V m c main_v0 = (broadcastInDim S1x1024 ![1] bcast_S1024_S1x1024_1 (aG m c) : FVec Ideal S1x1024 .f32) := by
    simp only [V, hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results_simp <;> rfl
  rw [e]; pointwise

theorem V_v2 (c : Dev nD) (j : Fin 1024) (k : Fin 3584) : (V m c main_v2 : FVec Ideal S1024x3584 .bf16) (ix2 j k) = aW m c (ix2 j ⟨k.val, by omega⟩) := by
  have e : V m c main_v2 = (truncf .bf16 (extractStridedSlice S1024x3584 ![0, 0] (aW m c) slices_S1024x3600_S1024x3584_0_0) bitsLt_bf16_f32 : FVec Ideal S1024x3584 .bf16) := by
    simp only [V, hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results_simp <;> rfl
  rw [e]; pointwise

theorem V_v5 (c : Dev nD) : V m c main_v5 = (truncf .bf16 (pad S1024x128 ![0, 0] ![0, 112] ![0, 0] (extractStridedSlice S1024x16 ![0, 3584] (aW m c) slices_S1024x3600_S1024x16_0_3584) (sitofp .f32 (constantI S_ 32 0#32)) pads_S1024x16_S1024x128_000_01120 h_S_) bitsLt_bf16_f32 : FVec Ideal S1024x128 .bf16) := by
    simp only [V, hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results_simp <;> rfl

theorem V_v9 (c : Dev nD) (k : Fin 512) : (V m c main_v9 : FVec Ideal S1x512 .f32) (ix2 0 k) = aQ m c (ix1 ⟨k.val % 64, by omega⟩) := by
  have e : V m c main_v9 = (broadcastInDim S1x512 ![1] bcast_S512_S1x512_1 (shapeCast _ (broadcastInDim S8x64 ![0, 1] bcast_S1x64_S8x64_0_1 (shapeCast _ (aQ m c) shapeCasts_S64_S1x64)) shapeCasts_S8x64_S512) : FVec Ideal S1x512 .f32) := by
    simp only [V, hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results_simp <;> rfl
  rw [e]; pointwise

theorem V_v13 (c : Dev nD) (k : Fin 512) : (V m c main_v13 : FVec Ideal S1x512 .f32) (ix2 0 k) = aK m c (ix1 ⟨k.val % 64, by omega⟩) := by
  have e : V m c main_v13 = (broadcastInDim S1x512 ![1] bcast_S512_S1x512_1 (shapeCast _ (broadcastInDim S8x64 ![0, 1] bcast_S1x64_S8x64_0_1 (shapeCast _ (aK m c) shapeCasts_S64_S1x64)) shapeCasts_S8x64_S512) : FVec Ideal S1x512 .f32) := by
    simp only [V, hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results_simp <;> rfl
  rw [e]; pointwise

theorem V_cst (c : Dev nD) (i : S256x256.Idx) : (V m c main_cst : FVec Ideal S256x256 .bf16) i = Ideal.ofBits .bf16 (lit0 (S256x256.rowMajor i)) := by
  have e : V m c main_cst = (fun i => FloatOps.ofBits .bf16 (lit0 (S256x256.rowMajor i)) : FVec Ideal S256x256 .bf16) := by
    simp only [V, hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results_simp <;> rfl
  rw [e]; rfl

theorem hidx (t : Fin cfg0.N) : win0_0.index t 0 = t.val ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0
    ∧ win0_4.index t 0 = 0 ∧ win0_4.index t 1 = 0 ∧ win0_5.index t 0 = 0 ∧ win0_5.index t 1 = 0
    ∧ win0_6.index t 0 = 0 ∧ win0_6.index t 1 = 0 := by
  revert t
  exact (by decide +kernel : ∀ t : Fin grid0.N, win0_0.index t 0 = t.val ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0
    ∧ win0_4.index t 0 = 0 ∧ win0_4.index t 1 = 0 ∧ win0_5.index t 0 = 0 ∧ win0_5.index t 1 = 0
    ∧ win0_6.index t 0 = 0 ∧ win0_6.index t 1 = 0)

theorem lt_of_point (t : Fin cfg0.N) (r : Fin 512) : 512 * t.val + r.val < 32768 := by
  have : t.val < 64 := lt_of_lt_of_eq t.isLt N_0
  omega

theorem iblk0 (c : Dev nD) (t : Fin cfg0.N) (r : Fin 512) (k : Fin 1024) :
    (iblk m c 0 t : Vec Ideal S512x1024 .f32) (ix2 r k) = aX m c (ix2 ⟨512 * t.val + r.val, lt_of_point t r⟩ k) := by
  unfold iblk
  rw [View.read_apply]
  refine (congrArg (V m c main_arg0) ?_).trans (congrFun (V_main_arg0 m c) _)
  funext a
  apply Fin.ext
  match a with
  | ⟨0, _⟩ => show win0_0.index t 0 * 512 + 1 * r.val = 512 * t.val + r.val; rw [(hidx t).1]; omega
  | ⟨1, _⟩ => show win0_0.index t 1 * 1024 + 1 * k.val = k.val; rw [(hidx t).2.1]; omega

theorem iblk1 (c : Dev nD) (t : Fin cfg0.N) : (iblk m c 1 t : Vec Ideal S1x1024 .f32) = V m c main_v0 := by
  unfold iblk
  funext i
  rw [View.read_apply]
  refine congrArg (V m c main_v0) ?_
  funext a
  apply Fin.ext
  match a with
  | ⟨0, _⟩ => show win0_1.index t 0 * 1 + 1 * (i 0).val = (i 0).val; rw [(hidx t).2.2.1]; omega
  | ⟨1, _⟩ => show win0_1.index t 1 * 1024 + 1 * (i 1).val = (i 1).val; rw [(hidx t).2.2.2.1]; omega

theorem iblk2 (c : Dev nD) (t : Fin cfg0.N) : (iblk m c 2 t : Vec Ideal S1024x3584 .bf16) = V m c main_v2 := by
  unfold iblk
  funext i
  rw [View.read_apply]
  refine congrArg (V m c main_v2) ?_
  funext a
  apply Fin.ext
  match a with
  | ⟨0, _⟩ => show win0_2.index t 0 * 1024 + 1 * (i 0).val = (i 0).val; rw [(hidx t).2.2.2.2.1]; omega
  | ⟨1, _⟩ => show win0_2.index t 1 * 3584 + 1 * (i 1).val = (i 1).val; rw [(hidx t).2.2.2.2.2.1]; omega

theorem iblk3 (c : Dev nD) (t : Fin cfg0.N) : (iblk m c 3 t : Vec Ideal S1024x128 .bf16) = V m c main_v5 := by
  unfold iblk
  funext i
  rw [View.read_apply]
  refine congrArg (V m c main_v5) ?_
  funext a
  apply Fin.ext
  match a with
  | ⟨0, _⟩ => show win0_3.index t 0 * 1024 + 1 * (i 0).val = (i 0).val; rw [(hidx t).2.2.2.2.2.2.1]; omega
  | ⟨1, _⟩ => show win0_3.index t 1 * 128 + 1 * (i 1).val = (i 1).val; rw [(hidx t).2.2.2.2.2.2.2.1]; omega

theorem iblk4 (c : Dev nD) (t : Fin cfg0.N) : (iblk m c 4 t : Vec Ideal S1x512 .f32) = V m c main_v9 := by
  unfold iblk
  funext i
  rw [View.read_apply]
  refine congrArg (V m c main_v9) ?_
  funext a
  apply Fin.ext
  match a with
  | ⟨0, _⟩ => show win0_4.index t 0 * 1 + 1 * (i 0).val = (i 0).val; rw [(hidx t).2.2.2.2.2.2.2.2.1]; omega
  | ⟨1, _⟩ => show win0_4.index t 1 * 512 + 1 * (i 1).val = (i 1).val; rw [(hidx t).2.2.2.2.2.2.2.2.2.1]; omega

theorem iblk5 (c : Dev nD) (t : Fin cfg0.N) : (iblk m c 5 t : Vec Ideal S1x512 .f32) = V m c main_v13 := by
  unfold iblk
  funext i
  rw [View.read_apply]
  refine congrArg (V m c main_v13) ?_
  funext a
  apply Fin.ext
  match a with
  | ⟨0, _⟩ => show win0_5.index t 0 * 1 + 1 * (i 0).val = (i 0).val; rw [(hidx t).2.2.2.2.2.2.2.2.2.2.1]; omega
  | ⟨1, _⟩ => show win0_5.index t 1 * 512 + 1 * (i 1).val = (i 1).val; rw [(hidx t).2.2.2.2.2.2.2.2.2.2.2.1]; omega

theorem iblk6 (c : Dev nD) (t : Fin cfg0.N) : (iblk m c 6 t : Vec Ideal S256x256 .bf16) = V m c main_cst := by
  unfold iblk
  funext i
  rw [View.read_apply]
  refine congrArg (V m c main_cst) ?_
  funext a
  apply Fin.ext
  match a with
  | ⟨0, _⟩ => show win0_6.index t 0 * 256 + 1 * (i 0).val = (i 0).val; rw [(hidx t).2.2.2.2.2.2.2.2.2.2.2.2.1]; omega
  | ⟨1, _⟩ => show win0_6.index t 1 * 256 + 1 * (i 1).val = (i 1).val; rw [(hidx t).2.2.2.2.2.2.2.2.2.2.2.2.2]; omega

end Cert.ProjIdeal.Read

end
-- ==== Proof.ProjHalves.lean ====
module

public import proofs.«01_k».proof.ProjIdeal

@[expose] public section

set_option maxRecDepth 100000

noncomputable section

namespace Cert.ProjIdeal.Table

theorem q2 : lit0t0_2 = lit0t0_0 := by delta lit0t0_2 lit0t0_0; rfl
theorem q3 : lit0t0_3 = lit0t0_1 := by delta lit0t0_3 lit0t0_1; rfl
theorem q4 : lit0t0_4 = lit0t0_0 := by delta lit0t0_4 lit0t0_0; rfl
theorem q5 : lit0t0_5 = lit0t0_1 := by delta lit0t0_5 lit0t0_1; rfl
theorem q6 : lit0t0_6 = lit0t0_0 := by delta lit0t0_6 lit0t0_0; rfl
theorem q7 : lit0t0_7 = lit0t0_1 := by delta lit0t0_7 lit0t0_1; rfl
theorem q8 : lit0t0_8 = lit0t0_0 := by delta lit0t0_8 lit0t0_0; rfl
theorem q9 : lit0t0_9 = lit0t0_1 := by delta lit0t0_9 lit0t0_1; rfl
theorem q10 : lit0t0_10 = lit0t0_0 := by delta lit0t0_10 lit0t0_0; rfl
theorem q11 : lit0t0_11 = lit0t0_1 := by delta lit0t0_11 lit0t0_1; rfl
theorem q12 : lit0t0_12 = lit0t0_0 := by delta lit0t0_12 lit0t0_0; rfl
theorem q13 : lit0t0_13 = lit0t0_1 := by delta lit0t0_13 lit0t0_1; rfl
theorem q14 : lit0t0_14 = lit0t0_0 := by delta lit0t0_14 lit0t0_0; rfl
theorem q15 : lit0t0_15 = lit0t0_1 := by delta lit0t0_15 lit0t0_1; rfl
theorem q16 : lit0t0_16 = lit0t0_0 := by delta lit0t0_16 lit0t0_0; rfl
theorem q17 : lit0t0_17 = lit0t0_1 := by delta lit0t0_17 lit0t0_1; rfl
theorem q18 : lit0t0_18 = lit0t0_0 := by delta lit0t0_18 lit0t0_0; rfl
theorem q19 : lit0t0_19 = lit0t0_1 := by delta lit0t0_19 lit0t0_1; rfl
theorem q20 : lit0t0_20 = lit0t0_0 := by delta lit0t0_20 lit0t0_0; rfl
theorem q21 : lit0t0_21 = lit0t0_1 := by delta lit0t0_21 lit0t0_1; rfl
theorem q22 : lit0t0_22 = lit0t0_0 := by delta lit0t0_22 lit0t0_0; rfl
theorem q23 : lit0t0_23 = lit0t0_1 := by delta lit0t0_23 lit0t0_1; rfl
theorem q24 : lit0t0_24 = lit0t0_0 := by delta lit0t0_24 lit0t0_0; rfl
theorem q25 : lit0t0_25 = lit0t0_1 := by delta lit0t0_25 lit0t0_1; rfl
theorem q26 : lit0t0_26 = lit0t0_0 := by delta lit0t0_26 lit0t0_0; rfl
theorem q27 : lit0t0_27 = lit0t0_1 := by delta lit0t0_27 lit0t0_1; rfl
theorem q28 : lit0t0_28 = lit0t0_0 := by delta lit0t0_28 lit0t0_0; rfl
theorem q29 : lit0t0_29 = lit0t0_1 := by delta lit0t0_29 lit0t0_1; rfl
theorem q30 : lit0t0_30 = lit0t0_0 := by delta lit0t0_30 lit0t0_0; rfl
theorem q31 : lit0t0_31 = lit0t0_1 := by delta lit0t0_31 lit0t0_1; rfl
theorem q32 : lit0t0_32 = lit0t0_0 := by delta lit0t0_32 lit0t0_0; rfl
theorem q33 : lit0t0_33 = lit0t0_1 := by delta lit0t0_33 lit0t0_1; rfl
theorem q34 : lit0t0_34 = lit0t0_0 := by delta lit0t0_34 lit0t0_0; rfl
theorem q35 : lit0t0_35 = lit0t0_1 := by delta lit0t0_35 lit0t0_1; rfl
theorem q36 : lit0t0_36 = lit0t0_0 := by delta lit0t0_36 lit0t0_0; rfl
theorem q37 : lit0t0_37 = lit0t0_1 := by delta lit0t0_37 lit0t0_1; rfl
theorem q38 : lit0t0_38 = lit0t0_0 := by delta lit0t0_38 lit0t0_0; rfl
theorem q39 : lit0t0_39 = lit0t0_1 := by delta lit0t0_39 lit0t0_1; rfl
theorem q40 : lit0t0_40 = lit0t0_0 := by delta lit0t0_40 lit0t0_0; rfl
theorem q41 : lit0t0_41 = lit0t0_1 := by delta lit0t0_41 lit0t0_1; rfl
theorem q42 : lit0t0_42 = lit0t0_0 := by delta lit0t0_42 lit0t0_0; rfl
theorem q43 : lit0t0_43 = lit0t0_1 := by delta lit0t0_43 lit0t0_1; rfl
theorem q44 : lit0t0_44 = lit0t0_0 := by delta lit0t0_44 lit0t0_0; rfl
theorem q45 : lit0t0_45 = lit0t0_1 := by delta lit0t0_45 lit0t0_1; rfl
theorem q46 : lit0t0_46 = lit0t0_0 := by delta lit0t0_46 lit0t0_0; rfl
theorem q47 : lit0t0_47 = lit0t0_1 := by delta lit0t0_47 lit0t0_1; rfl
theorem q48 : lit0t0_48 = lit0t0_0 := by delta lit0t0_48 lit0t0_0; rfl
theorem q49 : lit0t0_49 = lit0t0_1 := by delta lit0t0_49 lit0t0_1; rfl
theorem q50 : lit0t0_50 = lit0t0_0 := by delta lit0t0_50 lit0t0_0; rfl
theorem q51 : lit0t0_51 = lit0t0_1 := by delta lit0t0_51 lit0t0_1; rfl
theorem q52 : lit0t0_52 = lit0t0_0 := by delta lit0t0_52 lit0t0_0; rfl
theorem q53 : lit0t0_53 = lit0t0_1 := by delta lit0t0_53 lit0t0_1; rfl
theorem q54 : lit0t0_54 = lit0t0_0 := by delta lit0t0_54 lit0t0_0; rfl
theorem q55 : lit0t0_55 = lit0t0_1 := by delta lit0t0_55 lit0t0_1; rfl
theorem q56 : lit0t0_56 = lit0t0_0 := by delta lit0t0_56 lit0t0_0; rfl
theorem q57 : lit0t0_57 = lit0t0_1 := by delta lit0t0_57 lit0t0_1; rfl
theorem q58 : lit0t0_58 = lit0t0_0 := by delta lit0t0_58 lit0t0_0; rfl
theorem q59 : lit0t0_59 = lit0t0_1 := by delta lit0t0_59 lit0t0_1; rfl
theorem q60 : lit0t0_60 = lit0t0_0 := by delta lit0t0_60 lit0t0_0; rfl
theorem q61 : lit0t0_61 = lit0t0_1 := by delta lit0t0_61 lit0t0_1; rfl
theorem q62 : lit0t0_62 = lit0t0_0 := by delta lit0t0_62 lit0t0_0; rfl
theorem q63 : lit0t0_63 = lit0t0_1 := by delta lit0t0_63 lit0t0_1; rfl
theorem q64 : lit0t0_64 = lit0t0_0 := by delta lit0t0_64 lit0t0_0; rfl
theorem q65 : lit0t0_65 = lit0t0_1 := by delta lit0t0_65 lit0t0_1; rfl
theorem q66 : lit0t0_66 = lit0t0_0 := by delta lit0t0_66 lit0t0_0; rfl
theorem q67 : lit0t0_67 = lit0t0_1 := by delta lit0t0_67 lit0t0_1; rfl
theorem q68 : lit0t0_68 = lit0t0_0 := by delta lit0t0_68 lit0t0_0; rfl
theorem q69 : lit0t0_69 = lit0t0_1 := by delta lit0t0_69 lit0t0_1; rfl
theorem q70 : lit0t0_70 = lit0t0_0 := by delta lit0t0_70 lit0t0_0; rfl
theorem q71 : lit0t0_71 = lit0t0_1 := by delta lit0t0_71 lit0t0_1; rfl
theorem q72 : lit0t0_72 = lit0t0_0 := by delta lit0t0_72 lit0t0_0; rfl
theorem q73 : lit0t0_73 = lit0t0_1 := by delta lit0t0_73 lit0t0_1; rfl
theorem q74 : lit0t0_74 = lit0t0_0 := by delta lit0t0_74 lit0t0_0; rfl
theorem q75 : lit0t0_75 = lit0t0_1 := by delta lit0t0_75 lit0t0_1; rfl
theorem q76 : lit0t0_76 = lit0t0_0 := by delta lit0t0_76 lit0t0_0; rfl
theorem q77 : lit0t0_77 = lit0t0_1 := by delta lit0t0_77 lit0t0_1; rfl
theorem q78 : lit0t0_78 = lit0t0_0 := by delta lit0t0_78 lit0t0_0; rfl
theorem q79 : lit0t0_79 = lit0t0_1 := by delta lit0t0_79 lit0t0_1; rfl
theorem q80 : lit0t0_80 = lit0t0_0 := by delta lit0t0_80 lit0t0_0; rfl
theorem q81 : lit0t0_81 = lit0t0_1 := by delta lit0t0_81 lit0t0_1; rfl
theorem q82 : lit0t0_82 = lit0t0_0 := by delta lit0t0_82 lit0t0_0; rfl
theorem q83 : lit0t0_83 = lit0t0_1 := by delta lit0t0_83 lit0t0_1; rfl
theorem q84 : lit0t0_84 = lit0t0_0 := by delta lit0t0_84 lit0t0_0; rfl
theorem q85 : lit0t0_85 = lit0t0_1 := by delta lit0t0_85 lit0t0_1; rfl
theorem q86 : lit0t0_86 = lit0t0_0 := by delta lit0t0_86 lit0t0_0; rfl
theorem q87 : lit0t0_87 = lit0t0_1 := by delta lit0t0_87 lit0t0_1; rfl
theorem q88 : lit0t0_88 = lit0t0_0 := by delta lit0t0_88 lit0t0_0; rfl
theorem q89 : lit0t0_89 = lit0t0_1 := by delta lit0t0_89 lit0t0_1; rfl
theorem q90 : lit0t0_90 = lit0t0_0 := by delta lit0t0_90 lit0t0_0; rfl
theorem q91 : lit0t0_91 = lit0t0_1 := by delta lit0t0_91 lit0t0_1; rfl
theorem q92 : lit0t0_92 = lit0t0_0 := by delta lit0t0_92 lit0t0_0; rfl
theorem q93 : lit0t0_93 = lit0t0_1 := by delta lit0t0_93 lit0t0_1; rfl
theorem q94 : lit0t0_94 = lit0t0_0 := by delta lit0t0_94 lit0t0_0; rfl
theorem q95 : lit0t0_95 = lit0t0_1 := by delta lit0t0_95 lit0t0_1; rfl
theorem q96 : lit0t0_96 = lit0t0_0 := by delta lit0t0_96 lit0t0_0; rfl
theorem q97 : lit0t0_97 = lit0t0_1 := by delta lit0t0_97 lit0t0_1; rfl
theorem q98 : lit0t0_98 = lit0t0_0 := by delta lit0t0_98 lit0t0_0; rfl
theorem q99 : lit0t0_99 = lit0t0_1 := by delta lit0t0_99 lit0t0_1; rfl
theorem q100 : lit0t0_100 = lit0t0_0 := by delta lit0t0_100 lit0t0_0; rfl
theorem q101 : lit0t0_101 = lit0t0_1 := by delta lit0t0_101 lit0t0_1; rfl
theorem q102 : lit0t0_102 = lit0t0_0 := by delta lit0t0_102 lit0t0_0; rfl
theorem q103 : lit0t0_103 = lit0t0_1 := by delta lit0t0_103 lit0t0_1; rfl
theorem q104 : lit0t0_104 = lit0t0_0 := by delta lit0t0_104 lit0t0_0; rfl
theorem q105 : lit0t0_105 = lit0t0_1 := by delta lit0t0_105 lit0t0_1; rfl
theorem q106 : lit0t0_106 = lit0t0_0 := by delta lit0t0_106 lit0t0_0; rfl
theorem q107 : lit0t0_107 = lit0t0_1 := by delta lit0t0_107 lit0t0_1; rfl
theorem q108 : lit0t0_108 = lit0t0_0 := by delta lit0t0_108 lit0t0_0; rfl
theorem q109 : lit0t0_109 = lit0t0_1 := by delta lit0t0_109 lit0t0_1; rfl
theorem q110 : lit0t0_110 = lit0t0_0 := by delta lit0t0_110 lit0t0_0; rfl
theorem q111 : lit0t0_111 = lit0t0_1 := by delta lit0t0_111 lit0t0_1; rfl
theorem q112 : lit0t0_112 = lit0t0_0 := by delta lit0t0_112 lit0t0_0; rfl
theorem q113 : lit0t0_113 = lit0t0_1 := by delta lit0t0_113 lit0t0_1; rfl
theorem q114 : lit0t0_114 = lit0t0_0 := by delta lit0t0_114 lit0t0_0; rfl
theorem q115 : lit0t0_115 = lit0t0_1 := by delta lit0t0_115 lit0t0_1; rfl
theorem q116 : lit0t0_116 = lit0t0_0 := by delta lit0t0_116 lit0t0_0; rfl
theorem q117 : lit0t0_117 = lit0t0_1 := by delta lit0t0_117 lit0t0_1; rfl
theorem q118 : lit0t0_118 = lit0t0_0 := by delta lit0t0_118 lit0t0_0; rfl
theorem q119 : lit0t0_119 = lit0t0_1 := by delta lit0t0_119 lit0t0_1; rfl
theorem q120 : lit0t0_120 = lit0t0_0 := by delta lit0t0_120 lit0t0_0; rfl
theorem q121 : lit0t0_121 = lit0t0_1 := by delta lit0t0_121 lit0t0_1; rfl
theorem q122 : lit0t0_122 = lit0t0_0 := by delta lit0t0_122 lit0t0_0; rfl
theorem q123 : lit0t0_123 = lit0t0_1 := by delta lit0t0_123 lit0t0_1; rfl
theorem q124 : lit0t0_124 = lit0t0_0 := by delta lit0t0_124 lit0t0_0; rfl
theorem q125 : lit0t0_125 = lit0t0_1 := by delta lit0t0_125 lit0t0_1; rfl
theorem q126 : lit0t0_126 = lit0t0_0 := by delta lit0t0_126 lit0t0_0; rfl
theorem q127 : lit0t0_127 = lit0t0_1 := by delta lit0t0_127 lit0t0_1; rfl
theorem q129 : lit0t0_129 = lit0t0_1 := by delta lit0t0_129 lit0t0_1; rfl
theorem q130 : lit0t0_130 = lit0t0_128 := by delta lit0t0_130 lit0t0_128; rfl
theorem q131 : lit0t0_131 = lit0t0_1 := by delta lit0t0_131 lit0t0_1; rfl
theorem q132 : lit0t0_132 = lit0t0_128 := by delta lit0t0_132 lit0t0_128; rfl
theorem q133 : lit0t0_133 = lit0t0_1 := by delta lit0t0_133 lit0t0_1; rfl
theorem q134 : lit0t0_134 = lit0t0_128 := by delta lit0t0_134 lit0t0_128; rfl
theorem q135 : lit0t0_135 = lit0t0_1 := by delta lit0t0_135 lit0t0_1; rfl
theorem q136 : lit0t0_136 = lit0t0_128 := by delta lit0t0_136 lit0t0_128; rfl
theorem q137 : lit0t0_137 = lit0t0_1 := by delta lit0t0_137 lit0t0_1; rfl
theorem q138 : lit0t0_138 = lit0t0_128 := by delta lit0t0_138 lit0t0_128; rfl
theorem q139 : lit0t0_139 = lit0t0_1 := by delta lit0t0_139 lit0t0_1; rfl
theorem q140 : lit0t0_140 = lit0t0_128 := by delta lit0t0_140 lit0t0_128; rfl
theorem q141 : lit0t0_141 = lit0t0_1 := by delta lit0t0_141 lit0t0_1; rfl
theorem q142 : lit0t0_142 = lit0t0_128 := by delta lit0t0_142 lit0t0_128; rfl
theorem q143 : lit0t0_143 = lit0t0_1 := by delta lit0t0_143 lit0t0_1; rfl
theorem q144 : lit0t0_144 = lit0t0_128 := by delta lit0t0_144 lit0t0_128; rfl
theorem q145 : lit0t0_145 = lit0t0_1 := by delta lit0t0_145 lit0t0_1; rfl
theorem q146 : lit0t0_146 = lit0t0_128 := by delta lit0t0_146 lit0t0_128; rfl
theorem q147 : lit0t0_147 = lit0t0_1 := by delta lit0t0_147 lit0t0_1; rfl
theorem q148 : lit0t0_148 = lit0t0_128 := by delta lit0t0_148 lit0t0_128; rfl
theorem q149 : lit0t0_149 = lit0t0_1 := by delta lit0t0_149 lit0t0_1; rfl
theorem q150 : lit0t0_150 = lit0t0_128 := by delta lit0t0_150 lit0t0_128; rfl
theorem q151 : lit0t0_151 = lit0t0_1 := by delta lit0t0_151 lit0t0_1; rfl
theorem q152 : lit0t0_152 = lit0t0_128 := by delta lit0t0_152 lit0t0_128; rfl
theorem q153 : lit0t0_153 = lit0t0_1 := by delta lit0t0_153 lit0t0_1; rfl
theorem q154 : lit0t0_154 = lit0t0_128 := by delta lit0t0_154 lit0t0_128; rfl
theorem q155 : lit0t0_155 = lit0t0_1 := by delta lit0t0_155 lit0t0_1; rfl
theorem q156 : lit0t0_156 = lit0t0_128 := by delta lit0t0_156 lit0t0_128; rfl
theorem q157 : lit0t0_157 = lit0t0_1 := by delta lit0t0_157 lit0t0_1; rfl
theorem q158 : lit0t0_158 = lit0t0_128 := by delta lit0t0_158 lit0t0_128; rfl
theorem q159 : lit0t0_159 = lit0t0_1 := by delta lit0t0_159 lit0t0_1; rfl
theorem q160 : lit0t0_160 = lit0t0_128 := by delta lit0t0_160 lit0t0_128; rfl
theorem q161 : lit0t0_161 = lit0t0_1 := by delta lit0t0_161 lit0t0_1; rfl
theorem q162 : lit0t0_162 = lit0t0_128 := by delta lit0t0_162 lit0t0_128; rfl
theorem q163 : lit0t0_163 = lit0t0_1 := by delta lit0t0_163 lit0t0_1; rfl
theorem q164 : lit0t0_164 = lit0t0_128 := by delta lit0t0_164 lit0t0_128; rfl
theorem q165 : lit0t0_165 = lit0t0_1 := by delta lit0t0_165 lit0t0_1; rfl
theorem q166 : lit0t0_166 = lit0t0_128 := by delta lit0t0_166 lit0t0_128; rfl
theorem q167 : lit0t0_167 = lit0t0_1 := by delta lit0t0_167 lit0t0_1; rfl
theorem q168 : lit0t0_168 = lit0t0_128 := by delta lit0t0_168 lit0t0_128; rfl
theorem q169 : lit0t0_169 = lit0t0_1 := by delta lit0t0_169 lit0t0_1; rfl
theorem q170 : lit0t0_170 = lit0t0_128 := by delta lit0t0_170 lit0t0_128; rfl
theorem q171 : lit0t0_171 = lit0t0_1 := by delta lit0t0_171 lit0t0_1; rfl
theorem q172 : lit0t0_172 = lit0t0_128 := by delta lit0t0_172 lit0t0_128; rfl
theorem q173 : lit0t0_173 = lit0t0_1 := by delta lit0t0_173 lit0t0_1; rfl
theorem q174 : lit0t0_174 = lit0t0_128 := by delta lit0t0_174 lit0t0_128; rfl
theorem q175 : lit0t0_175 = lit0t0_1 := by delta lit0t0_175 lit0t0_1; rfl
theorem q176 : lit0t0_176 = lit0t0_128 := by delta lit0t0_176 lit0t0_128; rfl
theorem q177 : lit0t0_177 = lit0t0_1 := by delta lit0t0_177 lit0t0_1; rfl
theorem q178 : lit0t0_178 = lit0t0_128 := by delta lit0t0_178 lit0t0_128; rfl
theorem q179 : lit0t0_179 = lit0t0_1 := by delta lit0t0_179 lit0t0_1; rfl
theorem q180 : lit0t0_180 = lit0t0_128 := by delta lit0t0_180 lit0t0_128; rfl
theorem q181 : lit0t0_181 = lit0t0_1 := by delta lit0t0_181 lit0t0_1; rfl
theorem q182 : lit0t0_182 = lit0t0_128 := by delta lit0t0_182 lit0t0_128; rfl
theorem q183 : lit0t0_183 = lit0t0_1 := by delta lit0t0_183 lit0t0_1; rfl
theorem q184 : lit0t0_184 = lit0t0_128 := by delta lit0t0_184 lit0t0_128; rfl
theorem q185 : lit0t0_185 = lit0t0_1 := by delta lit0t0_185 lit0t0_1; rfl
theorem q186 : lit0t0_186 = lit0t0_128 := by delta lit0t0_186 lit0t0_128; rfl
theorem q187 : lit0t0_187 = lit0t0_1 := by delta lit0t0_187 lit0t0_1; rfl
theorem q188 : lit0t0_188 = lit0t0_128 := by delta lit0t0_188 lit0t0_128; rfl
theorem q189 : lit0t0_189 = lit0t0_1 := by delta lit0t0_189 lit0t0_1; rfl
theorem q190 : lit0t0_190 = lit0t0_128 := by delta lit0t0_190 lit0t0_128; rfl
theorem q191 : lit0t0_191 = lit0t0_1 := by delta lit0t0_191 lit0t0_1; rfl
theorem q192 : lit0t0_192 = lit0t0_128 := by delta lit0t0_192 lit0t0_128; rfl
theorem q193 : lit0t0_193 = lit0t0_1 := by delta lit0t0_193 lit0t0_1; rfl
theorem q194 : lit0t0_194 = lit0t0_128 := by delta lit0t0_194 lit0t0_128; rfl
theorem q195 : lit0t0_195 = lit0t0_1 := by delta lit0t0_195 lit0t0_1; rfl
theorem q196 : lit0t0_196 = lit0t0_128 := by delta lit0t0_196 lit0t0_128; rfl
theorem q197 : lit0t0_197 = lit0t0_1 := by delta lit0t0_197 lit0t0_1; rfl
theorem q198 : lit0t0_198 = lit0t0_128 := by delta lit0t0_198 lit0t0_128; rfl
theorem q199 : lit0t0_199 = lit0t0_1 := by delta lit0t0_199 lit0t0_1; rfl
theorem q200 : lit0t0_200 = lit0t0_128 := by delta lit0t0_200 lit0t0_128; rfl
theorem q201 : lit0t0_201 = lit0t0_1 := by delta lit0t0_201 lit0t0_1; rfl
theorem q202 : lit0t0_202 = lit0t0_128 := by delta lit0t0_202 lit0t0_128; rfl
theorem q203 : lit0t0_203 = lit0t0_1 := by delta lit0t0_203 lit0t0_1; rfl
theorem q204 : lit0t0_204 = lit0t0_128 := by delta lit0t0_204 lit0t0_128; rfl
theorem q205 : lit0t0_205 = lit0t0_1 := by delta lit0t0_205 lit0t0_1; rfl
theorem q206 : lit0t0_206 = lit0t0_128 := by delta lit0t0_206 lit0t0_128; rfl
theorem q207 : lit0t0_207 = lit0t0_1 := by delta lit0t0_207 lit0t0_1; rfl
theorem q208 : lit0t0_208 = lit0t0_128 := by delta lit0t0_208 lit0t0_128; rfl
theorem q209 : lit0t0_209 = lit0t0_1 := by delta lit0t0_209 lit0t0_1; rfl
theorem q210 : lit0t0_210 = lit0t0_128 := by delta lit0t0_210 lit0t0_128; rfl
theorem q211 : lit0t0_211 = lit0t0_1 := by delta lit0t0_211 lit0t0_1; rfl
theorem q212 : lit0t0_212 = lit0t0_128 := by delta lit0t0_212 lit0t0_128; rfl
theorem q213 : lit0t0_213 = lit0t0_1 := by delta lit0t0_213 lit0t0_1; rfl
theorem q214 : lit0t0_214 = lit0t0_128 := by delta lit0t0_214 lit0t0_128; rfl
theorem q215 : lit0t0_215 = lit0t0_1 := by delta lit0t0_215 lit0t0_1; rfl
theorem q216 : lit0t0_216 = lit0t0_128 := by delta lit0t0_216 lit0t0_128; rfl
theorem q217 : lit0t0_217 = lit0t0_1 := by delta lit0t0_217 lit0t0_1; rfl
theorem q218 : lit0t0_218 = lit0t0_128 := by delta lit0t0_218 lit0t0_128; rfl
theorem q219 : lit0t0_219 = lit0t0_1 := by delta lit0t0_219 lit0t0_1; rfl
theorem q220 : lit0t0_220 = lit0t0_128 := by delta lit0t0_220 lit0t0_128; rfl
theorem q221 : lit0t0_221 = lit0t0_1 := by delta lit0t0_221 lit0t0_1; rfl
theorem q222 : lit0t0_222 = lit0t0_128 := by delta lit0t0_222 lit0t0_128; rfl
theorem q223 : lit0t0_223 = lit0t0_1 := by delta lit0t0_223 lit0t0_1; rfl
theorem q224 : lit0t0_224 = lit0t0_128 := by delta lit0t0_224 lit0t0_128; rfl
theorem q225 : lit0t0_225 = lit0t0_1 := by delta lit0t0_225 lit0t0_1; rfl
theorem q226 : lit0t0_226 = lit0t0_128 := by delta lit0t0_226 lit0t0_128; rfl
theorem q227 : lit0t0_227 = lit0t0_1 := by delta lit0t0_227 lit0t0_1; rfl
theorem q228 : lit0t0_228 = lit0t0_128 := by delta lit0t0_228 lit0t0_128; rfl
theorem q229 : lit0t0_229 = lit0t0_1 := by delta lit0t0_229 lit0t0_1; rfl
theorem q230 : lit0t0_230 = lit0t0_128 := by delta lit0t0_230 lit0t0_128; rfl
theorem q231 : lit0t0_231 = lit0t0_1 := by delta lit0t0_231 lit0t0_1; rfl
theorem q232 : lit0t0_232 = lit0t0_128 := by delta lit0t0_232 lit0t0_128; rfl
theorem q233 : lit0t0_233 = lit0t0_1 := by delta lit0t0_233 lit0t0_1; rfl
theorem q234 : lit0t0_234 = lit0t0_128 := by delta lit0t0_234 lit0t0_128; rfl
theorem q235 : lit0t0_235 = lit0t0_1 := by delta lit0t0_235 lit0t0_1; rfl
theorem q236 : lit0t0_236 = lit0t0_128 := by delta lit0t0_236 lit0t0_128; rfl
theorem q237 : lit0t0_237 = lit0t0_1 := by delta lit0t0_237 lit0t0_1; rfl
theorem q238 : lit0t0_238 = lit0t0_128 := by delta lit0t0_238 lit0t0_128; rfl
theorem q239 : lit0t0_239 = lit0t0_1 := by delta lit0t0_239 lit0t0_1; rfl
theorem q240 : lit0t0_240 = lit0t0_128 := by delta lit0t0_240 lit0t0_128; rfl
theorem q241 : lit0t0_241 = lit0t0_1 := by delta lit0t0_241 lit0t0_1; rfl
theorem q242 : lit0t0_242 = lit0t0_128 := by delta lit0t0_242 lit0t0_128; rfl
theorem q243 : lit0t0_243 = lit0t0_1 := by delta lit0t0_243 lit0t0_1; rfl
theorem q244 : lit0t0_244 = lit0t0_128 := by delta lit0t0_244 lit0t0_128; rfl
theorem q245 : lit0t0_245 = lit0t0_1 := by delta lit0t0_245 lit0t0_1; rfl
theorem q246 : lit0t0_246 = lit0t0_128 := by delta lit0t0_246 lit0t0_128; rfl
theorem q247 : lit0t0_247 = lit0t0_1 := by delta lit0t0_247 lit0t0_1; rfl
theorem q248 : lit0t0_248 = lit0t0_128 := by delta lit0t0_248 lit0t0_128; rfl
theorem q249 : lit0t0_249 = lit0t0_1 := by delta lit0t0_249 lit0t0_1; rfl
theorem q250 : lit0t0_250 = lit0t0_128 := by delta lit0t0_250 lit0t0_128; rfl
theorem q251 : lit0t0_251 = lit0t0_1 := by delta lit0t0_251 lit0t0_1; rfl
theorem q252 : lit0t0_252 = lit0t0_128 := by delta lit0t0_252 lit0t0_128; rfl
theorem q253 : lit0t0_253 = lit0t0_1 := by delta lit0t0_253 lit0t0_1; rfl
theorem q254 : lit0t0_254 = lit0t0_128 := by delta lit0t0_254 lit0t0_128; rfl
theorem q255 : lit0t0_255 = lit0t0_1 := by delta lit0t0_255 lit0t0_1; rfl
theorem q256 : lit0t0_256 = lit0t0_1 := by delta lit0t0_256 lit0t0_1; rfl
theorem q257 : lit0t0_257 = lit0t0_0 := by delta lit0t0_257 lit0t0_0; rfl
theorem q258 : lit0t0_258 = lit0t0_1 := by delta lit0t0_258 lit0t0_1; rfl
theorem q259 : lit0t0_259 = lit0t0_0 := by delta lit0t0_259 lit0t0_0; rfl
theorem q260 : lit0t0_260 = lit0t0_1 := by delta lit0t0_260 lit0t0_1; rfl
theorem q261 : lit0t0_261 = lit0t0_0 := by delta lit0t0_261 lit0t0_0; rfl
theorem q262 : lit0t0_262 = lit0t0_1 := by delta lit0t0_262 lit0t0_1; rfl
theorem q263 : lit0t0_263 = lit0t0_0 := by delta lit0t0_263 lit0t0_0; rfl
theorem q264 : lit0t0_264 = lit0t0_1 := by delta lit0t0_264 lit0t0_1; rfl
theorem q265 : lit0t0_265 = lit0t0_0 := by delta lit0t0_265 lit0t0_0; rfl
theorem q266 : lit0t0_266 = lit0t0_1 := by delta lit0t0_266 lit0t0_1; rfl
theorem q267 : lit0t0_267 = lit0t0_0 := by delta lit0t0_267 lit0t0_0; rfl
theorem q268 : lit0t0_268 = lit0t0_1 := by delta lit0t0_268 lit0t0_1; rfl
theorem q269 : lit0t0_269 = lit0t0_0 := by delta lit0t0_269 lit0t0_0; rfl
theorem q270 : lit0t0_270 = lit0t0_1 := by delta lit0t0_270 lit0t0_1; rfl
theorem q271 : lit0t0_271 = lit0t0_0 := by delta lit0t0_271 lit0t0_0; rfl
theorem q272 : lit0t0_272 = lit0t0_1 := by delta lit0t0_272 lit0t0_1; rfl
theorem q273 : lit0t0_273 = lit0t0_0 := by delta lit0t0_273 lit0t0_0; rfl
theorem q274 : lit0t0_274 = lit0t0_1 := by delta lit0t0_274 lit0t0_1; rfl
theorem q275 : lit0t0_275 = lit0t0_0 := by delta lit0t0_275 lit0t0_0; rfl
theorem q276 : lit0t0_276 = lit0t0_1 := by delta lit0t0_276 lit0t0_1; rfl
theorem q277 : lit0t0_277 = lit0t0_0 := by delta lit0t0_277 lit0t0_0; rfl
theorem q278 : lit0t0_278 = lit0t0_1 := by delta lit0t0_278 lit0t0_1; rfl
theorem q279 : lit0t0_279 = lit0t0_0 := by delta lit0t0_279 lit0t0_0; rfl
theorem q280 : lit0t0_280 = lit0t0_1 := by delta lit0t0_280 lit0t0_1; rfl
theorem q281 : lit0t0_281 = lit0t0_0 := by delta lit0t0_281 lit0t0_0; rfl
theorem q282 : lit0t0_282 = lit0t0_1 := by delta lit0t0_282 lit0t0_1; rfl
theorem q283 : lit0t0_283 = lit0t0_0 := by delta lit0t0_283 lit0t0_0; rfl
theorem q284 : lit0t0_284 = lit0t0_1 := by delta lit0t0_284 lit0t0_1; rfl
theorem q285 : lit0t0_285 = lit0t0_0 := by delta lit0t0_285 lit0t0_0; rfl
theorem q286 : lit0t0_286 = lit0t0_1 := by delta lit0t0_286 lit0t0_1; rfl
theorem q287 : lit0t0_287 = lit0t0_0 := by delta lit0t0_287 lit0t0_0; rfl
theorem q288 : lit0t0_288 = lit0t0_1 := by delta lit0t0_288 lit0t0_1; rfl
theorem q289 : lit0t0_289 = lit0t0_0 := by delta lit0t0_289 lit0t0_0; rfl
theorem q290 : lit0t0_290 = lit0t0_1 := by delta lit0t0_290 lit0t0_1; rfl
theorem q291 : lit0t0_291 = lit0t0_0 := by delta lit0t0_291 lit0t0_0; rfl
theorem q292 : lit0t0_292 = lit0t0_1 := by delta lit0t0_292 lit0t0_1; rfl
theorem q293 : lit0t0_293 = lit0t0_0 := by delta lit0t0_293 lit0t0_0; rfl
theorem q294 : lit0t0_294 = lit0t0_1 := by delta lit0t0_294 lit0t0_1; rfl
theorem q295 : lit0t0_295 = lit0t0_0 := by delta lit0t0_295 lit0t0_0; rfl
theorem q296 : lit0t0_296 = lit0t0_1 := by delta lit0t0_296 lit0t0_1; rfl
theorem q297 : lit0t0_297 = lit0t0_0 := by delta lit0t0_297 lit0t0_0; rfl
theorem q298 : lit0t0_298 = lit0t0_1 := by delta lit0t0_298 lit0t0_1; rfl
theorem q299 : lit0t0_299 = lit0t0_0 := by delta lit0t0_299 lit0t0_0; rfl
theorem q300 : lit0t0_300 = lit0t0_1 := by delta lit0t0_300 lit0t0_1; rfl
theorem q301 : lit0t0_301 = lit0t0_0 := by delta lit0t0_301 lit0t0_0; rfl
theorem q302 : lit0t0_302 = lit0t0_1 := by delta lit0t0_302 lit0t0_1; rfl
theorem q303 : lit0t0_303 = lit0t0_0 := by delta lit0t0_303 lit0t0_0; rfl
theorem q304 : lit0t0_304 = lit0t0_1 := by delta lit0t0_304 lit0t0_1; rfl
theorem q305 : lit0t0_305 = lit0t0_0 := by delta lit0t0_305 lit0t0_0; rfl
theorem q306 : lit0t0_306 = lit0t0_1 := by delta lit0t0_306 lit0t0_1; rfl
theorem q307 : lit0t0_307 = lit0t0_0 := by delta lit0t0_307 lit0t0_0; rfl
theorem q308 : lit0t0_308 = lit0t0_1 := by delta lit0t0_308 lit0t0_1; rfl
theorem q309 : lit0t0_309 = lit0t0_0 := by delta lit0t0_309 lit0t0_0; rfl
theorem q310 : lit0t0_310 = lit0t0_1 := by delta lit0t0_310 lit0t0_1; rfl
theorem q311 : lit0t0_311 = lit0t0_0 := by delta lit0t0_311 lit0t0_0; rfl
theorem q312 : lit0t0_312 = lit0t0_1 := by delta lit0t0_312 lit0t0_1; rfl
theorem q313 : lit0t0_313 = lit0t0_0 := by delta lit0t0_313 lit0t0_0; rfl
theorem q314 : lit0t0_314 = lit0t0_1 := by delta lit0t0_314 lit0t0_1; rfl
theorem q315 : lit0t0_315 = lit0t0_0 := by delta lit0t0_315 lit0t0_0; rfl
theorem q316 : lit0t0_316 = lit0t0_1 := by delta lit0t0_316 lit0t0_1; rfl
theorem q317 : lit0t0_317 = lit0t0_0 := by delta lit0t0_317 lit0t0_0; rfl
theorem q318 : lit0t0_318 = lit0t0_1 := by delta lit0t0_318 lit0t0_1; rfl
theorem q319 : lit0t0_319 = lit0t0_0 := by delta lit0t0_319 lit0t0_0; rfl
theorem q320 : lit0t0_320 = lit0t0_1 := by delta lit0t0_320 lit0t0_1; rfl
theorem q321 : lit0t0_321 = lit0t0_0 := by delta lit0t0_321 lit0t0_0; rfl
theorem q322 : lit0t0_322 = lit0t0_1 := by delta lit0t0_322 lit0t0_1; rfl
theorem q323 : lit0t0_323 = lit0t0_0 := by delta lit0t0_323 lit0t0_0; rfl
theorem q324 : lit0t0_324 = lit0t0_1 := by delta lit0t0_324 lit0t0_1; rfl
theorem q325 : lit0t0_325 = lit0t0_0 := by delta lit0t0_325 lit0t0_0; rfl
theorem q326 : lit0t0_326 = lit0t0_1 := by delta lit0t0_326 lit0t0_1; rfl
theorem q327 : lit0t0_327 = lit0t0_0 := by delta lit0t0_327 lit0t0_0; rfl
theorem q328 : lit0t0_328 = lit0t0_1 := by delta lit0t0_328 lit0t0_1; rfl
theorem q329 : lit0t0_329 = lit0t0_0 := by delta lit0t0_329 lit0t0_0; rfl
theorem q330 : lit0t0_330 = lit0t0_1 := by delta lit0t0_330 lit0t0_1; rfl
theorem q331 : lit0t0_331 = lit0t0_0 := by delta lit0t0_331 lit0t0_0; rfl
theorem q332 : lit0t0_332 = lit0t0_1 := by delta lit0t0_332 lit0t0_1; rfl
theorem q333 : lit0t0_333 = lit0t0_0 := by delta lit0t0_333 lit0t0_0; rfl
theorem q334 : lit0t0_334 = lit0t0_1 := by delta lit0t0_334 lit0t0_1; rfl
theorem q335 : lit0t0_335 = lit0t0_0 := by delta lit0t0_335 lit0t0_0; rfl
theorem q336 : lit0t0_336 = lit0t0_1 := by delta lit0t0_336 lit0t0_1; rfl
theorem q337 : lit0t0_337 = lit0t0_0 := by delta lit0t0_337 lit0t0_0; rfl
theorem q338 : lit0t0_338 = lit0t0_1 := by delta lit0t0_338 lit0t0_1; rfl
theorem q339 : lit0t0_339 = lit0t0_0 := by delta lit0t0_339 lit0t0_0; rfl
theorem q340 : lit0t0_340 = lit0t0_1 := by delta lit0t0_340 lit0t0_1; rfl
theorem q341 : lit0t0_341 = lit0t0_0 := by delta lit0t0_341 lit0t0_0; rfl
theorem q342 : lit0t0_342 = lit0t0_1 := by delta lit0t0_342 lit0t0_1; rfl
theorem q343 : lit0t0_343 = lit0t0_0 := by delta lit0t0_343 lit0t0_0; rfl
theorem q344 : lit0t0_344 = lit0t0_1 := by delta lit0t0_344 lit0t0_1; rfl
theorem q345 : lit0t0_345 = lit0t0_0 := by delta lit0t0_345 lit0t0_0; rfl
theorem q346 : lit0t0_346 = lit0t0_1 := by delta lit0t0_346 lit0t0_1; rfl
theorem q347 : lit0t0_347 = lit0t0_0 := by delta lit0t0_347 lit0t0_0; rfl
theorem q348 : lit0t0_348 = lit0t0_1 := by delta lit0t0_348 lit0t0_1; rfl
theorem q349 : lit0t0_349 = lit0t0_0 := by delta lit0t0_349 lit0t0_0; rfl
theorem q350 : lit0t0_350 = lit0t0_1 := by delta lit0t0_350 lit0t0_1; rfl
theorem q351 : lit0t0_351 = lit0t0_0 := by delta lit0t0_351 lit0t0_0; rfl
theorem q352 : lit0t0_352 = lit0t0_1 := by delta lit0t0_352 lit0t0_1; rfl
theorem q353 : lit0t0_353 = lit0t0_0 := by delta lit0t0_353 lit0t0_0; rfl
theorem q354 : lit0t0_354 = lit0t0_1 := by delta lit0t0_354 lit0t0_1; rfl
theorem q355 : lit0t0_355 = lit0t0_0 := by delta lit0t0_355 lit0t0_0; rfl
theorem q356 : lit0t0_356 = lit0t0_1 := by delta lit0t0_356 lit0t0_1; rfl
theorem q357 : lit0t0_357 = lit0t0_0 := by delta lit0t0_357 lit0t0_0; rfl
theorem q358 : lit0t0_358 = lit0t0_1 := by delta lit0t0_358 lit0t0_1; rfl
theorem q359 : lit0t0_359 = lit0t0_0 := by delta lit0t0_359 lit0t0_0; rfl
theorem q360 : lit0t0_360 = lit0t0_1 := by delta lit0t0_360 lit0t0_1; rfl
theorem q361 : lit0t0_361 = lit0t0_0 := by delta lit0t0_361 lit0t0_0; rfl
theorem q362 : lit0t0_362 = lit0t0_1 := by delta lit0t0_362 lit0t0_1; rfl
theorem q363 : lit0t0_363 = lit0t0_0 := by delta lit0t0_363 lit0t0_0; rfl
theorem q364 : lit0t0_364 = lit0t0_1 := by delta lit0t0_364 lit0t0_1; rfl
theorem q365 : lit0t0_365 = lit0t0_0 := by delta lit0t0_365 lit0t0_0; rfl
theorem q366 : lit0t0_366 = lit0t0_1 := by delta lit0t0_366 lit0t0_1; rfl
theorem q367 : lit0t0_367 = lit0t0_0 := by delta lit0t0_367 lit0t0_0; rfl
theorem q368 : lit0t0_368 = lit0t0_1 := by delta lit0t0_368 lit0t0_1; rfl
theorem q369 : lit0t0_369 = lit0t0_0 := by delta lit0t0_369 lit0t0_0; rfl
theorem q370 : lit0t0_370 = lit0t0_1 := by delta lit0t0_370 lit0t0_1; rfl
theorem q371 : lit0t0_371 = lit0t0_0 := by delta lit0t0_371 lit0t0_0; rfl
theorem q372 : lit0t0_372 = lit0t0_1 := by delta lit0t0_372 lit0t0_1; rfl
theorem q373 : lit0t0_373 = lit0t0_0 := by delta lit0t0_373 lit0t0_0; rfl
theorem q374 : lit0t0_374 = lit0t0_1 := by delta lit0t0_374 lit0t0_1; rfl
theorem q375 : lit0t0_375 = lit0t0_0 := by delta lit0t0_375 lit0t0_0; rfl
theorem q376 : lit0t0_376 = lit0t0_1 := by delta lit0t0_376 lit0t0_1; rfl
theorem q377 : lit0t0_377 = lit0t0_0 := by delta lit0t0_377 lit0t0_0; rfl
theorem q378 : lit0t0_378 = lit0t0_1 := by delta lit0t0_378 lit0t0_1; rfl
theorem q379 : lit0t0_379 = lit0t0_0 := by delta lit0t0_379 lit0t0_0; rfl
theorem q380 : lit0t0_380 = lit0t0_1 := by delta lit0t0_380 lit0t0_1; rfl
theorem q381 : lit0t0_381 = lit0t0_0 := by delta lit0t0_381 lit0t0_0; rfl
theorem q382 : lit0t0_382 = lit0t0_1 := by delta lit0t0_382 lit0t0_1; rfl
theorem q383 : lit0t0_383 = lit0t0_0 := by delta lit0t0_383 lit0t0_0; rfl
theorem q384 : lit0t0_384 = lit0t0_1 := by delta lit0t0_384 lit0t0_1; rfl
theorem q385 : lit0t0_385 = lit0t0_128 := by delta lit0t0_385 lit0t0_128; rfl
theorem q386 : lit0t0_386 = lit0t0_1 := by delta lit0t0_386 lit0t0_1; rfl
theorem q387 : lit0t0_387 = lit0t0_128 := by delta lit0t0_387 lit0t0_128; rfl
theorem q388 : lit0t0_388 = lit0t0_1 := by delta lit0t0_388 lit0t0_1; rfl
theorem q389 : lit0t0_389 = lit0t0_128 := by delta lit0t0_389 lit0t0_128; rfl
theorem q390 : lit0t0_390 = lit0t0_1 := by delta lit0t0_390 lit0t0_1; rfl
theorem q391 : lit0t0_391 = lit0t0_128 := by delta lit0t0_391 lit0t0_128; rfl
theorem q392 : lit0t0_392 = lit0t0_1 := by delta lit0t0_392 lit0t0_1; rfl
theorem q393 : lit0t0_393 = lit0t0_128 := by delta lit0t0_393 lit0t0_128; rfl
theorem q394 : lit0t0_394 = lit0t0_1 := by delta lit0t0_394 lit0t0_1; rfl
theorem q395 : lit0t0_395 = lit0t0_128 := by delta lit0t0_395 lit0t0_128; rfl
theorem q396 : lit0t0_396 = lit0t0_1 := by delta lit0t0_396 lit0t0_1; rfl
theorem q397 : lit0t0_397 = lit0t0_128 := by delta lit0t0_397 lit0t0_128; rfl
theorem q398 : lit0t0_398 = lit0t0_1 := by delta lit0t0_398 lit0t0_1; rfl
theorem q399 : lit0t0_399 = lit0t0_128 := by delta lit0t0_399 lit0t0_128; rfl
theorem q400 : lit0t0_400 = lit0t0_1 := by delta lit0t0_400 lit0t0_1; rfl
theorem q401 : lit0t0_401 = lit0t0_128 := by delta lit0t0_401 lit0t0_128; rfl
theorem q402 : lit0t0_402 = lit0t0_1 := by delta lit0t0_402 lit0t0_1; rfl
theorem q403 : lit0t0_403 = lit0t0_128 := by delta lit0t0_403 lit0t0_128; rfl
theorem q404 : lit0t0_404 = lit0t0_1 := by delta lit0t0_404 lit0t0_1; rfl
theorem q405 : lit0t0_405 = lit0t0_128 := by delta lit0t0_405 lit0t0_128; rfl
theorem q406 : lit0t0_406 = lit0t0_1 := by delta lit0t0_406 lit0t0_1; rfl
theorem q407 : lit0t0_407 = lit0t0_128 := by delta lit0t0_407 lit0t0_128; rfl
theorem q408 : lit0t0_408 = lit0t0_1 := by delta lit0t0_408 lit0t0_1; rfl
theorem q409 : lit0t0_409 = lit0t0_128 := by delta lit0t0_409 lit0t0_128; rfl
theorem q410 : lit0t0_410 = lit0t0_1 := by delta lit0t0_410 lit0t0_1; rfl
theorem q411 : lit0t0_411 = lit0t0_128 := by delta lit0t0_411 lit0t0_128; rfl
theorem q412 : lit0t0_412 = lit0t0_1 := by delta lit0t0_412 lit0t0_1; rfl
theorem q413 : lit0t0_413 = lit0t0_128 := by delta lit0t0_413 lit0t0_128; rfl
theorem q414 : lit0t0_414 = lit0t0_1 := by delta lit0t0_414 lit0t0_1; rfl
theorem q415 : lit0t0_415 = lit0t0_128 := by delta lit0t0_415 lit0t0_128; rfl
theorem q416 : lit0t0_416 = lit0t0_1 := by delta lit0t0_416 lit0t0_1; rfl
theorem q417 : lit0t0_417 = lit0t0_128 := by delta lit0t0_417 lit0t0_128; rfl
theorem q418 : lit0t0_418 = lit0t0_1 := by delta lit0t0_418 lit0t0_1; rfl
theorem q419 : lit0t0_419 = lit0t0_128 := by delta lit0t0_419 lit0t0_128; rfl
theorem q420 : lit0t0_420 = lit0t0_1 := by delta lit0t0_420 lit0t0_1; rfl
theorem q421 : lit0t0_421 = lit0t0_128 := by delta lit0t0_421 lit0t0_128; rfl
theorem q422 : lit0t0_422 = lit0t0_1 := by delta lit0t0_422 lit0t0_1; rfl
theorem q423 : lit0t0_423 = lit0t0_128 := by delta lit0t0_423 lit0t0_128; rfl
theorem q424 : lit0t0_424 = lit0t0_1 := by delta lit0t0_424 lit0t0_1; rfl
theorem q425 : lit0t0_425 = lit0t0_128 := by delta lit0t0_425 lit0t0_128; rfl
theorem q426 : lit0t0_426 = lit0t0_1 := by delta lit0t0_426 lit0t0_1; rfl
theorem q427 : lit0t0_427 = lit0t0_128 := by delta lit0t0_427 lit0t0_128; rfl
theorem q428 : lit0t0_428 = lit0t0_1 := by delta lit0t0_428 lit0t0_1; rfl
theorem q429 : lit0t0_429 = lit0t0_128 := by delta lit0t0_429 lit0t0_128; rfl
theorem q430 : lit0t0_430 = lit0t0_1 := by delta lit0t0_430 lit0t0_1; rfl
theorem q431 : lit0t0_431 = lit0t0_128 := by delta lit0t0_431 lit0t0_128; rfl
theorem q432 : lit0t0_432 = lit0t0_1 := by delta lit0t0_432 lit0t0_1; rfl
theorem q433 : lit0t0_433 = lit0t0_128 := by delta lit0t0_433 lit0t0_128; rfl
theorem q434 : lit0t0_434 = lit0t0_1 := by delta lit0t0_434 lit0t0_1; rfl
theorem q435 : lit0t0_435 = lit0t0_128 := by delta lit0t0_435 lit0t0_128; rfl
theorem q436 : lit0t0_436 = lit0t0_1 := by delta lit0t0_436 lit0t0_1; rfl
theorem q437 : lit0t0_437 = lit0t0_128 := by delta lit0t0_437 lit0t0_128; rfl
theorem q438 : lit0t0_438 = lit0t0_1 := by delta lit0t0_438 lit0t0_1; rfl
theorem q439 : lit0t0_439 = lit0t0_128 := by delta lit0t0_439 lit0t0_128; rfl
theorem q440 : lit0t0_440 = lit0t0_1 := by delta lit0t0_440 lit0t0_1; rfl
theorem q441 : lit0t0_441 = lit0t0_128 := by delta lit0t0_441 lit0t0_128; rfl
theorem q442 : lit0t0_442 = lit0t0_1 := by delta lit0t0_442 lit0t0_1; rfl
theorem q443 : lit0t0_443 = lit0t0_128 := by delta lit0t0_443 lit0t0_128; rfl
theorem q444 : lit0t0_444 = lit0t0_1 := by delta lit0t0_444 lit0t0_1; rfl
theorem q445 : lit0t0_445 = lit0t0_128 := by delta lit0t0_445 lit0t0_128; rfl
theorem q446 : lit0t0_446 = lit0t0_1 := by delta lit0t0_446 lit0t0_1; rfl
theorem q447 : lit0t0_447 = lit0t0_128 := by delta lit0t0_447 lit0t0_128; rfl
theorem q448 : lit0t0_448 = lit0t0_1 := by delta lit0t0_448 lit0t0_1; rfl
theorem q449 : lit0t0_449 = lit0t0_128 := by delta lit0t0_449 lit0t0_128; rfl
theorem q450 : lit0t0_450 = lit0t0_1 := by delta lit0t0_450 lit0t0_1; rfl
theorem q451 : lit0t0_451 = lit0t0_128 := by delta lit0t0_451 lit0t0_128; rfl
theorem q452 : lit0t0_452 = lit0t0_1 := by delta lit0t0_452 lit0t0_1; rfl
theorem q453 : lit0t0_453 = lit0t0_128 := by delta lit0t0_453 lit0t0_128; rfl
theorem q454 : lit0t0_454 = lit0t0_1 := by delta lit0t0_454 lit0t0_1; rfl
theorem q455 : lit0t0_455 = lit0t0_128 := by delta lit0t0_455 lit0t0_128; rfl
theorem q456 : lit0t0_456 = lit0t0_1 := by delta lit0t0_456 lit0t0_1; rfl
theorem q457 : lit0t0_457 = lit0t0_128 := by delta lit0t0_457 lit0t0_128; rfl
theorem q458 : lit0t0_458 = lit0t0_1 := by delta lit0t0_458 lit0t0_1; rfl
theorem q459 : lit0t0_459 = lit0t0_128 := by delta lit0t0_459 lit0t0_128; rfl
theorem q460 : lit0t0_460 = lit0t0_1 := by delta lit0t0_460 lit0t0_1; rfl
theorem q461 : lit0t0_461 = lit0t0_128 := by delta lit0t0_461 lit0t0_128; rfl
theorem q462 : lit0t0_462 = lit0t0_1 := by delta lit0t0_462 lit0t0_1; rfl
theorem q463 : lit0t0_463 = lit0t0_128 := by delta lit0t0_463 lit0t0_128; rfl
theorem q464 : lit0t0_464 = lit0t0_1 := by delta lit0t0_464 lit0t0_1; rfl
theorem q465 : lit0t0_465 = lit0t0_128 := by delta lit0t0_465 lit0t0_128; rfl
theorem q466 : lit0t0_466 = lit0t0_1 := by delta lit0t0_466 lit0t0_1; rfl
theorem q467 : lit0t0_467 = lit0t0_128 := by delta lit0t0_467 lit0t0_128; rfl
theorem q468 : lit0t0_468 = lit0t0_1 := by delta lit0t0_468 lit0t0_1; rfl
theorem q469 : lit0t0_469 = lit0t0_128 := by delta lit0t0_469 lit0t0_128; rfl
theorem q470 : lit0t0_470 = lit0t0_1 := by delta lit0t0_470 lit0t0_1; rfl
theorem q471 : lit0t0_471 = lit0t0_128 := by delta lit0t0_471 lit0t0_128; rfl
theorem q472 : lit0t0_472 = lit0t0_1 := by delta lit0t0_472 lit0t0_1; rfl
theorem q473 : lit0t0_473 = lit0t0_128 := by delta lit0t0_473 lit0t0_128; rfl
theorem q474 : lit0t0_474 = lit0t0_1 := by delta lit0t0_474 lit0t0_1; rfl
theorem q475 : lit0t0_475 = lit0t0_128 := by delta lit0t0_475 lit0t0_128; rfl
theorem q476 : lit0t0_476 = lit0t0_1 := by delta lit0t0_476 lit0t0_1; rfl
theorem q477 : lit0t0_477 = lit0t0_128 := by delta lit0t0_477 lit0t0_128; rfl
theorem q478 : lit0t0_478 = lit0t0_1 := by delta lit0t0_478 lit0t0_1; rfl
theorem q479 : lit0t0_479 = lit0t0_128 := by delta lit0t0_479 lit0t0_128; rfl
theorem q480 : lit0t0_480 = lit0t0_1 := by delta lit0t0_480 lit0t0_1; rfl
theorem q481 : lit0t0_481 = lit0t0_128 := by delta lit0t0_481 lit0t0_128; rfl
theorem q482 : lit0t0_482 = lit0t0_1 := by delta lit0t0_482 lit0t0_1; rfl
theorem q483 : lit0t0_483 = lit0t0_128 := by delta lit0t0_483 lit0t0_128; rfl
theorem q484 : lit0t0_484 = lit0t0_1 := by delta lit0t0_484 lit0t0_1; rfl
theorem q485 : lit0t0_485 = lit0t0_128 := by delta lit0t0_485 lit0t0_128; rfl
theorem q486 : lit0t0_486 = lit0t0_1 := by delta lit0t0_486 lit0t0_1; rfl
theorem q487 : lit0t0_487 = lit0t0_128 := by delta lit0t0_487 lit0t0_128; rfl
theorem q488 : lit0t0_488 = lit0t0_1 := by delta lit0t0_488 lit0t0_1; rfl
theorem q489 : lit0t0_489 = lit0t0_128 := by delta lit0t0_489 lit0t0_128; rfl
theorem q490 : lit0t0_490 = lit0t0_1 := by delta lit0t0_490 lit0t0_1; rfl
theorem q491 : lit0t0_491 = lit0t0_128 := by delta lit0t0_491 lit0t0_128; rfl
theorem q492 : lit0t0_492 = lit0t0_1 := by delta lit0t0_492 lit0t0_1; rfl
theorem q493 : lit0t0_493 = lit0t0_128 := by delta lit0t0_493 lit0t0_128; rfl
theorem q494 : lit0t0_494 = lit0t0_1 := by delta lit0t0_494 lit0t0_1; rfl
theorem q495 : lit0t0_495 = lit0t0_128 := by delta lit0t0_495 lit0t0_128; rfl
theorem q496 : lit0t0_496 = lit0t0_1 := by delta lit0t0_496 lit0t0_1; rfl
theorem q497 : lit0t0_497 = lit0t0_128 := by delta lit0t0_497 lit0t0_128; rfl
theorem q498 : lit0t0_498 = lit0t0_1 := by delta lit0t0_498 lit0t0_1; rfl
theorem q499 : lit0t0_499 = lit0t0_128 := by delta lit0t0_499 lit0t0_128; rfl
theorem q500 : lit0t0_500 = lit0t0_1 := by delta lit0t0_500 lit0t0_1; rfl
theorem q501 : lit0t0_501 = lit0t0_128 := by delta lit0t0_501 lit0t0_128; rfl
theorem q502 : lit0t0_502 = lit0t0_1 := by delta lit0t0_502 lit0t0_1; rfl
theorem q503 : lit0t0_503 = lit0t0_128 := by delta lit0t0_503 lit0t0_128; rfl
theorem q504 : lit0t0_504 = lit0t0_1 := by delta lit0t0_504 lit0t0_1; rfl
theorem q505 : lit0t0_505 = lit0t0_128 := by delta lit0t0_505 lit0t0_128; rfl
theorem q506 : lit0t0_506 = lit0t0_1 := by delta lit0t0_506 lit0t0_1; rfl
theorem q507 : lit0t0_507 = lit0t0_128 := by delta lit0t0_507 lit0t0_128; rfl
theorem q508 : lit0t0_508 = lit0t0_1 := by delta lit0t0_508 lit0t0_1; rfl
theorem q509 : lit0t0_509 = lit0t0_128 := by delta lit0t0_509 lit0t0_128; rfl
theorem q510 : lit0t0_510 = lit0t0_1 := by delta lit0t0_510 lit0t0_1; rfl
theorem q511 : lit0t0_511 = lit0t0_128 := by delta lit0t0_511 lit0t0_128; rfl

set_option maxHeartbeats 4000000 in
/-- Rows 0 to 63, by half rows: one of three tables of 128 entries. -/
theorem half0 (i : Nat) (k : Fin 128) (h : i / 128 % 128 = k.val) : lit0t1_0 i = if k.val % 2 = 0 then lit0t0_0 i else lit0t0_1 i := by
  delta lit0t1_0
  rw [h]
  clear h
  revert k
  exact fun k => match k with
    | ⟨0, _⟩ => by simp only [Nat.reduceMod, reduceIte, Nat.reduceEqDiff, one_ne_zero, zero_ne_one]
    | ⟨1, _⟩ => by simp only [Nat.reduceMod, reduceIte, Nat.reduceEqDiff, one_ne_zero, zero_ne_one]
    | ⟨2, _⟩ => by simp only [q2, Nat.reduceMod, reduceIte, Nat.reduceEqDiff, one_ne_zero, zero_ne_one]
    | ⟨3, _⟩ => by simp only [q3, Nat.reduceMod, reduceIte, Nat.reduceEqDiff, one_ne_zero, zero_ne_one]
    | ⟨4, _⟩ => by simp only [q4, Nat.reduceMod, reduceIte, Nat.reduceEqDiff, one_ne_zero, zero_ne_one]
    | ⟨5, _⟩ => by simp only [q5, Nat.reduceMod, reduceIte, Nat.reduceEqDiff, one_ne_zero, zero_ne_one]
    | ⟨6, _⟩ => by simp only [q6, Nat.reduceMod, reduceIte, Nat.reduceEqDiff, one_ne_zero, zero_ne_one]
    | ⟨7, _⟩ => by simp only [q7, Nat.reduceMod, reduceIte, Nat.reduceEqDiff, one_ne_zero, zero_ne_one]
    | ⟨8, _⟩ => by simp only [q8, Nat.reduceMod, reduceIte, Nat.reduceEqDiff, one_ne_zero, zero_ne_one]
    | ⟨9, _⟩ => by simp only [q9, Nat.reduceMod, reduceIte, Nat.reduceEqDiff, one_ne_zero, zero_ne_one]
    | ⟨10, _⟩ => by simp only [q10, Nat.reduceMod, reduceIte, Nat.reduceEqDiff, one_ne_zero, zero_ne_one]
    | ⟨11, _⟩ => by simp only [q11, Nat.reduceMod, reduceIte, Nat.reduceEqDiff, one_ne_zero, zero_ne_one]
    | ⟨12, _⟩ => by simp only [q12, Nat.reduceMod, reduceIte, Nat.reduceEqDiff, one_ne_zero, zero_ne_one]
    | ⟨13, _⟩ => by simp only [q13, Nat.reduceMod, reduceIte, Nat.reduceEqDiff, one_ne_zero, zero_ne_one]
    | ⟨14, _⟩ => by simp only [q14, Nat.reduceMod, reduceIte, Nat.reduceEqDiff, one_ne_zero, zero_ne_one]
    | ⟨15, _⟩ => by simp only [q15, Nat.reduceMod, reduceIte, Nat.reduceEqDiff, one_ne_zero, zero_ne_one]
    | ⟨16, _⟩ => by simp only [q16, Nat.reduceMod, reduceIte, Nat.reduceEqDiff, one_ne_zero, zero_ne_one]
    | ⟨17, _⟩ => by simp only [q17, Nat.reduceMod, reduceIte, Nat.reduceEqDiff, one_ne_zero, zero_ne_one]
    | ⟨18, _⟩ => by simp only [q18, Nat.reduceMod, reduceIte, Nat.reduceEqDiff, one_ne_zero, zero_ne_one]
    | ⟨19, _⟩ => by simp only [q19, Nat.reduceMod, reduceIte, Nat.reduceEqDiff, one_ne_zero, zero_ne_one]
    | ⟨20, _⟩ => by simp only [q20, Nat.reduceMod, reduceIte, Nat.reduceEqDiff, one_ne_zero, zero_ne_one]
    | ⟨21, _⟩ => by simp only [q21, Nat.reduceMod, reduceIte, Nat.reduceEqDiff, one_ne_zero, zero_ne_one]
    | ⟨22, _⟩ => by simp only [q22, Nat.reduceMod, reduceIte, Nat.reduceEqDiff, one_ne_zero, zero_ne_one]
    | ⟨23, _⟩ => by simp only [q23, Nat.reduceMod, reduceIte, Nat.reduceEqDiff, one_ne_zero, zero_ne_one]
    | ⟨24, _⟩ => by simp only [q24, Nat.reduceMod, reduceIte, Nat.reduceEqDiff, one_ne_zero, zero_ne_one]
    | ⟨25, _⟩ => by simp only [q25, Nat.reduceMod, reduceIte, Nat.reduceEqDiff, one_ne_zero, zero_ne_one]
    | ⟨26, _⟩ => by simp only [q26, Nat.reduceMod, reduceIte, Nat.reduceEqDiff, one_ne_zero, zero_ne_one]
    | ⟨27, _⟩ => by simp only [q27, Nat.reduceMod, reduceIte, Nat.reduceEqDiff, one_ne_zero, zero_ne_one]
    | ⟨28, _⟩ => by simp only [q28, Nat.reduceMod, reduceIte, Nat.reduceEqDiff, one_ne_zero, zero_ne_one]
    | ⟨29, _⟩ => by simp only [q29, Nat.reduceMod, reduceIte, Nat.reduceEqDiff, one_ne_zero, zero_ne_one]
    | ⟨30, _⟩ => by simp only [q30, Nat.reduceMod, reduceIte, Nat.reduceEqDiff, one_ne_zero, zero_ne_one]
    | ⟨31, _⟩ => by simp only [q31, Nat.reduceMod, reduceIte, Nat.reduceEqDiff, one_ne_zero, zero_ne_one]
    | ⟨32, _⟩ => by simp only [q32, Nat.reduceMod, reduceIte, Nat.reduceEqDiff, one_ne_zero, zero_ne_one]
    | ⟨33, _⟩ => by simp only [q33, Nat.reduceMod, reduceIte, Nat.reduceEqDiff, one_ne_zero, zero_ne_one]
    | ⟨34, _⟩ => by simp only [q34, Nat.reduceMod, reduceIte, Nat.reduceEqDiff, one_ne_zero, zero_ne_one]
    | ⟨35, _⟩ => by simp only [q35, Nat.reduceMod, reduceIte, Nat.reduceEqDiff, one_ne_zero, zero_ne_one]
    | ⟨36, _⟩ => by simp only [q36, Nat.reduceMod, reduceIte, Nat.reduceEqDiff, one_ne_zero, zero_ne_one]
    | ⟨37, _⟩ => by simp only [q37, Nat.reduceMod, reduceIte, Nat.reduceEqDiff, one_ne_zero, zero_ne_one]
    | ⟨38, _⟩ => by simp only [q38, Nat.reduceMod, reduceIte, Nat.reduceEqDiff, one_ne_zero, zero_ne_one]
    | ⟨39, _⟩ => by simp only [q39, Nat.reduceMod, reduceIte, Nat.reduceEqDiff, one_ne_zero, zero_ne_one]
    | ⟨40, _⟩ => by simp only [q40, Nat.reduceMod, reduceIte, Nat.reduceEqDiff, one_ne_zero, zero_ne_one]
    | ⟨41, _⟩ => by simp only [q41, Nat.reduceMod, reduceIte, Nat.reduceEqDiff, one_ne_zero, zero_ne_one]
    | ⟨42, _⟩ => by simp only [q42, Nat.reduceMod, reduceIte, Nat.reduceEqDiff, one_ne_zero, zero_ne_one]
    | ⟨43, _⟩ => by simp only [q43, Nat.reduceMod, reduceIte, Nat.reduceEqDiff, one_ne_zero, zero_ne_one]
    | ⟨44, _⟩ => by simp only [q44, Nat.reduceMod, reduceIte, Nat.reduceEqDiff, one_ne_zero, zero_ne_one]
    | ⟨45, _⟩ => by simp only [q45, Nat.reduceMod, reduceIte, Nat.reduceEqDiff, one_ne_zero, zero_ne_one]
    | ⟨46, _⟩ => by simp only [q46, Nat.reduceMod, reduceIte, Nat.reduceEqDiff, one_ne_zero, zero_ne_one]
    | ⟨47, _⟩ => by simp only [q47, Nat.reduceMod, reduceIte, Nat.reduceEqDiff, one_ne_zero, zero_ne_one]
    | ⟨48, _⟩ => by simp only [q48, Nat.reduceMod, reduceIte, Nat.reduceEqDiff, one_ne_zero, zero_ne_one]
    | ⟨49, _⟩ => by simp only [q49, Nat.reduceMod, reduceIte, Nat.reduceEqDiff, one_ne_zero, zero_ne_one]
    | ⟨50, _⟩ => by simp only [q50, Nat.reduceMod, reduceIte, Nat.reduceEqDiff, one_ne_zero, zero_ne_one]
    | ⟨51, _⟩ => by simp only [q51, Nat.reduceMod, reduceIte, Nat.reduceEqDiff, one_ne_zero, zero_ne_one]
    | ⟨52, _⟩ => by simp only [q52, Nat.reduceMod, reduceIte, Nat.reduceEqDiff, one_ne_zero, zero_ne_one]
    | ⟨53, _⟩ => by simp only [q53, Nat.reduceMod, reduceIte, Nat.reduceEqDiff, one_ne_zero, zero_ne_one]
    | ⟨54, _⟩ => by simp only [q54, Nat.reduceMod, reduceIte, Nat.reduceEqDiff, one_ne_zero, zero_ne_one]
    | ⟨55, _⟩ => by simp only [q55, Nat.reduceMod, reduceIte, Nat.reduceEqDiff, one_ne_zero, zero_ne_one]
    | ⟨56, _⟩ => by simp only [q56, Nat.reduceMod, reduceIte, Nat.reduceEqDiff, one_ne_zero, zero_ne_one]
    | ⟨57, _⟩ => by simp only [q57, Nat.reduceMod, reduceIte, Nat.reduceEqDiff, one_ne_zero, zero_ne_one]
    | ⟨58, _⟩ => by simp only [q58, Nat.reduceMod, reduceIte, Nat.reduceEqDiff, one_ne_zero, zero_ne_one]
    | ⟨59, _⟩ => by simp only [q59, Nat.reduceMod, reduceIte, Nat.reduceEqDiff, one_ne_zero, zero_ne_one]
    | ⟨60, _⟩ => by simp only [q60, Nat.reduceMod, reduceIte, Nat.reduceEqDiff, one_ne_zero, zero_ne_one]
    | ⟨61, _⟩ => by simp only [q61, Nat.reduceMod, reduceIte, Nat.reduceEqDiff, one_ne_zero, zero_ne_one]
    | ⟨62, _⟩ => by simp only [q62, Nat.reduceMod, reduceIte, Nat.reduceEqDiff, one_ne_zero, zero_ne_one]
    | ⟨63, _⟩ => by simp only [q63, Nat.reduceMod, reduceIte, Nat.reduceEqDiff, one_ne_zero, zero_ne_one]
    | ⟨64, _⟩ => by simp only [q64, Nat.reduceMod, reduceIte, Nat.reduceEqDiff, one_ne_zero, zero_ne_one]
    | ⟨65, _⟩ => by simp only [q65, Nat.reduceMod, reduceIte, Nat.reduceEqDiff, one_ne_zero, zero_ne_one]
    | ⟨66, _⟩ => by simp only [q66, Nat.reduceMod, reduceIte, Nat.reduceEqDiff, one_ne_zero, zero_ne_one]
    | ⟨67, _⟩ => by simp only [q67, Nat.reduceMod, reduceIte, Nat.reduceEqDiff, one_ne_zero, zero_ne_one]
    | ⟨68, _⟩ => by simp only [q68, Nat.reduceMod, reduceIte, Nat.reduceEqDiff, one_ne_zero, zero_ne_one]
    | ⟨69, _⟩ => by simp only [q69, Nat.reduceMod, reduceIte, Nat.reduceEqDiff, one_ne_zero, zero_ne_one]
    | ⟨70, _⟩ => by simp only [q70, Nat.reduceMod, reduceIte, Nat.reduceEqDiff, one_ne_zero, zero_ne_one]
    | ⟨71, _⟩ => by simp only [q71, Nat.reduceMod, reduceIte, Nat.reduceEqDiff, one_ne_zero, zero_ne_one]
    | ⟨72, _⟩ => by simp only [q72, Nat.reduceMod, reduceIte, Nat.reduceEqDiff, one_ne_zero, zero_ne_one]
    | ⟨73, _⟩ => by simp only [q73, Nat.reduceMod, reduceIte, Nat.reduceEqDiff, one_ne_zero, zero_ne_one]
    | ⟨74, _⟩ => by simp only [q74, Nat.reduceMod, reduceIte, Nat.reduceEqDiff, one_ne_zero, zero_ne_one]
    | ⟨75, _⟩ => by simp only [q75, Nat.reduceMod, reduceIte, Nat.reduceEqDiff, one_ne_zero, zero_ne_one]
    | ⟨76, _⟩ => by simp only [q76, Nat.reduceMod, reduceIte, Nat.reduceEqDiff, one_ne_zero, zero_ne_one]
    | ⟨77, _⟩ => by simp only [q77, Nat.reduceMod, reduceIte, Nat.reduceEqDiff, one_ne_zero, zero_ne_one]
    | ⟨78, _⟩ => by simp only [q78, Nat.reduceMod, reduceIte, Nat.reduceEqDiff, one_ne_zero, zero_ne_one]
    | ⟨79, _⟩ => by simp only [q79, Nat.reduceMod, reduceIte, Nat.reduceEqDiff, one_ne_zero, zero_ne_one]
    | ⟨80, _⟩ => by simp only [q80, Nat.reduceMod, reduceIte, Nat.reduceEqDiff, one_ne_zero, zero_ne_one]
    | ⟨81, _⟩ => by simp only [q81, Nat.reduceMod, reduceIte, Nat.reduceEqDiff, one_ne_zero, zero_ne_one]
    | ⟨82, _⟩ => by simp only [q82, Nat.reduceMod, reduceIte, Nat.reduceEqDiff, one_ne_zero, zero_ne_one]
    | ⟨83, _⟩ => by simp only [q83, Nat.reduceMod, reduceIte, Nat.reduceEqDiff, one_ne_zero, zero_ne_one]
    | ⟨84, _⟩ => by simp only [q84, Nat.reduceMod, reduceIte, Nat.reduceEqDiff, one_ne_zero, zero_ne_one]
    | ⟨85, _⟩ => by simp only [q85, Nat.reduceMod, reduceIte, Nat.reduceEqDiff, one_ne_zero, zero_ne_one]
    | ⟨86, _⟩ => by simp only [q86, Nat.reduceMod, reduceIte, Nat.reduceEqDiff, one_ne_zero, zero_ne_one]
    | ⟨87, _⟩ => by simp only [q87, Nat.reduceMod, reduceIte, Nat.reduceEqDiff, one_ne_zero, zero_ne_one]
    | ⟨88, _⟩ => by simp only [q88, Nat.reduceMod, reduceIte, Nat.reduceEqDiff, one_ne_zero, zero_ne_one]
    | ⟨89, _⟩ => by simp only [q89, Nat.reduceMod, reduceIte, Nat.reduceEqDiff, one_ne_zero, zero_ne_one]
    | ⟨90, _⟩ => by simp only [q90, Nat.reduceMod, reduceIte, Nat.reduceEqDiff, one_ne_zero, zero_ne_one]
    | ⟨91, _⟩ => by simp only [q91, Nat.reduceMod, reduceIte, Nat.reduceEqDiff, one_ne_zero, zero_ne_one]
    | ⟨92, _⟩ => by simp only [q92, Nat.reduceMod, reduceIte, Nat.reduceEqDiff, one_ne_zero, zero_ne_one]
    | ⟨93, _⟩ => by simp only [q93, Nat.reduceMod, reduceIte, Nat.reduceEqDiff, one_ne_zero, zero_ne_one]
    | ⟨94, _⟩ => by simp only [q94, Nat.reduceMod, reduceIte, Nat.reduceEqDiff, one_ne_zero, zero_ne_one]
    | ⟨95, _⟩ => by simp only [q95, Nat.reduceMod, reduceIte, Nat.reduceEqDiff, one_ne_zero, zero_ne_one]
    | ⟨96, _⟩ => by simp only [q96, Nat.reduceMod, reduceIte, Nat.reduceEqDiff, one_ne_zero, zero_ne_one]
    | ⟨97, _⟩ => by simp only [q97, Nat.reduceMod, reduceIte, Nat.reduceEqDiff, one_ne_zero, zero_ne_one]
    | ⟨98, _⟩ => by simp only [q98, Nat.reduceMod, reduceIte, Nat.reduceEqDiff, one_ne_zero, zero_ne_one]
    | ⟨99, _⟩ => by simp only [q99, Nat.reduceMod, reduceIte, Nat.reduceEqDiff, one_ne_zero, zero_ne_one]
    | ⟨100, _⟩ => by simp only [q100, Nat.reduceMod, reduceIte, Nat.reduceEqDiff, one_ne_zero, zero_ne_one]
    | ⟨101, _⟩ => by simp only [q101, Nat.reduceMod, reduceIte, Nat.reduceEqDiff, one_ne_zero, zero_ne_one]
    | ⟨102, _⟩ => by simp only [q102, Nat.reduceMod, reduceIte, Nat.reduceEqDiff, one_ne_zero, zero_ne_one]
    | ⟨103, _⟩ => by simp only [q103, Nat.reduceMod, reduceIte, Nat.reduceEqDiff, one_ne_zero, zero_ne_one]
    | ⟨104, _⟩ => by simp only [q104, Nat.reduceMod, reduceIte, Nat.reduceEqDiff, one_ne_zero, zero_ne_one]
    | ⟨105, _⟩ => by simp only [q105, Nat.reduceMod, reduceIte, Nat.reduceEqDiff, one_ne_zero, zero_ne_one]
    | ⟨106, _⟩ => by simp only [q106, Nat.reduceMod, reduceIte, Nat.reduceEqDiff, one_ne_zero, zero_ne_one]
    | ⟨107, _⟩ => by simp only [q107, Nat.reduceMod, reduceIte, Nat.reduceEqDiff, one_ne_zero, zero_ne_one]
    | ⟨108, _⟩ => by simp only [q108, Nat.reduceMod, reduceIte, Nat.reduceEqDiff, one_ne_zero, zero_ne_one]
    | ⟨109, _⟩ => by simp only [q109, Nat.reduceMod, reduceIte, Nat.reduceEqDiff, one_ne_zero, zero_ne_one]
    | ⟨110, _⟩ => by simp only [q110, Nat.reduceMod, reduceIte, Nat.reduceEqDiff, one_ne_zero, zero_ne_one]
    | ⟨111, _⟩ => by simp only [q111, Nat.reduceMod, reduceIte, Nat.reduceEqDiff, one_ne_zero, zero_ne_one]
    | ⟨112, _⟩ => by simp only [q112, Nat.reduceMod, reduceIte, Nat.reduceEqDiff, one_ne_zero, zero_ne_one]
    | ⟨113, _⟩ => by simp only [q113, Nat.reduceMod, reduceIte, Nat.reduceEqDiff, one_ne_zero, zero_ne_one]
    | ⟨114, _⟩ => by simp only [q114, Nat.reduceMod, reduceIte, Nat.reduceEqDiff, one_ne_zero, zero_ne_one]
    | ⟨115, _⟩ => by simp only [q115, Nat.reduceMod, reduceIte, Nat.reduceEqDiff, one_ne_zero, zero_ne_one]
    | ⟨116, _⟩ => by simp only [q116, Nat.reduceMod, reduceIte, Nat.reduceEqDiff, one_ne_zero, zero_ne_one]
    | ⟨117, _⟩ => by simp only [q117, Nat.reduceMod, reduceIte, Nat.reduceEqDiff, one_ne_zero, zero_ne_one]
    | ⟨118, _⟩ => by simp only [q118, Nat.reduceMod, reduceIte, Nat.reduceEqDiff, one_ne_zero, zero_ne_one]
    | ⟨119, _⟩ => by simp only [q119, Nat.reduceMod, reduceIte, Nat.reduceEqDiff, one_ne_zero, zero_ne_one]
    | ⟨120, _⟩ => by simp only [q120, Nat.reduceMod, reduceIte, Nat.reduceEqDiff, one_ne_zero, zero_ne_one]
    | ⟨121, _⟩ => by simp only [q121, Nat.reduceMod, reduceIte, Nat.reduceEqDiff, one_ne_zero, zero_ne_one]
    | ⟨122, _⟩ => by simp only [q122, Nat.reduceMod, reduceIte, Nat.reduceEqDiff, one_ne_zero, zero_ne_one]
    | ⟨123, _⟩ => by simp only [q123, Nat.reduceMod, reduceIte, Nat.reduceEqDiff, one_ne_zero, zero_ne_one]
    | ⟨124, _⟩ => by simp only [q124, Nat.reduceMod, reduceIte, Nat.reduceEqDiff, one_ne_zero, zero_ne_one]
    | ⟨125, _⟩ => by simp only [q125, Nat.reduceMod, reduceIte, Nat.reduceEqDiff, one_ne_zero, zero_ne_one]
    | ⟨126, _⟩ => by simp only [q126, Nat.reduceMod, reduceIte, Nat.reduceEqDiff, one_ne_zero, zero_ne_one]
    | ⟨127, _⟩ => by simp only [q127, Nat.reduceMod, reduceIte, Nat.reduceEqDiff, one_ne_zero, zero_ne_one]
    | ⟨n + 128, hn⟩ => absurd hn (by omega)

set_option maxHeartbeats 4000000 in
/-- Rows 64 to 127, by half rows: one of three tables of 128 entries. -/
theorem half1 (i : Nat) (k : Fin 128) (h : i / 128 % 128 = k.val) : lit0t1_1 i = if k.val % 2 = 0 then lit0t0_128 i else lit0t0_1 i := by
  delta lit0t1_1
  rw [h]
  clear h
  revert k
  exact fun k => match k with
    | ⟨0, _⟩ => by simp only [Nat.reduceMod, reduceIte, Nat.reduceEqDiff, one_ne_zero, zero_ne_one]
    | ⟨1, _⟩ => by simp only [q129, Nat.reduceMod, reduceIte, Nat.reduceEqDiff, one_ne_zero, zero_ne_one]
    | ⟨2, _⟩ => by simp only [q130, Nat.reduceMod, reduceIte, Nat.reduceEqDiff, one_ne_zero, zero_ne_one]
    | ⟨3, _⟩ => by simp only [q131, Nat.reduceMod, reduceIte, Nat.reduceEqDiff, one_ne_zero, zero_ne_one]
    | ⟨4, _⟩ => by simp only [q132, Nat.reduceMod, reduceIte, Nat.reduceEqDiff, one_ne_zero, zero_ne_one]
    | ⟨5, _⟩ => by simp only [q133, Nat.reduceMod, reduceIte, Nat.reduceEqDiff, one_ne_zero, zero_ne_one]
    | ⟨6, _⟩ => by simp only [q134, Nat.reduceMod, reduceIte, Nat.reduceEqDiff, one_ne_zero, zero_ne_one]
    | ⟨7, _⟩ => by simp only [q135, Nat.reduceMod, reduceIte, Nat.reduceEqDiff, one_ne_zero, zero_ne_one]
    | ⟨8, _⟩ => by simp only [q136, Nat.reduceMod, reduceIte, Nat.reduceEqDiff, one_ne_zero, zero_ne_one]
    | ⟨9, _⟩ => by simp only [q137, Nat.reduceMod, reduceIte, Nat.reduceEqDiff, one_ne_zero, zero_ne_one]
    | ⟨10, _⟩ => by simp only [q138, Nat.reduceMod, reduceIte, Nat.reduceEqDiff, one_ne_zero, zero_ne_one]
    | ⟨11, _⟩ => by simp only [q139, Nat.reduceMod, reduceIte, Nat.reduceEqDiff, one_ne_zero, zero_ne_one]
    | ⟨12, _⟩ => by simp only [q140, Nat.reduceMod, reduceIte, Nat.reduceEqDiff, one_ne_zero, zero_ne_one]
    | ⟨13, _⟩ => by simp only [q141, Nat.reduceMod, reduceIte, Nat.reduceEqDiff, one_ne_zero, zero_ne_one]
    | ⟨14, _⟩ => by simp only [q142, Nat.reduceMod, reduceIte, Nat.reduceEqDiff, one_ne_zero, zero_ne_one]
    | ⟨15, _⟩ => by simp only [q143, Nat.reduceMod, reduceIte, Nat.reduceEqDiff, one_ne_zero, zero_ne_one]
    | ⟨16, _⟩ => by simp only [q144, Nat.reduceMod, reduceIte, Nat.reduceEqDiff, one_ne_zero, zero_ne_one]
    | ⟨17, _⟩ => by simp only [q145, Nat.reduceMod, reduceIte, Nat.reduceEqDiff, one_ne_zero, zero_ne_one]
    | ⟨18, _⟩ => by simp only [q146, Nat.reduceMod, reduceIte, Nat.reduceEqDiff, one_ne_zero, zero_ne_one]
    | ⟨19, _⟩ => by simp only [q147, Nat.reduceMod, reduceIte, Nat.reduceEqDiff, one_ne_zero, zero_ne_one]
    | ⟨20, _⟩ => by simp only [q148, Nat.reduceMod, reduceIte, Nat.reduceEqDiff, one_ne_zero, zero_ne_one]
    | ⟨21, _⟩ => by simp only [q149, Nat.reduceMod, reduceIte, Nat.reduceEqDiff, one_ne_zero, zero_ne_one]
    | ⟨22, _⟩ => by simp only [q150, Nat.reduceMod, reduceIte, Nat.reduceEqDiff, one_ne_zero, zero_ne_one]
    | ⟨23, _⟩ => by simp only [q151, Nat.reduceMod, reduceIte, Nat.reduceEqDiff, one_ne_zero, zero_ne_one]
    | ⟨24, _⟩ => by simp only [q152, Nat.reduceMod, reduceIte, Nat.reduceEqDiff, one_ne_zero, zero_ne_one]
    | ⟨25, _⟩ => by simp only [q153, Nat.reduceMod, reduceIte, Nat.reduceEqDiff, one_ne_zero, zero_ne_one]
    | ⟨26, _⟩ => by simp only [q154, Nat.reduceMod, reduceIte, Nat.reduceEqDiff, one_ne_zero, zero_ne_one]
    | ⟨27, _⟩ => by simp only [q155, Nat.reduceMod, reduceIte, Nat.reduceEqDiff, one_ne_zero, zero_ne_one]
    | ⟨28, _⟩ => by simp only [q156, Nat.reduceMod, reduceIte, Nat.reduceEqDiff, one_ne_zero, zero_ne_one]
    | ⟨29, _⟩ => by simp only [q157, Nat.reduceMod, reduceIte, Nat.reduceEqDiff, one_ne_zero, zero_ne_one]
    | ⟨30, _⟩ => by simp only [q158, Nat.reduceMod, reduceIte, Nat.reduceEqDiff, one_ne_zero, zero_ne_one]
    | ⟨31, _⟩ => by simp only [q159, Nat.reduceMod, reduceIte, Nat.reduceEqDiff, one_ne_zero, zero_ne_one]
    | ⟨32, _⟩ => by simp only [q160, Nat.reduceMod, reduceIte, Nat.reduceEqDiff, one_ne_zero, zero_ne_one]
    | ⟨33, _⟩ => by simp only [q161, Nat.reduceMod, reduceIte, Nat.reduceEqDiff, one_ne_zero, zero_ne_one]
    | ⟨34, _⟩ => by simp only [q162, Nat.reduceMod, reduceIte, Nat.reduceEqDiff, one_ne_zero, zero_ne_one]
    | ⟨35, _⟩ => by simp only [q163, Nat.reduceMod, reduceIte, Nat.reduceEqDiff, one_ne_zero, zero_ne_one]
    | ⟨36, _⟩ => by simp only [q164, Nat.reduceMod, reduceIte, Nat.reduceEqDiff, one_ne_zero, zero_ne_one]
    | ⟨37, _⟩ => by simp only [q165, Nat.reduceMod, reduceIte, Nat.reduceEqDiff, one_ne_zero, zero_ne_one]
    | ⟨38, _⟩ => by simp only [q166, Nat.reduceMod, reduceIte, Nat.reduceEqDiff, one_ne_zero, zero_ne_one]
    | ⟨39, _⟩ => by simp only [q167, Nat.reduceMod, reduceIte, Nat.reduceEqDiff, one_ne_zero, zero_ne_one]
    | ⟨40, _⟩ => by simp only [q168, Nat.reduceMod, reduceIte, Nat.reduceEqDiff, one_ne_zero, zero_ne_one]
    | ⟨41, _⟩ => by simp only [q169, Nat.reduceMod, reduceIte, Nat.reduceEqDiff, one_ne_zero, zero_ne_one]
    | ⟨42, _⟩ => by simp only [q170, Nat.reduceMod, reduceIte, Nat.reduceEqDiff, one_ne_zero, zero_ne_one]
    | ⟨43, _⟩ => by simp only [q171, Nat.reduceMod, reduceIte, Nat.reduceEqDiff, one_ne_zero, zero_ne_one]
    | ⟨44, _⟩ => by simp only [q172, Nat.reduceMod, reduceIte, Nat.reduceEqDiff, one_ne_zero, zero_ne_one]
    | ⟨45, _⟩ => by simp only [q173, Nat.reduceMod, reduceIte, Nat.reduceEqDiff, one_ne_zero, zero_ne_one]
    | ⟨46, _⟩ => by simp only [q174, Nat.reduceMod, reduceIte, Nat.reduceEqDiff, one_ne_zero, zero_ne_one]
    | ⟨47, _⟩ => by simp only [q175, Nat.reduceMod, reduceIte, Nat.reduceEqDiff, one_ne_zero, zero_ne_one]
    | ⟨48, _⟩ => by simp only [q176, Nat.reduceMod, reduceIte, Nat.reduceEqDiff, one_ne_zero, zero_ne_one]
    | ⟨49, _⟩ => by simp only [q177, Nat.reduceMod, reduceIte, Nat.reduceEqDiff, one_ne_zero, zero_ne_one]
    | ⟨50, _⟩ => by simp only [q178, Nat.reduceMod, reduceIte, Nat.reduceEqDiff, one_ne_zero, zero_ne_one]
    | ⟨51, _⟩ => by simp only [q179, Nat.reduceMod, reduceIte, Nat.reduceEqDiff, one_ne_zero, zero_ne_one]
    | ⟨52, _⟩ => by simp only [q180, Nat.reduceMod, reduceIte, Nat.reduceEqDiff, one_ne_zero, zero_ne_one]
    | ⟨53, _⟩ => by simp only [q181, Nat.reduceMod, reduceIte, Nat.reduceEqDiff, one_ne_zero, zero_ne_one]
    | ⟨54, _⟩ => by simp only [q182, Nat.reduceMod, reduceIte, Nat.reduceEqDiff, one_ne_zero, zero_ne_one]
    | ⟨55, _⟩ => by simp only [q183, Nat.reduceMod, reduceIte, Nat.reduceEqDiff, one_ne_zero, zero_ne_one]
    | ⟨56, _⟩ => by simp only [q184, Nat.reduceMod, reduceIte, Nat.reduceEqDiff, one_ne_zero, zero_ne_one]
    | ⟨57, _⟩ => by simp only [q185, Nat.reduceMod, reduceIte, Nat.reduceEqDiff, one_ne_zero, zero_ne_one]
    | ⟨58, _⟩ => by simp only [q186, Nat.reduceMod, reduceIte, Nat.reduceEqDiff, one_ne_zero, zero_ne_one]
    | ⟨59, _⟩ => by simp only [q187, Nat.reduceMod, reduceIte, Nat.reduceEqDiff, one_ne_zero, zero_ne_one]
    | ⟨60, _⟩ => by simp only [q188, Nat.reduceMod, reduceIte, Nat.reduceEqDiff, one_ne_zero, zero_ne_one]
    | ⟨61, _⟩ => by simp only [q189, Nat.reduceMod, reduceIte, Nat.reduceEqDiff, one_ne_zero, zero_ne_one]
    | ⟨62, _⟩ => by simp only [q190, Nat.reduceMod, reduceIte, Nat.reduceEqDiff, one_ne_zero, zero_ne_one]
    | ⟨63, _⟩ => by simp only [q191, Nat.reduceMod, reduceIte, Nat.reduceEqDiff, one_ne_zero, zero_ne_one]
    | ⟨64, _⟩ => by simp only [q192, Nat.reduceMod, reduceIte, Nat.reduceEqDiff, one_ne_zero, zero_ne_one]
    | ⟨65, _⟩ => by simp only [q193, Nat.reduceMod, reduceIte, Nat.reduceEqDiff, one_ne_zero, zero_ne_one]
    | ⟨66, _⟩ => by simp only [q194, Nat.reduceMod, reduceIte, Nat.reduceEqDiff, one_ne_zero, zero_ne_one]
    | ⟨67, _⟩ => by simp only [q195, Nat.reduceMod, reduceIte, Nat.reduceEqDiff, one_ne_zero, zero_ne_one]
    | ⟨68, _⟩ => by simp only [q196, Nat.reduceMod, reduceIte, Nat.reduceEqDiff, one_ne_zero, zero_ne_one]
    | ⟨69, _⟩ => by simp only [q197, Nat.reduceMod, reduceIte, Nat.reduceEqDiff, one_ne_zero, zero_ne_one]
    | ⟨70, _⟩ => by simp only [q198, Nat.reduceMod, reduceIte, Nat.reduceEqDiff, one_ne_zero, zero_ne_one]
    | ⟨71, _⟩ => by simp only [q199, Nat.reduceMod, reduceIte, Nat.reduceEqDiff, one_ne_zero, zero_ne_one]
    | ⟨72, _⟩ => by simp only [q200, Nat.reduceMod, reduceIte, Nat.reduceEqDiff, one_ne_zero, zero_ne_one]
    | ⟨73, _⟩ => by simp only [q201, Nat.reduceMod, reduceIte, Nat.reduceEqDiff, one_ne_zero, zero_ne_one]
    | ⟨74, _⟩ => by simp only [q202, Nat.reduceMod, reduceIte, Nat.reduceEqDiff, one_ne_zero, zero_ne_one]
    | ⟨75, _⟩ => by simp only [q203, Nat.reduceMod, reduceIte, Nat.reduceEqDiff, one_ne_zero, zero_ne_one]
    | ⟨76, _⟩ => by simp only [q204, Nat.reduceMod, reduceIte, Nat.reduceEqDiff, one_ne_zero, zero_ne_one]
    | ⟨77, _⟩ => by simp only [q205, Nat.reduceMod, reduceIte, Nat.reduceEqDiff, one_ne_zero, zero_ne_one]
    | ⟨78, _⟩ => by simp only [q206, Nat.reduceMod, reduceIte, Nat.reduceEqDiff, one_ne_zero, zero_ne_one]
    | ⟨79, _⟩ => by simp only [q207, Nat.reduceMod, reduceIte, Nat.reduceEqDiff, one_ne_zero, zero_ne_one]
    | ⟨80, _⟩ => by simp only [q208, Nat.reduceMod, reduceIte, Nat.reduceEqDiff, one_ne_zero, zero_ne_one]
    | ⟨81, _⟩ => by simp only [q209, Nat.reduceMod, reduceIte, Nat.reduceEqDiff, one_ne_zero, zero_ne_one]
    | ⟨82, _⟩ => by simp only [q210, Nat.reduceMod, reduceIte, Nat.reduceEqDiff, one_ne_zero, zero_ne_one]
    | ⟨83, _⟩ => by simp only [q211, Nat.reduceMod, reduceIte, Nat.reduceEqDiff, one_ne_zero, zero_ne_one]
    | ⟨84, _⟩ => by simp only [q212, Nat.reduceMod, reduceIte, Nat.reduceEqDiff, one_ne_zero, zero_ne_one]
    | ⟨85, _⟩ => by simp only [q213, Nat.reduceMod, reduceIte, Nat.reduceEqDiff, one_ne_zero, zero_ne_one]
    | ⟨86, _⟩ => by simp only [q214, Nat.reduceMod, reduceIte, Nat.reduceEqDiff, one_ne_zero, zero_ne_one]
    | ⟨87, _⟩ => by simp only [q215, Nat.reduceMod, reduceIte, Nat.reduceEqDiff, one_ne_zero, zero_ne_one]
    | ⟨88, _⟩ => by simp only [q216, Nat.reduceMod, reduceIte, Nat.reduceEqDiff, one_ne_zero, zero_ne_one]
    | ⟨89, _⟩ => by simp only [q217, Nat.reduceMod, reduceIte, Nat.reduceEqDiff, one_ne_zero, zero_ne_one]
    | ⟨90, _⟩ => by simp only [q218, Nat.reduceMod, reduceIte, Nat.reduceEqDiff, one_ne_zero, zero_ne_one]
    | ⟨91, _⟩ => by simp only [q219, Nat.reduceMod, reduceIte, Nat.reduceEqDiff, one_ne_zero, zero_ne_one]
    | ⟨92, _⟩ => by simp only [q220, Nat.reduceMod, reduceIte, Nat.reduceEqDiff, one_ne_zero, zero_ne_one]
    | ⟨93, _⟩ => by simp only [q221, Nat.reduceMod, reduceIte, Nat.reduceEqDiff, one_ne_zero, zero_ne_one]
    | ⟨94, _⟩ => by simp only [q222, Nat.reduceMod, reduceIte, Nat.reduceEqDiff, one_ne_zero, zero_ne_one]
    | ⟨95, _⟩ => by simp only [q223, Nat.reduceMod, reduceIte, Nat.reduceEqDiff, one_ne_zero, zero_ne_one]
    | ⟨96, _⟩ => by simp only [q224, Nat.reduceMod, reduceIte, Nat.reduceEqDiff, one_ne_zero, zero_ne_one]
    | ⟨97, _⟩ => by simp only [q225, Nat.reduceMod, reduceIte, Nat.reduceEqDiff, one_ne_zero, zero_ne_one]
    | ⟨98, _⟩ => by simp only [q226, Nat.reduceMod, reduceIte, Nat.reduceEqDiff, one_ne_zero, zero_ne_one]
    | ⟨99, _⟩ => by simp only [q227, Nat.reduceMod, reduceIte, Nat.reduceEqDiff, one_ne_zero, zero_ne_one]
    | ⟨100, _⟩ => by simp only [q228, Nat.reduceMod, reduceIte, Nat.reduceEqDiff, one_ne_zero, zero_ne_one]
    | ⟨101, _⟩ => by simp only [q229, Nat.reduceMod, reduceIte, Nat.reduceEqDiff, one_ne_zero, zero_ne_one]
    | ⟨102, _⟩ => by simp only [q230, Nat.reduceMod, reduceIte, Nat.reduceEqDiff, one_ne_zero, zero_ne_one]
    | ⟨103, _⟩ => by simp only [q231, Nat.reduceMod, reduceIte, Nat.reduceEqDiff, one_ne_zero, zero_ne_one]
    | ⟨104, _⟩ => by simp only [q232, Nat.reduceMod, reduceIte, Nat.reduceEqDiff, one_ne_zero, zero_ne_one]
    | ⟨105, _⟩ => by simp only [q233, Nat.reduceMod, reduceIte, Nat.reduceEqDiff, one_ne_zero, zero_ne_one]
    | ⟨106, _⟩ => by simp only [q234, Nat.reduceMod, reduceIte, Nat.reduceEqDiff, one_ne_zero, zero_ne_one]
    | ⟨107, _⟩ => by simp only [q235, Nat.reduceMod, reduceIte, Nat.reduceEqDiff, one_ne_zero, zero_ne_one]
    | ⟨108, _⟩ => by simp only [q236, Nat.reduceMod, reduceIte, Nat.reduceEqDiff, one_ne_zero, zero_ne_one]
    | ⟨109, _⟩ => by simp only [q237, Nat.reduceMod, reduceIte, Nat.reduceEqDiff, one_ne_zero, zero_ne_one]
    | ⟨110, _⟩ => by simp only [q238, Nat.reduceMod, reduceIte, Nat.reduceEqDiff, one_ne_zero, zero_ne_one]
    | ⟨111, _⟩ => by simp only [q239, Nat.reduceMod, reduceIte, Nat.reduceEqDiff, one_ne_zero, zero_ne_one]
    | ⟨112, _⟩ => by simp only [q240, Nat.reduceMod, reduceIte, Nat.reduceEqDiff, one_ne_zero, zero_ne_one]
    | ⟨113, _⟩ => by simp only [q241, Nat.reduceMod, reduceIte, Nat.reduceEqDiff, one_ne_zero, zero_ne_one]
    | ⟨114, _⟩ => by simp only [q242, Nat.reduceMod, reduceIte, Nat.reduceEqDiff, one_ne_zero, zero_ne_one]
    | ⟨115, _⟩ => by simp only [q243, Nat.reduceMod, reduceIte, Nat.reduceEqDiff, one_ne_zero, zero_ne_one]
    | ⟨116, _⟩ => by simp only [q244, Nat.reduceMod, reduceIte, Nat.reduceEqDiff, one_ne_zero, zero_ne_one]
    | ⟨117, _⟩ => by simp only [q245, Nat.reduceMod, reduceIte, Nat.reduceEqDiff, one_ne_zero, zero_ne_one]
    | ⟨118, _⟩ => by simp only [q246, Nat.reduceMod, reduceIte, Nat.reduceEqDiff, one_ne_zero, zero_ne_one]
    | ⟨119, _⟩ => by simp only [q247, Nat.reduceMod, reduceIte, Nat.reduceEqDiff, one_ne_zero, zero_ne_one]
    | ⟨120, _⟩ => by simp only [q248, Nat.reduceMod, reduceIte, Nat.reduceEqDiff, one_ne_zero, zero_ne_one]
    | ⟨121, _⟩ => by simp only [q249, Nat.reduceMod, reduceIte, Nat.reduceEqDiff, one_ne_zero, zero_ne_one]
    | ⟨122, _⟩ => by simp only [q250, Nat.reduceMod, reduceIte, Nat.reduceEqDiff, one_ne_zero, zero_ne_one]
    | ⟨123, _⟩ => by simp only [q251, Nat.reduceMod, reduceIte, Nat.reduceEqDiff, one_ne_zero, zero_ne_one]
    | ⟨124, _⟩ => by simp only [q252, Nat.reduceMod, reduceIte, Nat.reduceEqDiff, one_ne_zero, zero_ne_one]
    | ⟨125, _⟩ => by simp only [q253, Nat.reduceMod, reduceIte, Nat.reduceEqDiff, one_ne_zero, zero_ne_one]
    | ⟨126, _⟩ => by simp only [q254, Nat.reduceMod, reduceIte, Nat.reduceEqDiff, one_ne_zero, zero_ne_one]
    | ⟨127, _⟩ => by simp only [q255, Nat.reduceMod, reduceIte, Nat.reduceEqDiff, one_ne_zero, zero_ne_one]
    | ⟨n + 128, hn⟩ => absurd hn (by omega)

set_option maxHeartbeats 4000000 in
/-- Rows 128 to 191, by half rows: one of three tables of 128 entries. -/
theorem half2 (i : Nat) (k : Fin 128) (h : i / 128 % 128 = k.val) : lit0t1_2 i = if k.val % 2 = 1 then lit0t0_0 i else lit0t0_1 i := by
  delta lit0t1_2
  rw [h]
  clear h
  revert k
  exact fun k => match k with
    | ⟨0, _⟩ => by simp only [q256, Nat.reduceMod, reduceIte, Nat.reduceEqDiff, one_ne_zero, zero_ne_one]
    | ⟨1, _⟩ => by simp only [q257, Nat.reduceMod, reduceIte, Nat.reduceEqDiff, one_ne_zero, zero_ne_one]
    | ⟨2, _⟩ => by simp only [q258, Nat.reduceMod, reduceIte, Nat.reduceEqDiff, one_ne_zero, zero_ne_one]
    | ⟨3, _⟩ => by simp only [q259, Nat.reduceMod, reduceIte, Nat.reduceEqDiff, one_ne_zero, zero_ne_one]
    | ⟨4, _⟩ => by simp only [q260, Nat.reduceMod, reduceIte, Nat.reduceEqDiff, one_ne_zero, zero_ne_one]
    | ⟨5, _⟩ => by simp only [q261, Nat.reduceMod, reduceIte, Nat.reduceEqDiff, one_ne_zero, zero_ne_one]
    | ⟨6, _⟩ => by simp only [q262, Nat.reduceMod, reduceIte, Nat.reduceEqDiff, one_ne_zero, zero_ne_one]
    | ⟨7, _⟩ => by simp only [q263, Nat.reduceMod, reduceIte, Nat.reduceEqDiff, one_ne_zero, zero_ne_one]
    | ⟨8, _⟩ => by simp only [q264, Nat.reduceMod, reduceIte, Nat.reduceEqDiff, one_ne_zero, zero_ne_one]
    | ⟨9, _⟩ => by simp only [q265, Nat.reduceMod, reduceIte, Nat.reduceEqDiff, one_ne_zero, zero_ne_one]
    | ⟨10, _⟩ => by simp only [q266, Nat.reduceMod, reduceIte, Nat.reduceEqDiff, one_ne_zero, zero_ne_one]
    | ⟨11, _⟩ => by simp only [q267, Nat.reduceMod, reduceIte, Nat.reduceEqDiff, one_ne_zero, zero_ne_one]
    | ⟨12, _⟩ => by simp only [q268, Nat.reduceMod, reduceIte, Nat.reduceEqDiff, one_ne_zero, zero_ne_one]
    | ⟨13, _⟩ => by simp only [q269, Nat.reduceMod, reduceIte, Nat.reduceEqDiff, one_ne_zero, zero_ne_one]
    | ⟨14, _⟩ => by simp only [q270, Nat.reduceMod, reduceIte, Nat.reduceEqDiff, one_ne_zero, zero_ne_one]
    | ⟨15, _⟩ => by simp only [q271, Nat.reduceMod, reduceIte, Nat.reduceEqDiff, one_ne_zero, zero_ne_one]
    | ⟨16, _⟩ => by simp only [q272, Nat.reduceMod, reduceIte, Nat.reduceEqDiff, one_ne_zero, zero_ne_one]
    | ⟨17, _⟩ => by simp only [q273, Nat.reduceMod, reduceIte, Nat.reduceEqDiff, one_ne_zero, zero_ne_one]
    | ⟨18, _⟩ => by simp only [q274, Nat.reduceMod, reduceIte, Nat.reduceEqDiff, one_ne_zero, zero_ne_one]
    | ⟨19, _⟩ => by simp only [q275, Nat.reduceMod, reduceIte, Nat.reduceEqDiff, one_ne_zero, zero_ne_one]
    | ⟨20, _⟩ => by simp only [q276, Nat.reduceMod, reduceIte, Nat.reduceEqDiff, one_ne_zero, zero_ne_one]
    | ⟨21, _⟩ => by simp only [q277, Nat.reduceMod, reduceIte, Nat.reduceEqDiff, one_ne_zero, zero_ne_one]
    | ⟨22, _⟩ => by simp only [q278, Nat.reduceMod, reduceIte, Nat.reduceEqDiff, one_ne_zero, zero_ne_one]
    | ⟨23, _⟩ => by simp only [q279, Nat.reduceMod, reduceIte, Nat.reduceEqDiff, one_ne_zero, zero_ne_one]
    | ⟨24, _⟩ => by simp only [q280, Nat.reduceMod, reduceIte, Nat.reduceEqDiff, one_ne_zero, zero_ne_one]
    | ⟨25, _⟩ => by simp only [q281, Nat.reduceMod, reduceIte, Nat.reduceEqDiff, one_ne_zero, zero_ne_one]
    | ⟨26, _⟩ => by simp only [q282, Nat.reduceMod, reduceIte, Nat.reduceEqDiff, one_ne_zero, zero_ne_one]
    | ⟨27, _⟩ => by simp only [q283, Nat.reduceMod, reduceIte, Nat.reduceEqDiff, one_ne_zero, zero_ne_one]
    | ⟨28, _⟩ => by simp only [q284, Nat.reduceMod, reduceIte, Nat.reduceEqDiff, one_ne_zero, zero_ne_one]
    | ⟨29, _⟩ => by simp only [q285, Nat.reduceMod, reduceIte, Nat.reduceEqDiff, one_ne_zero, zero_ne_one]
    | ⟨30, _⟩ => by simp only [q286, Nat.reduceMod, reduceIte, Nat.reduceEqDiff, one_ne_zero, zero_ne_one]
    | ⟨31, _⟩ => by simp only [q287, Nat.reduceMod, reduceIte, Nat.reduceEqDiff, one_ne_zero, zero_ne_one]
    | ⟨32, _⟩ => by simp only [q288, Nat.reduceMod, reduceIte, Nat.reduceEqDiff, one_ne_zero, zero_ne_one]
    | ⟨33, _⟩ => by simp only [q289, Nat.reduceMod, reduceIte, Nat.reduceEqDiff, one_ne_zero, zero_ne_one]
    | ⟨34, _⟩ => by simp only [q290, Nat.reduceMod, reduceIte, Nat.reduceEqDiff, one_ne_zero, zero_ne_one]
    | ⟨35, _⟩ => by simp only [q291, Nat.reduceMod, reduceIte, Nat.reduceEqDiff, one_ne_zero, zero_ne_one]
    | ⟨36, _⟩ => by simp only [q292, Nat.reduceMod, reduceIte, Nat.reduceEqDiff, one_ne_zero, zero_ne_one]
    | ⟨37, _⟩ => by simp only [q293, Nat.reduceMod, reduceIte, Nat.reduceEqDiff, one_ne_zero, zero_ne_one]
    | ⟨38, _⟩ => by simp only [q294, Nat.reduceMod, reduceIte, Nat.reduceEqDiff, one_ne_zero, zero_ne_one]
    | ⟨39, _⟩ => by simp only [q295, Nat.reduceMod, reduceIte, Nat.reduceEqDiff, one_ne_zero, zero_ne_one]
    | ⟨40, _⟩ => by simp only [q296, Nat.reduceMod, reduceIte, Nat.reduceEqDiff, one_ne_zero, zero_ne_one]
    | ⟨41, _⟩ => by simp only [q297, Nat.reduceMod, reduceIte, Nat.reduceEqDiff, one_ne_zero, zero_ne_one]
    | ⟨42, _⟩ => by simp only [q298, Nat.reduceMod, reduceIte, Nat.reduceEqDiff, one_ne_zero, zero_ne_one]
    | ⟨43, _⟩ => by simp only [q299, Nat.reduceMod, reduceIte, Nat.reduceEqDiff, one_ne_zero, zero_ne_one]
    | ⟨44, _⟩ => by simp only [q300, Nat.reduceMod, reduceIte, Nat.reduceEqDiff, one_ne_zero, zero_ne_one]
    | ⟨45, _⟩ => by simp only [q301, Nat.reduceMod, reduceIte, Nat.reduceEqDiff, one_ne_zero, zero_ne_one]
    | ⟨46, _⟩ => by simp only [q302, Nat.reduceMod, reduceIte, Nat.reduceEqDiff, one_ne_zero, zero_ne_one]
    | ⟨47, _⟩ => by simp only [q303, Nat.reduceMod, reduceIte, Nat.reduceEqDiff, one_ne_zero, zero_ne_one]
    | ⟨48, _⟩ => by simp only [q304, Nat.reduceMod, reduceIte, Nat.reduceEqDiff, one_ne_zero, zero_ne_one]
    | ⟨49, _⟩ => by simp only [q305, Nat.reduceMod, reduceIte, Nat.reduceEqDiff, one_ne_zero, zero_ne_one]
    | ⟨50, _⟩ => by simp only [q306, Nat.reduceMod, reduceIte, Nat.reduceEqDiff, one_ne_zero, zero_ne_one]
    | ⟨51, _⟩ => by simp only [q307, Nat.reduceMod, reduceIte, Nat.reduceEqDiff, one_ne_zero, zero_ne_one]
    | ⟨52, _⟩ => by simp only [q308, Nat.reduceMod, reduceIte, Nat.reduceEqDiff, one_ne_zero, zero_ne_one]
    | ⟨53, _⟩ => by simp only [q309, Nat.reduceMod, reduceIte, Nat.reduceEqDiff, one_ne_zero, zero_ne_one]
    | ⟨54, _⟩ => by simp only [q310, Nat.reduceMod, reduceIte, Nat.reduceEqDiff, one_ne_zero, zero_ne_one]
    | ⟨55, _⟩ => by simp only [q311, Nat.reduceMod, reduceIte, Nat.reduceEqDiff, one_ne_zero, zero_ne_one]
    | ⟨56, _⟩ => by simp only [q312, Nat.reduceMod, reduceIte, Nat.reduceEqDiff, one_ne_zero, zero_ne_one]
    | ⟨57, _⟩ => by simp only [q313, Nat.reduceMod, reduceIte, Nat.reduceEqDiff, one_ne_zero, zero_ne_one]
    | ⟨58, _⟩ => by simp only [q314, Nat.reduceMod, reduceIte, Nat.reduceEqDiff, one_ne_zero, zero_ne_one]
    | ⟨59, _⟩ => by simp only [q315, Nat.reduceMod, reduceIte, Nat.reduceEqDiff, one_ne_zero, zero_ne_one]
    | ⟨60, _⟩ => by simp only [q316, Nat.reduceMod, reduceIte, Nat.reduceEqDiff, one_ne_zero, zero_ne_one]
    | ⟨61, _⟩ => by simp only [q317, Nat.reduceMod, reduceIte, Nat.reduceEqDiff, one_ne_zero, zero_ne_one]
    | ⟨62, _⟩ => by simp only [q318, Nat.reduceMod, reduceIte, Nat.reduceEqDiff, one_ne_zero, zero_ne_one]
    | ⟨63, _⟩ => by simp only [q319, Nat.reduceMod, reduceIte, Nat.reduceEqDiff, one_ne_zero, zero_ne_one]
    | ⟨64, _⟩ => by simp only [q320, Nat.reduceMod, reduceIte, Nat.reduceEqDiff, one_ne_zero, zero_ne_one]
    | ⟨65, _⟩ => by simp only [q321, Nat.reduceMod, reduceIte, Nat.reduceEqDiff, one_ne_zero, zero_ne_one]
    | ⟨66, _⟩ => by simp only [q322, Nat.reduceMod, reduceIte, Nat.reduceEqDiff, one_ne_zero, zero_ne_one]
    | ⟨67, _⟩ => by simp only [q323, Nat.reduceMod, reduceIte, Nat.reduceEqDiff, one_ne_zero, zero_ne_one]
    | ⟨68, _⟩ => by simp only [q324, Nat.reduceMod, reduceIte, Nat.reduceEqDiff, one_ne_zero, zero_ne_one]
    | ⟨69, _⟩ => by simp only [q325, Nat.reduceMod, reduceIte, Nat.reduceEqDiff, one_ne_zero, zero_ne_one]
    | ⟨70, _⟩ => by simp only [q326, Nat.reduceMod, reduceIte, Nat.reduceEqDiff, one_ne_zero, zero_ne_one]
    | ⟨71, _⟩ => by simp only [q327, Nat.reduceMod, reduceIte, Nat.reduceEqDiff, one_ne_zero, zero_ne_one]
    | ⟨72, _⟩ => by simp only [q328, Nat.reduceMod, reduceIte, Nat.reduceEqDiff, one_ne_zero, zero_ne_one]
    | ⟨73, _⟩ => by simp only [q329, Nat.reduceMod, reduceIte, Nat.reduceEqDiff, one_ne_zero, zero_ne_one]
    | ⟨74, _⟩ => by simp only [q330, Nat.reduceMod, reduceIte, Nat.reduceEqDiff, one_ne_zero, zero_ne_one]
    | ⟨75, _⟩ => by simp only [q331, Nat.reduceMod, reduceIte, Nat.reduceEqDiff, one_ne_zero, zero_ne_one]
    | ⟨76, _⟩ => by simp only [q332, Nat.reduceMod, reduceIte, Nat.reduceEqDiff, one_ne_zero, zero_ne_one]
    | ⟨77, _⟩ => by simp only [q333, Nat.reduceMod, reduceIte, Nat.reduceEqDiff, one_ne_zero, zero_ne_one]
    | ⟨78, _⟩ => by simp only [q334, Nat.reduceMod, reduceIte, Nat.reduceEqDiff, one_ne_zero, zero_ne_one]
    | ⟨79, _⟩ => by simp only [q335, Nat.reduceMod, reduceIte, Nat.reduceEqDiff, one_ne_zero, zero_ne_one]
    | ⟨80, _⟩ => by simp only [q336, Nat.reduceMod, reduceIte, Nat.reduceEqDiff, one_ne_zero, zero_ne_one]
    | ⟨81, _⟩ => by simp only [q337, Nat.reduceMod, reduceIte, Nat.reduceEqDiff, one_ne_zero, zero_ne_one]
    | ⟨82, _⟩ => by simp only [q338, Nat.reduceMod, reduceIte, Nat.reduceEqDiff, one_ne_zero, zero_ne_one]
    | ⟨83, _⟩ => by simp only [q339, Nat.reduceMod, reduceIte, Nat.reduceEqDiff, one_ne_zero, zero_ne_one]
    | ⟨84, _⟩ => by simp only [q340, Nat.reduceMod, reduceIte, Nat.reduceEqDiff, one_ne_zero, zero_ne_one]
    | ⟨85, _⟩ => by simp only [q341, Nat.reduceMod, reduceIte, Nat.reduceEqDiff, one_ne_zero, zero_ne_one]
    | ⟨86, _⟩ => by simp only [q342, Nat.reduceMod, reduceIte, Nat.reduceEqDiff, one_ne_zero, zero_ne_one]
    | ⟨87, _⟩ => by simp only [q343, Nat.reduceMod, reduceIte, Nat.reduceEqDiff, one_ne_zero, zero_ne_one]
    | ⟨88, _⟩ => by simp only [q344, Nat.reduceMod, reduceIte, Nat.reduceEqDiff, one_ne_zero, zero_ne_one]
    | ⟨89, _⟩ => by simp only [q345, Nat.reduceMod, reduceIte, Nat.reduceEqDiff, one_ne_zero, zero_ne_one]
    | ⟨90, _⟩ => by simp only [q346, Nat.reduceMod, reduceIte, Nat.reduceEqDiff, one_ne_zero, zero_ne_one]
    | ⟨91, _⟩ => by simp only [q347, Nat.reduceMod, reduceIte, Nat.reduceEqDiff, one_ne_zero, zero_ne_one]
    | ⟨92, _⟩ => by simp only [q348, Nat.reduceMod, reduceIte, Nat.reduceEqDiff, one_ne_zero, zero_ne_one]
    | ⟨93, _⟩ => by simp only [q349, Nat.reduceMod, reduceIte, Nat.reduceEqDiff, one_ne_zero, zero_ne_one]
    | ⟨94, _⟩ => by simp only [q350, Nat.reduceMod, reduceIte, Nat.reduceEqDiff, one_ne_zero, zero_ne_one]
    | ⟨95, _⟩ => by simp only [q351, Nat.reduceMod, reduceIte, Nat.reduceEqDiff, one_ne_zero, zero_ne_one]
    | ⟨96, _⟩ => by simp only [q352, Nat.reduceMod, reduceIte, Nat.reduceEqDiff, one_ne_zero, zero_ne_one]
    | ⟨97, _⟩ => by simp only [q353, Nat.reduceMod, reduceIte, Nat.reduceEqDiff, one_ne_zero, zero_ne_one]
    | ⟨98, _⟩ => by simp only [q354, Nat.reduceMod, reduceIte, Nat.reduceEqDiff, one_ne_zero, zero_ne_one]
    | ⟨99, _⟩ => by simp only [q355, Nat.reduceMod, reduceIte, Nat.reduceEqDiff, one_ne_zero, zero_ne_one]
    | ⟨100, _⟩ => by simp only [q356, Nat.reduceMod, reduceIte, Nat.reduceEqDiff, one_ne_zero, zero_ne_one]
    | ⟨101, _⟩ => by simp only [q357, Nat.reduceMod, reduceIte, Nat.reduceEqDiff, one_ne_zero, zero_ne_one]
    | ⟨102, _⟩ => by simp only [q358, Nat.reduceMod, reduceIte, Nat.reduceEqDiff, one_ne_zero, zero_ne_one]
    | ⟨103, _⟩ => by simp only [q359, Nat.reduceMod, reduceIte, Nat.reduceEqDiff, one_ne_zero, zero_ne_one]
    | ⟨104, _⟩ => by simp only [q360, Nat.reduceMod, reduceIte, Nat.reduceEqDiff, one_ne_zero, zero_ne_one]
    | ⟨105, _⟩ => by simp only [q361, Nat.reduceMod, reduceIte, Nat.reduceEqDiff, one_ne_zero, zero_ne_one]
    | ⟨106, _⟩ => by simp only [q362, Nat.reduceMod, reduceIte, Nat.reduceEqDiff, one_ne_zero, zero_ne_one]
    | ⟨107, _⟩ => by simp only [q363, Nat.reduceMod, reduceIte, Nat.reduceEqDiff, one_ne_zero, zero_ne_one]
    | ⟨108, _⟩ => by simp only [q364, Nat.reduceMod, reduceIte, Nat.reduceEqDiff, one_ne_zero, zero_ne_one]
    | ⟨109, _⟩ => by simp only [q365, Nat.reduceMod, reduceIte, Nat.reduceEqDiff, one_ne_zero, zero_ne_one]
    | ⟨110, _⟩ => by simp only [q366, Nat.reduceMod, reduceIte, Nat.reduceEqDiff, one_ne_zero, zero_ne_one]
    | ⟨111, _⟩ => by simp only [q367, Nat.reduceMod, reduceIte, Nat.reduceEqDiff, one_ne_zero, zero_ne_one]
    | ⟨112, _⟩ => by simp only [q368, Nat.reduceMod, reduceIte, Nat.reduceEqDiff, one_ne_zero, zero_ne_one]
    | ⟨113, _⟩ => by simp only [q369, Nat.reduceMod, reduceIte, Nat.reduceEqDiff, one_ne_zero, zero_ne_one]
    | ⟨114, _⟩ => by simp only [q370, Nat.reduceMod, reduceIte, Nat.reduceEqDiff, one_ne_zero, zero_ne_one]
    | ⟨115, _⟩ => by simp only [q371, Nat.reduceMod, reduceIte, Nat.reduceEqDiff, one_ne_zero, zero_ne_one]
    | ⟨116, _⟩ => by simp only [q372, Nat.reduceMod, reduceIte, Nat.reduceEqDiff, one_ne_zero, zero_ne_one]
    | ⟨117, _⟩ => by simp only [q373, Nat.reduceMod, reduceIte, Nat.reduceEqDiff, one_ne_zero, zero_ne_one]
    | ⟨118, _⟩ => by simp only [q374, Nat.reduceMod, reduceIte, Nat.reduceEqDiff, one_ne_zero, zero_ne_one]
    | ⟨119, _⟩ => by simp only [q375, Nat.reduceMod, reduceIte, Nat.reduceEqDiff, one_ne_zero, zero_ne_one]
    | ⟨120, _⟩ => by simp only [q376, Nat.reduceMod, reduceIte, Nat.reduceEqDiff, one_ne_zero, zero_ne_one]
    | ⟨121, _⟩ => by simp only [q377, Nat.reduceMod, reduceIte, Nat.reduceEqDiff, one_ne_zero, zero_ne_one]
    | ⟨122, _⟩ => by simp only [q378, Nat.reduceMod, reduceIte, Nat.reduceEqDiff, one_ne_zero, zero_ne_one]
    | ⟨123, _⟩ => by simp only [q379, Nat.reduceMod, reduceIte, Nat.reduceEqDiff, one_ne_zero, zero_ne_one]
    | ⟨124, _⟩ => by simp only [q380, Nat.reduceMod, reduceIte, Nat.reduceEqDiff, one_ne_zero, zero_ne_one]
    | ⟨125, _⟩ => by simp only [q381, Nat.reduceMod, reduceIte, Nat.reduceEqDiff, one_ne_zero, zero_ne_one]
    | ⟨126, _⟩ => by simp only [q382, Nat.reduceMod, reduceIte, Nat.reduceEqDiff, one_ne_zero, zero_ne_one]
    | ⟨127, _⟩ => by simp only [q383, Nat.reduceMod, reduceIte, Nat.reduceEqDiff, one_ne_zero, zero_ne_one]
    | ⟨n + 128, hn⟩ => absurd hn (by omega)

set_option maxHeartbeats 4000000 in
/-- Rows 192 to 255, by half rows: one of three tables of 128 entries. -/
theorem half3 (i : Nat) (k : Fin 128) (h : i / 128 % 128 = k.val) : lit0t1_3 i = if k.val % 2 = 1 then lit0t0_128 i else lit0t0_1 i := by
  delta lit0t1_3
  rw [h]
  clear h
  revert k
  exact fun k => match k with
    | ⟨0, _⟩ => by simp only [q384, Nat.reduceMod, reduceIte, Nat.reduceEqDiff, one_ne_zero, zero_ne_one]
    | ⟨1, _⟩ => by simp only [q385, Nat.reduceMod, reduceIte, Nat.reduceEqDiff, one_ne_zero, zero_ne_one]
    | ⟨2, _⟩ => by simp only [q386, Nat.reduceMod, reduceIte, Nat.reduceEqDiff, one_ne_zero, zero_ne_one]
    | ⟨3, _⟩ => by simp only [q387, Nat.reduceMod, reduceIte, Nat.reduceEqDiff, one_ne_zero, zero_ne_one]
    | ⟨4, _⟩ => by simp only [q388, Nat.reduceMod, reduceIte, Nat.reduceEqDiff, one_ne_zero, zero_ne_one]
    | ⟨5, _⟩ => by simp only [q389, Nat.reduceMod, reduceIte, Nat.reduceEqDiff, one_ne_zero, zero_ne_one]
    | ⟨6, _⟩ => by simp only [q390, Nat.reduceMod, reduceIte, Nat.reduceEqDiff, one_ne_zero, zero_ne_one]
    | ⟨7, _⟩ => by simp only [q391, Nat.reduceMod, reduceIte, Nat.reduceEqDiff, one_ne_zero, zero_ne_one]
    | ⟨8, _⟩ => by simp only [q392, Nat.reduceMod, reduceIte, Nat.reduceEqDiff, one_ne_zero, zero_ne_one]
    | ⟨9, _⟩ => by simp only [q393, Nat.reduceMod, reduceIte, Nat.reduceEqDiff, one_ne_zero, zero_ne_one]
    | ⟨10, _⟩ => by simp only [q394, Nat.reduceMod, reduceIte, Nat.reduceEqDiff, one_ne_zero, zero_ne_one]
    | ⟨11, _⟩ => by simp only [q395, Nat.reduceMod, reduceIte, Nat.reduceEqDiff, one_ne_zero, zero_ne_one]
    | ⟨12, _⟩ => by simp only [q396, Nat.reduceMod, reduceIte, Nat.reduceEqDiff, one_ne_zero, zero_ne_one]
    | ⟨13, _⟩ => by simp only [q397, Nat.reduceMod, reduceIte, Nat.reduceEqDiff, one_ne_zero, zero_ne_one]
    | ⟨14, _⟩ => by simp only [q398, Nat.reduceMod, reduceIte, Nat.reduceEqDiff, one_ne_zero, zero_ne_one]
    | ⟨15, _⟩ => by simp only [q399, Nat.reduceMod, reduceIte, Nat.reduceEqDiff, one_ne_zero, zero_ne_one]
    | ⟨16, _⟩ => by simp only [q400, Nat.reduceMod, reduceIte, Nat.reduceEqDiff, one_ne_zero, zero_ne_one]
    | ⟨17, _⟩ => by simp only [q401, Nat.reduceMod, reduceIte, Nat.reduceEqDiff, one_ne_zero, zero_ne_one]
    | ⟨18, _⟩ => by simp only [q402, Nat.reduceMod, reduceIte, Nat.reduceEqDiff, one_ne_zero, zero_ne_one]
    | ⟨19, _⟩ => by simp only [q403, Nat.reduceMod, reduceIte, Nat.reduceEqDiff, one_ne_zero, zero_ne_one]
    | ⟨20, _⟩ => by simp only [q404, Nat.reduceMod, reduceIte, Nat.reduceEqDiff, one_ne_zero, zero_ne_one]
    | ⟨21, _⟩ => by simp only [q405, Nat.reduceMod, reduceIte, Nat.reduceEqDiff, one_ne_zero, zero_ne_one]
    | ⟨22, _⟩ => by simp only [q406, Nat.reduceMod, reduceIte, Nat.reduceEqDiff, one_ne_zero, zero_ne_one]
    | ⟨23, _⟩ => by simp only [q407, Nat.reduceMod, reduceIte, Nat.reduceEqDiff, one_ne_zero, zero_ne_one]
    | ⟨24, _⟩ => by simp only [q408, Nat.reduceMod, reduceIte, Nat.reduceEqDiff, one_ne_zero, zero_ne_one]
    | ⟨25, _⟩ => by simp only [q409, Nat.reduceMod, reduceIte, Nat.reduceEqDiff, one_ne_zero, zero_ne_one]
    | ⟨26, _⟩ => by simp only [q410, Nat.reduceMod, reduceIte, Nat.reduceEqDiff, one_ne_zero, zero_ne_one]
    | ⟨27, _⟩ => by simp only [q411, Nat.reduceMod, reduceIte, Nat.reduceEqDiff, one_ne_zero, zero_ne_one]
    | ⟨28, _⟩ => by simp only [q412, Nat.reduceMod, reduceIte, Nat.reduceEqDiff, one_ne_zero, zero_ne_one]
    | ⟨29, _⟩ => by simp only [q413, Nat.reduceMod, reduceIte, Nat.reduceEqDiff, one_ne_zero, zero_ne_one]
    | ⟨30, _⟩ => by simp only [q414, Nat.reduceMod, reduceIte, Nat.reduceEqDiff, one_ne_zero, zero_ne_one]
    | ⟨31, _⟩ => by simp only [q415, Nat.reduceMod, reduceIte, Nat.reduceEqDiff, one_ne_zero, zero_ne_one]
    | ⟨32, _⟩ => by simp only [q416, Nat.reduceMod, reduceIte, Nat.reduceEqDiff, one_ne_zero, zero_ne_one]
    | ⟨33, _⟩ => by simp only [q417, Nat.reduceMod, reduceIte, Nat.reduceEqDiff, one_ne_zero, zero_ne_one]
    | ⟨34, _⟩ => by simp only [q418, Nat.reduceMod, reduceIte, Nat.reduceEqDiff, one_ne_zero, zero_ne_one]
    | ⟨35, _⟩ => by simp only [q419, Nat.reduceMod, reduceIte, Nat.reduceEqDiff, one_ne_zero, zero_ne_one]
    | ⟨36, _⟩ => by simp only [q420, Nat.reduceMod, reduceIte, Nat.reduceEqDiff, one_ne_zero, zero_ne_one]
    | ⟨37, _⟩ => by simp only [q421, Nat.reduceMod, reduceIte, Nat.reduceEqDiff, one_ne_zero, zero_ne_one]
    | ⟨38, _⟩ => by simp only [q422, Nat.reduceMod, reduceIte, Nat.reduceEqDiff, one_ne_zero, zero_ne_one]
    | ⟨39, _⟩ => by simp only [q423, Nat.reduceMod, reduceIte, Nat.reduceEqDiff, one_ne_zero, zero_ne_one]
    | ⟨40, _⟩ => by simp only [q424, Nat.reduceMod, reduceIte, Nat.reduceEqDiff, one_ne_zero, zero_ne_one]
    | ⟨41, _⟩ => by simp only [q425, Nat.reduceMod, reduceIte, Nat.reduceEqDiff, one_ne_zero, zero_ne_one]
    | ⟨42, _⟩ => by simp only [q426, Nat.reduceMod, reduceIte, Nat.reduceEqDiff, one_ne_zero, zero_ne_one]
    | ⟨43, _⟩ => by simp only [q427, Nat.reduceMod, reduceIte, Nat.reduceEqDiff, one_ne_zero, zero_ne_one]
    | ⟨44, _⟩ => by simp only [q428, Nat.reduceMod, reduceIte, Nat.reduceEqDiff, one_ne_zero, zero_ne_one]
    | ⟨45, _⟩ => by simp only [q429, Nat.reduceMod, reduceIte, Nat.reduceEqDiff, one_ne_zero, zero_ne_one]
    | ⟨46, _⟩ => by simp only [q430, Nat.reduceMod, reduceIte, Nat.reduceEqDiff, one_ne_zero, zero_ne_one]
    | ⟨47, _⟩ => by simp only [q431, Nat.reduceMod, reduceIte, Nat.reduceEqDiff, one_ne_zero, zero_ne_one]
    | ⟨48, _⟩ => by simp only [q432, Nat.reduceMod, reduceIte, Nat.reduceEqDiff, one_ne_zero, zero_ne_one]
    | ⟨49, _⟩ => by simp only [q433, Nat.reduceMod, reduceIte, Nat.reduceEqDiff, one_ne_zero, zero_ne_one]
    | ⟨50, _⟩ => by simp only [q434, Nat.reduceMod, reduceIte, Nat.reduceEqDiff, one_ne_zero, zero_ne_one]
    | ⟨51, _⟩ => by simp only [q435, Nat.reduceMod, reduceIte, Nat.reduceEqDiff, one_ne_zero, zero_ne_one]
    | ⟨52, _⟩ => by simp only [q436, Nat.reduceMod, reduceIte, Nat.reduceEqDiff, one_ne_zero, zero_ne_one]
    | ⟨53, _⟩ => by simp only [q437, Nat.reduceMod, reduceIte, Nat.reduceEqDiff, one_ne_zero, zero_ne_one]
    | ⟨54, _⟩ => by simp only [q438, Nat.reduceMod, reduceIte, Nat.reduceEqDiff, one_ne_zero, zero_ne_one]
    | ⟨55, _⟩ => by simp only [q439, Nat.reduceMod, reduceIte, Nat.reduceEqDiff, one_ne_zero, zero_ne_one]
    | ⟨56, _⟩ => by simp only [q440, Nat.reduceMod, reduceIte, Nat.reduceEqDiff, one_ne_zero, zero_ne_one]
    | ⟨57, _⟩ => by simp only [q441, Nat.reduceMod, reduceIte, Nat.reduceEqDiff, one_ne_zero, zero_ne_one]
    | ⟨58, _⟩ => by simp only [q442, Nat.reduceMod, reduceIte, Nat.reduceEqDiff, one_ne_zero, zero_ne_one]
    | ⟨59, _⟩ => by simp only [q443, Nat.reduceMod, reduceIte, Nat.reduceEqDiff, one_ne_zero, zero_ne_one]
    | ⟨60, _⟩ => by simp only [q444, Nat.reduceMod, reduceIte, Nat.reduceEqDiff, one_ne_zero, zero_ne_one]
    | ⟨61, _⟩ => by simp only [q445, Nat.reduceMod, reduceIte, Nat.reduceEqDiff, one_ne_zero, zero_ne_one]
    | ⟨62, _⟩ => by simp only [q446, Nat.reduceMod, reduceIte, Nat.reduceEqDiff, one_ne_zero, zero_ne_one]
    | ⟨63, _⟩ => by simp only [q447, Nat.reduceMod, reduceIte, Nat.reduceEqDiff, one_ne_zero, zero_ne_one]
    | ⟨64, _⟩ => by simp only [q448, Nat.reduceMod, reduceIte, Nat.reduceEqDiff, one_ne_zero, zero_ne_one]
    | ⟨65, _⟩ => by simp only [q449, Nat.reduceMod, reduceIte, Nat.reduceEqDiff, one_ne_zero, zero_ne_one]
    | ⟨66, _⟩ => by simp only [q450, Nat.reduceMod, reduceIte, Nat.reduceEqDiff, one_ne_zero, zero_ne_one]
    | ⟨67, _⟩ => by simp only [q451, Nat.reduceMod, reduceIte, Nat.reduceEqDiff, one_ne_zero, zero_ne_one]
    | ⟨68, _⟩ => by simp only [q452, Nat.reduceMod, reduceIte, Nat.reduceEqDiff, one_ne_zero, zero_ne_one]
    | ⟨69, _⟩ => by simp only [q453, Nat.reduceMod, reduceIte, Nat.reduceEqDiff, one_ne_zero, zero_ne_one]
    | ⟨70, _⟩ => by simp only [q454, Nat.reduceMod, reduceIte, Nat.reduceEqDiff, one_ne_zero, zero_ne_one]
    | ⟨71, _⟩ => by simp only [q455, Nat.reduceMod, reduceIte, Nat.reduceEqDiff, one_ne_zero, zero_ne_one]
    | ⟨72, _⟩ => by simp only [q456, Nat.reduceMod, reduceIte, Nat.reduceEqDiff, one_ne_zero, zero_ne_one]
    | ⟨73, _⟩ => by simp only [q457, Nat.reduceMod, reduceIte, Nat.reduceEqDiff, one_ne_zero, zero_ne_one]
    | ⟨74, _⟩ => by simp only [q458, Nat.reduceMod, reduceIte, Nat.reduceEqDiff, one_ne_zero, zero_ne_one]
    | ⟨75, _⟩ => by simp only [q459, Nat.reduceMod, reduceIte, Nat.reduceEqDiff, one_ne_zero, zero_ne_one]
    | ⟨76, _⟩ => by simp only [q460, Nat.reduceMod, reduceIte, Nat.reduceEqDiff, one_ne_zero, zero_ne_one]
    | ⟨77, _⟩ => by simp only [q461, Nat.reduceMod, reduceIte, Nat.reduceEqDiff, one_ne_zero, zero_ne_one]
    | ⟨78, _⟩ => by simp only [q462, Nat.reduceMod, reduceIte, Nat.reduceEqDiff, one_ne_zero, zero_ne_one]
    | ⟨79, _⟩ => by simp only [q463, Nat.reduceMod, reduceIte, Nat.reduceEqDiff, one_ne_zero, zero_ne_one]
    | ⟨80, _⟩ => by simp only [q464, Nat.reduceMod, reduceIte, Nat.reduceEqDiff, one_ne_zero, zero_ne_one]
    | ⟨81, _⟩ => by simp only [q465, Nat.reduceMod, reduceIte, Nat.reduceEqDiff, one_ne_zero, zero_ne_one]
    | ⟨82, _⟩ => by simp only [q466, Nat.reduceMod, reduceIte, Nat.reduceEqDiff, one_ne_zero, zero_ne_one]
    | ⟨83, _⟩ => by simp only [q467, Nat.reduceMod, reduceIte, Nat.reduceEqDiff, one_ne_zero, zero_ne_one]
    | ⟨84, _⟩ => by simp only [q468, Nat.reduceMod, reduceIte, Nat.reduceEqDiff, one_ne_zero, zero_ne_one]
    | ⟨85, _⟩ => by simp only [q469, Nat.reduceMod, reduceIte, Nat.reduceEqDiff, one_ne_zero, zero_ne_one]
    | ⟨86, _⟩ => by simp only [q470, Nat.reduceMod, reduceIte, Nat.reduceEqDiff, one_ne_zero, zero_ne_one]
    | ⟨87, _⟩ => by simp only [q471, Nat.reduceMod, reduceIte, Nat.reduceEqDiff, one_ne_zero, zero_ne_one]
    | ⟨88, _⟩ => by simp only [q472, Nat.reduceMod, reduceIte, Nat.reduceEqDiff, one_ne_zero, zero_ne_one]
    | ⟨89, _⟩ => by simp only [q473, Nat.reduceMod, reduceIte, Nat.reduceEqDiff, one_ne_zero, zero_ne_one]
    | ⟨90, _⟩ => by simp only [q474, Nat.reduceMod, reduceIte, Nat.reduceEqDiff, one_ne_zero, zero_ne_one]
    | ⟨91, _⟩ => by simp only [q475, Nat.reduceMod, reduceIte, Nat.reduceEqDiff, one_ne_zero, zero_ne_one]
    | ⟨92, _⟩ => by simp only [q476, Nat.reduceMod, reduceIte, Nat.reduceEqDiff, one_ne_zero, zero_ne_one]
    | ⟨93, _⟩ => by simp only [q477, Nat.reduceMod, reduceIte, Nat.reduceEqDiff, one_ne_zero, zero_ne_one]
    | ⟨94, _⟩ => by simp only [q478, Nat.reduceMod, reduceIte, Nat.reduceEqDiff, one_ne_zero, zero_ne_one]
    | ⟨95, _⟩ => by simp only [q479, Nat.reduceMod, reduceIte, Nat.reduceEqDiff, one_ne_zero, zero_ne_one]
    | ⟨96, _⟩ => by simp only [q480, Nat.reduceMod, reduceIte, Nat.reduceEqDiff, one_ne_zero, zero_ne_one]
    | ⟨97, _⟩ => by simp only [q481, Nat.reduceMod, reduceIte, Nat.reduceEqDiff, one_ne_zero, zero_ne_one]
    | ⟨98, _⟩ => by simp only [q482, Nat.reduceMod, reduceIte, Nat.reduceEqDiff, one_ne_zero, zero_ne_one]
    | ⟨99, _⟩ => by simp only [q483, Nat.reduceMod, reduceIte, Nat.reduceEqDiff, one_ne_zero, zero_ne_one]
    | ⟨100, _⟩ => by simp only [q484, Nat.reduceMod, reduceIte, Nat.reduceEqDiff, one_ne_zero, zero_ne_one]
    | ⟨101, _⟩ => by simp only [q485, Nat.reduceMod, reduceIte, Nat.reduceEqDiff, one_ne_zero, zero_ne_one]
    | ⟨102, _⟩ => by simp only [q486, Nat.reduceMod, reduceIte, Nat.reduceEqDiff, one_ne_zero, zero_ne_one]
    | ⟨103, _⟩ => by simp only [q487, Nat.reduceMod, reduceIte, Nat.reduceEqDiff, one_ne_zero, zero_ne_one]
    | ⟨104, _⟩ => by simp only [q488, Nat.reduceMod, reduceIte, Nat.reduceEqDiff, one_ne_zero, zero_ne_one]
    | ⟨105, _⟩ => by simp only [q489, Nat.reduceMod, reduceIte, Nat.reduceEqDiff, one_ne_zero, zero_ne_one]
    | ⟨106, _⟩ => by simp only [q490, Nat.reduceMod, reduceIte, Nat.reduceEqDiff, one_ne_zero, zero_ne_one]
    | ⟨107, _⟩ => by simp only [q491, Nat.reduceMod, reduceIte, Nat.reduceEqDiff, one_ne_zero, zero_ne_one]
    | ⟨108, _⟩ => by simp only [q492, Nat.reduceMod, reduceIte, Nat.reduceEqDiff, one_ne_zero, zero_ne_one]
    | ⟨109, _⟩ => by simp only [q493, Nat.reduceMod, reduceIte, Nat.reduceEqDiff, one_ne_zero, zero_ne_one]
    | ⟨110, _⟩ => by simp only [q494, Nat.reduceMod, reduceIte, Nat.reduceEqDiff, one_ne_zero, zero_ne_one]
    | ⟨111, _⟩ => by simp only [q495, Nat.reduceMod, reduceIte, Nat.reduceEqDiff, one_ne_zero, zero_ne_one]
    | ⟨112, _⟩ => by simp only [q496, Nat.reduceMod, reduceIte, Nat.reduceEqDiff, one_ne_zero, zero_ne_one]
    | ⟨113, _⟩ => by simp only [q497, Nat.reduceMod, reduceIte, Nat.reduceEqDiff, one_ne_zero, zero_ne_one]
    | ⟨114, _⟩ => by simp only [q498, Nat.reduceMod, reduceIte, Nat.reduceEqDiff, one_ne_zero, zero_ne_one]
    | ⟨115, _⟩ => by simp only [q499, Nat.reduceMod, reduceIte, Nat.reduceEqDiff, one_ne_zero, zero_ne_one]
    | ⟨116, _⟩ => by simp only [q500, Nat.reduceMod, reduceIte, Nat.reduceEqDiff, one_ne_zero, zero_ne_one]
    | ⟨117, _⟩ => by simp only [q501, Nat.reduceMod, reduceIte, Nat.reduceEqDiff, one_ne_zero, zero_ne_one]
    | ⟨118, _⟩ => by simp only [q502, Nat.reduceMod, reduceIte, Nat.reduceEqDiff, one_ne_zero, zero_ne_one]
    | ⟨119, _⟩ => by simp only [q503, Nat.reduceMod, reduceIte, Nat.reduceEqDiff, one_ne_zero, zero_ne_one]
    | ⟨120, _⟩ => by simp only [q504, Nat.reduceMod, reduceIte, Nat.reduceEqDiff, one_ne_zero, zero_ne_one]
    | ⟨121, _⟩ => by simp only [q505, Nat.reduceMod, reduceIte, Nat.reduceEqDiff, one_ne_zero, zero_ne_one]
    | ⟨122, _⟩ => by simp only [q506, Nat.reduceMod, reduceIte, Nat.reduceEqDiff, one_ne_zero, zero_ne_one]
    | ⟨123, _⟩ => by simp only [q507, Nat.reduceMod, reduceIte, Nat.reduceEqDiff, one_ne_zero, zero_ne_one]
    | ⟨124, _⟩ => by simp only [q508, Nat.reduceMod, reduceIte, Nat.reduceEqDiff, one_ne_zero, zero_ne_one]
    | ⟨125, _⟩ => by simp only [q509, Nat.reduceMod, reduceIte, Nat.reduceEqDiff, one_ne_zero, zero_ne_one]
    | ⟨126, _⟩ => by simp only [q510, Nat.reduceMod, reduceIte, Nat.reduceEqDiff, one_ne_zero, zero_ne_one]
    | ⟨127, _⟩ => by simp only [q511, Nat.reduceMod, reduceIte, Nat.reduceEqDiff, one_ne_zero, zero_ne_one]
    | ⟨n + 128, hn⟩ => absurd hn (by omega)

end Cert.ProjIdeal.Table

end
-- ==== Proof.ProjTable.lean ====
module

public import proofs.«01_k».proof.Proof.ProjHalves
public import Mathlib.Tactic.SplitIfs

@[expose] public section

set_option maxRecDepth 100000

noncomputable section

namespace Cert.ProjIdeal.Table

theorem first_eq (i : Nat) : lit0t0_0 i = if i % 128 < 64 then 0x3C80#16 else 0x0000#16 := by
  have h : ∀ k : Fin 128, lit0t0_0 k.val = if k.val % 128 < 64 then 0x3C80#16 else 0x0000#16 := by decide +kernel
  have e := h ⟨i % 128, Nat.mod_lt _ (by omega)⟩
  dsimp only [lit0t0_0] at e ⊢
  rw [Nat.mod_mod] at e
  exact e

theorem last_eq (i : Nat) : lit0t0_128 i = if i % 128 < 64 then 0x0000#16 else 0x3C80#16 := by
  have h : ∀ k : Fin 128, lit0t0_128 k.val = if k.val % 128 < 64 then 0x0000#16 else 0x3C80#16 := by decide +kernel
  have e := h ⟨i % 128, Nat.mod_lt _ (by omega)⟩
  dsimp only [lit0t0_128] at e ⊢
  rw [Nat.mod_mod] at e
  exact e

theorem zero_eq (i : Nat) : lit0t0_1 i = 0x0000#16 := by
  have h : ∀ k : Fin 128, lit0t0_1 k.val = 0x0000#16 := by decide +kernel
  have e := h ⟨i % 128, Nat.mod_lt _ (by omega)⟩
  dsimp only [lit0t0_1] at e ⊢
  rw [Nat.mod_mod] at e
  exact e

/-- The table of group means: a 1/64 where row and column are in the same group of 64, else a zero. -/
theorem lit0_eq (n : Fin 65536) : lit0 n = if n.val / 256 / 64 = n.val % 256 / 64 then 0x3C80#16 else 0x0000#16 := by
  obtain ⟨i, hi⟩ := n
  show lit0t i = _
  have hk : i / 128 % 128 = (⟨i / 128 % 128, Nat.mod_lt _ (by omega)⟩ : Fin 128).val := rfl
  have hg : i / 16384 = 0 ∨ i / 16384 = 1 ∨ i / 16384 = 2 ∨ i / 16384 = 3 := by omega
  rcases hg with hg | hg | hg | hg
  · have e : lit0t i = lit0t1_0 i := by delta lit0t; rw [hg]; rfl
    rw [e, half0 i _ hk]
    dsimp only
    rw [first_eq, zero_eq]
    split_ifs <;> first | rfl | omega
  · have e : lit0t i = lit0t1_1 i := by delta lit0t; rw [hg]; rfl
    rw [e, half1 i _ hk]
    dsimp only
    rw [last_eq, zero_eq]
    split_ifs <;> first | rfl | omega
  · have e : lit0t i = lit0t1_2 i := by delta lit0t; rw [hg]; rfl
    rw [e, half2 i _ hk]
    dsimp only
    rw [first_eq, zero_eq]
    split_ifs <;> first | rfl | omega
  · have e : lit0t i = lit0t1_3 i := by delta lit0t; rw [hg]; rfl
    rw [e, half3 i _ hk]
    dsimp only
    rw [last_eq, zero_eq]
    split_ifs <;> first | rfl | omega

end Cert.ProjIdeal.Table

end
-- ==== Proof.ProjRun.lean ====
module

public import proofs.«01_k».proof.Proof.ProjValue
public import proofs.«01_k».proof.Proof.ProjTable

@[expose] public section

set_option maxRecDepth 16384

noncomputable section

namespace Cert.ProjIdeal.Read

open Cert.ProjIdeal Cert.ProjIdeal.Gen Idealize.ShloMosaic Idealize.ShloMosaic.TcCoe Idealize.SL.Sem
open Idealize.ShloMosaic.Pipeline (Dat)

theorem pay7_apply (v : FVec Ideal S512x1024 .bf16) (w : FVec Ideal S1024x512 .bf16) (r c : Fin 512) :
    k0_pay7 v w (ix2 r c) = ∑ j : Fin 1024, v (ix2 r j) * w (ix2 j c) := by
  pointwise [k0_pay7]

theorem pay8_apply (v : FVec Ideal S512x1024 .bf16) (w : FVec Ideal S1024x512 .bf16) (r c : Fin 512) :
    k0_pay8 v w (ix2 r c) = ∑ j : Fin 1024, v (ix2 r j) * w (ix2 j c) := by
  pointwise [k0_pay8]

theorem pay9_apply (v : FVec Ideal S512x1024 .bf16) (w : FVec Ideal S1024x512 .bf16) (r c : Fin 512) :
    k0_pay9 v w (ix2 r c) = ∑ j : Fin 1024, v (ix2 r j) * w (ix2 j c) := by
  pointwise [k0_pay9]

theorem hz : (![0, 0] : Fin 2 → Nat) = fun _ => 0 := funext fun a => by fin_cases a <;> rfl

variable (m : (ℓ : Loc nD τ sig) → Buf (Elt Ideal) ℓ) (ρ : Dev nD → PrngReg)

/-- The projected rows, as the reference writes them, of the kernel's own arguments. -/
abbrev Z (c : Dev nD) : FVec Ideal ProjRefIdeal.S32768x3600 .f32 := ProjRefIdeal.Read.zz (aX m c) (aG m c) (aW m c)

/-- Row `r` of point `t`'s block. -/
abbrev row (t : Fin cfg0.N) (r : Fin 512) : Fin 32768 := ⟨512 * t.val + r.val, lt_of_point t r⟩

/-- The normalised rows of point `t`'s block. -/
theorem rows (c : Dev nD) (t : Fin cfg0.N) (r : Fin 512) (j : Fin 1024) :
    (k0_pay4 (F := Ideal) (View.ld (iblk m c 0 t) r0_0) (View.ld (iblk m c 1 t) r0_1) (ix2 r j) : EReal) = ProjRefIdeal.Read.xn (aX m c) (aG m c) (ix2 (row t r) j) := by
  rw [View.ld_unit_zero (S := S512x1024) hz, View.ld_unit_zero (S := S1x1024) hz, norm_apply, ProjRefIdeal.Read.xn_apply, iblk1, V_v0]
  simp only [iblk0]

/-- A column of the kernel's product is a column of the reference's. -/
theorem zcol (c : Dev nD) (t : Fin cfg0.N) (r : Fin 512) (k : Fin 3584) :
    ∑ j : Fin 1024, (k0_pay4 (F := Ideal) (View.ld (iblk m c 0 t) r0_0) (View.ld (iblk m c 1 t) r0_1) (ix2 r j) : EReal)
      * (iblk m c 2 t : FVec Ideal S1024x3584 .bf16) (ix2 j k) = Z m c (ix2 (row t r) ⟨k.val, by omega⟩) := by
  refine Eq.trans ?_ (ProjRefIdeal.Read.zz_apply _ _ _ _ _).symm
  refine Finset.sum_congr rfl fun j _ => ?_
  rw [rows, iblk2, V_v2]

theorem ld2 (w : FVec Ideal S1024x3584 .bf16) (j : Fin 1024) (k : Fin 512) : (View.ld (Val := Elt Ideal) (e' := .bf16) w r0_2 : FVec Ideal S1024x512 .bf16) (ix2 j k) = w (ix2 j ⟨0 + k.val, by omega⟩) := by
  refine congrArg w (funext fun a => Fin.ext ?_)
  match a with
  | ⟨0, _⟩ => show 0 + 1 * j.val = j.val; omega
  | ⟨1, _⟩ => show 0 + 1 * k.val = 0 + k.val; omega

theorem cols2 (c : Dev nD) (t : Fin cfg0.N) (r k : Fin 512) :
    ∑ j : Fin 1024, (k0_pay4 (F := Ideal) (View.ld (iblk m c 0 t) r0_0) (View.ld (iblk m c 1 t) r0_1) (ix2 r j) : EReal)
      * (View.ld (Val := Elt Ideal) (e' := .bf16) (iblk m c 2 t : FVec Ideal S1024x3584 .bf16) r0_2 : FVec Ideal S1024x512 .bf16) (ix2 j k) = Z m c (ix2 (row t r) ⟨0 + k.val, by omega⟩) := by
  refine (Finset.sum_congr rfl fun j _ => ?_).trans (zcol m c t r ⟨0 + k.val, by omega⟩)
  rw [ld2]

theorem ld6 (w : FVec Ideal S1024x3584 .bf16) (j : Fin 1024) (k : Fin 512) : (View.ld (Val := Elt Ideal) (e' := .bf16) w r0_6 : FVec Ideal S1024x512 .bf16) (ix2 j k) = w (ix2 j ⟨512 + k.val, by omega⟩) := by
  refine congrArg w (funext fun a => Fin.ext ?_)
  match a with
  | ⟨0, _⟩ => show 0 + 1 * j.val = j.val; omega
  | ⟨1, _⟩ => show 512 + 1 * k.val = 512 + k.val; omega

theorem cols6 (c : Dev nD) (t : Fin cfg0.N) (r k : Fin 512) :
    ∑ j : Fin 1024, (k0_pay4 (F := Ideal) (View.ld (iblk m c 0 t) r0_0) (View.ld (iblk m c 1 t) r0_1) (ix2 r j) : EReal)
      * (View.ld (Val := Elt Ideal) (e' := .bf16) (iblk m c 2 t : FVec Ideal S1024x3584 .bf16) r0_6 : FVec Ideal S1024x512 .bf16) (ix2 j k) = Z m c (ix2 (row t r) ⟨512 + k.val, by omega⟩) := by
  refine (Finset.sum_congr rfl fun j _ => ?_).trans (zcol m c t r ⟨512 + k.val, by omega⟩)
  rw [ld6]

theorem ld7 (w : FVec Ideal S1024x3584 .bf16) (j : Fin 1024) (k : Fin 512) : (View.ld (Val := Elt Ideal) (e' := .bf16) w r0_7 : FVec Ideal S1024x512 .bf16) (ix2 j k) = w (ix2 j ⟨1024 + k.val, by omega⟩) := by
  refine congrArg w (funext fun a => Fin.ext ?_)
  match a with
  | ⟨0, _⟩ => show 0 + 1 * j.val = j.val; omega
  | ⟨1, _⟩ => show 1024 + 1 * k.val = 1024 + k.val; omega

theorem cols7 (c : Dev nD) (t : Fin cfg0.N) (r k : Fin 512) :
    ∑ j : Fin 1024, (k0_pay4 (F := Ideal) (View.ld (iblk m c 0 t) r0_0) (View.ld (iblk m c 1 t) r0_1) (ix2 r j) : EReal)
      * (View.ld (Val := Elt Ideal) (e' := .bf16) (iblk m c 2 t : FVec Ideal S1024x3584 .bf16) r0_7 : FVec Ideal S1024x512 .bf16) (ix2 j k) = Z m c (ix2 (row t r) ⟨1024 + k.val, by omega⟩) := by
  refine (Finset.sum_congr rfl fun j _ => ?_).trans (zcol m c t r ⟨1024 + k.val, by omega⟩)
  rw [ld7]

theorem ld8 (w : FVec Ideal S1024x3584 .bf16) (j : Fin 1024) (k : Fin 512) : (View.ld (Val := Elt Ideal) (e' := .bf16) w r0_8 : FVec Ideal S1024x512 .bf16) (ix2 j k) = w (ix2 j ⟨1536 + k.val, by omega⟩) := by
  refine congrArg w (funext fun a => Fin.ext ?_)
  match a with
  | ⟨0, _⟩ => show 0 + 1 * j.val = j.val; omega
  | ⟨1, _⟩ => show 1536 + 1 * k.val = 1536 + k.val; omega

theorem cols8 (c : Dev nD) (t : Fin cfg0.N) (r k : Fin 512) :
    ∑ j : Fin 1024, (k0_pay4 (F := Ideal) (View.ld (iblk m c 0 t) r0_0) (View.ld (iblk m c 1 t) r0_1) (ix2 r j) : EReal)
      * (View.ld (Val := Elt Ideal) (e' := .bf16) (iblk m c 2 t : FVec Ideal S1024x3584 .bf16) r0_8 : FVec Ideal S1024x512 .bf16) (ix2 j k) = Z m c (ix2 (row t r) ⟨1536 + k.val, by omega⟩) := by
  refine (Finset.sum_congr rfl fun j _ => ?_).trans (zcol m c t r ⟨1536 + k.val, by omega⟩)
  rw [ld8]

theorem ld9 (w : FVec Ideal S1024x3584 .bf16) (j : Fin 1024) (k : Fin 512) : (View.ld (Val := Elt Ideal) (e' := .bf16) w r0_9 : FVec Ideal S1024x512 .bf16) (ix2 j k) = w (ix2 j ⟨2048 + k.val, by omega⟩) := by
  refine congrArg w (funext fun a => Fin.ext ?_)
  match a with
  | ⟨0, _⟩ => show 0 + 1 * j.val = j.val; omega
  | ⟨1, _⟩ => show 2048 + 1 * k.val = 2048 + k.val; omega

theorem cols9 (c : Dev nD) (t : Fin cfg0.N) (r k : Fin 512) :
    ∑ j : Fin 1024, (k0_pay4 (F := Ideal) (View.ld (iblk m c 0 t) r0_0) (View.ld (iblk m c 1 t) r0_1) (ix2 r j) : EReal)
      * (View.ld (Val := Elt Ideal) (e' := .bf16) (iblk m c 2 t : FVec Ideal S1024x3584 .bf16) r0_9 : FVec Ideal S1024x512 .bf16) (ix2 j k) = Z m c (ix2 (row t r) ⟨2048 + k.val, by omega⟩) := by
  refine (Finset.sum_congr rfl fun j _ => ?_).trans (zcol m c t r ⟨2048 + k.val, by omega⟩)
  rw [ld9]

theorem ld10 (w : FVec Ideal S1024x3584 .bf16) (j : Fin 1024) (k : Fin 512) : (View.ld (Val := Elt Ideal) (e' := .bf16) w r0_10 : FVec Ideal S1024x512 .bf16) (ix2 j k) = w (ix2 j ⟨2560 + k.val, by omega⟩) := by
  refine congrArg w (funext fun a => Fin.ext ?_)
  match a with
  | ⟨0, _⟩ => show 0 + 1 * j.val = j.val; omega
  | ⟨1, _⟩ => show 2560 + 1 * k.val = 2560 + k.val; omega

theorem cols10 (c : Dev nD) (t : Fin cfg0.N) (r k : Fin 512) :
    ∑ j : Fin 1024, (k0_pay4 (F := Ideal) (View.ld (iblk m c 0 t) r0_0) (View.ld (iblk m c 1 t) r0_1) (ix2 r j) : EReal)
      * (View.ld (Val := Elt Ideal) (e' := .bf16) (iblk m c 2 t : FVec Ideal S1024x3584 .bf16) r0_10 : FVec Ideal S1024x512 .bf16) (ix2 j k) = Z m c (ix2 (row t r) ⟨2560 + k.val, by omega⟩) := by
  refine (Finset.sum_congr rfl fun j _ => ?_).trans (zcol m c t r ⟨2560 + k.val, by omega⟩)
  rw [ld10]

theorem ld11 (w : FVec Ideal S1024x3584 .bf16) (j : Fin 1024) (k : Fin 512) : (View.ld (Val := Elt Ideal) (e' := .bf16) w r0_11 : FVec Ideal S1024x512 .bf16) (ix2 j k) = w (ix2 j ⟨3072 + k.val, by omega⟩) := by
  refine congrArg w (funext fun a => Fin.ext ?_)
  match a with
  | ⟨0, _⟩ => show 0 + 1 * j.val = j.val; omega
  | ⟨1, _⟩ => show 3072 + 1 * k.val = 3072 + k.val; omega

theorem cols11 (c : Dev nD) (t : Fin cfg0.N) (r k : Fin 512) :
    ∑ j : Fin 1024, (k0_pay4 (F := Ideal) (View.ld (iblk m c 0 t) r0_0) (View.ld (iblk m c 1 t) r0_1) (ix2 r j) : EReal)
      * (View.ld (Val := Elt Ideal) (e' := .bf16) (iblk m c 2 t : FVec Ideal S1024x3584 .bf16) r0_11 : FVec Ideal S1024x512 .bf16) (ix2 j k) = Z m c (ix2 (row t r) ⟨3072 + k.val, by omega⟩) := by
  refine (Finset.sum_congr rfl fun j _ => ?_).trans (zcol m c t r ⟨3072 + k.val, by omega⟩)
  rw [ld11]

/-- What output 0 must hold. -/
def G7 (c : Dev nD) : FVec Ideal S32768x512 .bf16 := truncf .bf16 (ProjRefIdeal.Read.hn (extractStridedSlice S32768x512 ![0, 0] (Z m c) Cert.ProjRefIdeal.Gen.slices_S32768x3600_S32768x512_0_0) (aQ m c)) bitsLt_bf16_f32

theorem point7 (c : Dev nD) (t : Fin cfg0.N) (r : Fin 512) (k : Fin 512) (hG : IsMeans (V m c main_cst)) :
    (out0_7 (iblk m c 0 t) (iblk m c 1 t) (iblk m c 2 t) (iblk m c 3 t) (iblk m c 4 t) (iblk m c 5 t) (iblk m c 6 t) : FVec Ideal S512x512 .bf16) (ix2 r k) = G7 m c (ix2 (row t r) k) := by
  unfold_out out0_7
  rw [View.canon_unit_zero (S := S512x512) hz]
  refine (pay5_apply _ _ _ _ (by rw [View.ld_unit_zero (S := S256x256) hz, iblk6]; exact hG) _ (fun k => Z m c (ix2 (row t r) ⟨0 + k.val, by omega⟩)) r k (fun k => cols2 m c t r k)).trans ?_
  rw [View.ld_unit_zero (S := S1x512) hz, iblk4, V_v9]
  unfold G7
  rw [truncf_apply]
  rw [ProjRefIdeal.Read.hn_apply]
  pointwise

theorem hidx7 (t : Fin cfg0.N) : win0_7.index t 0 = t.val ∧ win0_7.index t 1 = 0 := by
  revert t
  exact (by decide +kernel : ∀ t : Fin grid0.N, win0_7.index t 0 = t.val ∧ win0_7.index t 1 = 0)

theorem emb7 (t : Fin cfg0.N) (r : Fin 512) (k : Fin 512) : ((cfg0.win 7).blk t).view.emb (ix2 r k : S512x512.Idx) = (ix2 (row t r) k : S32768x512.Idx) := by
  funext a
  apply Fin.ext
  match a with
  | ⟨0, _⟩ => show win0_7.index t 0 * 512 + 1 * r.val = 512 * t.val + r.val; rw [(hidx7 t).1]; omega
  | ⟨1, _⟩ => show win0_7.index t 1 * 512 + 1 * k.val = k.val; rw [(hidx7 t).2]; omega

theorem block7 (c : Dev nD) (t : Fin cfg0.N) (hG : IsMeans (V m c main_cst)) : (dats m 0 c).flushed 7 t = ((cfg0.win 7).blk t).view.read (Elt Ideal) (G7 m c) := by
  rw [Value.flushed7]
  funext i
  obtain ⟨r, k, rfl⟩ : ∃ (r : Fin 512) (k : Fin 512), i = (ix2 r k : S512x512.Idx) := ⟨i 0, i 1, eq_ix2 i⟩
  rw [View.read_apply]
  exact (point7 m c t r k hG).trans (congrArg (G7 m c) (emb7 t r k).symm)

theorem cover7 (i : S32768x512.Idx) : ∃ t : Fin cfg0.N, (cfg0.win 7).flush t = true ∧ i ∈ ((cfg0.win 7).blk t).view.set := by
  have h0 : (i 0 : Nat) < 32768 := (i 0).isLt
  have h1 : (i 1 : Nat) < 512 := (i 1).isLt
  have hN : cfg0.N = 64 := N_0
  have hq : (i 0 : Nat) / 512 < cfg0.N := by rw [hN]; omega
  refine ⟨⟨(i 0 : Nat) / 512, hq⟩, flush0_7 _, ?_⟩
  have e : ((cfg0.win 7).blk ⟨(i 0 : Nat) / 512, hq⟩).view.emb (ix2 ⟨(i 0 : Nat) % 512, Nat.mod_lt _ (by omega)⟩ ⟨(i 1 : Nat), h1⟩ : S512x512.Idx) = i := by
    rw [emb7]
    funext a
    apply Fin.ext
    match a with
    | ⟨0, _⟩ => show 512 * ((i 0 : Nat) / 512) + (i 0 : Nat) % 512 = (i 0 : Nat); omega
    | ⟨1, _⟩ => rfl
  have hm := Finset.mem_map_of_mem ((cfg0.win 7).blk ⟨(i 0 : Nat) / 512, hq⟩).view.emb
    (Finset.mem_univ (ix2 ⟨(i 0 : Nat) % 512, Nat.mod_lt _ (by omega)⟩ ⟨(i 1 : Nat), h1⟩ : S512x512.Idx))
  rw [e] at hm
  exact hm

theorem final7 (c : Dev nD) (hG : IsMeans (V m c main_cst)) : (dats m 0 c).arrAt 7 cfg0.N = G7 m c :=
  (dats m 0 c).arrAt_eq_of_cover 7 (G7 m c) (fun t _ => block7 m c t hG) cover7

/-- What output 1 must hold. -/
def G8 (c : Dev nD) : FVec Ideal S32768x512 .f32 := ProjRefIdeal.Read.hn (extractStridedSlice S32768x512 ![0, 512] (Z m c) Cert.ProjRefIdeal.Gen.slices_S32768x3600_S32768x512_0_512) (aK m c)

theorem point8 (c : Dev nD) (t : Fin cfg0.N) (r : Fin 512) (k : Fin 512) (hG : IsMeans (V m c main_cst)) :
    (out0_8 (iblk m c 0 t) (iblk m c 1 t) (iblk m c 2 t) (iblk m c 3 t) (iblk m c 4 t) (iblk m c 5 t) (iblk m c 6 t) : FVec Ideal S512x512 .f32) (ix2 r k) = G8 m c (ix2 (row t r) k) := by
  unfold_out out0_8
  rw [View.canon_unit_zero (S := S512x512) hz]
  refine (pay6_apply _ _ _ (by rw [View.ld_unit_zero (S := S256x256) hz, iblk6]; exact hG) _ (fun k => Z m c (ix2 (row t r) ⟨512 + k.val, by omega⟩)) r k (fun k => cols6 m c t r k)).trans ?_
  rw [View.ld_unit_zero (S := S1x512) hz, iblk5, V_v13]
  unfold G8
  skip
  rw [ProjRefIdeal.Read.hn_apply]
  pointwise

theorem hidx8 (t : Fin cfg0.N) : win0_8.index t 0 = t.val ∧ win0_8.index t 1 = 0 := by
  revert t
  exact (by decide +kernel : ∀ t : Fin grid0.N, win0_8.index t 0 = t.val ∧ win0_8.index t 1 = 0)

theorem emb8 (t : Fin cfg0.N) (r : Fin 512) (k : Fin 512) : ((cfg0.win 8).blk t).view.emb (ix2 r k : S512x512.Idx) = (ix2 (row t r) k : S32768x512.Idx) := by
  funext a
  apply Fin.ext
  match a with
  | ⟨0, _⟩ => show win0_8.index t 0 * 512 + 1 * r.val = 512 * t.val + r.val; rw [(hidx8 t).1]; omega
  | ⟨1, _⟩ => show win0_8.index t 1 * 512 + 1 * k.val = k.val; rw [(hidx8 t).2]; omega

theorem block8 (c : Dev nD) (t : Fin cfg0.N) (hG : IsMeans (V m c main_cst)) : (dats m 0 c).flushed 8 t = ((cfg0.win 8).blk t).view.read (Elt Ideal) (G8 m c) := by
  rw [Value.flushed8]
  funext i
  obtain ⟨r, k, rfl⟩ : ∃ (r : Fin 512) (k : Fin 512), i = (ix2 r k : S512x512.Idx) := ⟨i 0, i 1, eq_ix2 i⟩
  rw [View.read_apply]
  exact (point8 m c t r k hG).trans (congrArg (G8 m c) (emb8 t r k).symm)

theorem cover8 (i : S32768x512.Idx) : ∃ t : Fin cfg0.N, (cfg0.win 8).flush t = true ∧ i ∈ ((cfg0.win 8).blk t).view.set := by
  have h0 : (i 0 : Nat) < 32768 := (i 0).isLt
  have h1 : (i 1 : Nat) < 512 := (i 1).isLt
  have hN : cfg0.N = 64 := N_0
  have hq : (i 0 : Nat) / 512 < cfg0.N := by rw [hN]; omega
  refine ⟨⟨(i 0 : Nat) / 512, hq⟩, flush0_8 _, ?_⟩
  have e : ((cfg0.win 8).blk ⟨(i 0 : Nat) / 512, hq⟩).view.emb (ix2 ⟨(i 0 : Nat) % 512, Nat.mod_lt _ (by omega)⟩ ⟨(i 1 : Nat), h1⟩ : S512x512.Idx) = i := by
    rw [emb8]
    funext a
    apply Fin.ext
    match a with
    | ⟨0, _⟩ => show 512 * ((i 0 : Nat) / 512) + (i 0 : Nat) % 512 = (i 0 : Nat); omega
    | ⟨1, _⟩ => rfl
  have hm := Finset.mem_map_of_mem ((cfg0.win 8).blk ⟨(i 0 : Nat) / 512, hq⟩).view.emb
    (Finset.mem_univ (ix2 ⟨(i 0 : Nat) % 512, Nat.mod_lt _ (by omega)⟩ ⟨(i 1 : Nat), h1⟩ : S512x512.Idx))
  rw [e] at hm
  exact hm

theorem final8 (c : Dev nD) (hG : IsMeans (V m c main_cst)) : (dats m 0 c).arrAt 8 cfg0.N = G8 m c :=
  (dats m 0 c).arrAt_eq_of_cover 8 (G8 m c) (fun t _ => block8 m c t hG) cover8

/-- What output 2 must hold. -/
def G9 (c : Dev nD) : FVec Ideal S32768x512 .f32 := (extractStridedSlice S32768x512 ![0, 1024] (Z m c) Cert.ProjRefIdeal.Gen.slices_S32768x3600_S32768x512_0_1024)

theorem point9 (c : Dev nD) (t : Fin cfg0.N) (r : Fin 512) (k : Fin 512) :
    (out0_9 (iblk m c 0 t) (iblk m c 1 t) (iblk m c 2 t) (iblk m c 3 t) (iblk m c 4 t) (iblk m c 5 t) (iblk m c 6 t) : FVec Ideal S512x512 .f32) (ix2 r k) = G9 m c (ix2 (row t r) k) := by
  unfold_out out0_9
  rw [View.canon_unit_zero (S := S512x512) hz]
  refine (pay7_apply _ _ r k).trans ((cols7 m c t r k).trans ?_)
  pointwise [G9]

theorem hidx9 (t : Fin cfg0.N) : win0_9.index t 0 = t.val ∧ win0_9.index t 1 = 0 := by
  revert t
  exact (by decide +kernel : ∀ t : Fin grid0.N, win0_9.index t 0 = t.val ∧ win0_9.index t 1 = 0)

theorem emb9 (t : Fin cfg0.N) (r : Fin 512) (k : Fin 512) : ((cfg0.win 9).blk t).view.emb (ix2 r k : S512x512.Idx) = (ix2 (row t r) k : S32768x512.Idx) := by
  funext a
  apply Fin.ext
  match a with
  | ⟨0, _⟩ => show win0_9.index t 0 * 512 + 1 * r.val = 512 * t.val + r.val; rw [(hidx9 t).1]; omega
  | ⟨1, _⟩ => show win0_9.index t 1 * 512 + 1 * k.val = k.val; rw [(hidx9 t).2]; omega

theorem block9 (c : Dev nD) (t : Fin cfg0.N) : (dats m 0 c).flushed 9 t = ((cfg0.win 9).blk t).view.read (Elt Ideal) (G9 m c) := by
  rw [Value.flushed9]
  funext i
  obtain ⟨r, k, rfl⟩ : ∃ (r : Fin 512) (k : Fin 512), i = (ix2 r k : S512x512.Idx) := ⟨i 0, i 1, eq_ix2 i⟩
  rw [View.read_apply]
  exact (point9 m c t r k).trans (congrArg (G9 m c) (emb9 t r k).symm)

theorem cover9 (i : S32768x512.Idx) : ∃ t : Fin cfg0.N, (cfg0.win 9).flush t = true ∧ i ∈ ((cfg0.win 9).blk t).view.set := by
  have h0 : (i 0 : Nat) < 32768 := (i 0).isLt
  have h1 : (i 1 : Nat) < 512 := (i 1).isLt
  have hN : cfg0.N = 64 := N_0
  have hq : (i 0 : Nat) / 512 < cfg0.N := by rw [hN]; omega
  refine ⟨⟨(i 0 : Nat) / 512, hq⟩, flush0_9 _, ?_⟩
  have e : ((cfg0.win 9).blk ⟨(i 0 : Nat) / 512, hq⟩).view.emb (ix2 ⟨(i 0 : Nat) % 512, Nat.mod_lt _ (by omega)⟩ ⟨(i 1 : Nat), h1⟩ : S512x512.Idx) = i := by
    rw [emb9]
    funext a
    apply Fin.ext
    match a with
    | ⟨0, _⟩ => show 512 * ((i 0 : Nat) / 512) + (i 0 : Nat) % 512 = (i 0 : Nat); omega
    | ⟨1, _⟩ => rfl
  have hm := Finset.mem_map_of_mem ((cfg0.win 9).blk ⟨(i 0 : Nat) / 512, hq⟩).view.emb
    (Finset.mem_univ (ix2 ⟨(i 0 : Nat) % 512, Nat.mod_lt _ (by omega)⟩ ⟨(i 1 : Nat), h1⟩ : S512x512.Idx))
  rw [e] at hm
  exact hm

theorem final9 (c : Dev nD) : (dats m 0 c).arrAt 9 cfg0.N = G9 m c :=
  (dats m 0 c).arrAt_eq_of_cover 9 (G9 m c) (fun t _ => block9 m c t) cover9

/-- What output 3 must hold. -/
def G10 (c : Dev nD) : FVec Ideal S32768x512 .f32 := (extractStridedSlice S32768x512 ![0, 1536] (Z m c) Cert.ProjRefIdeal.Gen.slices_S32768x3600_S32768x512_0_1536)

theorem point10 (c : Dev nD) (t : Fin cfg0.N) (r : Fin 512) (k : Fin 512) :
    (out0_10 (iblk m c 0 t) (iblk m c 1 t) (iblk m c 2 t) (iblk m c 3 t) (iblk m c 4 t) (iblk m c 5 t) (iblk m c 6 t) : FVec Ideal S512x512 .f32) (ix2 r k) = G10 m c (ix2 (row t r) k) := by
  unfold_out out0_10
  rw [View.canon_unit_zero (S := S512x512) hz]
  refine (pay8_apply _ _ r k).trans ((cols8 m c t r k).trans ?_)
  pointwise [G10]

theorem hidx10 (t : Fin cfg0.N) : win0_10.index t 0 = t.val ∧ win0_10.index t 1 = 0 := by
  revert t
  exact (by decide +kernel : ∀ t : Fin grid0.N, win0_10.index t 0 = t.val ∧ win0_10.index t 1 = 0)

theorem emb10 (t : Fin cfg0.N) (r : Fin 512) (k : Fin 512) : ((cfg0.win 10).blk t).view.emb (ix2 r k : S512x512.Idx) = (ix2 (row t r) k : S32768x512.Idx) := by
  funext a
  apply Fin.ext
  match a with
  | ⟨0, _⟩ => show win0_10.index t 0 * 512 + 1 * r.val = 512 * t.val + r.val; rw [(hidx10 t).1]; omega
  | ⟨1, _⟩ => show win0_10.index t 1 * 512 + 1 * k.val = k.val; rw [(hidx10 t).2]; omega

theorem block10 (c : Dev nD) (t : Fin cfg0.N) : (dats m 0 c).flushed 10 t = ((cfg0.win 10).blk t).view.read (Elt Ideal) (G10 m c) := by
  rw [Value.flushed10]
  funext i
  obtain ⟨r, k, rfl⟩ : ∃ (r : Fin 512) (k : Fin 512), i = (ix2 r k : S512x512.Idx) := ⟨i 0, i 1, eq_ix2 i⟩
  rw [View.read_apply]
  exact (point10 m c t r k).trans (congrArg (G10 m c) (emb10 t r k).symm)

theorem cover10 (i : S32768x512.Idx) : ∃ t : Fin cfg0.N, (cfg0.win 10).flush t = true ∧ i ∈ ((cfg0.win 10).blk t).view.set := by
  have h0 : (i 0 : Nat) < 32768 := (i 0).isLt
  have h1 : (i 1 : Nat) < 512 := (i 1).isLt
  have hN : cfg0.N = 64 := N_0
  have hq : (i 0 : Nat) / 512 < cfg0.N := by rw [hN]; omega
  refine ⟨⟨(i 0 : Nat) / 512, hq⟩, flush0_10 _, ?_⟩
  have e : ((cfg0.win 10).blk ⟨(i 0 : Nat) / 512, hq⟩).view.emb (ix2 ⟨(i 0 : Nat) % 512, Nat.mod_lt _ (by omega)⟩ ⟨(i 1 : Nat), h1⟩ : S512x512.Idx) = i := by
    rw [emb10]
    funext a
    apply Fin.ext
    match a with
    | ⟨0, _⟩ => show 512 * ((i 0 : Nat) / 512) + (i 0 : Nat) % 512 = (i 0 : Nat); omega
    | ⟨1, _⟩ => rfl
  have hm := Finset.mem_map_of_mem ((cfg0.win 10).blk ⟨(i 0 : Nat) / 512, hq⟩).view.emb
    (Finset.mem_univ (ix2 ⟨(i 0 : Nat) % 512, Nat.mod_lt _ (by omega)⟩ ⟨(i 1 : Nat), h1⟩ : S512x512.Idx))
  rw [e] at hm
  exact hm

theorem final10 (c : Dev nD) : (dats m 0 c).arrAt 10 cfg0.N = G10 m c :=
  (dats m 0 c).arrAt_eq_of_cover 10 (G10 m c) (fun t _ => block10 m c t) cover10

/-- What output 4 must hold. -/
def G11 (c : Dev nD) : FVec Ideal S32768x512 .f32 := (extractStridedSlice S32768x512 ![0, 2048] (Z m c) Cert.ProjRefIdeal.Gen.slices_S32768x3600_S32768x512_0_2048)

theorem point11 (c : Dev nD) (t : Fin cfg0.N) (r : Fin 512) (k : Fin 512) :
    (out0_11 (iblk m c 0 t) (iblk m c 1 t) (iblk m c 2 t) (iblk m c 3 t) (iblk m c 4 t) (iblk m c 5 t) (iblk m c 6 t) : FVec Ideal S512x512 .f32) (ix2 r k) = G11 m c (ix2 (row t r) k) := by
  unfold_out out0_11
  rw [View.canon_unit_zero (S := S512x512) hz]
  refine (pay9_apply _ _ r k).trans ((cols9 m c t r k).trans ?_)
  pointwise [G11]

theorem hidx11 (t : Fin cfg0.N) : win0_11.index t 0 = t.val ∧ win0_11.index t 1 = 0 := by
  revert t
  exact (by decide +kernel : ∀ t : Fin grid0.N, win0_11.index t 0 = t.val ∧ win0_11.index t 1 = 0)

theorem emb11 (t : Fin cfg0.N) (r : Fin 512) (k : Fin 512) : ((cfg0.win 11).blk t).view.emb (ix2 r k : S512x512.Idx) = (ix2 (row t r) k : S32768x512.Idx) := by
  funext a
  apply Fin.ext
  match a with
  | ⟨0, _⟩ => show win0_11.index t 0 * 512 + 1 * r.val = 512 * t.val + r.val; rw [(hidx11 t).1]; omega
  | ⟨1, _⟩ => show win0_11.index t 1 * 512 + 1 * k.val = k.val; rw [(hidx11 t).2]; omega

theorem block11 (c : Dev nD) (t : Fin cfg0.N) : (dats m 0 c).flushed 11 t = ((cfg0.win 11).blk t).view.read (Elt Ideal) (G11 m c) := by
  rw [Value.flushed11]
  funext i
  obtain ⟨r, k, rfl⟩ : ∃ (r : Fin 512) (k : Fin 512), i = (ix2 r k : S512x512.Idx) := ⟨i 0, i 1, eq_ix2 i⟩
  rw [View.read_apply]
  exact (point11 m c t r k).trans (congrArg (G11 m c) (emb11 t r k).symm)

theorem cover11 (i : S32768x512.Idx) : ∃ t : Fin cfg0.N, (cfg0.win 11).flush t = true ∧ i ∈ ((cfg0.win 11).blk t).view.set := by
  have h0 : (i 0 : Nat) < 32768 := (i 0).isLt
  have h1 : (i 1 : Nat) < 512 := (i 1).isLt
  have hN : cfg0.N = 64 := N_0
  have hq : (i 0 : Nat) / 512 < cfg0.N := by rw [hN]; omega
  refine ⟨⟨(i 0 : Nat) / 512, hq⟩, flush0_11 _, ?_⟩
  have e : ((cfg0.win 11).blk ⟨(i 0 : Nat) / 512, hq⟩).view.emb (ix2 ⟨(i 0 : Nat) % 512, Nat.mod_lt _ (by omega)⟩ ⟨(i 1 : Nat), h1⟩ : S512x512.Idx) = i := by
    rw [emb11]
    funext a
    apply Fin.ext
    match a with
    | ⟨0, _⟩ => show 512 * ((i 0 : Nat) / 512) + (i 0 : Nat) % 512 = (i 0 : Nat); omega
    | ⟨1, _⟩ => rfl
  have hm := Finset.mem_map_of_mem ((cfg0.win 11).blk ⟨(i 0 : Nat) / 512, hq⟩).view.emb
    (Finset.mem_univ (ix2 ⟨(i 0 : Nat) % 512, Nat.mod_lt _ (by omega)⟩ ⟨(i 1 : Nat), h1⟩ : S512x512.Idx))
  rw [e] at hm
  exact hm

theorem final11 (c : Dev nD) : (dats m 0 c).arrAt 11 cfg0.N = G11 m c :=
  (dats m 0 c).arrAt_eq_of_cover 11 (G11 m c) (fun t _ => block11 m c t) cover11

/-- What output 5 must hold. -/
def G12 (c : Dev nD) : FVec Ideal S32768x512 .bf16 := truncf .bf16 (extractStridedSlice S32768x512 ![0, 2560] (Z m c) Cert.ProjRefIdeal.Gen.slices_S32768x3600_S32768x512_0_2560) bitsLt_bf16_f32

theorem point12 (c : Dev nD) (t : Fin cfg0.N) (r : Fin 512) (k : Fin 512) :
    (out0_12 (iblk m c 0 t) (iblk m c 1 t) (iblk m c 2 t) (iblk m c 3 t) (iblk m c 4 t) (iblk m c 5 t) (iblk m c 6 t) : FVec Ideal S512x512 .bf16) (ix2 r k) = G12 m c (ix2 (row t r) k) := by
  unfold_out out0_12
  rw [View.canon_unit_zero (S := S512x512) hz]
  refine (pay1_apply _ _ r k).trans ((cols10 m c t r k).trans ?_)
  pointwise [G12]

theorem hidx12 (t : Fin cfg0.N) : win0_12.index t 0 = t.val ∧ win0_12.index t 1 = 0 := by
  revert t
  exact (by decide +kernel : ∀ t : Fin grid0.N, win0_12.index t 0 = t.val ∧ win0_12.index t 1 = 0)

theorem emb12 (t : Fin cfg0.N) (r : Fin 512) (k : Fin 512) : ((cfg0.win 12).blk t).view.emb (ix2 r k : S512x512.Idx) = (ix2 (row t r) k : S32768x512.Idx) := by
  funext a
  apply Fin.ext
  match a with
  | ⟨0, _⟩ => show win0_12.index t 0 * 512 + 1 * r.val = 512 * t.val + r.val; rw [(hidx12 t).1]; omega
  | ⟨1, _⟩ => show win0_12.index t 1 * 512 + 1 * k.val = k.val; rw [(hidx12 t).2]; omega

theorem block12 (c : Dev nD) (t : Fin cfg0.N) : (dats m 0 c).flushed 12 t = ((cfg0.win 12).blk t).view.read (Elt Ideal) (G12 m c) := by
  rw [Value.flushed12]
  funext i
  obtain ⟨r, k, rfl⟩ : ∃ (r : Fin 512) (k : Fin 512), i = (ix2 r k : S512x512.Idx) := ⟨i 0, i 1, eq_ix2 i⟩
  rw [View.read_apply]
  exact (point12 m c t r k).trans (congrArg (G12 m c) (emb12 t r k).symm)

theorem cover12 (i : S32768x512.Idx) : ∃ t : Fin cfg0.N, (cfg0.win 12).flush t = true ∧ i ∈ ((cfg0.win 12).blk t).view.set := by
  have h0 : (i 0 : Nat) < 32768 := (i 0).isLt
  have h1 : (i 1 : Nat) < 512 := (i 1).isLt
  have hN : cfg0.N = 64 := N_0
  have hq : (i 0 : Nat) / 512 < cfg0.N := by rw [hN]; omega
  refine ⟨⟨(i 0 : Nat) / 512, hq⟩, flush0_12 _, ?_⟩
  have e : ((cfg0.win 12).blk ⟨(i 0 : Nat) / 512, hq⟩).view.emb (ix2 ⟨(i 0 : Nat) % 512, Nat.mod_lt _ (by omega)⟩ ⟨(i 1 : Nat), h1⟩ : S512x512.Idx) = i := by
    rw [emb12]
    funext a
    apply Fin.ext
    match a with
    | ⟨0, _⟩ => show 512 * ((i 0 : Nat) / 512) + (i 0 : Nat) % 512 = (i 0 : Nat); omega
    | ⟨1, _⟩ => rfl
  have hm := Finset.mem_map_of_mem ((cfg0.win 12).blk ⟨(i 0 : Nat) / 512, hq⟩).view.emb
    (Finset.mem_univ (ix2 ⟨(i 0 : Nat) % 512, Nat.mod_lt _ (by omega)⟩ ⟨(i 1 : Nat), h1⟩ : S512x512.Idx))
  rw [e] at hm
  exact hm

theorem final12 (c : Dev nD) : (dats m 0 c).arrAt 12 cfg0.N = G12 m c :=
  (dats m 0 c).arrAt_eq_of_cover 12 (G12 m c) (fun t _ => block12 m c t) cover12

/-- What output 6 must hold. -/
def G13 (c : Dev nD) : FVec Ideal S32768x512 .f32 := (extractStridedSlice S32768x512 ![0, 3072] (Z m c) Cert.ProjRefIdeal.Gen.slices_S32768x3600_S32768x512_0_3072)

theorem point13 (c : Dev nD) (t : Fin cfg0.N) (r : Fin 512) (k : Fin 512) :
    (out0_13 (iblk m c 0 t) (iblk m c 1 t) (iblk m c 2 t) (iblk m c 3 t) (iblk m c 4 t) (iblk m c 5 t) (iblk m c 6 t) : FVec Ideal S512x512 .f32) (ix2 r k) = G13 m c (ix2 (row t r) k) := by
  unfold_out out0_13
  rw [View.canon_unit_zero (S := S512x512) hz]
  refine (pay2_apply _ _ r k).trans ((cols11 m c t r k).trans ?_)
  pointwise [G13]

theorem hidx13 (t : Fin cfg0.N) : win0_13.index t 0 = t.val ∧ win0_13.index t 1 = 0 := by
  revert t
  exact (by decide +kernel : ∀ t : Fin grid0.N, win0_13.index t 0 = t.val ∧ win0_13.index t 1 = 0)

theorem emb13 (t : Fin cfg0.N) (r : Fin 512) (k : Fin 512) : ((cfg0.win 13).blk t).view.emb (ix2 r k : S512x512.Idx) = (ix2 (row t r) k : S32768x512.Idx) := by
  funext a
  apply Fin.ext
  match a with
  | ⟨0, _⟩ => show win0_13.index t 0 * 512 + 1 * r.val = 512 * t.val + r.val; rw [(hidx13 t).1]; omega
  | ⟨1, _⟩ => show win0_13.index t 1 * 512 + 1 * k.val = k.val; rw [(hidx13 t).2]; omega

theorem block13 (c : Dev nD) (t : Fin cfg0.N) : (dats m 0 c).flushed 13 t = ((cfg0.win 13).blk t).view.read (Elt Ideal) (G13 m c) := by
  rw [Value.flushed13]
  funext i
  obtain ⟨r, k, rfl⟩ : ∃ (r : Fin 512) (k : Fin 512), i = (ix2 r k : S512x512.Idx) := ⟨i 0, i 1, eq_ix2 i⟩
  rw [View.read_apply]
  exact (point13 m c t r k).trans (congrArg (G13 m c) (emb13 t r k).symm)

theorem cover13 (i : S32768x512.Idx) : ∃ t : Fin cfg0.N, (cfg0.win 13).flush t = true ∧ i ∈ ((cfg0.win 13).blk t).view.set := by
  have h0 : (i 0 : Nat) < 32768 := (i 0).isLt
  have h1 : (i 1 : Nat) < 512 := (i 1).isLt
  have hN : cfg0.N = 64 := N_0
  have hq : (i 0 : Nat) / 512 < cfg0.N := by rw [hN]; omega
  refine ⟨⟨(i 0 : Nat) / 512, hq⟩, flush0_13 _, ?_⟩
  have e : ((cfg0.win 13).blk ⟨(i 0 : Nat) / 512, hq⟩).view.emb (ix2 ⟨(i 0 : Nat) % 512, Nat.mod_lt _ (by omega)⟩ ⟨(i 1 : Nat), h1⟩ : S512x512.Idx) = i := by
    rw [emb13]
    funext a
    apply Fin.ext
    match a with
    | ⟨0, _⟩ => show 512 * ((i 0 : Nat) / 512) + (i 0 : Nat) % 512 = (i 0 : Nat); omega
    | ⟨1, _⟩ => rfl
  have hm := Finset.mem_map_of_mem ((cfg0.win 13).blk ⟨(i 0 : Nat) / 512, hq⟩).view.emb
    (Finset.mem_univ (ix2 ⟨(i 0 : Nat) % 512, Nat.mod_lt _ (by omega)⟩ ⟨(i 1 : Nat), h1⟩ : S512x512.Idx))
  rw [e] at hm
  exact hm

theorem final13 (c : Dev nD) : (dats m 0 c).arrAt 13 cfg0.N = G13 m c :=
  (dats m 0 c).arrAt_eq_of_cover 13 (G13 m c) (fun t _ => block13 m c t) cover13

/-- What output 7 must hold. -/
def G14 (c : Dev nD) : FVec Ideal S32768x128 .f32 := pad S32768x128 ![0, 0] ![0, 112] ![0, 0] (extractStridedSlice ProjRefIdeal.S32768x16 ![0, 3584] (Z m c) Cert.ProjRefIdeal.Gen.slices_S32768x3600_S32768x16_0_3584) (sitofp .f32 (constantI S_ 32 0#32)) Cert.ProjRefIdeal.Gen.pads_S32768x16_S32768x128_000_01120 h_S_

theorem point14 (c : Dev nD) (t : Fin cfg0.N) (r : Fin 512) (k : Fin 128) :
    (out0_14 (iblk m c 0 t) (iblk m c 1 t) (iblk m c 2 t) (iblk m c 3 t) (iblk m c 4 t) (iblk m c 5 t) (iblk m c 6 t) : FVec Ideal S512x128 .f32) (ix2 r k) = G14 m c (ix2 (row t r) k) := by
  unfold_out out0_14
  rw [View.canon_unit_zero (S := S512x128) hz]
  refine (pay3_apply _ _ r k).trans ?_
  rw [View.ld_unit_zero (S := S1024x128) hz, iblk3, V_v5]
  unfold G14
  refine (Finset.sum_congr rfl fun j _ => congrArg (· * _) (rows m c t r j)).trans ?_
  pointwise
  by_cases h : k.val < 16
  · rw [dif_pos ⟨lt_of_point t r, h⟩]
    simp only [dif_pos h]
    exact (ProjRefIdeal.Read.zz_apply _ _ _ _ _).symm
  · rw [dif_neg (fun hh => h hh.2)]
    simp only [dif_neg h]
    have e : (FloatOps.sitofp (F := Ideal) FTy.f32 0#32 : EReal) = 0 := by simp [FloatOps.sitofp]
    rw [e]
    simp

theorem hidx14 (t : Fin cfg0.N) : win0_14.index t 0 = t.val ∧ win0_14.index t 1 = 0 := by
  revert t
  exact (by decide +kernel : ∀ t : Fin grid0.N, win0_14.index t 0 = t.val ∧ win0_14.index t 1 = 0)

theorem emb14 (t : Fin cfg0.N) (r : Fin 512) (k : Fin 128) : ((cfg0.win 14).blk t).view.emb (ix2 r k : S512x128.Idx) = (ix2 (row t r) k : S32768x128.Idx) := by
  funext a
  apply Fin.ext
  match a with
  | ⟨0, _⟩ => show win0_14.index t 0 * 512 + 1 * r.val = 512 * t.val + r.val; rw [(hidx14 t).1]; omega
  | ⟨1, _⟩ => show win0_14.index t 1 * 128 + 1 * k.val = k.val; rw [(hidx14 t).2]; omega

theorem block14 (c : Dev nD) (t : Fin cfg0.N) : (dats m 0 c).flushed 14 t = ((cfg0.win 14).blk t).view.read (Elt Ideal) (G14 m c) := by
  rw [Value.flushed14]
  funext i
  obtain ⟨r, k, rfl⟩ : ∃ (r : Fin 512) (k : Fin 128), i = (ix2 r k : S512x128.Idx) := ⟨i 0, i 1, eq_ix2 i⟩
  rw [View.read_apply]
  exact (point14 m c t r k).trans (congrArg (G14 m c) (emb14 t r k).symm)

theorem cover14 (i : S32768x128.Idx) : ∃ t : Fin cfg0.N, (cfg0.win 14).flush t = true ∧ i ∈ ((cfg0.win 14).blk t).view.set := by
  have h0 : (i 0 : Nat) < 32768 := (i 0).isLt
  have h1 : (i 1 : Nat) < 128 := (i 1).isLt
  have hN : cfg0.N = 64 := N_0
  have hq : (i 0 : Nat) / 512 < cfg0.N := by rw [hN]; omega
  refine ⟨⟨(i 0 : Nat) / 512, hq⟩, flush0_14 _, ?_⟩
  have e : ((cfg0.win 14).blk ⟨(i 0 : Nat) / 512, hq⟩).view.emb (ix2 ⟨(i 0 : Nat) % 512, Nat.mod_lt _ (by omega)⟩ ⟨(i 1 : Nat), h1⟩ : S512x128.Idx) = i := by
    rw [emb14]
    funext a
    apply Fin.ext
    match a with
    | ⟨0, _⟩ => show 512 * ((i 0 : Nat) / 512) + (i 0 : Nat) % 512 = (i 0 : Nat); omega
    | ⟨1, _⟩ => rfl
  have hm := Finset.mem_map_of_mem ((cfg0.win 14).blk ⟨(i 0 : Nat) / 512, hq⟩).view.emb
    (Finset.mem_univ (ix2 ⟨(i 0 : Nat) % 512, Nat.mod_lt _ (by omega)⟩ ⟨(i 1 : Nat), h1⟩ : S512x128.Idx))
  rw [e] at hm
  exact hm

theorem final14 (c : Dev nD) : (dats m 0 c).arrAt 14 cfg0.N = G14 m c :=
  (dats m 0 c).arrAt_eq_of_cover 14 (G14 m c) (fun t _ => block14 m c t) cover14

/-- The kernel's table of group means is the one the lemmas ask for. -/
theorem means (c : Dev nD) : IsMeans (V m c main_cst) := by
  intro x y
  have e : (S256x256.rowMajor (ix2 x y : S256x256.Idx)).val = x.val * 256 + y.val := rowMajor_val2 _ 256 rfl
  have hx := x.isLt
  have hy := y.isLt
  have t := Table.lit0_eq (S256x256.rowMajor (ix2 x y : S256x256.Idx))
  have e1 : (x.val * 256 + y.val) / 256 = x.val := by omega
  have e2 : (x.val * 256 + y.val) % 256 = y.val := by omega
  rw [e, e1, e2] at t
  rw [V_cst]
  refine (congrArg (Ideal.ofBits .bf16) t).trans ?_
  split
  · rfl
  · simp [Ideal.ofBits, Ideal.ieee]

end Cert.ProjIdeal.Read

end
-- ==== Proof.ProjClaim.lean ====
module

public import proofs.«01_k».proof.Defs
public import proofs.«01_k».proof.Proof.ProjRun
public import proofs.«01_k».proof.Proof.Gen.Proj.Frame
public import Idealize.ShloMosaic.Init

@[expose] public section

set_option maxRecDepth 16384

noncomputable section

namespace Cert.ProjIdeal.Read

open Cert.ProjIdeal Cert.ProjIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The kernel's run: every output holds its closed form, the arguments are unchanged. -/
theorem run : θ_run defs (onTc (τ := τ) (main (F := Ideal))) ⟨m, fun _ => 0, ρ⟩ (fun r => ∀ c : Dev nD,
      r.2.mem ((c.tc : Thread nD τ).loc main_v14_0) = G7 m c
      ∧ r.2.mem ((c.tc : Thread nD τ).loc main_v14_1) = G8 m c
      ∧ r.2.mem ((c.tc : Thread nD τ).loc main_v14_2) = G9 m c
      ∧ r.2.mem ((c.tc : Thread nD τ).loc main_v14_3) = G10 m c
      ∧ r.2.mem ((c.tc : Thread nD τ).loc main_v14_4) = G11 m c
      ∧ r.2.mem ((c.tc : Thread nD τ).loc main_v14_5) = G12 m c
      ∧ r.2.mem ((c.tc : Thread nD τ).loc main_v14_6) = G13 m c
      ∧ r.2.mem ((c.tc : Thread nD τ).loc main_v14_7) = G14 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 7).trans (final7 m c (means m c)),
    ((h c).1 8).trans (final8 m c (means m c)),
    ((h c).1 9).trans (final9 m c),
    ((h c).1 10).trans (final10 m c),
    ((h c).1 11).trans (final11 m c),
    ((h c).1 12).trans (final12 m c),
    ((h c).1 13).trans (final13 m c),
    ((h c).1 14).trans (final14 m c),
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩) (run_main m ρ)

end Cert.ProjIdeal.Read

namespace Cert.Proof

open Idealize.ShloMosaic Idealize.SL.Sem

/-- The printed projection terminates and leaves its arguments. -/
theorem frame_Proj : quiescent_Proj (hProj := Cert.Proj.Gen.facts) := fun m g _ => Cert.Proj.Gen.frame m g

/-- So does its reading over the extended reals. -/
theorem frame_ProjIdeal : quiescent_ProjIdeal (hProjIdeal := Cert.ProjIdeal.Gen.facts) := fun m g _ => Cert.ProjIdeal.Gen.frame m g

/-- The reference terminates and leaves its arguments. -/
theorem frame_ProjRefIdeal : quiescent_ProjRefIdeal (hProjRefIdeal := Cert.ProjRefIdeal.Gen.facts) := fun m g _ =>
  (θ_run Cert.ProjRefIdeal.defs _ _).mono (fun r h => ⟨fun c => (h c).2.2.2.2.2.2.2.2, Idealize.ShloMosaic.sem_eq_zero_of_no_sems (by decide) r.2⟩)
    (Cert.ProjRefIdeal.Value.run (F := Ideal) m g)

/-- Over the extended reals the projection computes the reference's eight results. -/
theorem algebraic_Proj : algebraic_ProjIdeal_ProjRefIdeal (hProjIdeal := Cert.ProjIdeal.Gen.facts) (hProjRefIdeal := Cert.ProjRefIdeal.Gen.facts) := by
  intro m g m' g' _ hin
  refine ⟨ProjIdeal.Read.G7 m, ProjIdeal.Read.G8 m, ProjIdeal.Read.G9 m, ProjIdeal.Read.G10 m, ProjIdeal.Read.G11 m, ProjIdeal.Read.G12 m, ProjIdeal.Read.G13 m, ProjIdeal.Read.G14 m, ProjIdeal.Read.run m g, ?_⟩
  refine (θ_run Cert.ProjRefIdeal.defs _ _).mono (fun r h c => ?_) (Cert.ProjRefIdeal.Value.run (F := Ideal) m' g')
  obtain ⟨h0, h1, h2, h3, h4, h5, h6, h7, hargs⟩ := h c
  obtain ⟨e0, e1, e2, e3, e4⟩ := hin c
  rw [e0, e1, e2] at h0 h1 h2 h3 h4 h5 h6 h7
  rw [e3] at h0
  rw [e4] at h1
  exact ⟨h0, h1, h2, h3, h4, h5, h6, h7, hargs⟩

end Cert.Proof

end
-- ==== Proof.FfnPre.lean ====
module

/- What the precondition says of the two integer tables, read off its printed form. -/

public import proofs.«01_k».proof.Proof.Gen.Pre_in_range
public import Idealize.ShloMosaic.Lib.ReduceAll
public import Idealize.ShloMosaic.Lib.WordCmp
public import Idealize.ShloMosaic.Lib.Pointwise

@[expose] public section

set_option maxRecDepth 16384

namespace Cert.Pre_in_range

open Idealize.ShloMosaic

/-- Two bits whose conjunction is one are both one. -/
theorem both_one : ∀ x y : BitVec 1, IntOp.andi x y = 1#1 → x = 1#1 ∧ y = 1#1 := by decide

/-- A word between 0 and a small bound as an integer is below that bound as a natural number. -/
theorem word_between (x : BitVec 32) (h0 : 0 ≤ x.toInt) : (x.toNat : Int) = x.toInt := by
  rw [BitVec.toInt_eq_toNat_cond] at h0 ⊢
  have := x.isLt
  split at h0 <;> split <;> omega

/-- A signed comparison that gives the bit one holds. -/
theorem of_bit {p : Prop} [Decidable p] (h : BitVec.ofBool (decide p) = 1#1) : p := by
  by_contra hp
  simp [hp] at h

/-- Where the precondition holds every tile's expert is below 32 and the count of used tiles is from 1 to 321. -/
theorem bounds {F : FTy → Type} [FloatOps F] (a0 : IVec S321 32) (a1 : IVec S1 32) (a2 : FVec F S165376x1024 .f32) (a3 : FVec F S32x1024x2048 .f32)
    (a4 : FVec F S32x1024x1024 .f32) (a5 : FVec F S32x2048 .f32) (a6 : FVec F S32x1024 .f32)
    (h : fn (F := F) a0 a1 a2 a3 a4 a5 a6 = fun _ => 1#1) :
    (∀ i : Fin 321, (a0 (ix1 i)).toNat < 32) ∧ 1 ≤ (a1 (ix1 0)).toNat ∧ (a1 (ix1 0)).toNat ≤ 321 := by
  have e := congrFun h (fun a => a.elim0)
  obtain ⟨e1, hle⟩ := both_one _ _ e
  obtain ⟨e2, hge⟩ := both_one _ _ e1
  have hs : ∀ j : S_.Idx, shapeCast S_ a1 Facts.shapeCasts_S1_S_ j = a1 (ix1 0) := fun j =>
    congrArg a1 (funext fun a => Fin.ext (by
      match a with
      | ⟨0, h0⟩ =>
        have h1 : ((Shape.reshapeEquiv Facts.shapeCasts_S1_S_) j ⟨0, h0⟩).val < 1 := ((Shape.reshapeEquiv _) j ⟨0, h0⟩).isLt
        have h2 : ((ix1 (0 : Fin 1) : S1.Idx) ⟨0, h0⟩).val < 1 := (ix1 (0 : Fin 1) ⟨0, h0⟩).isLt
        exact (Nat.lt_one_iff.mp h1).trans (Nat.lt_one_iff.mp h2).symm))
  have hle' : (a1 (ix1 0)).toInt ≤ (321#32).toInt := by
    have := of_bit (p := (shapeCast S_ a1 Facts.shapeCasts_S1_S_ (fun a => a.elim0)).toInt ≤ (321#32).toInt) hle
    rwa [hs] at this
  have hge' : (1#32).toInt ≤ (a1 (ix1 0)).toInt := by
    have := of_bit (p := (1#32).toInt ≤ (shapeCast S_ a1 Facts.shapeCasts_S1_S_ (fun a => a.elim0)).toInt) hge
    rwa [hs] at this
  have c1 : (1#32).toInt = 1 := rfl
  have c2 : (321#32).toInt = 321 := rfl
  have c3 : (32#32).toInt = 32 := rfl
  have c4 : (0#32).toInt = 0 := rfl
  refine ⟨fun i => ?_, ?_, ?_⟩
  · haveI : Subsingleton S_.Idx := ⟨fun a b => funext fun x => x.elim0⟩
    obtain ⟨hx, hy⟩ := both_one _ _ (Host.reduce_andi_all _ _ _ _ _ e2 (ix1 i))
    have hx' : (0#32).toInt ≤ (a0 (ix1 i)).toInt := of_bit hx
    have hy' : (a0 (ix1 i)).toInt < (32#32).toInt := of_bit hy
    have := word_between (a0 (ix1 i)) (by omega)
    omega
  · have := word_between (a1 (ix1 0)) (by omega)
    omega
  · have := word_between (a1 (ix1 0)) (by omega)
    omega

end Cert.Pre_in_range

end
-- ==== Proof.FfnKit.lean ====
/- What the runs of the expert kernel's launch share: the memory the region finds, the prefetched tables read off it,
   the blocks of the windows, the words the body branches on, and the weights that it caches. -/
module

public import proofs.«01_k».proof.Proof.Gen.ExpertsIdeal.Launch
public import proofs.«01_k».proof.Proof.Gen.ExpertsIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ExpertsIdeal.Ffn

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The program up to the region -/

/-- The buffers of core `c` when the region is entered: the launch memory after the host operations. -/
abbrev V (c : Dev nD) (b : Ref sig .tc) : Buf (Elt F) ((c : Thread nD τ).loc b) :=
  StableHlo.after hostOps0 (fun b => m (c, b)) b

/-- No host operation allocates. -/
theorem ops_fresh : (hostOps0 : List (HloOp τ sig (Elt F))).Forall fun op => op.fresh = ∅ := by
  simp only [List.Forall]; repeat' constructor

set_option maxHeartbeats 800000 in
/-- The program is its host operations and then the region, which finds `V`. -/
theorem main_prefix (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub ops_fresh main_chain

/-- The host operations leave the arguments as they were launched. -/
theorem V_args (c : Dev nD) :
    V m c main_arg0 = m ((c : Thread nD τ).loc main_arg0) ∧ V m c main_arg1 = m ((c : Thread nD τ).loc main_arg1)
    ∧ V m c main_arg2 = m ((c : Thread nD τ).loc main_arg2) ∧ V m c main_arg3 = m ((c : Thread nD τ).loc main_arg3)
    ∧ V m c main_arg4 = m ((c : Thread nD τ).loc main_arg4) ∧ V m c main_arg5 = m ((c : Thread nD τ).loc main_arg5)
    ∧ V m c main_arg6 = m ((c : Thread nD τ).loc main_arg6) := by
  refine ⟨?_, ?_, ?_, ?_, ?_, ?_, ?_⟩ <;>
  · refine StableHlo.after_of_forall_not_mem _ _ (List.forall_iff_forall_mem.mp ?_)
    simp only [hostOps0, List.flatten_cons, List.flatten_nil, List.append_nil, List.cons_append, List.nil_append,
      List.Forall, StableHlo.nullary_writes, StableHlo.unary_writes, StableHlo.binary_writes, StableHlo.reshape_writes,
      StableHlo.ternary_writes, Finset.mem_singleton]
    repeat' apply And.intro
    all_goals exact StableHlo.devRef_ne_of_ne (by decide)

/-! ## The tables -/

/-- The contents of the two prefetched tables when the region is entered. -/
def tbl : pre0.Contents (Elt F) := fun j => V m (0 : Dev nD) (pre0.ref j)
/-- There is one device, so these are the contents on every device. -/
theorem V_pre (c : Dev nD) (j : Fin 2) : V m c (pre0.ref j) = tbl m j := by
  obtain rfl : c = 0 := Subsingleton.elim _ _; rfl
/-- Every block that the tables address is inside its array. -/
abbrev Ok : Prop := ok0 (F := F) (tbl m)
/-- The pipeline at the tables' contents. -/
abbrev adm (hO : Ok m) : (pcfg0 (F := F)).Adm := ⟨tbl m, hO⟩
abbrev cfgM (hO : Ok m) : Pipeline.Cfg sig Λ₀ := cfg0 (adm m hO)

/-- The two tables as the body is handed them. -/
abbrev tb0 : Memref sig .tc .smem S321 .i32 := Memref.whole main_arg0
abbrev tb1 : Memref sig .tc .smem S1 .i32 := Memref.whole main_arg1
/-- The contents of a table's buffer, and half of that buffer held at `f`. -/
abbrev TbBuf (c : Dev nD) {S : Shape} {e : EltTy} (M : Memref sig .tc .smem S e) : Type :=
  Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The tables' halves that the region hands the body. -/
theorem PhiT_eq (c : Dev nD) :
    (Pipeline.ΦT pre0 (tbl m) c : sProp 𝕄) = iprop(tbPt c tb0 (tbl m 0) ∗ tbPt c tb1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The word that the body loads from the tables: the count of tiles in use, -/
abbrev wUsed (c : Dev nD) (x : TbBuf (F := F) c tb1) : BitVec 32 :=
  tb1.view.readAt (Elt F) (Rect.unit (s := S1) ![0] S1.size inb_S1_S1_0).toLoadRect x
    (Shape.Idx.first (numel1_S1.symm ▸ Nat.one_pos))
/-- the expert of this tile, -/
abbrev wCur (c : Dev nD) (i : grid0.Coords) (x : TbBuf (F := F) c tb0) : BitVec 32 :=
  tb0.view.readAt (Elt F) (Rect.unit (s := S321) (k0_off2 i) S1.size (k0_off2_inb i)).toLoadRect x
    (Shape.Idx.first (numel1_S1.symm ▸ Nat.one_pos))
/-- and the expert of the tile before. -/
abbrev wPrev (c : Dev nD) (i : grid0.Coords) (x : TbBuf (F := F) c tb0) : BitVec 32 :=
  tb0.view.readAt (Elt F) (Rect.unit (s := S321) (k0_off3 i) S1.size (k0_off3_inb i)).toLoadRect x
    (Shape.Idx.first (numel1_S1.symm ▸ Nat.one_pos))

/-- The condition under which the body fills its weight cache: the first tile, or an expert other than the tile
    before had. -/
abbrev Refill (i : grid0.Coords) (a b : BitVec 32) : Prop :=
  Scalar.cmpi .ne (Scalar.extui (Scalar.ori (Scalar.cmpi .eq (BitVec.ofNat 32 (i 0).val) 0#32) (Scalar.cmpi .ne a b)) : BitVec 32) 0#32 = 1#1

/-- The two conditions on the count of tiles in use exclude and complete one another. -/
theorem cond1_iff (i : grid0.Coords) (v : BitVec 32) : k0_cond1 i v = 1#1 ↔ ¬ k0_cond3 i v = 1#1 := by
  have key : ∀ p : Bool, (Scalar.cmpi .ne (Scalar.extui (BitVec.ofBool (!p)) : BitVec 32) 0#32 = 1#1)
      ↔ ¬ (Scalar.cmpi .ne (Scalar.extui (BitVec.ofBool p) : BitVec 32) 0#32 = 1#1) := by decide
  have e : (v.sle (BitVec.ofNat 32 (i 0).val)) = !((BitVec.ofNat 32 (i 0).val).slt v) := by
    rw [BitVec.sle_eq_not_slt]
  have k := key ((BitVec.ofNat 32 (i 0).val).slt v)
  rw [← e] at k
  exact k

/-- Where the cache is not filled the tile is not the first and its expert is that of the tile before. -/
theorem not_refill (i : grid0.Coords) (a b : BitVec 32) (h : ¬ Refill i a b) : (i 0).val ≠ 0 ∧ a = b := by
  unfold Refill at h
  constructor
  · intro h0
    rw [h0] at h
    refine h ?_
    generalize Scalar.cmpi .ne a b = q
    revert q; decide
  · by_contra hab
    refine h ?_
    have : Scalar.cmpi .ne a b = 1#1 := by
      show BitVec.ofBool (a != b) = 1#1
      rw [bne_iff_ne.mpr hab]; rfl
    rw [this]
    generalize Scalar.cmpi .eq (BitVec.ofNat 32 (i 0).val) 0#32 = q
    revert q; decide

/-- At no point is a window left unwritten: where the tile is not in use the body writes zeros. -/
theorem not_idle (hO : Ok m) (i : (cfgM m hO).grid.Coords) : (cfgM m hO).idle 7 i = false := by
  show (!(k0_cond1 i ((tbl m).atD 1 ![0]) == 1#1) && !(k0_cond3 i ((tbl m).atD 1 ![0]) == 1#1)) = false
  by_cases h : k0_cond3 i ((tbl m).atD 1 ![0]) = 1#1
  · simp [h]
  · simp [(cond1_iff i _).mpr h]

/-! ## The weights the body caches -/

/-- The column blocks of a 1024-column matrix: 128 columns from `o`. -/
abbrev rCol (o : Nat) (h : ∀ a, (![0, o] : Fin 2 → Nat) a + S1024x128.size a ≤ S1024x1024.size a) : Rect S1024x1024 :=
  Rect.unit (s := S1024x1024) ![0, o] S1024x128.size h
/-- Of the expert's up weights, 256 columns from `o`, -/
abbrev rUp (o : Nat) (h : ∀ a, (![0, 0, o] : Fin 3 → Nat) a + S1x1024x256.size a ≤ S1x1024x2048.size a) : Rect S1x1024x2048 :=
  Rect.unit (s := S1x1024x2048) ![0, 0, o] S1x1024x256.size h
/-- and the whole of each of the other blocks. -/
abbrev rPerm : Rect S256x256 := Rect.unit (s := S256x256) ![0, 0] S256x256.size inb_S256x256_S256x256_0_0
abbrev rDown : Rect S1x1024x1024 := Rect.unit (s := S1x1024x1024) ![0, 0, 0] S1x1024x1024.size inb_S1x1024x1024_S1x1024x1024_0_0_0
abbrev rBias : Rect S1x1x1024 := Rect.unit (s := S1x1x1024) ![0, 0, 0] S1x1x1024.size inb_S1x1x1024_S1x1x1024_0_0_0
abbrev rSq : Rect S1024x1024 := Rect.unit (s := S1024x1024) ![0, 0] S1024x1024.size inb_S1024x1024_S1024x1024_0_0
abbrev rRows : Rect S512x1024 := Rect.unit (s := S512x1024) ![0, 0] S512x1024.size inb_S512x1024_S512x1024_0_0

/-- The stores into the cache of the gate's weights, the last first: each 128 columns are the even ones of 256 columns. -/
def gateStores (W : Vec F S1x1024x2048 .f32) (P : Vec F S256x256 .bf16) : List (View.Piece (Elt F) S1024x1024 .bf16) :=
  [⟨rCol 896 inb_S1024x1024_S1024x128_0_896, k0_pay27 (View.ld P rPerm) (View.ld W (rUp 1792 inb_S1x1024x2048_S1x1024x256_0_0_1792))⟩,
   ⟨rCol 768 inb_S1024x1024_S1024x128_0_768, k0_pay24 (View.ld P rPerm) (View.ld W (rUp 1536 inb_S1x1024x2048_S1x1024x256_0_0_1536))⟩,
   ⟨rCol 640 inb_S1024x1024_S1024x128_0_640, k0_pay21 (View.ld P rPerm) (View.ld W (rUp 1280 inb_S1x1024x2048_S1x1024x256_0_0_1280))⟩,
   ⟨rCol 512 inb_S1024x1024_S1024x128_0_512, k0_pay18 (View.ld P rPerm) (View.ld W (rUp 1024 inb_S1x1024x2048_S1x1024x256_0_0_1024))⟩,
   ⟨rCol 384 inb_S1024x1024_S1024x128_0_384, k0_pay15 (View.ld P rPerm) (View.ld W (rUp 768 inb_S1x1024x2048_S1x1024x256_0_0_768))⟩,
   ⟨rCol 256 inb_S1024x1024_S1024x128_0_256, k0_pay12 (k0_pay11 (View.ld P rPerm) (View.ld W (rUp 512 inb_S1x1024x2048_S1x1024x256_0_0_512)))⟩,
   ⟨rCol 128 inb_S1024x1024_S1024x128_0_128, k0_pay8 (View.ld P rPerm) (View.ld W (rUp 256 inb_S1x1024x2048_S1x1024x256_0_0_256))⟩,
   ⟨rCol 0 inb_S1024x1024_S1024x128_0_0, k0_pay5 (View.ld P rPerm) (View.ld W (rUp 0 inb_S1x1024x2048_S1x1024x256_0_0_0))⟩]
/-- The stores into the cache of the linear half's weights: the odd ones. -/
def linStores (W : Vec F S1x1024x2048 .f32) (P : Vec F S256x256 .bf16) : List (View.Piece (Elt F) S1024x1024 .bf16) :=
  [⟨rCol 896 inb_S1024x1024_S1024x128_0_896, k0_pay2 (k0_pay26 (View.ld P rPerm) (View.ld W (rUp 1792 inb_S1x1024x2048_S1x1024x256_0_0_1792)))⟩,
   ⟨rCol 768 inb_S1024x1024_S1024x128_0_768, k0_pay25 (View.ld P rPerm) (View.ld W (rUp 1536 inb_S1x1024x2048_S1x1024x256_0_0_1536))⟩,
   ⟨rCol 640 inb_S1024x1024_S1024x128_0_640, k0_pay22 (View.ld P rPerm) (View.ld W (rUp 1280 inb_S1x1024x2048_S1x1024x256_0_0_1280))⟩,
   ⟨rCol 512 inb_S1024x1024_S1024x128_0_512, k0_pay19 (View.ld P rPerm) (View.ld W (rUp 1024 inb_S1x1024x2048_S1x1024x256_0_0_1024))⟩,
   ⟨rCol 384 inb_S1024x1024_S1024x128_0_384, k0_pay16 (View.ld P rPerm) (View.ld W (rUp 768 inb_S1x1024x2048_S1x1024x256_0_0_768))⟩,
   ⟨rCol 256 inb_S1024x1024_S1024x128_0_256, k0_pay13 (k0_pay10 (View.ld P rPerm) (View.ld W (rUp 512 inb_S1x1024x2048_S1x1024x256_0_0_512)))⟩,
   ⟨rCol 128 inb_S1024x1024_S1024x128_0_128, k0_pay9 (View.ld P rPerm) (View.ld W (rUp 256 inb_S1x1024x2048_S1x1024x256_0_0_256))⟩,
   ⟨rCol 0 inb_S1024x1024_S1024x128_0_0, k0_pay6 (View.ld P rPerm) (View.ld W (rUp 0 inb_S1x1024x2048_S1x1024x256_0_0_0))⟩]
/-- The stores into the cache of the down weights. -/
def downStores (D : Vec F S1x1024x1024 .f32) : List (View.Piece (Elt F) S1024x1024 .bf16) :=
  [⟨rSq, k0_pay3 (View.ld D rDown)⟩]

/-- What the three caches hold once they are filled. -/
def wGate (W : Vec F S1x1024x2048 .f32) (P : Vec F S256x256 .bf16) : Vec F S1024x1024 .bf16 := View.canon (gateStores W P)
def wLin (W : Vec F S1x1024x2048 .f32) (P : Vec F S256x256 .bf16) : Vec F S1024x1024 .bf16 := View.canon (linStores W P)
def wDown (D : Vec F S1x1024x1024 .f32) : Vec F S1024x1024 .bf16 := View.canon (downStores D)

/-- The stores of the gate's cache cover it, -/
theorem gate_cover (W : Vec F S1x1024x2048 .f32) (P : Vec F S256x256 .bf16) :
    ∀ y, ∃ p ∈ gateStores W P, y ∈ p.1.set :=
  View.cover_of_tiledL (gateStores W P) S1024x128.size (by sl_kernel_rfl)
/-- those of the linear half's too, -/
theorem lin_cover (W : Vec F S1x1024x2048 .f32) (P : Vec F S256x256 .bf16) :
    ∀ y, ∃ p ∈ linStores W P, y ∈ p.1.set :=
  View.cover_of_tiledL (linStores W P) S1024x128.size (by sl_kernel_rfl)
/-- and the one store of the down weights, -/
theorem down_cover (D : Vec F S1x1024x1024 .f32) : ∀ y, ∃ p ∈ downStores D, y ∈ p.1.set :=
  View.cover_of_tiledL (downStores D) S1024x1024.size (by sl_kernel_rfl)
/-- as one store covers the output's block. -/
theorem rows_cover (X : Vec F S512x1024 .f32) :
    ∀ y, ∃ p ∈ ([⟨rRows, X⟩] : List (View.Piece (Elt F) S512x1024 .f32)), y ∈ p.1.set :=
  View.cover_of_tiledL _ S512x1024.size (by sl_kernel_rfl)

/-- A tile's result from its rows, the three caches and the three biases. -/
def ffnOut (x : Vec F S512x1024 .f32) (g l d : Vec F S1024x1024 .bf16) (bg bl bd : Vec F S1x1x1024 .f32) : Vec F S512x1024 .f32 :=
  View.canon [⟨rRows, k0_pay28 (View.ld x rRows) (View.ld g rSq) (View.ld bg rBias) (View.ld l rSq) (View.ld bl rBias) (View.ld d rSq) (View.ld bd rBias)⟩]
/-- The result of a tile that is not in use. -/
def zeroOut : Vec F S512x1024 .f32 := View.canon [⟨rRows, k0_pay1 (F := F)⟩]

end Cert.ExpertsIdeal.Ffn

end
-- ==== Proof.FfnRun.lean ====
/- The expert kernel's body run in each of its four cases: the weight cache filled or kept, the tile in use or not. -/
module

public import proofs.«01_k».proof.Proof.FfnKit

@[expose] public section

set_option maxRecDepth 16384

noncomputable section

namespace Cert.ExpertsIdeal.Ffn

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Where the cache has just been filled, the loads of its three parts read what the stores left. -/
theorem out_of_stores (x : Vec F S512x1024 .f32) (W : Vec F S1x1024x2048 .f32) (P : Vec F S256x256 .bf16)
    (D : Vec F S1x1024x1024 .f32) (bg bl bd : Vec F S1x1x1024 .f32) (u v w : View sig .tc .vmem S1024x1024 .bf16) :
    View.canon (Val := Elt F) (e := .f32) [⟨rRows, k0_pay28 (View.ld x rRows) (u.readCov (gateStores W P) rSq) (View.ld bg rBias)
      (v.readCov (linStores W P) rSq) (View.ld bl rBias) (w.readCov (downStores D) rSq) (View.ld bd rBias)⟩]
      = ffnOut x (wGate W P) (wLin W P) (wDown D) bg bl bd := by
  rw [View.readCov_eq_canon_ld u _ _ (gate_cover W P), View.readCov_eq_canon_ld v _ _ (lin_cover W P),
    View.readCov_eq_canon_ld w _ _ (down_cover D)]
  rfl

set_option maxHeartbeats 2000000 in
/-- The cache is filled and the tile is in use: the output is the tile's result from the weights just cached. -/
theorem run_fill_use (c : Dev nD) (i : grid0.Coords) (arg3 : Memref sig .tc .vmem S512x1024 .f32) (harg3 : arg3.IsWhole) (arg4 : Memref sig .tc .vmem S1x1024x2048 .f32) (harg4 : arg4.IsWhole) (arg5 : Memref sig .tc .vmem S1x1024x1024 .f32) (harg5 : arg5.IsWhole) (arg6 : Memref sig .tc .vmem S256x256 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S512x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (x0 : Vec F S512x1024 .f32) (x1 : Vec F S1x1024x2048 .f32) (x2 : Vec F S1x1024x1024 .f32) (x3 : Vec F S256x256 .bf16)
    (x4 x5 x6 : Vec F S1x1x1024 .f32) (t0 : TbBuf (F := F) c tb0) (t1 : TbBuf (F := F) c tb1)
    (hc1 : ¬ k0_cond1 i (wUsed c t1) = 1#1) (hc2 : Refill i (wCur c i t0) (wPrev c i t0)) (hc3 : k0_cond3 i (wUsed c t1) = 1#1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt c tb0 t0 ∗ tbPt c tb1 t1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (ffnOut x0 (wGate x1 x3) (wLin x1 x3) (wDown x2) x4 x5 x6) ∗ owns (c : Thread nD τ) arg11 fullShare (wGate x1 x3) ∗ owns (c : Thread nD τ) arg12 fullShare (wLin x1 x3) ∗ owns (c : Thread nD τ) arg13 fullShare (wDown x2) ∗ tbPt c tb0 t0 ∗ tbPt c tb1 t1) -∗ K ⟨⟩))
      ⊢ wp frame (wpE (defs₀ (F := F)) Variants.none c none) E (cc0_expert_ffn i tb0 (Memref.isWhole_whole _) tb1 (Memref.isWhole_whole _) arg3 harg3 arg4 harg4 arg5 harg5 arg6 harg6 arg7 harg7 arg8 harg8 arg9 harg9 arg10 harg10 arg11 harg11 arg12 harg12 arg13 harg13) K := by
  simp only [cc0_expert_ffn_eq_skeleton]; unfold cc0_expert_ffn_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, HT0, HT1, Hk⟩
  subst hf0 hf1 hf2 hf3 hf4 hf5 hf6
  sl_exec (disch := first | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (rows_cover _)).trans ?_
    exact out_of_stores _ _ _ _ _ _ _ arg11.view arg12.view arg13.view
  isplitl [HS0]
  · iexists _; isplitr
    swap; · iexact HS0
    ipureintro
    exact View.read_writes_eq_canon _ _ _ (gate_cover _ _)
  isplitl [HS1]
  · iexists _; isplitr
    swap; · iexact HS1
    ipureintro
    exact View.read_writes_eq_canon _ _ _ (lin_cover _ _)
  isplitl [HS2]
  · iexists _; isplitr
    swap; · iexact HS2
    ipureintro
    exact View.read_writes_eq_canon _ _ _ (down_cover _)
  isplitl [HT0]; · iexact HT0
  iexact HT1

set_option maxHeartbeats 2000000 in
/-- The cache is kept and the tile is in use: the output is the tile's result from the weights found in the cache. -/
theorem run_keep_use (c : Dev nD) (i : grid0.Coords) (arg3 : Memref sig .tc .vmem S512x1024 .f32) (harg3 : arg3.IsWhole) (arg4 : Memref sig .tc .vmem S1x1024x2048 .f32) (harg4 : arg4.IsWhole) (arg5 : Memref sig .tc .vmem S1x1024x1024 .f32) (harg5 : arg5.IsWhole) (arg6 : Memref sig .tc .vmem S256x256 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S512x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (x0 : Vec F S512x1024 .f32) (x1 : Vec F S1x1024x2048 .f32) (x2 : Vec F S1x1024x1024 .f32) (x3 : Vec F S256x256 .bf16)
    (x4 x5 x6 : Vec F S1x1x1024 .f32) (s0 s1 s2 : Vec F S1024x1024 .bf16) (t0 : TbBuf (F := F) c tb0) (t1 : TbBuf (F := F) c tb1)
    (hc1 : ¬ k0_cond1 i (wUsed c t1) = 1#1) (hc2 : ¬ Refill i (wCur c i t0) (wPrev c i t0)) (hc3 : k0_cond3 i (wUsed c t1) = 1#1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare s0 ∗ owns (c : Thread nD τ) arg12 fullShare s1 ∗ owns (c : Thread nD τ) arg13 fullShare s2 ∗ tbPt c tb0 t0 ∗ tbPt c tb1 t1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (ffnOut x0 s0 s1 s2 x4 x5 x6) ∗ owns (c : Thread nD τ) arg11 fullShare s0 ∗ owns (c : Thread nD τ) arg12 fullShare s1 ∗ owns (c : Thread nD τ) arg13 fullShare s2 ∗ tbPt c tb0 t0 ∗ tbPt c tb1 t1) -∗ K ⟨⟩))
      ⊢ wp frame (wpE (defs₀ (F := F)) Variants.none c none) E (cc0_expert_ffn i tb0 (Memref.isWhole_whole _) tb1 (Memref.isWhole_whole _) arg3 harg3 arg4 harg4 arg5 harg5 arg6 harg6 arg7 harg7 arg8 harg8 arg9 harg9 arg10 harg10 arg11 harg11 arg12 harg12 arg13 harg13) K := by
  simp only [cc0_expert_ffn_eq_skeleton]; unfold cc0_expert_ffn_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hs0, HS0⟩, ⟨%fs1, %hs1, HS1⟩, ⟨%fs2, %hs2, HS2⟩, HT0, HT1, Hk⟩
  subst hf0 hf1 hf2 hf3 hf4 hf5 hf6 hs0 hs1 hs2
  sl_exec (disch := first | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (rows_cover _)).trans ?_
    rfl
  isplitl [HS0]
  · iexists fs0; isplitr; · ipureintro; rfl
    iexact HS0
  isplitl [HS1]
  · iexists fs1; isplitr; · ipureintro; rfl
    iexact HS1
  isplitl [HS2]
  · iexists fs2; isplitr; · ipureintro; rfl
    iexact HS2
  isplitl [HT0]; · iexact HT0
  iexact HT1

set_option maxHeartbeats 2000000 in
/-- The cache is filled and the tile is not in use: the output is zero. -/
theorem run_fill_zero (c : Dev nD) (i : grid0.Coords) (arg3 : Memref sig .tc .vmem S512x1024 .f32) (harg3 : arg3.IsWhole) (arg4 : Memref sig .tc .vmem S1x1024x2048 .f32) (harg4 : arg4.IsWhole) (arg5 : Memref sig .tc .vmem S1x1024x1024 .f32) (harg5 : arg5.IsWhole) (arg6 : Memref sig .tc .vmem S256x256 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S512x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (x0 : Vec F S512x1024 .f32) (x1 : Vec F S1x1024x2048 .f32) (x2 : Vec F S1x1024x1024 .f32) (x3 : Vec F S256x256 .bf16)
    (x4 x5 x6 : Vec F S1x1x1024 .f32) (t0 : TbBuf (F := F) c tb0) (t1 : TbBuf (F := F) c tb1)
    (hc1 : k0_cond1 i (wUsed c t1) = 1#1) (hc2 : Refill i (wCur c i t0) (wPrev c i t0)) (hc3 : ¬ k0_cond3 i (wUsed c t1) = 1#1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ tbPt c tb0 t0 ∗ tbPt c tb1 t1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare zeroOut ∗ owns (c : Thread nD τ) arg11 fullShare (wGate x1 x3) ∗ owns (c : Thread nD τ) arg12 fullShare (wLin x1 x3) ∗ owns (c : Thread nD τ) arg13 fullShare (wDown x2) ∗ tbPt c tb0 t0 ∗ tbPt c tb1 t1) -∗ K ⟨⟩))
      ⊢ wp frame (wpE (defs₀ (F := F)) Variants.none c none) E (cc0_expert_ffn i tb0 (Memref.isWhole_whole _) tb1 (Memref.isWhole_whole _) arg3 harg3 arg4 harg4 arg5 harg5 arg6 harg6 arg7 harg7 arg8 harg8 arg9 harg9 arg10 harg10 arg11 harg11 arg12 harg12 arg13 harg13) K := by
  simp only [cc0_expert_ffn_eq_skeleton]; unfold cc0_expert_ffn_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, HT0, HT1, Hk⟩
  subst hf0 hf1 hf2 hf3 hf4 hf5 hf6
  sl_exec (disch := first | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (rows_cover _)).trans ?_
    rfl
  isplitl [HS0]
  · iexists _; isplitr
    swap; · iexact HS0
    ipureintro
    exact View.read_writes_eq_canon _ _ _ (gate_cover _ _)
  isplitl [HS1]
  · iexists _; isplitr
    swap; · iexact HS1
    ipureintro
    exact View.read_writes_eq_canon _ _ _ (lin_cover _ _)
  isplitl [HS2]
  · iexists _; isplitr
    swap; · iexact HS2
    ipureintro
    exact View.read_writes_eq_canon _ _ _ (down_cover _)
  isplitl [HT0]; · iexact HT0
  iexact HT1

set_option maxHeartbeats 2000000 in
/-- The cache is kept and the tile is not in use: the output is zero. -/
theorem run_keep_zero (c : Dev nD) (i : grid0.Coords) (arg3 : Memref sig .tc .vmem S512x1024 .f32) (harg3 : arg3.IsWhole) (arg4 : Memref sig .tc .vmem S1x1024x2048 .f32) (harg4 : arg4.IsWhole) (arg5 : Memref sig .tc .vmem S1x1024x1024 .f32) (harg5 : arg5.IsWhole) (arg6 : Memref sig .tc .vmem S256x256 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S512x1024 .f32) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (x0 : Vec F S512x1024 .f32) (x1 : Vec F S1x1024x2048 .f32) (x2 : Vec F S1x1024x1024 .f32) (x3 : Vec F S256x256 .bf16)
    (x4 x5 x6 : Vec F S1x1x1024 .f32) (s0 s1 s2 : Vec F S1024x1024 .bf16) (t0 : TbBuf (F := F) c tb0) (t1 : TbBuf (F := F) c tb1)
    (hc1 : k0_cond1 i (wUsed c t1) = 1#1) (hc2 : ¬ Refill i (wCur c i t0) (wPrev c i t0)) (hc3 : ¬ k0_cond3 i (wUsed c t1) = 1#1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare s0 ∗ owns (c : Thread nD τ) arg12 fullShare s1 ∗ owns (c : Thread nD τ) arg13 fullShare s2 ∗ tbPt c tb0 t0 ∗ tbPt c tb1 t1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare zeroOut ∗ owns (c : Thread nD τ) arg11 fullShare s0 ∗ owns (c : Thread nD τ) arg12 fullShare s1 ∗ owns (c : Thread nD τ) arg13 fullShare s2 ∗ tbPt c tb0 t0 ∗ tbPt c tb1 t1) -∗ K ⟨⟩))
      ⊢ wp frame (wpE (defs₀ (F := F)) Variants.none c none) E (cc0_expert_ffn i tb0 (Memref.isWhole_whole _) tb1 (Memref.isWhole_whole _) arg3 harg3 arg4 harg4 arg5 harg5 arg6 harg6 arg7 harg7 arg8 harg8 arg9 harg9 arg10 harg10 arg11 harg11 arg12 harg12 arg13 harg13) K := by
  simp only [cc0_expert_ffn_eq_skeleton]; unfold cc0_expert_ffn_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hs0, HS0⟩, ⟨%fs1, %hs1, HS1⟩, ⟨%fs2, %hs2, HS2⟩, HT0, HT1, Hk⟩
  subst hf0 hf1 hf2 hf3 hf4 hf5 hf6 hs0 hs1 hs2
  sl_exec (disch := first | sl_exact hc1 | sl_exact hc2 | sl_exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (rows_cover _)).trans ?_
    rfl
  isplitl [HS0]
  · iexists fs0; isplitr; · ipureintro; rfl
    iexact HS0
  isplitl [HS1]
  · iexists fs1; isplitr; · ipureintro; rfl
    iexact HS1
  isplitl [HS2]
  · iexists fs2; isplitr; · ipureintro; rfl
    iexact HS2
  isplitl [HT0]; · iexact HT0
  iexact HT1

end Cert.ExpertsIdeal.Ffn

end
-- ==== Proof.FfnBlocks.lean ====
/- What the windows of the expert kernel hold at each grid point, and the words its body reads of the tables there. -/
module

public import proofs.«01_k».proof.Proof.FfnKit
public import Idealize.ShloMosaic.Lib.Pointwise

@[expose] public section

set_option maxRecDepth 16384

noncomputable section

namespace Cert.ExpertsIdeal.Ffn

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The words of the tables -/

/-- The expert of tile `i`. -/
def te (i : Fin 321) : BitVec 32 := (tbl m 0 : Vec F S321 .i32) (ix1 i)
/-- The count of tiles in use. -/
def nu : BitVec 32 := (tbl m 1 : Vec F S1 .i32) (ix1 0)

/-- The body's first word is the count of tiles in use. -/
theorem wUsed_eq (c : Dev nD) : wUsed c (tbl m 1) = nu m := by
  refine congrArg (tbl m 1 : Vec F S1 .i32) (funext fun a => Fin.ext ?_)
  match a with
  | ⟨0, _⟩ => rfl

/-- Its second is this tile's expert. -/
theorem wCur_eq (c : Dev nD) (i : grid0.Coords) : wCur c i (tbl m 0) = te m (i 0) := by
  refine congrArg (tbl m 0 : Vec F S321 .i32) (funext fun a => Fin.ext ?_)
  match a with
  | ⟨0, _⟩ =>
    show (k0_off2 i) 0 + 1 * 0 = (i 0).val
    rw [k0_off2_eq]; simp

/-- The offset of the third word: the tile before, or the first. -/
theorem off3_eq (i : grid0.Coords) : k0_off3 i = ![(i 0).val - 1] := by
  have r_i0 : (i 0).val < 321 := (i 0).isLt
  have h0 : Affine.IsInt (BitVec.ofNat 32 (i 0).val) (((i 0).val : Int)) := Affine.ofNat _ (by omega)
  have h1 : Affine.IsInt 1#32 (1) := Affine.ofNat _ (by omega)
  have h2 : Affine.IsInt _ (((i 0).val : Int) - 1) := Affine.subi h0 h1 (by omega)
  have h3 : Affine.IsInt 0#32 (0) := Affine.ofNat _ (by omega)
  have h4 : Affine.IsInt _ ((max (((i 0).val : Int) - 1) 0)) := Affine.maxsi h2 h3 (by omega)
  have h5 : Affine.IsInt _ ((max (((i 0).val : Int) - 1) 0)) := Affine.indexCast h4
  exact Affine.vec_cons h5 (by omega) <| Affine.vec_nil

/-- The third word is the expert of the tile before. -/
theorem wPrev_eq (c : Dev nD) (i : grid0.Coords) :
    wPrev c i (tbl m 0) = te m ⟨(i 0).val - 1, lt_of_le_of_lt (Nat.sub_le _ _) (i 0).isLt⟩ := by
  refine congrArg (tbl m 0 : Vec F S321 .i32) (funext fun a => Fin.ext ?_)
  match a with
  | ⟨0, _⟩ =>
    show (k0_off3 i) 0 + 1 * 0 = (i 0).val - 1
    rw [off3_eq]; simp

/-! ## The blocks -/

/-- Window `w`'s block at point `t`: what its array, as the region finds it, holds there. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- There are 321 points, -/
theorem points (hO : Ok m) : (cfgM m hO).N = 321 := N_0
/-- and point `t` is tile `t`. -/
theorem coord (t : Fin grid0.N) : (grid0.coords t 0).val = t.val := by
  have ht : t.val < 321 := Nat.lt_of_lt_of_eq t.isLt N_0
  have e : (grid0.coords t 0).val = t.val / 1 % 321 := Pipeline.Grid.coords_val t 0 (by decide) rfl
  omega

/-- The tile of point `t`. -/
abbrev tile (t : Fin grid0.N) : Fin 321 := ⟨t.val, Nat.lt_of_lt_of_eq t.isLt N_0⟩
theorem coords_eq (t : Fin grid0.N) : (grid0.coords t 0 : Fin 321) = tile t := Fin.ext (coord t)

/-- The word by which the windows of an expert's arrays are placed is the tile's expert. -/
theorem at_eq (i : grid0.Coords) :
    (tbl m).at 0 (Rect.unit (s := S321) (k0_off1 i) S1.size (k0_off1_inb i)) numel1_S1 = te m (i 0) := by
  refine congrArg (tbl m 0 : Vec F S321 .i32) (funext fun a => Fin.ext ?_)
  match a with
  | ⟨0, _⟩ =>
    show (k0_off1 i) 0 + 1 * 0 = (i 0).val
    rw [k0_off1_eq]; simp

/-- Where the five windows of an expert's arrays are. -/
theorem place (i : grid0.Coords) :
    cc0_transform_1 k0_off1_inb numel1_S1 (tbl m) i = ![(te m (i 0)).toNat, 0, 0]
    ∧ cc0_transform_2 k0_off1_inb numel1_S1 (tbl m) i = ![(te m (i 0)).toNat, 0, 0]
    ∧ cc0_transform_4 k0_off1_inb numel1_S1 (tbl m) i = ![(te m (i 0)).toNat, 0, 0]
    ∧ cc0_transform_5 k0_off1_inb numel1_S1 (tbl m) i = ![(te m (i 0)).toNat, 0, 0]
    ∧ cc0_transform_6 k0_off1_inb numel1_S1 (tbl m) i = ![(te m (i 0)).toNat, 0, 0] := by
  refine ⟨?_, ?_, ?_, ?_, ?_⟩ <;> exact congrArg (fun w : BitVec 32 => ![w.toNat, 0, 0]) (at_eq m i)

/-- The expert of a tile is in range where the tables are admissible. -/
theorem te_lt (hO : Ok m) (i : grid0.Coords) : (te m (i 0)).toNat < 32 := by
  obtain ⟨h, -⟩ := hO.2.1 i
  have h0 : (cc0_transform_1 k0_off1_inb numel1_S1 (tbl m) i 0 + 1) * 1 ≤ 32 := h 0
  rw [(place m i).1] at h0
  have : (![(te m (i 0)).toNat, 0, 0] : Fin 3 → Nat) 0 = (te m (i 0)).toNat := rfl
  omega

/-- A tile's expert. -/
abbrev expert (hO : Ok m) (t : Fin grid0.N) : Fin 32 := ⟨(te m (grid0.coords t 0)).toNat, te_lt m hO _⟩

/-- The block of up weights is the tile's expert's, -/
theorem iblk1 (hO : Ok m) (c : Dev nD) (t : Fin (cfgM m hO).N) (y : S1x1024x2048.Idx) :
    (iblk m hO c 1 t : Vec F S1x1024x2048 .f32) y
      = (V m c main_arg3 : Vec F S32x1024x2048 .f32) (ix3 (expert m hO t) (y 1) (y 2)) := by
  refine (View.read_apply (v := (((cfgM m hO).win 1).blk t).view) (Val := Elt F) ..).trans ?_
  refine congrArg (V m c main_arg3 : Vec F S32x1024x2048 .f32) (funext fun a => Fin.ext ?_)
  have hp := (place m (grid0.coords t)).1
  match a with
  | ⟨0, _⟩ =>
    show cc0_transform_1 k0_off1_inb numel1_S1 (tbl m) (grid0.coords t) 0 * 1 + 1 * (y 0).val = (te m (grid0.coords t 0)).toNat
    rw [hp]; have := (y 0).isLt; show (te m (grid0.coords t 0)).toNat * 1 + 1 * (y 0).val = _
    have h1 : (y 0).val < 1 := (y 0).isLt
    omega
  | ⟨1, _⟩ =>
    show cc0_transform_1 k0_off1_inb numel1_S1 (tbl m) (grid0.coords t) 1 * 1024 + 1 * (y 1).val = (y 1).val
    rw [hp]; show 0 * 1024 + 1 * (y 1).val = _; omega
  | ⟨2, _⟩ =>
    show cc0_transform_1 k0_off1_inb numel1_S1 (tbl m) (grid0.coords t) 2 * 2048 + 1 * (y 2).val = (y 2).val
    rw [hp]; show 0 * 2048 + 1 * (y 2).val = _; omega

/-- that of down weights too, -/
theorem iblk2 (hO : Ok m) (c : Dev nD) (t : Fin (cfgM m hO).N) (y : S1x1024x1024.Idx) :
    (iblk m hO c 2 t : Vec F S1x1024x1024 .f32) y
      = (V m c main_arg4 : Vec F S32x1024x1024 .f32) (ix3 (expert m hO t) (y 1) (y 2)) := by
  refine (View.read_apply (v := (((cfgM m hO).win 2).blk t).view) (Val := Elt F) ..).trans ?_
  refine congrArg (V m c main_arg4 : Vec F S32x1024x1024 .f32) (funext fun a => Fin.ext ?_)
  have hp := (place m (grid0.coords t)).2.1
  match a with
  | ⟨0, _⟩ =>
    show cc0_transform_2 k0_off1_inb numel1_S1 (tbl m) (grid0.coords t) 0 * 1 + 1 * (y 0).val = (te m (grid0.coords t 0)).toNat
    rw [hp]; show (te m (grid0.coords t 0)).toNat * 1 + 1 * (y 0).val = _
    have h1 : (y 0).val < 1 := (y 0).isLt
    omega
  | ⟨1, _⟩ =>
    show cc0_transform_2 k0_off1_inb numel1_S1 (tbl m) (grid0.coords t) 1 * 1024 + 1 * (y 1).val = (y 1).val
    rw [hp]; show 0 * 1024 + 1 * (y 1).val = _; omega
  | ⟨2, _⟩ =>
    show cc0_transform_2 k0_off1_inb numel1_S1 (tbl m) (grid0.coords t) 2 * 1024 + 1 * (y 2).val = (y 2).val
    rw [hp]; show 0 * 1024 + 1 * (y 2).val = _; omega

/-- and the block of the selection matrix is the whole of it at every point. -/
theorem iblk3 (hO : Ok m) (c : Dev nD) (t : Fin (cfgM m hO).N) :
    (iblk m hO c 3 t : Vec F S256x256 .bf16) = V m c main_cst := by
  refine funext fun (y : S256x256.Idx) => ?_
  refine (View.read_apply (v := (((cfgM m hO).win 3).blk t).view) (Val := Elt F) ..).trans ?_
  refine congrArg (V m c main_cst : Vec F S256x256 .bf16) (funext fun a => Fin.ext ?_)
  match a with
  | ⟨0, _⟩ => show 0 * 256 + 1 * (y 0).val = (y 0).val; omega
  | ⟨1, _⟩ => show 0 * 256 + 1 * (y 1).val = (y 1).val; omega

/-- Two tiles of one expert have the same blocks of weights. -/
theorem same_blocks (hO : Ok m) (c : Dev nD) (t s : Fin (cfgM m hO).N) (h : te m (grid0.coords t 0) = te m (grid0.coords s 0)) :
    (iblk m hO c 1 t : Vec F S1x1024x2048 .f32) = iblk m hO c 1 s
    ∧ (iblk m hO c 2 t : Vec F S1x1024x1024 .f32) = iblk m hO c 2 s
    ∧ (iblk m hO c 3 t : Vec F S256x256 .bf16) = iblk m hO c 3 s := by
  have e : expert m hO t = expert m hO s := Fin.ext (congrArg BitVec.toNat h)
  refine ⟨funext fun y => ?_, funext fun y => ?_, (iblk3 m hO c t).trans (iblk3 m hO c s).symm⟩
  · exact ((iblk1 m hO c t y).trans (by rw [e])).trans (iblk1 m hO c s y).symm
  · exact ((iblk2 m hO c t y).trans (by rw [e])).trans (iblk2 m hO c s y).symm

end Cert.ExpertsIdeal.Ffn

end
-- ==== Proof.FfnFrame.lean ====
/- The expert kernel's launch: the weight cache carried from point to point, what the output holds after each, and the
   frame. -/
module

public import proofs.«01_k».proof.Proof.FfnRun
public import proofs.«01_k».proof.Proof.FfnBlocks
public import Idealize.ShloMosaic.Lib.Claim

@[expose] public section

set_option maxRecDepth 16384

noncomputable section

namespace Cert.ExpertsIdeal.Ffn

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel body at point `t`, on what the pipeline calls it with. -/
abbrev bodyAt (a : (pcfg0 (F := F)).Adm) (t : Fin (cfg0 a).N) : Prog (TpuEff nD τ sig (Elt F) Λ₀ .tc) PUnit :=
  cc0_expert_ffn (grid0.coords t) tb0 (Memref.isWhole_whole _) tb1 (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))
    (spec0_4.stage ((cfg0 a).slots t 4)) (hstage0_4 (((cfg0 a).slots t 4).cast nbuf0_4))
    (spec0_5.stage ((cfg0 a).slots t 5)) (hstage0_5 (((cfg0 a).slots t 5).cast nbuf0_5))
    (spec0_6.stage ((cfg0 a).slots t 6)) (hstage0_6 (((cfg0 a).slots t 6).cast nbuf0_6))
    (spec0_7.stage ((cfg0 a).slots t 7)) (hstage0_7 (((cfg0 a).slots t 7).cast nbuf0_7))
    (Memref.whole cc0_scratch0) (Memref.isWhole_whole _) (Memref.whole cc0_scratch1) (Memref.isWhole_whole _)
    (Memref.whole cc0_scratch2) (Memref.isWhole_whole _)

/-- The three parts of the weight cache. -/
abbrev sc0 : Memref sig .tc .vmem S1024x1024 .bf16 := Memref.whole cc0_scratch0
abbrev sc1 : Memref sig .tc .vmem S1024x1024 .bf16 := Memref.whole cc0_scratch1
abbrev sc2 : Memref sig .tc .vmem S1024x1024 .bf16 := Memref.whole cc0_scratch2

/-- What the region starts with beside the windows: the cache at anything, and the generator's register. -/
theorem PhiA_eq (c : Dev nD) :
    (Pipeline.ΦA spec0 c : sProp 𝕄)
      = iprop(iprop((∃ d, owns (c : Thread nD τ) sc0 fullShare d) ∗ (∃ d, owns (c : Thread nD τ) sc1 fullShare d)
        ∗ (∃ d, owns (c : Thread nD τ) sc2 fullShare d)) ∗ (∃ r, prngReg c r)) := by
  unfold Pipeline.ΦA; rw [scopedRest0_eq]; simp only [sc0, sc1, sc2, owns_whole]; try rfl

/-- The cache after point `t` holds the weights of that tile's expert. -/
def gAt (hO : Ok m) (c : Dev nD) (t : Fin (cfgM m hO).N) : Vec F S1024x1024 .bf16 := wGate (iblk m hO c 1 t) (iblk m hO c 3 t)
def lAt (hO : Ok m) (c : Dev nD) (t : Fin (cfgM m hO).N) : Vec F S1024x1024 .bf16 := wLin (iblk m hO c 1 t) (iblk m hO c 3 t)
def dAt (hO : Ok m) (c : Dev nD) (t : Fin (cfgM m hO).N) : Vec F S1024x1024 .bf16 := wDown (iblk m hO c 2 t)

/-- Two tiles of one expert leave the same cache. -/
theorem same_cache (hO : Ok m) (c : Dev nD) (t s : Fin (cfgM m hO).N) (h : te m (grid0.coords t 0) = te m (grid0.coords s 0)) :
    gAt m hO c t = gAt m hO c s ∧ lAt m hO c t = lAt m hO c s ∧ dAt m hO c t = dAt m hO c s := by
  obtain ⟨h1, h2, h3⟩ := same_blocks m hO c t s h
  exact ⟨congrArg₂ wGate h1 h3, congrArg₂ wLin h1 h3, congrArg wDown h2⟩

/-- What the output's buffer holds after point `t`: the tile's result where the tile is in use, zeros elsewhere. -/
def oAt (hO : Ok m) (c : Dev nD) (t : Fin (cfgM m hO).N) : Vec F S512x1024 .f32 :=
  if k0_cond3 (grid0.coords t) (nu m) = 1#1 then
    ffnOut (iblk m hO c 0 t) (gAt m hO c t) (lAt m hO c t) (dAt m hO c t) (iblk m hO c 4 t) (iblk m hO c 5 t) (iblk m hO c 6 t)
  else zeroOut

/-- The cache at given contents, the generator's register, and the tables' halves. -/
def held (c : Dev nD) (g l d : Vec F S1024x1024 .bf16) : sProp 𝕄 :=
  iprop(iprop(iprop(owns (c : Thread nD τ) sc0 fullShare g ∗ owns (c : Thread nD τ) sc1 fullShare l
    ∗ owns (c : Thread nD τ) sc2 fullShare d) ∗ (∃ r, prngReg c r)) ∗ Pipeline.ΦT pre0 (tbl m) c)

/-- The invariant before point `n`: at the first nothing is known of the cache; later it holds what the point before left. -/
def Inv (hO : Ok m) (c : Dev nD) : (n : ℕ) → n ≤ (cfgM m hO).N → sProp 𝕄
  | 0, _ => iprop(Pipeline.ΦA spec0 c ∗ Pipeline.ΦT pre0 (tbl m) c)
  | n + 1, hn => held m c (gAt m hO c ⟨n, hn⟩) (lAt m hO c ⟨n, hn⟩) (dAt m hO c ⟨n, hn⟩)

/-- The proof data: each input's buffer keeps its block, the output's is `oAt`, and the invariant is `Inv`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => oAt m hO c t
  Φ t := Inv m hO c t.val (Nat.le_of_lt_succ t.isLt)
  q _ := fullShare
  owed _ := 0

/-- Its arrays are what the region finds. -/
theorem dats_A (hO : Ok m) (c : Dev nD) (w : Fin (cfgM m hO).W) : (dats m hO 0 c).A w = V m c (Pipeline.arrRef spec0 w) := by
  dsimp only [dats]

/-- The invariant at a point's start. -/
theorem inv_castSucc (hO : Ok m) (c : Dev nD) (t : Fin (cfgM m hO).N) :
    (dats m hO 0 c).Φ t.castSucc = Inv m hO c t.val (Nat.le_of_lt t.isLt) := by
  dsimp only [dats]; exact Pipeline.Dat.Φ_castSucc (Inv m hO c) t

/-- What the body leaves in each window's buffer. -/
theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = iblk m hO c 4 t := by dsimp only [dats]; try rfl
theorem after5 (hO : Ok m) (c : Dev nD) (t : Fin (cfgM m hO).N) : (dats m hO 0 c).after 5 t = iblk m hO c 5 t := by dsimp only [dats]; try rfl
theorem after6 (hO : Ok m) (c : Dev nD) (t : Fin (cfgM m hO).N) : (dats m hO 0 c).after 6 t = iblk m hO c 6 t := by dsimp only [dats]; try rfl
theorem after7 (hO : Ok m) (c : Dev nD) (t : Fin (cfgM m hO).N) : (dats m hO 0 c).after 7 t = oAt m hO c t := by dsimp only [dats]; try rfl

/-- An input's buffer holds its block at every point, fetched there or kept. -/
theorem before0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by
    rw [after0]; unfold Dat.blockOf iblk; rw [dats_A]; try rfl) t d).trans (by unfold Dat.fetched Dat.blockOf iblk; rw [dats_A]; try rfl)
theorem before1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by
    rw [after1]; unfold Dat.blockOf iblk; rw [dats_A]; try rfl) t d).trans (by unfold Dat.fetched Dat.blockOf iblk; rw [dats_A]; try rfl)
theorem before2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by
    rw [after2]; unfold Dat.blockOf iblk; rw [dats_A]; try rfl) t d).trans (by unfold Dat.fetched Dat.blockOf iblk; rw [dats_A]; try rfl)
theorem before3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by
    rw [after3]; unfold Dat.blockOf iblk; rw [dats_A]; try rfl) t d).trans (by unfold Dat.fetched Dat.blockOf iblk; rw [dats_A]; try rfl)
theorem before4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by
    rw [after4]; unfold Dat.blockOf iblk; rw [dats_A]; try rfl) t d).trans (by unfold Dat.fetched Dat.blockOf iblk; rw [dats_A]; try rfl)
theorem before5 (hO : Ok m) (c : Dev nD) (t : Fin (cfgM m hO).N) (d) : (dats m hO 0 c).before 5 t d = iblk m hO c 5 t :=
  ((dats m hO 0 c).before_in_eq_fetched 5 rfl (fun _ => rfl) (fun _ _ _ => rfl) (fun t => by
    rw [after5]; unfold Dat.blockOf iblk; rw [dats_A]; try rfl) t d).trans (by unfold Dat.fetched Dat.blockOf iblk; rw [dats_A]; try rfl)
theorem before6 (hO : Ok m) (c : Dev nD) (t : Fin (cfgM m hO).N) (d) : (dats m hO 0 c).before 6 t d = iblk m hO c 6 t :=
  ((dats m hO 0 c).before_in_eq_fetched 6 rfl (fun _ => rfl) (fun _ _ _ => rfl) (fun t => by
    rw [after6]; unfold Dat.blockOf iblk; rw [dats_A]; try rfl) t d).trans (by unfold Dat.fetched Dat.blockOf iblk; rw [dats_A]; try rfl)

/-! ## The body at a point -/

/-- What the body is called with, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (spec0_0.stage ((cfgM m hO).slots t 0)) fullShare ((dats m hO 0 c).before 0 t d))
    ∗ (∃ d, owns (c : Thread nD τ) (spec0_1.stage ((cfgM m hO).slots t 1)) fullShare ((dats m hO 0 c).before 1 t d))
    ∗ (∃ d, owns (c : Thread nD τ) (spec0_2.stage ((cfgM m hO).slots t 2)) fullShare ((dats m hO 0 c).before 2 t d))
    ∗ (∃ d, owns (c : Thread nD τ) (spec0_3.stage ((cfgM m hO).slots t 3)) fullShare ((dats m hO 0 c).before 3 t d))
    ∗ (∃ d, owns (c : Thread nD τ) (spec0_4.stage ((cfgM m hO).slots t 4)) fullShare ((dats m hO 0 c).before 4 t d))
    ∗ (∃ d, owns (c : Thread nD τ) (spec0_5.stage ((cfgM m hO).slots t 5)) fullShare ((dats m hO 0 c).before 5 t d))
    ∗ (∃ d, owns (c : Thread nD τ) (spec0_6.stage ((cfgM m hO).slots t 6)) fullShare ((dats m hO 0 c).before 6 t d))
    ∗ (∃ d, owns (c : Thread nD τ) (spec0_7.stage ((cfgM m hO).slots t 7)) fullShare ((dats m hO 0 c).before 7 t d)))
/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (spec0_0.stage ((cfgM m hO).slots t 0)) fullShare ((dats m hO 0 c).after 0 t)
    ∗ owns (c : Thread nD τ) (spec0_1.stage ((cfgM m hO).slots t 1)) fullShare ((dats m hO 0 c).after 1 t)
    ∗ owns (c : Thread nD τ) (spec0_2.stage ((cfgM m hO).slots t 2)) fullShare ((dats m hO 0 c).after 2 t)
    ∗ owns (c : Thread nD τ) (spec0_3.stage ((cfgM m hO).slots t 3)) fullShare ((dats m hO 0 c).after 3 t)
    ∗ owns (c : Thread nD τ) (spec0_4.stage ((cfgM m hO).slots t 4)) fullShare ((dats m hO 0 c).after 4 t)
    ∗ owns (c : Thread nD τ) (spec0_5.stage ((cfgM m hO).slots t 5)) fullShare ((dats m hO 0 c).after 5 t)
    ∗ owns (c : Thread nD τ) (spec0_6.stage ((cfgM m hO).slots t 6)) fullShare ((dats m hO 0 c).after 6 t)
    ∗ owns (c : Thread nD τ) (spec0_7.stage ((cfgM m hO).slots t 7)) fullShare ((dats m hO 0 c).after 7 t))

/-- The invariant after point `t`. -/
theorem inv_succ (hO : Ok m) (c : Dev nD) (t : Fin (cfgM m hO).N) :
    (dats m hO 0 c).Φ t.succ = held m c (gAt m hO c t) (lAt m hO c t) (dAt m hO c t) := rfl

/-- Before any point the cache is held at some contents. -/
theorem inv_any (hO : Ok m) (c : Dev nD) (n : ℕ) (h : n ≤ (cfgM m hO).N) :
    Inv m hO c n h ⊢ iprop(Pipeline.ΦA spec0 c ∗ Pipeline.ΦT pre0 (tbl m) c) := by
  cases n with
  | zero => exact Idealize.SL.BI.Entails.refl _
  | succ n =>
    show held m c _ _ _ ⊢ _
    unfold held
    rw [PhiA_eq]
    iintro ⟨⟨⟨HS0, HS1, HS2⟩, Hg⟩, HT⟩
    isplitl [HS0 HS1 HS2 Hg]
    · isplitl [HS0 HS1 HS2]
      · isplitl [HS0]; · iexists _; iexact HS0
        isplitl [HS1]; · iexists _; iexact HS1
        iexists _; iexact HS2
      iexact Hg
    iexact HT

/-- Where the cache is kept it already holds the weights of this tile's expert. -/
theorem inv_kept (hO : Ok m) (c : Dev nD) (t : Fin (cfgM m hO).N)
    (h : ¬ Refill (grid0.coords t) (wCur c (grid0.coords t) (tbl m 0)) (wPrev c (grid0.coords t) (tbl m 0))) :
    Inv m hO c t.val (Nat.le_of_lt t.isLt) = held m c (gAt m hO c t) (lAt m hO c t) (dAt m hO c t) := by
  obtain ⟨h0, h1⟩ := not_refill _ _ _ h
  rw [wCur_eq, wPrev_eq] at h1
  obtain ⟨n, hn⟩ := t
  cases n with
  | zero => exact absurd (coord ⟨0, hn⟩) h0
  | succ k =>
    have hk : k < (cfgM m hO).N := Nat.lt_of_succ_lt hn
    have e : te m (grid0.coords ⟨k + 1, hn⟩ 0) = te m (grid0.coords ⟨k, hk⟩ 0) := by
      rw [h1]
      refine congrArg (te m) (Fin.ext ?_)
      show (grid0.coords ⟨k + 1, hn⟩ 0).val - 1 = (grid0.coords ⟨k, hk⟩ 0).val
      rw [coord, coord]; rfl
    obtain ⟨e0, e1, e2⟩ := same_cache m hO c ⟨k + 1, hn⟩ ⟨k, hk⟩ e
    show held m c (gAt m hO c ⟨k, hk⟩) (lAt m hO c ⟨k, hk⟩) (dAt m hO c ⟨k, hk⟩) = _
    rw [e0, e1, e2]

set_option maxHeartbeats 4000000 in
/-- The body at any point: from the blocks and the invariant to the invariant at the next point and the tile's result. -/
theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before0, before1, before2, before3, before4, before5, before6]
  rw [show (dats m hO 0 c).owesAt () t.succ = (dats m hO 0 c).owesAt () t.castSucc from rfl,
    after0, after1, after2, after3, after4, after5, after6, after7, inv_succ, inv_castSucc]
  unfold oAt
  rw [← wUsed_eq m c]
  by_cases h3 : k0_cond3 (grid0.coords t) (wUsed c (tbl m 1)) = 1#1
  all_goals by_cases h2 : Refill (grid0.coords t) (wCur c (grid0.coords t) (tbl m 0)) (wPrev c (grid0.coords t) (tbl m 0))
  · rw [if_pos h3]
    have h1 : ¬ k0_cond1 (grid0.coords t) (wUsed c (tbl m 1)) = 1#1 := fun h => (cond1_iff _ _).mp h h3
    refine (sep_mono_left (inv_any m hO c t.val _)).trans ?_
    rw [PhiA_eq, PhiT_eq]
    iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_fill_use c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) h1 h2 h3 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HT0]; · iexact HT0
    isplitl [HT1]; · iexact HT1
    iintro ⟨H0, H1, H2, H3, H4, H5, H6, H7, HS0, HS1, HS2, HT0, HT1⟩
    isplitl [HS0 HS1 HS2 Hg HT0 HT1]
    · unfold held; rw [PhiT_eq]
      isplitl [HS0 HS1 HS2 Hg]
      · isplitl [HS0 HS1 HS2]
        · isplitl [HS0]; · iexact HS0
          isplitl [HS1]; · iexact HS1
          iexact HS2
        iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [if_pos h3]
    have h1 : ¬ k0_cond1 (grid0.coords t) (wUsed c (tbl m 1)) = 1#1 := fun h => (cond1_iff _ _).mp h h3
    rw [inv_kept m hO c t h2]
    unfold held; rw [PhiT_eq]
    iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_keep_use c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (gAt m hO c t) (lAt m hO c t) (dAt m hO c t) (tbl m 0) (tbl m 1) h1 h2 h3 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HT0]; · iexact HT0
    isplitl [HT1]; · iexact HT1
    iintro ⟨H0, H1, H2, H3, H4, H5, H6, H7, HS0, HS1, HS2, HT0, HT1⟩
    isplitl [HS0 HS1 HS2 Hg HT0 HT1]
    · skip
      isplitl [HS0 HS1 HS2 Hg]
      · isplitl [HS0 HS1 HS2]
        · isplitl [HS0]; · iexact HS0
          isplitl [HS1]; · iexact HS1
          iexact HS2
        iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [if_neg h3]
    have h1 : k0_cond1 (grid0.coords t) (wUsed c (tbl m 1)) = 1#1 := (cond1_iff _ _).mpr h3
    refine (sep_mono_left (inv_any m hO c t.val _)).trans ?_
    rw [PhiA_eq, PhiT_eq]
    iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_fill_zero c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) h1 h2 h3 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HT0]; · iexact HT0
    isplitl [HT1]; · iexact HT1
    iintro ⟨H0, H1, H2, H3, H4, H5, H6, H7, HS0, HS1, HS2, HT0, HT1⟩
    isplitl [HS0 HS1 HS2 Hg HT0 HT1]
    · unfold held; rw [PhiT_eq]
      isplitl [HS0 HS1 HS2 Hg]
      · isplitl [HS0 HS1 HS2]
        · isplitl [HS0]; · iexact HS0
          isplitl [HS1]; · iexact HS1
          iexact HS2
        iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [if_neg h3]
    have h1 : k0_cond1 (grid0.coords t) (wUsed c (tbl m 1)) = 1#1 := (cond1_iff _ _).mpr h3
    rw [inv_kept m hO c t h2]
    unfold held; rw [PhiT_eq]
    iintro ⟨⟨⟨⟨HS0, HS1, HS2⟩, Hg⟩, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_keep_zero c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (gAt m hO c t) (lAt m hO c t) (dAt m hO c t) (tbl m 0) (tbl m 1) h1 h2 h3 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HT0]; · iexact HT0
    isplitl [HT1]; · iexact HT1
    iintro ⟨H0, H1, H2, H3, H4, H5, H6, H7, HS0, HS1, HS2, HT0, HT1⟩
    isplitl [HS0 HS1 HS2 Hg HT0 HT1]
    · skip
      isplitl [HS0 HS1 HS2 Hg]
      · isplitl [HS0 HS1 HS2]
        · isplitl [HS0]; · iexact HS0
          isplitl [HS1]; · iexact HS1
          iexact HS2
        iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t` is the body there. -/
theorem row_eq (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

/-- The body meets its obligation at every point. -/
theorem obligation (hO : Ok m) (c : Dev nD) : BodyObligation (dats (F := F) m hO 0 c) (defs₀ (F := F)) Variants.none () Set.univ := fun t => by
  rw [bigSep_W0, bigSep_W0, row_eq m hO]
  have hi : (cfgM m hO).idle 7 ((cfgM m hO).grid.coords t) = false := not_idle m hO _
  refine triple_restated (sound_body m hO c t) rfl .rfl fun _ => ?_
  unfold bodyPost
  refine sep_mono_r (sep_mono_r (sep_mono_r (sep_mono_r (sep_mono_r (sep_mono_r (sep_mono_r (sep_mono_r (sep_mono_r ?_))))))))
  dsimp only
  split
  · next h => exact absurd (h.symm.trans hi) (by decide)
  · exact Idealize.SL.BI.Entails.refl _

/-- The launch hands the region the invariant before the first point, -/
theorem inv_in (hO : Ok m) (c : Dev nD) : iprop(Pipeline.ΦA spec0 c ∗ Pipeline.ΦT pre0 (tbl m) c) ⊢ (dats m hO 0 c).Φ 0 :=
  Idealize.SL.BI.Entails.refl _
/-- and what is left after the last is what it takes back. -/
theorem inv_out (hO : Ok m) (c : Dev nD) : (dats m hO 0 c).Φ (Fin.last (cfgM m hO).N) ⊢ Pipeline.ΦA spec0 c := by
  refine (inv_any m hO c (cfgM m hO).N le_rfl).trans ?_
  iintro ⟨HA, -⟩
  iexact HA

set_option backward.isDefEq.respectTransparency.types false in
/-- The launch: every execution ends, with the arrays at what the proof data says and every counter at zero. -/
theorem run (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (obligation m hO c).loose) (hshare := fun c => (dats m hO 0 c).share_full fun _ => rfl)
    (howed := fun _ _ => rfl) (V := V m) (hmain := main_prefix m Variants.none) (hA := dats_A m hO) (hpf := V_pre m)
    (hin := inv_in m hO) (hout := inv_out m hO)

/-- The arguments after a run are what they were at its launch. -/
theorem args_kept (hO : Ok m) (r : PUnit × MemSt nD τ sig (Elt F))
    (h : Pipeline.FramePost (Pipeline.pin pcfgs fun _ => adm m hO) (dats m hO) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) := by
  obtain ⟨v0, v1, v2, v3, v4, v5, v6⟩ := V_args m c
  exact ⟨((h c).2 main_arg0 (by decide : main_arg0 ∈ Pipeline.restRefs sig spec0)).trans v0,
    ((h c).2 main_arg1 (by decide : main_arg1 ∈ Pipeline.restRefs sig spec0)).trans v1,
    ((h c).1 0).trans (((dats m hO 0 c).arrAt_in 0 rfl _).trans ((dats_A m hO c 0).trans v2)),
    ((h c).1 1).trans (((dats m hO 0 c).arrAt_in 1 rfl _).trans ((dats_A m hO c 1).trans v3)),
    ((h c).1 2).trans (((dats m hO 0 c).arrAt_in 2 rfl _).trans ((dats_A m hO c 2).trans v4)),
    ((h c).2 main_arg5 (by decide : main_arg5 ∈ Pipeline.restRefs sig spec0)).trans v5,
    ((h c).2 main_arg6 (by decide : main_arg6 ∈ Pipeline.restRefs sig spec0)).trans v6⟩

/-- The frame: the program leaves its arguments as they were, and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨args_kept m hO r h.1, h.2⟩) (run m ρ hO)

end Cert.ExpertsIdeal.Ffn

end
-- ==== Proof.FfnOk.lean ====
module

/- Under the precondition every block that the tables address is inside its array. -/

public import proofs.«01_k».proof.Proof.FfnBlocks
public import proofs.«01_k».proof.Proof.FfnPre

@[expose] public section

set_option maxRecDepth 16384

noncomputable section

namespace Cert.ExpertsIdeal.Ffn

open Cert.ExpertsIdeal Cert.ExpertsIdeal.Gen Idealize.ShloMosaic Idealize.ShloMosaic.TcCoe Idealize.SL.Sem

variable {F : FTy → Type} [FloatOps F] (m : (ℓ : Loc nD τ sig) → Buf (Elt F) ℓ)

/-- The word that places the input rows is the count of used tiles. -/
theorem at_nu : (tbl m).at 1 (Rect.unit (s := S1) ![0] S1.size inb_S1_S1_0) numel1_S1 = nu m := by
  refine congrArg (tbl m 1 : Vec F S1 .i32) (funext fun a => Fin.ext ?_)
  match a with
  | ⟨0, _⟩ => rfl

/-- Past the last used tile the input rows are the last used tile's: their block is the smaller of the tile and the
    last used one. -/
theorem place0 (h1 : 1 ≤ (nu m).toNat) (h2 : (nu m).toNat ≤ 321) (i : grid0.Coords) :
    cc0_transform_0 inb_S1_S1_0 numel1_S1 (tbl m) i = ![min (i 0).val ((nu m).toNat - 1), 0] := by
  have r_i0 : (i 0).val < 321 := (i 0).isLt
  have h0 : Affine.IsInt (BitVec.ofNat 32 (i 0).val) (((i 0).val : Int)) := Affine.ofNat _ (by omega)
  have hn : Affine.IsInt (nu m) (((nu m).toNat : Int)) := by
    have e : BitVec.ofNat 32 (nu m).toNat = nu m := by rw [BitVec.ofNat_toNat, BitVec.setWidth_eq]
    rw [← e]; exact Affine.ofNat _ (by rw [e]; omega)
  have h3 : Affine.IsInt 1#32 (1) := Affine.ofNat _ (by omega)
  have h4 : Affine.IsInt _ (((nu m).toNat : Int) - 1) := Affine.subi hn h3 (by omega)
  have h5 : Affine.IsInt _ (min ((i 0).val : Int) (((nu m).toNat : Int) - 1)) := Affine.minsi h0 h4 (by omega)
  have e : cc0_transform_0 inb_S1_S1_0 numel1_S1 (tbl m) i = ![(Scalar.minsi (BitVec.ofNat 32 (i 0).val) (Scalar.subi (nu m) 1#32)).toNat, 0] :=
    congrArg (fun w : BitVec 32 => ![(Scalar.minsi (BitVec.ofNat 32 (i 0).val) (Scalar.subi w 1#32)).toNat, 0]) (at_nu m)
  rw [e]
  have : (Scalar.minsi (BitVec.ofNat 32 (i 0).val) (Scalar.subi (nu m) 1#32)).toNat = min (i 0).val ((nu m).toNat - 1) := Affine.nat_eq h5 _ (by omega)
  rw [this]

/-- The tables are admissible where every expert is below 32 and the count of used tiles is from 1 to 321. -/
theorem ok_of (ht : ∀ i : Fin 321, (te m i).toNat < 32) (h1 : 1 ≤ (nu m).toNat) (h2 : (nu m).toNat ≤ 321) : Ok m := by
  refine ⟨fun i => ⟨fun a => ?_, Or.inl rfl⟩, fun i => ⟨fun a => ?_, Or.inl rfl⟩, fun i => ⟨fun a => ?_, Or.inl rfl⟩,
    fun i => ⟨fun a => ?_, Or.inl rfl⟩, fun i => ⟨fun a => ?_, Or.inl rfl⟩, fun i => ⟨fun a => ?_, Or.inl rfl⟩⟩
  · rw [place0 m h1 h2]
    match a with
    | ⟨0, _⟩ => show (min (i 0).val ((nu m).toNat - 1) + 1) * 512 ≤ 165376; omega
    | ⟨1, _⟩ => show (0 + 1) * 1024 ≤ 1024; omega
  all_goals
    have hi := ht (i 0)
    obtain ⟨p1, p2, p4, p5, p6⟩ := place m i
    first | rw [p1] | rw [p2] | rw [p4] | rw [p5] | rw [p6]
    match a with
    | ⟨0, _⟩ => show ((te m (i 0)).toNat + 1) * 1 ≤ 32; omega
    | ⟨1, _⟩ => exact Nat.le_of_eq (Nat.one_mul _)
    | ⟨2, _⟩ => exact Nat.le_of_eq (Nat.one_mul _)

end Cert.ExpertsIdeal.Ffn

end
-- ==== Proof.FfnMath.lean ====
module

/- What an expert computes of one row, written over plain functions: both the kernel's tile and the reference are
   this at every entry. -/

public import Idealize.ShloMosaic.Lib.Pointwise

@[expose] public section

noncomputable section

namespace Cert.Expert

open Idealize.ShloMosaic

/-- The clamped gate: of the gate's half `g` and the linear half `l`. -/
def act (g l : EReal) : EReal :=
  min g (Ideal.ofBits .f32 0x40E00000#32) * Ideal.logistic (Ideal.ofBits .f32 0x3FD9DB23#32 * min g (Ideal.ofBits .f32 0x40E00000#32))
    * (min (Ideal.ofBits .f32 0x40E00000#32) (max (Ideal.ofBits .f32 0xC0E00000#32) l) + Ideal.ofBits .f32 0x3F800000#32)

/-- A hidden entry: the row `x` against a column `w` of the up weights, plus its bias. -/
def lin (x w : Fin 1024 → EReal) (b : EReal) : EReal := (∑ k, x k * w k) + b

/-- An output entry: the gated hidden row against a column of the down weights, plus its bias. The gate's columns and
    biases are `wg`, `bg`, the linear half's `wl`, `bl`. -/
def out (x : Fin 1024 → EReal) (wg wl : Fin 1024 → Fin 1024 → EReal) (bg bl : Fin 1024 → EReal) (wd : Fin 1024 → EReal) (bd : EReal) : EReal :=
  (∑ f, act (lin x (wg f) (bg f)) (lin x (wl f) (bl f)) * wd f) + bd

end Cert.Expert

end
-- ==== Proof.FfnPay.lean ====
module

/- What the expert kernel's stores hold, entry by entry over the extended reals. -/

public import proofs.«01_k».proof.Proof.FfnKit
public import proofs.«01_k».proof.Proof.FfnMath
public import Idealize.ShloMosaic.Lib.Pipeline.Value
public import Idealize.ShloMosaic.Lib.IdealHost
public import Idealize.ShloMosaic.Lib.Pointwise

@[expose] public section

set_option maxRecDepth 16384

noncomputable section

namespace Cert.ExpertsIdeal.Ffn

open Cert.ExpertsIdeal Cert.ExpertsIdeal.Gen Idealize.ShloMosaic Idealize.ShloMosaic.TcCoe Idealize.SL.Sem

theorem zero2 : (![0, 0] : Fin 2 → Nat) = fun _ => 0 := funext fun a => by fin_cases a <;> rfl
theorem zero3 : (![0, 0, 0] : Fin 3 → Nat) = fun _ => 0 := funext fun a => by fin_cases a <;> rfl

/-- The matrix that brings the even columns of 256 to the left and the odd ones to the right. -/
def Sorts (P : Vec Ideal S256x256 .bf16) : Prop :=
  ∀ k j : Fin 256, (P (ix2 k j) : EReal) = if k = ⟨2 * (j.val % 128) + j.val / 128, by omega⟩ then 1 else 0

/-- A product with a matrix. -/
theorem pay4_apply (P : Vec Ideal S256x256 .bf16) (X : Vec Ideal S1x1024x256 .f32) (r : Fin 1024) (j : Fin 256) :
    (k0_pay4 (F := Ideal) P X (ix2 r j) : EReal) = ∑ k : Fin 256, X (ix3 0 r k) * P (ix2 k j) := by
  pointwise [k0_pay4]

/-- Where the matrix sorts the columns, the product is the column taken. -/
theorem pay4_sorted (P : Vec Ideal S256x256 .bf16) (hP : Sorts P) (X : Vec Ideal S1x1024x256 .f32) (r : Fin 1024) (j : Fin 256) :
    (k0_pay4 (F := Ideal) P X (ix2 r j) : EReal) = X (ix3 0 r ⟨2 * (j.val % 128) + j.val / 128, by omega⟩) := by
  rw [pay4_apply]
  refine (Finset.sum_eq_single_of_mem ⟨2 * (j.val % 128) + j.val / 128, by omega⟩ (Finset.mem_univ _) fun k _ hk => ?_).trans ?_
  · rw [hP, if_neg hk]; exact mul_zero _
  · rw [hP, if_pos rfl]; exact mul_one _

/-- The even columns of 256, -/
theorem pay5_apply (P : Vec Ideal S256x256 .bf16) (hP : Sorts P) (X : Vec Ideal S1x1024x256 .f32) (r : Fin 1024) (q : Fin 128) :
    (k0_pay5 (F := Ideal) P X (ix2 r q) : EReal) = X (ix3 0 r ⟨2 * q.val, by omega⟩) := by
  refine Eq.trans (b := (k0_pay4 (F := Ideal) P X (ix2 r ⟨q.val, by omega⟩) : EReal)) (by pointwise [k0_pay5]) ?_
  refine (pay4_sorted P hP X r _).trans (congrArg (fun k => (X (ix3 0 r k) : EReal)) (Fin.ext ?_))
  show 2 * (q.val % 128) + q.val / 128 = 2 * q.val
  omega

/-- and the odd ones. -/
theorem pay6_apply (P : Vec Ideal S256x256 .bf16) (hP : Sorts P) (X : Vec Ideal S1x1024x256 .f32) (r : Fin 1024) (q : Fin 128) :
    (k0_pay6 (F := Ideal) P X (ix2 r q) : EReal) = X (ix3 0 r ⟨2 * q.val + 1, by omega⟩) := by
  refine Eq.trans (b := (k0_pay4 (F := Ideal) P X (ix2 r ⟨128 + q.val, by omega⟩) : EReal)) (by pointwise [k0_pay6]) ?_
  refine (pay4_sorted P hP X r _).trans (congrArg (fun k => (X (ix3 0 r k) : EReal)) (Fin.ext ?_))
  show 2 * ((128 + q.val) % 128) + (128 + q.val) / 128 = 2 * q.val + 1
  omega

/-- The even columns of an expert's up weights, -/
def evens (W : Vec Ideal S1x1024x2048 .f32) : Vec Ideal S1024x1024 .bf16 :=
  fun y => (W (ix3 0 (y 0) ⟨2 * (y 1).val, by have h : (y 1).val < 1024 := (y 1).isLt; omega⟩) : EReal)
/-- and the odd ones. -/
def odds (W : Vec Ideal S1x1024x2048 .f32) : Vec Ideal S1024x1024 .bf16 :=
  fun y => (W (ix3 0 (y 0) ⟨2 * (y 1).val + 1, by have h : (y 1).val < 1024 := (y 1).isLt; omega⟩) : EReal)

/-- Each store of the gate's cache holds 128 even columns, -/
theorem even_piece (W : Vec Ideal S1x1024x2048 .f32) (P : Vec Ideal S256x256 .bf16) (hP : Sorts P) (o u : Nat) (hu : u = 2 * o) (h) (h') (x : S1024x128.Idx) :
    k0_pay5 (F := Ideal) (View.ld P rPerm) (View.ld W (rUp u h')) x = evens W ((rCol o h).emb x) := by
  rw [eq_ix2 x, View.ld_unit_zero (S := S256x256) zero2]
  refine (pay5_apply P hP _ (x 0) (x 1)).trans ?_
  refine congrArg (fun i => (W i : EReal)) (funext fun a => Fin.ext ?_)
  match a with
  | ⟨0, _⟩ => rfl
  | ⟨1, _⟩ => rfl
  | ⟨2, _⟩ => show u + 1 * (2 * (x 1).val) = 2 * (o + 1 * (x 1).val); omega

/-- and each of the linear half's 128 odd ones. -/
theorem odd_piece (W : Vec Ideal S1x1024x2048 .f32) (P : Vec Ideal S256x256 .bf16) (hP : Sorts P) (o u : Nat) (hu : u = 2 * o) (h) (h') (x : S1024x128.Idx) :
    k0_pay6 (F := Ideal) (View.ld P rPerm) (View.ld W (rUp u h')) x = odds W ((rCol o h).emb x) := by
  rw [eq_ix2 x, View.ld_unit_zero (S := S256x256) zero2]
  refine (pay6_apply P hP _ (x 0) (x 1)).trans ?_
  refine congrArg (fun i => (W i : EReal)) (funext fun a => Fin.ext ?_)
  match a with
  | ⟨0, _⟩ => rfl
  | ⟨1, _⟩ => rfl
  | ⟨2, _⟩ => show u + 1 * (2 * (x 1).val + 1) = 2 * (o + 1 * (x 1).val) + 1; omega

/-- The gate's cache holds the even columns, -/
theorem wGate_apply (W : Vec Ideal S1x1024x2048 .f32) (P : Vec Ideal S256x256 .bf16) (hP : Sorts P) (y : S1024x1024.Idx) : wGate W P y = evens W y := by
  have h : (gateStores W P).Forall fun p => ∀ x : p.1.shape.Idx, p.2 x = evens W (p.1.emb x) :=
    ⟨even_piece W P hP 896 1792 rfl inb_S1024x1024_S1024x128_0_896 inb_S1x1024x2048_S1x1024x256_0_0_1792,
      even_piece W P hP 768 1536 rfl inb_S1024x1024_S1024x128_0_768 inb_S1x1024x2048_S1x1024x256_0_0_1536,
      even_piece W P hP 640 1280 rfl inb_S1024x1024_S1024x128_0_640 inb_S1x1024x2048_S1x1024x256_0_0_1280,
      even_piece W P hP 512 1024 rfl inb_S1024x1024_S1024x128_0_512 inb_S1x1024x2048_S1x1024x256_0_0_1024,
      even_piece W P hP 384 768 rfl inb_S1024x1024_S1024x128_0_384 inb_S1x1024x2048_S1x1024x256_0_0_768,
      even_piece W P hP 256 512 rfl inb_S1024x1024_S1024x128_0_256 inb_S1x1024x2048_S1x1024x256_0_0_512,
      even_piece W P hP 128 256 rfl inb_S1024x1024_S1024x128_0_128 inb_S1x1024x2048_S1x1024x256_0_0_256,
      even_piece W P hP 0 0 rfl inb_S1024x1024_S1024x128_0_0 inb_S1x1024x2048_S1x1024x256_0_0_0⟩
  exact View.canon_apply_of_pieces (evens W) (gateStores W P) (List.forall_iff_forall_mem.mp h) y (gate_cover W P y)

/-- and the linear half's the odd ones. -/
theorem wLin_apply (W : Vec Ideal S1x1024x2048 .f32) (P : Vec Ideal S256x256 .bf16) (hP : Sorts P) (y : S1024x1024.Idx) : wLin W P y = odds W y := by
  have h : (linStores W P).Forall fun p => ∀ x : p.1.shape.Idx, p.2 x = odds W (p.1.emb x) :=
    ⟨odd_piece W P hP 896 1792 rfl inb_S1024x1024_S1024x128_0_896 inb_S1x1024x2048_S1x1024x256_0_0_1792,
      odd_piece W P hP 768 1536 rfl inb_S1024x1024_S1024x128_0_768 inb_S1x1024x2048_S1x1024x256_0_0_1536,
      odd_piece W P hP 640 1280 rfl inb_S1024x1024_S1024x128_0_640 inb_S1x1024x2048_S1x1024x256_0_0_1280,
      odd_piece W P hP 512 1024 rfl inb_S1024x1024_S1024x128_0_512 inb_S1x1024x2048_S1x1024x256_0_0_1024,
      odd_piece W P hP 384 768 rfl inb_S1024x1024_S1024x128_0_384 inb_S1x1024x2048_S1x1024x256_0_0_768,
      odd_piece W P hP 256 512 rfl inb_S1024x1024_S1024x128_0_256 inb_S1x1024x2048_S1x1024x256_0_0_512,
      odd_piece W P hP 128 256 rfl inb_S1024x1024_S1024x128_0_128 inb_S1x1024x2048_S1x1024x256_0_0_256,
      odd_piece W P hP 0 0 rfl inb_S1024x1024_S1024x128_0_0 inb_S1x1024x2048_S1x1024x256_0_0_0⟩
  exact View.canon_apply_of_pieces (odds W) (linStores W P) (List.forall_iff_forall_mem.mp h) y (lin_cover W P y)

/-- The third cache is the down weights. -/
theorem wDown_apply (D : Vec Ideal S1x1024x1024 .f32) (f c : Fin 1024) : (wDown D (ix2 f c) : EReal) = D (ix3 0 f c) := by
  unfold wDown downStores
  rw [View.canon_unit_zero (S := S1024x1024) zero2, View.ld_unit_zero (S := S1x1024x1024) zero3]
  pointwise [k0_pay3]

/-- A tile's result at an entry. -/
theorem pay28_apply (x : Vec Ideal S512x1024 .f32) (g l d : Vec Ideal S1024x1024 .bf16) (bg bl bd : Vec Ideal S1x1x1024 .f32) (r : Fin 512) (c : Fin 1024) :
    (k0_pay28 (F := Ideal) x g bg l bl d bd (ix2 r c) : EReal)
      = Expert.out (fun k => x (ix2 r k)) (fun f k => g (ix2 k f)) (fun f k => l (ix2 k f)) (fun f => bg (ix3 0 0 f)) (fun f => bl (ix3 0 0 f))
          (fun f => d (ix2 f c)) (bd (ix3 0 0 c)) := by
  unfold Expert.out Expert.act Expert.lin
  pointwise [k0_pay28]

/-- So is what the body stores. -/
theorem ffnOut_apply (x : Vec Ideal S512x1024 .f32) (g l d : Vec Ideal S1024x1024 .bf16) (bg bl bd : Vec Ideal S1x1x1024 .f32) (r : Fin 512) (c : Fin 1024) :
    (ffnOut x g l d bg bl bd (ix2 r c) : EReal)
      = Expert.out (fun k => x (ix2 r k)) (fun f k => g (ix2 k f)) (fun f k => l (ix2 k f)) (fun f => bg (ix3 0 0 f)) (fun f => bl (ix3 0 0 f))
          (fun f => d (ix2 f c)) (bd (ix3 0 0 c)) := by
  unfold ffnOut
  rw [View.canon_unit_zero (S := S512x1024) zero2, View.ld_unit_zero (S := S512x1024) zero2]
  rw [View.ld_unit_zero (S := S1024x1024) zero2 _ g, View.ld_unit_zero (S := S1024x1024) zero2 _ l, View.ld_unit_zero (S := S1024x1024) zero2 _ d,
    View.ld_unit_zero (S := S1x1x1024) zero3 _ bg, View.ld_unit_zero (S := S1x1x1024) zero3 _ bl, View.ld_unit_zero (S := S1x1x1024) zero3 _ bd]
  exact pay28_apply x g l d bg bl bd r c

/-- A tile that is not in use holds zeros. -/
theorem zeroOut_apply (y : S512x1024.Idx) : (zeroOut (F := Ideal) y : EReal) = Ideal.ofBits .f32 0x00000000#32 := by
  unfold zeroOut
  rw [View.canon_unit_zero (S := S512x1024) zero2]
  rfl

end Cert.ExpertsIdeal.Ffn

end
-- ==== Proof.FfnValue.lean ====
module

/- The array that the expert kernel leaves, entry by entry. -/

public import proofs.«01_k».proof.Proof.FfnFrame
public import proofs.«01_k».proof.Proof.FfnOk
public import proofs.«01_k».proof.Proof.FfnPay
public import Idealize.ShloMosaic.Lib.StableHlo.Run

@[expose] public section

set_option maxRecDepth 16384

noncomputable section

namespace Cert.ExpertsIdeal.Ffn

open Cert.ExpertsIdeal Cert.ExpertsIdeal.Gen Idealize.ShloMosaic Idealize.ShloMosaic.TcCoe Idealize.SL.Sem
open Idealize.ShloMosaic.Pipeline (Dat)

variable (m : (ℓ : Loc nD τ sig) → Buf (Elt Ideal) ℓ)

/-! ## The arrays that the windows read -/

/-- The biases of the gate: the even ones of the up biases, -/
theorem V_v1 (c : Dev nD) (e : Fin 32) (f : Fin 1024) :
    (V m c main_v1 : FVec Ideal S32x1x1024 .f32) (ix3 e 0 f) = (V m c main_arg5 : FVec Ideal S32x2048 .f32) (ix2 e ⟨2 * f.val, by omega⟩) := by
  rw [(V_args m c).2.2.2.2.2.1]
  have h : V m c main_v1 = (broadcastInDim S32x1x1024 ![0, 2] bcast_S32x1024_S32x1x1024_0_2 (Host.slice S32x1024 ![0, 0] ![1, 2] (m ((c : Thread nD τ).loc main_arg5)) slicesBy_S32x2048_S32x1024_0s1_0s2) : FVec Ideal S32x1x1024 .f32) := by
    simp only [V, hostOps0]
    after_results_simp <;> rfl
  rw [h]
  refine (broadcastInDim_apply _ bcast_S32x1024_S32x1x1024_0_2 _ _ (ix2 e f) (fun a => by match a with | ⟨0, _⟩ => rfl | ⟨1, _⟩ => rfl)).trans ?_
  refine congrArg (m ((c : Thread nD τ).loc main_arg5)) (funext fun a => Fin.ext ?_)
  match a with
  | ⟨0, _⟩ => show 0 + 1 * e.val = e.val; omega
  | ⟨1, _⟩ => show 0 + 2 * f.val = 2 * f.val; omega

/-- of the linear half: the odd ones, -/
theorem V_v3 (c : Dev nD) (e : Fin 32) (f : Fin 1024) :
    (V m c main_v3 : FVec Ideal S32x1x1024 .f32) (ix3 e 0 f) = (V m c main_arg5 : FVec Ideal S32x2048 .f32) (ix2 e ⟨2 * f.val + 1, by omega⟩) := by
  rw [(V_args m c).2.2.2.2.2.1]
  have h : V m c main_v3 = (broadcastInDim S32x1x1024 ![0, 2] bcast_S32x1024_S32x1x1024_0_2 (Host.slice S32x1024 ![0, 1] ![1, 2] (m ((c : Thread nD τ).loc main_arg5)) slicesBy_S32x2048_S32x1024_0s1_1s2) : FVec Ideal S32x1x1024 .f32) := by
    simp only [V, hostOps0]
    after_results_simp <;> rfl
  rw [h]
  refine (broadcastInDim_apply _ bcast_S32x1024_S32x1x1024_0_2 _ _ (ix2 e f) (fun a => by match a with | ⟨0, _⟩ => rfl | ⟨1, _⟩ => rfl)).trans ?_
  refine congrArg (m ((c : Thread nD τ).loc main_arg5)) (funext fun a => Fin.ext ?_)
  match a with
  | ⟨0, _⟩ => show 0 + 1 * e.val = e.val; omega
  | ⟨1, _⟩ => show 1 + 2 * f.val = 2 * f.val + 1; omega

/-- and the down biases. -/
theorem V_v4 (c : Dev nD) (e : Fin 32) (f : Fin 1024) :
    (V m c main_v4 : FVec Ideal S32x1x1024 .f32) (ix3 e 0 f) = (V m c main_arg6 : FVec Ideal S32x1024 .f32) (ix2 e f) := by
  rw [(V_args m c).2.2.2.2.2.2]
  have h : V m c main_v4 = (broadcastInDim S32x1x1024 ![0, 2] bcast_S32x1024_S32x1x1024_0_2 (m ((c : Thread nD τ).loc main_arg6)) : FVec Ideal S32x1x1024 .f32) := by
    simp only [V, hostOps0]
    after_results_simp <;> rfl
  rw [h]
  exact broadcastInDim_apply _ bcast_S32x1024_S32x1x1024_0_2 _ _ (ix2 e f) (fun a => by match a with | ⟨0, _⟩ => rfl | ⟨1, _⟩ => rfl)

/-- The table of constants. -/
theorem V_cst (c : Dev nD) (i : S256x256.Idx) : ((V m c main_cst : FVec Ideal S256x256 .bf16) i : EReal) = Ideal.ofBits .bf16 (lit0 (S256x256.rowMajor i)) := by
  have h : V m c main_cst = (fun i => FloatOps.ofBits .bf16 (lit0 (S256x256.rowMajor i)) : FVec Ideal S256x256 .bf16) := by
    simp only [V, hostOps0]
    after_results_simp <;> rfl
  rw [h]; rfl

/-! ## The blocks -/

/-- A used tile's rows are where the tile is, -/
theorem place_used (h1 : 1 ≤ (nu m).toNat) (h2 : (nu m).toNat ≤ 321) (t : Fin grid0.N) (ht : (tile t).val < (nu m).toNat) :
    cc0_transform_0 inb_S1_S1_0 numel1_S1 (tbl m) (grid0.coords t) = ![t.val, 0] := by
  rw [place0 m h1 h2, coord, Nat.min_eq_left (Nat.le_sub_one_of_lt ht)]

/-- and its rows are rows of the input. -/
theorem row_in (t : Fin grid0.N) (r : Fin 512) : 512 * (tile t).val + r.val < 165376 := by
  have := (tile t).isLt; have := r.isLt; omega

section Rows
attribute [local irreducible] cc0_transform_0

/-- The block of a used tile's rows. -/
theorem iblk0_at (hO : Ok m) (c : Dev nD) (t : Fin (cfgM m hO).N) (n : Nat) (hp : cc0_transform_0 inb_S1_S1_0 numel1_S1 (tbl m) (grid0.coords t) = ![n, 0])
    (r : Fin 512) (k : Fin 1024) (R : Fin 165376) (hR : n * 512 + 1 * r.val = R.val) :
    (iblk m hO c 0 t : Vec Ideal S512x1024 .f32) (ix2 r k) = (V m c main_arg2 : Vec Ideal S165376x1024 .f32) (ix2 R k) := by
  refine (View.read_apply (v := (((cfgM m hO).win 0).blk t).view) (Val := Elt Ideal) ..).trans ?_
  refine congrArg (V m c main_arg2 : Vec Ideal S165376x1024 .f32) (funext fun a => Fin.ext ?_)
  match a with
  | ⟨0, _⟩ =>
    show cc0_transform_0 inb_S1_S1_0 numel1_S1 (tbl m) (grid0.coords t) 0 * 512 + 1 * r.val = R.val
    rw [hp]; exact hR
  | ⟨1, _⟩ =>
    show cc0_transform_0 inb_S1_S1_0 numel1_S1 (tbl m) (grid0.coords t) 1 * 1024 + 1 * k.val = k.val
    rw [hp]; show 0 * 1024 + 1 * k.val = _; rw [Nat.zero_mul, Nat.zero_add, Nat.one_mul]

end Rows

/-- It is rows `512 t` to `512 t + 511` of the input. -/
theorem iblk0 (hO : Ok m) (h1 : 1 ≤ (nu m).toNat) (h2 : (nu m).toNat ≤ 321) (c : Dev nD) (t : Fin (cfgM m hO).N) (ht : (tile t).val < (nu m).toNat) (r : Fin 512) (k : Fin 1024) :
    (iblk m hO c 0 t : Vec Ideal S512x1024 .f32) (ix2 r k)
      = (V m c main_arg2 : Vec Ideal S165376x1024 .f32) (ix2 ⟨512 * (tile t).val + r.val, row_in t r⟩ k) :=
  iblk0_at m hO c t t.val (place_used m h1 h2 t ht) r k ⟨512 * (tile t).val + r.val, row_in t r⟩ (by
    show t.val * 512 + 1 * r.val = 512 * t.val + r.val
    rw [Nat.mul_comm, Nat.one_mul])

/-- The three windows of biases hold the tile's expert's. -/
theorem iblk4 (hO : Ok m) (c : Dev nD) (t : Fin (cfgM m hO).N) (f : Fin 1024) :
    (iblk m hO c 4 t : Vec Ideal S1x1x1024 .f32) (ix3 0 0 f) = (V m c main_v1 : Vec Ideal S32x1x1024 .f32) (ix3 (expert m hO t) 0 f) := by
  refine (View.read_apply (v := (((cfgM m hO).win 4).blk t).view) (Val := Elt Ideal) ..).trans ?_
  refine congrArg (V m c main_v1 : Vec Ideal S32x1x1024 .f32) (funext fun a => Fin.ext ?_)
  have hp := (place m (grid0.coords t)).2.2.1
  match a with
  | ⟨0, _⟩ =>
    show cc0_transform_4 k0_off1_inb numel1_S1 (tbl m) (grid0.coords t) 0 * 1 + 1 * 0 = (te m (grid0.coords t 0)).toNat
    rw [hp]; show (te m (grid0.coords t 0)).toNat * 1 + 1 * 0 = _; omega
  | ⟨1, _⟩ =>
    show cc0_transform_4 k0_off1_inb numel1_S1 (tbl m) (grid0.coords t) 1 * 1 + 1 * 0 = 0
    rw [hp]; rfl
  | ⟨2, _⟩ =>
    show cc0_transform_4 k0_off1_inb numel1_S1 (tbl m) (grid0.coords t) 2 * 1024 + 1 * f.val = f.val
    rw [hp]; show 0 * 1024 + 1 * f.val = _; omega

theorem iblk5 (hO : Ok m) (c : Dev nD) (t : Fin (cfgM m hO).N) (f : Fin 1024) :
    (iblk m hO c 5 t : Vec Ideal S1x1x1024 .f32) (ix3 0 0 f) = (V m c main_v3 : Vec Ideal S32x1x1024 .f32) (ix3 (expert m hO t) 0 f) := by
  refine (View.read_apply (v := (((cfgM m hO).win 5).blk t).view) (Val := Elt Ideal) ..).trans ?_
  refine congrArg (V m c main_v3 : Vec Ideal S32x1x1024 .f32) (funext fun a => Fin.ext ?_)
  have hp := (place m (grid0.coords t)).2.2.2.1
  match a with
  | ⟨0, _⟩ =>
    show cc0_transform_5 k0_off1_inb numel1_S1 (tbl m) (grid0.coords t) 0 * 1 + 1 * 0 = (te m (grid0.coords t 0)).toNat
    rw [hp]; show (te m (grid0.coords t 0)).toNat * 1 + 1 * 0 = _; omega
  | ⟨1, _⟩ =>
    show cc0_transform_5 k0_off1_inb numel1_S1 (tbl m) (grid0.coords t) 1 * 1 + 1 * 0 = 0
    rw [hp]; rfl
  | ⟨2, _⟩ =>
    show cc0_transform_5 k0_off1_inb numel1_S1 (tbl m) (grid0.coords t) 2 * 1024 + 1 * f.val = f.val
    rw [hp]; show 0 * 1024 + 1 * f.val = _; omega

theorem iblk6 (hO : Ok m) (c : Dev nD) (t : Fin (cfgM m hO).N) (f : Fin 1024) :
    (iblk m hO c 6 t : Vec Ideal S1x1x1024 .f32) (ix3 0 0 f) = (V m c main_v4 : Vec Ideal S32x1x1024 .f32) (ix3 (expert m hO t) 0 f) := by
  refine (View.read_apply (v := (((cfgM m hO).win 6).blk t).view) (Val := Elt Ideal) ..).trans ?_
  refine congrArg (V m c main_v4 : Vec Ideal S32x1x1024 .f32) (funext fun a => Fin.ext ?_)
  have hp := (place m (grid0.coords t)).2.2.2.2
  match a with
  | ⟨0, _⟩ =>
    show cc0_transform_6 k0_off1_inb numel1_S1 (tbl m) (grid0.coords t) 0 * 1 + 1 * 0 = (te m (grid0.coords t 0)).toNat
    rw [hp]; show (te m (grid0.coords t 0)).toNat * 1 + 1 * 0 = _; omega
  | ⟨1, _⟩ =>
    show cc0_transform_6 k0_off1_inb numel1_S1 (tbl m) (grid0.coords t) 1 * 1 + 1 * 0 = 0
    rw [hp]; rfl
  | ⟨2, _⟩ =>
    show cc0_transform_6 k0_off1_inb numel1_S1 (tbl m) (grid0.coords t) 2 * 1024 + 1 * f.val = f.val
    rw [hp]; show 0 * 1024 + 1 * f.val = _; omega

/-- The body's test is whether the tile is one of the used ones. -/
theorem used_iff (h2 : (nu m).toNat ≤ 321) (t : Fin grid0.N) : k0_cond3 (grid0.coords t) (nu m) = 1#1 ↔ (tile t).val < (nu m).toNat := by
  have key : ∀ p : Bool, (Scalar.cmpi .ne (Scalar.extui (BitVec.ofBool p) : BitVec 32) 0#32 = 1#1) ↔ p = true := by decide
  refine (key ((BitVec.ofNat 32 (grid0.coords t 0).val).slt (nu m))).trans ?_
  rw [coord, BitVec.slt_iff_toInt_lt]
  have ht : t.val < 321 := (tile t).isLt
  have hl : (BitVec.ofNat 32 t.val).toInt = t.val := by
    have h : (BitVec.ofNat 32 t.val).toNat = t.val := by rw [BitVec.toNat_ofNat]; omega
    rw [BitVec.toInt_eq_toNat_cond, h]; split <;> omega
  have hr : (nu m).toInt = (nu m).toNat := by rw [BitVec.toInt_eq_toNat_cond]; split <;> omega
  rw [hl, hr]
  show _ ↔ t.val < _
  omega

/-! ## The result -/

/-- What the result holds at row `512 t + r`: the expert's output in a used tile, zero beyond. -/
def entryAt (hO : Ok m) (c : Dev nD) (t : Fin (cfgM m hO).N) (r : Fin 512) (q : Fin 1024) : EReal :=
  if (tile t).val < (nu m).toNat then
    Expert.out (fun k => (V m c main_arg2 : Vec Ideal S165376x1024 .f32) (ix2 ⟨512 * (tile t).val + r.val, row_in t r⟩ k))
      (fun f k => (V m c main_arg3 : Vec Ideal S32x1024x2048 .f32) (ix3 (expert m hO t) k ⟨2 * f.val, by omega⟩))
      (fun f k => (V m c main_arg3 : Vec Ideal S32x1024x2048 .f32) (ix3 (expert m hO t) k ⟨2 * f.val + 1, by omega⟩))
      (fun f => (V m c main_arg5 : Vec Ideal S32x2048 .f32) (ix2 (expert m hO t) ⟨2 * f.val, by omega⟩))
      (fun f => (V m c main_arg5 : Vec Ideal S32x2048 .f32) (ix2 (expert m hO t) ⟨2 * f.val + 1, by omega⟩))
      (fun f => (V m c main_arg4 : Vec Ideal S32x1024x1024 .f32) (ix3 (expert m hO t) f q))
      ((V m c main_arg6 : Vec Ideal S32x1024 .f32) (ix2 (expert m hO t) q))
  else Ideal.ofBits .f32 0x00000000#32

/-- The body leaves this in the output's buffer. -/
theorem oAt_apply (hO : Ok m) (h1 : 1 ≤ (nu m).toNat) (h2 : (nu m).toNat ≤ 321) (c : Dev nD) (hS : Sorts (V m c main_cst : FVec Ideal S256x256 .bf16))
    (t : Fin (cfgM m hO).N) (r : Fin 512) (q : Fin 1024) : (oAt m hO c t (ix2 r q) : EReal) = entryAt m hO c t r q := by
  unfold oAt entryAt
  by_cases h : (tile t).val < (nu m).toNat
  · rw [if_pos ((used_iff m h2 t).mpr h), if_pos h]
    refine (ffnOut_apply _ _ _ _ _ _ _ r q).trans ?_
    have hS' : Sorts (iblk m hO c 3 t : Vec Ideal S256x256 .bf16) := by rw [iblk3]; exact hS
    have eg (k f : Fin 1024) : (gAt m hO c t (ix2 k f) : EReal) = (V m c main_arg3 : Vec Ideal S32x1024x2048 .f32) (ix3 (expert m hO t) k ⟨2 * f.val, by omega⟩) :=
      (wGate_apply _ _ hS' (ix2 k f)).trans (iblk1 m hO c t _)
    have el (k f : Fin 1024) : (lAt m hO c t (ix2 k f) : EReal) = (V m c main_arg3 : Vec Ideal S32x1024x2048 .f32) (ix3 (expert m hO t) k ⟨2 * f.val + 1, by omega⟩) :=
      (wLin_apply _ _ hS' (ix2 k f)).trans (iblk1 m hO c t _)
    have ed (f : Fin 1024) : (dAt m hO c t (ix2 f q) : EReal) = (V m c main_arg4 : Vec Ideal S32x1024x1024 .f32) (ix3 (expert m hO t) f q) :=
      (wDown_apply _ f q).trans (iblk2 m hO c t _)
    have e4 (f : Fin 1024) := (iblk4 m hO c t f).trans (V_v1 m c (expert m hO t) f)
    have e5 (f : Fin 1024) := (iblk5 m hO c t f).trans (V_v3 m c (expert m hO t) f)
    have e6 := (iblk6 m hO c t q).trans (V_v4 m c (expert m hO t) q)
    have e0 (k : Fin 1024) := iblk0 m hO h1 h2 c t h r k
    rw [e6, funext e0, funext ed, funext e4, funext e5, funext fun f => funext fun k => eg k f, funext fun f => funext fun k => el k f]
  · rw [if_neg (fun h' => h ((used_iff m h2 t).mp h')), if_neg h]
    exact zeroOut_apply _

/-- The output's block at point `t` is rows `512 t` to `512 t + 511`. -/
theorem emb7 (hO : Ok m) (t : Fin (cfgM m hO).N) (r : Fin 512) (q : Fin 1024) :
    ((((cfgM m hO).win 7).blk t).view.emb (ix2 r q : S512x1024.Idx) : S164352x1024.Idx) = ix2 ⟨512 * (tile t).val + r.val, by have := (tile t).isLt; omega⟩ q := by
  refine funext fun a => Fin.ext ?_
  match a with
  | ⟨0, _⟩ =>
    show (BitVec.ofNat 32 (grid0.coords t 0).val).toNat * 512 + 1 * r.val = 512 * t.val + r.val
    have ht : t.val < 321 := (tile t).isLt
    rw [coord, BitVec.toNat_ofNat]; omega
  | ⟨1, _⟩ => show 0 * 1024 + 1 * q.val = q.val; omega

/-- It is written back at every point. -/
theorem flush7 (hO : Ok m) (t : Fin (cfgM m hO).N) : ((cfgM m hO).win 7).flush t = true := by
  show (true && (decide (t.val + 1 = (cfgM m hO).N) || decide (∃ h : t.val + 1 < (cfgM m hO).N, cc0_transform_7 (grid0.coords ⟨t.val + 1, h⟩) ≠ cc0_transform_7 (grid0.coords t)))) = true
  rw [Bool.true_and, Bool.or_eq_true, decide_eq_true_iff, decide_eq_true_iff]
  by_cases e : t.val + 1 = (cfgM m hO).N
  · exact Or.inl e
  · have ht : t.val < (cfgM m hO).N := t.isLt
    have h : t.val + 1 < (cfgM m hO).N := by omega
    refine Or.inr ⟨h, fun hc => ?_⟩
    have hc0 : (BitVec.ofNat 32 (grid0.coords ⟨t.val + 1, h⟩ 0).val).toNat = (BitVec.ofNat 32 (grid0.coords t 0).val).toNat := congrFun hc 0
    rw [coord, coord, BitVec.toNat_ofNat, BitVec.toNat_ofNat] at hc0
    have hN : (cfgM m hO).N = 321 := points m hO
    have : (⟨t.val + 1, h⟩ : Fin (cfgM m hO).N).val = t.val + 1 := rfl
    omega

/-- The result at an index. -/
def G7 (hO : Ok m) (c : Dev nD) : Vec Ideal S164352x1024 .f32 :=
  fun i => entryAt m hO c ⟨(i 0).val / 512, by have h : (i 0).val < 164352 := (i 0).isLt; rw [points m hO]; omega⟩ ⟨(i 0).val % 512, Nat.mod_lt _ (by omega)⟩ (i 1)

/-- At row `512 t + r` it is that row's of tile `t`. -/
theorem G7_apply (hO : Ok m) (c : Dev nD) (t : Fin (cfgM m hO).N) (r : Fin 512) (q : Fin 1024) :
    G7 m hO c (ix2 ⟨512 * (tile t).val + r.val, by have := (tile t).isLt; omega⟩ q) = entryAt m hO c t r q := by
  have et : (⟨(512 * (tile t).val + r.val) / 512, by rw [points m hO]; have := (tile t).isLt; omega⟩ : Fin (cfgM m hO).N) = t :=
    Fin.ext (by show (512 * t.val + r.val) / 512 = t.val; omega)
  have er : (⟨(512 * (tile t).val + r.val) % 512, Nat.mod_lt _ (by omega)⟩ : Fin 512) = r := Fin.ext (by show (512 * t.val + r.val) % 512 = r.val; omega)
  show entryAt m hO c ⟨(512 * (tile t).val + r.val) / 512, _⟩ ⟨(512 * (tile t).val + r.val) % 512, _⟩ q = _
  rw [et, er]

/-- What point `t` writes back is the result's block there. -/
theorem block7 (hO : Ok m) (h1 : 1 ≤ (nu m).toNat) (h2 : (nu m).toNat ≤ 321) (c : Dev nD) (hS : Sorts (V m c main_cst : FVec Ideal S256x256 .bf16))
    (t : Fin (cfgM m hO).N) : (dats m hO 0 c).flushed 7 t = (((cfgM m hO).win 7).blk t).view.read (Elt Ideal) (G7 m hO c) := by
  show ((cfgM m hO).win 7).cut (grid0.coords t) ((dats m hO 0 c).after 7 t) = _
  rw [after7]
  refine funext fun (i : S512x1024.Idx) => ?_
  obtain ⟨r, q, rfl⟩ : ∃ (r : Fin 512) (q : Fin 1024), i = ix2 r q := ⟨i 0, i 1, eq_ix2 i⟩
  refine Eq.trans ?_ (View.read_apply (v := (((cfgM m hO).win 7).blk t).view) (Val := Elt Ideal) ..).symm
  exact (oAt_apply m hO h1 h2 c hS t r q).trans ((G7_apply m hO c t r q).symm.trans (congrArg (G7 m hO c) (emb7 m hO t r q).symm))

/-- Every entry of the result is in a block that is written back. -/
theorem cover7 (hO : Ok m) (i : S164352x1024.Idx) : ∃ t : Fin (cfgM m hO).N, ((cfgM m hO).win 7).flush t = true ∧ i ∈ (((cfgM m hO).win 7).blk t).view.set := by
  have h0 : (i 0 : Nat) < 164352 := (i 0).isLt
  have hq : (i 0 : Nat) / 512 < (cfgM m hO).N := by rw [points m hO]; omega
  refine ⟨⟨(i 0 : Nat) / 512, hq⟩, flush7 m hO _, ?_⟩
  have e : ((((cfgM m hO).win 7).blk ⟨(i 0 : Nat) / 512, hq⟩).view.emb (ix2 ⟨(i 0 : Nat) % 512, Nat.mod_lt _ (by omega)⟩ (i 1) : S512x1024.Idx) : S164352x1024.Idx) = i := by
    refine (emb7 m hO _ _ _).trans ?_
    refine funext fun a => Fin.ext ?_
    match a with
    | ⟨0, _⟩ => show 512 * ((i 0 : Nat) / 512) + (i 0 : Nat) % 512 = (i 0 : Nat); omega
    | ⟨1, _⟩ => rfl
  have hm := Finset.mem_map_of_mem (((cfgM m hO).win 7).blk ⟨(i 0 : Nat) / 512, hq⟩).view.emb
    (Finset.mem_univ (ix2 ⟨(i 0 : Nat) % 512, Nat.mod_lt _ (by omega)⟩ (i 1) : S512x1024.Idx))
  rw [e] at hm
  exact hm

/-- The array after the run. -/
theorem final7 (hO : Ok m) (h1 : 1 ≤ (nu m).toNat) (h2 : (nu m).toNat ≤ 321) (c : Dev nD) (hS : Sorts (V m c main_cst : FVec Ideal S256x256 .bf16)) :
    (dats m hO 0 c).arrAt 7 (cfgM m hO).N = G7 m hO c :=
  (dats m hO 0 c).arrAt_eq_of_cover 7 (G7 m hO c) (fun t _ => block7 m hO h1 h2 c hS t) (cover7 m hO)

end Cert.ExpertsIdeal.Ffn

end
-- ==== Proof.FfnTable.lean ====
module

/- The kernel's 256 by 256 table of ones and zeros: its column `j` below 128 has its one in row `2 j`, its column `128 + j`
   in row `2 j + 1`. A product with it on the right brings the even columns before the odd ones. -/

public import proofs.«01_k».proof.Proof.Gen.ExpertsIdeal

@[expose] public section

set_option maxRecDepth 16384

namespace Cert.ExpertsIdeal.Perm

open Cert.ExpertsIdeal Cert.ExpertsIdeal.Gen Idealize.ShloMosaic

/-- The table's entries by position: a one at position `n` where `n`'s place in its half row is the half of its row, and
    the half is the row's parity. -/
def entry (n : Nat) : BitVec 16 :=
  bif n % 128 == n / 512 && (n / 128 % 4 == 0 || n / 128 % 4 == 3) then 0x3F80#16 else 0x0000#16

/-- Quarter 0 of the table, entry by entry. -/
theorem quarter0 : ∀ k : Fin 128, ∀ j : Fin 128, lit0t1_0 (0 + 128 * k.val + j.val) = entry (0 + 128 * k.val + j.val) := by decide +kernel

/-- Quarter 1 of the table, entry by entry. -/
theorem quarter1 : ∀ k : Fin 128, ∀ j : Fin 128, lit0t1_1 (16384 + 128 * k.val + j.val) = entry (16384 + 128 * k.val + j.val) := by decide +kernel

/-- Quarter 2 of the table, entry by entry. -/
theorem quarter2 : ∀ k : Fin 128, ∀ j : Fin 128, lit0t1_2 (32768 + 128 * k.val + j.val) = entry (32768 + 128 * k.val + j.val) := by decide +kernel

/-- Quarter 3 of the table, entry by entry. -/
theorem quarter3 : ∀ k : Fin 128, ∀ j : Fin 128, lit0t1_3 (49152 + 128 * k.val + j.val) = entry (49152 + 128 * k.val + j.val) := by decide +kernel

/-- Every entry of the table. -/
theorem lit0_eq (n : Fin 65536) : lit0 n = entry n.val := by
  obtain ⟨i, hi⟩ := n
  show lit0t i = entry i
  have hg : i / 16384 = 0 ∨ i / 16384 = 1 ∨ i / 16384 = 2 ∨ i / 16384 = 3 := by omega
  have hk : i / 128 % 128 < 128 := Nat.mod_lt _ (by omega)
  have hj : i % 128 < 128 := Nat.mod_lt _ (by omega)
  rcases hg with hg | hg | hg | hg
  · have e : lit0t i = lit0t1_0 i := by delta lit0t; rw [hg]; rfl
    have h := quarter0 ⟨i / 128 % 128, hk⟩ ⟨i % 128, hj⟩
    dsimp only at h
    rw [show 0 + 128 * (i / 128 % 128) + i % 128 = i by omega] at h
    exact e.trans h
  · have e : lit0t i = lit0t1_1 i := by delta lit0t; rw [hg]; rfl
    have h := quarter1 ⟨i / 128 % 128, hk⟩ ⟨i % 128, hj⟩
    dsimp only at h
    rw [show 16384 + 128 * (i / 128 % 128) + i % 128 = i by omega] at h
    exact e.trans h
  · have e : lit0t i = lit0t1_2 i := by delta lit0t; rw [hg]; rfl
    have h := quarter2 ⟨i / 128 % 128, hk⟩ ⟨i % 128, hj⟩
    dsimp only at h
    rw [show 32768 + 128 * (i / 128 % 128) + i % 128 = i by omega] at h
    exact e.trans h
  · have e : lit0t i = lit0t1_3 i := by delta lit0t; rw [hg]; rfl
    have h := quarter3 ⟨i / 128 % 128, hk⟩ ⟨i % 128, hj⟩
    dsimp only at h
    rw [show 49152 + 128 * (i / 128 % 128) + i % 128 = i by omega] at h
    exact e.trans h

end Cert.ExpertsIdeal.Perm

end
-- ==== Proof.FfnSort.lean ====
module

/- The table of constants is the matrix that sorts columns. -/

public import proofs.«01_k».proof.Proof.FfnPay
public import proofs.«01_k».proof.Proof.FfnTable
public import Idealize.ShloMosaic.Lib.Pipeline.Value
public import Idealize.ShloMosaic.Lib.IdealHost
public import Idealize.ShloMosaic.Lib.Pointwise

@[expose] public section

set_option maxRecDepth 16384

noncomputable section

namespace Cert.ExpertsIdeal.Ffn

open Cert.ExpertsIdeal Cert.ExpertsIdeal.Gen Idealize.ShloMosaic Idealize.ShloMosaic.TcCoe Idealize.SL.Sem

/-- A table position's residue, half row and quarter, from its row and column. -/
theorem cell_place (k j : Nat) (hj : j < 256) : (k * 256 + j) % 128 = j % 128 ∧ (k * 256 + j) / 512 = k / 2
    ∧ (k * 256 + j) / 128 % 4 = 2 * (k % 2) + j / 128 := by
  have a : (k * 256 + j) / 128 = 2 * k + j / 128 := by omega
  refine ⟨by omega, by omega, ?_⟩
  rw [a]; omega

/-- The table's matrix is that one. -/
theorem sorts_table (P : Vec Ideal S256x256 .bf16) (h : ∀ i, (P i : EReal) = Ideal.ofBits .bf16 (lit0 (S256x256.rowMajor i))) : Sorts P := by
  intro k j
  have hv : (S256x256.rowMajor (ix2 k j)).val = k.val * 256 + j.val := rowMajor_val2 _ 256 rfl
  have hn : lit0 (S256x256.rowMajor (ix2 k j)) = Perm.entry (k.val * 256 + j.val) := (Perm.lit0_eq _).trans (congrArg Perm.entry hv)
  refine (h _).trans ((congrArg (Ideal.ofBits .bf16) hn).trans ?_)
  have hj := j.isLt
  obtain ⟨p1, p2, p3⟩ := cell_place k.val j.val hj
  clear hv hn
  by_cases e : k = ⟨2 * (j.val % 128) + j.val / 128, by omega⟩
  · rw [if_pos e]
    have e' : k.val = 2 * (j.val % 128) + j.val / 128 := congrArg Fin.val e
    have t : Perm.entry (k.val * 256 + j.val) = 0x3F80#16 := by
      unfold Perm.entry
      rw [p1, p2, p3]
      have h1 : (j.val % 128 == k.val / 2) = true := beq_iff_eq.mpr (by omega)
      have h2 : (2 * (k.val % 2) + j.val / 128 == 0 || 2 * (k.val % 2) + j.val / 128 == 3) = true := by
        have q : k.val % 2 = j.val / 128 := by omega
        have q' : j.val / 128 = 0 ∨ j.val / 128 = 1 := by omega
        rw [Bool.or_eq_true, beq_iff_eq, beq_iff_eq, q]
        rcases q' with q' | q' <;> rw [q'] <;> decide
      rw [h1, h2]; rfl
    rw [t]; exact Ideal.ofBits_one_bf16
  · rw [if_neg e]
    have e' : k.val ≠ 2 * (j.val % 128) + j.val / 128 := fun h => e (Fin.ext h)
    have t : Perm.entry (k.val * 256 + j.val) = 0x0000#16 := by
      unfold Perm.entry
      rw [p1, p2, p3]
      have h1 : (j.val % 128 == k.val / 2 && (2 * (k.val % 2) + j.val / 128 == 0 || 2 * (k.val % 2) + j.val / 128 == 3)) = false := by
        rw [← Bool.not_eq_true, Bool.and_eq_true, Bool.or_eq_true, beq_iff_eq, beq_iff_eq, beq_iff_eq]; omega
      rw [h1]; rfl
    rw [t]; exact Ideal.ofBits_zero .bf16

end Cert.ExpertsIdeal.Ffn

end
-- ==== Proof.FfnRef.lean ====
module

/- The reference, entry by entry. -/

public import proofs.«01_k».proof.Proof.Gen.ExpertsRefIdeal.Run
public import proofs.«01_k».proof.Proof.Gen.ExpertsRefIdeal.Read
public import proofs.«01_k».proof.Proof.FfnMath
public import Idealize.ShloMosaic.Lib.WordCmp
public import Idealize.ShloMosaic.Lib.IdealHost
public import Idealize.ShloMosaic.Lib.Pointwise

@[expose] public section

set_option maxRecDepth 16384

noncomputable section

namespace Cert.ExpertsRefIdeal.Entry

open Cert.ExpertsRefIdeal Cert.ExpertsRefIdeal.Gen Cert.ExpertsRefIdeal.Read Idealize.ShloMosaic.WordCmp Idealize.ShloMosaic Idealize.ShloMosaic.TcCoe Idealize.SL.Sem

/-! ## Taking one slab of 32 per tile -/

section Take
variable {α : Type}

/-- Slabs of a rank-3 array by an index per tile. -/
abbrev slabs (A B : Nat) (wf : GatherDims.WF ⟨3, ![32, A, B]⟩ S321x1 ⟨3, ![321, A, B]⟩ [1, 2] [0] [] [0] [] 1 ![1, A, B]) :
    GatherDims ⟨3, ![32, A, B]⟩ S321x1 ⟨3, ![321, A, B]⟩ where
  offsetDims := [1, 2]
  collapsedSliceDims := [0]
  operandBatchingDims := []
  startIndicesBatchingDims := []
  startIndexMap := [0]
  indexVectorDim := 1
  sliceSizes := ![1, A, B]
  wf := wf

/-- Rows of a rank-2 array by an index per tile. -/
abbrev rows (A : Nat) (wf : GatherDims.WF ⟨2, ![32, A]⟩ S321x1 ⟨2, ![321, A]⟩ [1] [0] [] [0] [] 1 ![1, A]) :
    GatherDims ⟨2, ![32, A]⟩ S321x1 ⟨2, ![321, A]⟩ where
  offsetDims := [1]
  collapsedSliceDims := [0]
  operandBatchingDims := []
  startIndicesBatchingDims := []
  startIndexMap := [0]
  indexVectorDim := 1
  sliceSizes := ![1, A]
  wf := wf

/-- A word below 32 read signed and clamped to the 32 slabs is itself. -/
theorem clamp_word (x : BitVec 32) (h : x.toNat < 32) : min x.toInt.toNat (32 - 1) = x.toNat := by
  have : x.toInt = x.toNat := by rw [BitVec.toInt_eq_toNat_cond]; split <;> omega
  omega

/-- The slab taken for tile `t` is the one its index names, an index in range being kept. -/
theorem slabs_apply {A B : Nat} (wf) (x : (⟨3, ![32, A, B]⟩ : Shape).Idx → α) (idx : IVec S321x1 32) (t : Fin 321) (p : Fin A) (q : Fin B)
    (h : (idx (ix2 t 0)).toNat < 32) :
    Host.gather (slabs A B wf) x idx (ix3 t p q) = x (ix3 ⟨(idx (ix2 t 0)).toNat, h⟩ p q) := by
  have s0 : (slabs A B wf).start (ix3 t p q) idx (0 : Fin 3) = (idx (ix2 t 0)).toNat := by
    unfold GatherDims.start
    rw [dif_pos (show (0 : Fin 3) ∈ (slabs A B wf).startIndexMap from List.mem_singleton.mpr rfl)]
    have hsi : (slabs A B wf).siIdx (ix3 t p q) ⟨List.idxOf (0 : Fin 3) (slabs A B wf).startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    exact clamp_word _ h
  have o0 : (slabs A B wf).offCoord (ix3 t p q) (0 : Fin 3) = 0 :=
    GatherDims.offCoord_eq_zero _ _ _ (fun h => ((GatherDims.mem_sKept _ _).mp h).1 (List.mem_singleton.mpr rfl))
  have sk (a : Fin 3) (ha : a ≠ 0) : (slabs A B wf).start (ix3 t p q) idx a = 0 := by
    unfold GatherDims.start
    exact dif_neg (fun h => ha (List.mem_singleton.mp h))
  have o1 : (slabs A B wf).offCoord (ix3 t p q) (1 : Fin 3) = p.val := by
    unfold GatherDims.offCoord
    rw [dif_pos (show (1 : Fin 3) ∈ (slabs A B wf).sKept from
      (GatherDims.mem_sKept _ _).mpr ⟨fun h => absurd (List.mem_singleton.mp h) (by decide : ¬ (1 : Fin 3) = 0), List.not_mem_nil⟩)]
    rfl
  have o2 : (slabs A B wf).offCoord (ix3 t p q) (2 : Fin 3) = q.val := by
    unfold GatherDims.offCoord
    rw [dif_pos (show (2 : Fin 3) ∈ (slabs A B wf).sKept from
      (GatherDims.mem_sKept _ _).mpr ⟨fun h => absurd (List.mem_singleton.mp h) (by decide : ¬ (2 : Fin 3) = 0), List.not_mem_nil⟩)]
    rfl
  unfold Host.gather
  congr 1
  funext a
  refine Fin.ext ?_
  show (slabs A B wf).start (ix3 t p q) idx a + (slabs A B wf).batchCoord (ix3 t p q) a + (slabs A B wf).offCoord (ix3 t p q) a = _
  rw [GatherDims.batchCoord_eq_zero _ _ _ List.not_mem_nil]
  match a with
  | ⟨0, _⟩ =>
    show (slabs A B wf).start (ix3 t p q) idx (0 : Fin 3) + 0 + (slabs A B wf).offCoord (ix3 t p q) (0 : Fin 3) = _
    rw [s0, o0]; rfl
  | ⟨1, _⟩ =>
    show (slabs A B wf).start (ix3 t p q) idx (1 : Fin 3) + 0 + (slabs A B wf).offCoord (ix3 t p q) (1 : Fin 3) = _
    rw [sk _ (by decide), o1]; exact (Nat.zero_add _)
  | ⟨2, _⟩ =>
    show (slabs A B wf).start (ix3 t p q) idx (2 : Fin 3) + 0 + (slabs A B wf).offCoord (ix3 t p q) (2 : Fin 3) = _
    rw [sk _ (by decide), o2]; exact (Nat.zero_add _)

/-- The row taken for tile `t` likewise. -/
theorem rows_apply {A : Nat} (wf) (x : (⟨2, ![32, A]⟩ : Shape).Idx → α) (idx : IVec S321x1 32) (t : Fin 321) (p : Fin A)
    (h : (idx (ix2 t 0)).toNat < 32) :
    Host.gather (rows A wf) x idx (ix2 t p) = x (ix2 ⟨(idx (ix2 t 0)).toNat, h⟩ p) := by
  have s0 : (rows A wf).start (ix2 t p) idx (0 : Fin 2) = (idx (ix2 t 0)).toNat := by
    unfold GatherDims.start
    rw [dif_pos (show (0 : Fin 2) ∈ (rows A wf).startIndexMap from List.mem_singleton.mpr rfl)]
    have hsi : (rows A wf).siIdx (ix2 t p) ⟨List.idxOf (0 : Fin 2) (rows A wf).startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    exact clamp_word _ h
  have o0 : (rows A wf).offCoord (ix2 t p) (0 : Fin 2) = 0 :=
    GatherDims.offCoord_eq_zero _ _ _ (fun h => ((GatherDims.mem_sKept _ _).mp h).1 (List.mem_singleton.mpr rfl))
  have sk (a : Fin 2) (ha : a ≠ 0) : (rows A wf).start (ix2 t p) idx a = 0 := by
    unfold GatherDims.start
    exact dif_neg (fun h => ha (List.mem_singleton.mp h))
  have o1 : (rows A wf).offCoord (ix2 t p) (1 : Fin 2) = p.val := by
    unfold GatherDims.offCoord
    rw [dif_pos (show (1 : Fin 2) ∈ (rows A wf).sKept from
      (GatherDims.mem_sKept _ _).mpr ⟨fun h => absurd (List.mem_singleton.mp h) (by decide : ¬ (1 : Fin 2) = 0), List.not_mem_nil⟩)]
    rfl
  unfold Host.gather
  congr 1
  funext a
  refine Fin.ext ?_
  show (rows A wf).start (ix2 t p) idx a + (rows A wf).batchCoord (ix2 t p) a + (rows A wf).offCoord (ix2 t p) a = _
  rw [GatherDims.batchCoord_eq_zero _ _ _ List.not_mem_nil]
  match a with
  | ⟨0, _⟩ =>
    show (rows A wf).start (ix2 t p) idx (0 : Fin 2) + 0 + (rows A wf).offCoord (ix2 t p) (0 : Fin 2) = _
    rw [s0, o0]; rfl
  | ⟨1, _⟩ =>
    show (rows A wf).start (ix2 t p) idx (1 : Fin 2) + 0 + (rows A wf).offCoord (ix2 t p) (1 : Fin 2) = _
    rw [sk _ (by decide), o1]; exact (Nat.zero_add _)

end Take

/-! ## The reference's values -/

section Values

/-- A word below 32 is not negative, so the normalised index is the index. -/
theorem word_kept (x : BitVec 32) (h : x.toNat < 32) : Scalar.select (IntOp.cmpi .slt x 0#32) (IntOp.addi x 32#32) x = x := by
  rw [cmpi_slt_eq]
  have : ¬ x.toInt < (0#32).toInt := by
    rw [BitVec.toInt_eq_toNat_cond]
    have : (0#32).toInt = 0 := rfl
    split <;> omega
  rw [decide_eq_false this]
  rfl

variable (x0 : (⟨S321, .i32⟩ : BufTy).Contents (Elt Ideal)) (x1 : (⟨S1, .i32⟩ : BufTy).Contents (Elt Ideal))
  (x2 : (⟨S165376x1024, .f32⟩ : BufTy).Contents (Elt Ideal)) (x3 : (⟨S32x1024x2048, .f32⟩ : BufTy).Contents (Elt Ideal))
  (x4 : (⟨S32x1024x1024, .f32⟩ : BufTy).Contents (Elt Ideal)) (x5 : (⟨S32x2048, .f32⟩ : BufTy).Contents (Elt Ideal))
  (x6 : (⟨S32x1024, .f32⟩ : BufTy).Contents (Elt Ideal)) (h0 : ∀ i : Fin 321, (x0 (ix1 i)).toNat < 32)

include h0

/-- Each gather's index of tile `t` is the tile's expert. -/
theorem index_up (t : Fin 321) : val_main_v7 (F := Ideal) x0 (ix2 t 0) = x0 (ix1 t) := by
  rw [val_main_v7_apply, show idx_main_v7 (ix2 t 0) = ix1 t from funext fun a => by match a with | ⟨0, _⟩ => rfl]
  exact word_kept _ (h0 t)

/-- The expert of tile `t`, as an index. -/
abbrev ex (t : Fin 321) : Fin 32 := ⟨(x0 (ix1 t)).toNat, h0 t⟩

/-- The up weights of tile `t`. -/
theorem up_apply (t : Fin 321) (k : Fin 1024) (f : Fin 2048) :
    val_main_v8 (F := Ideal) x0 x3 (ix3 t k f) = x3 (ix3 (ex x0 h0 t) k f) := by
  have e := index_up x0 h0 t
  refine (slabs_apply (A := 1024) (B := 2048) _ x3 (val_main_v7 (F := Ideal) x0) t k f (by rw [e]; exact h0 t)).trans ?_
  simp only [e]

/-- The up biases of tile `t`. -/
theorem up_bias_apply (t : Fin 321) (f : Fin 2048) : val_main_v16 (F := Ideal) x0 x5 (ix2 t f) = x5 (ix2 (ex x0 h0 t) f) := by
  have e : val_main_v15 (F := Ideal) x0 (ix2 t 0) = x0 (ix1 t) := index_up x0 h0 t
  refine (rows_apply (A := 2048) _ x5 (val_main_v15 (F := Ideal) x0) t f (by rw [e]; exact h0 t)).trans ?_
  simp only [e]

/-- The down weights of tile `t`. -/
theorem down_apply (t : Fin 321) (k : Fin 1024) (f : Fin 1024) :
    val_main_v43 (F := Ideal) x0 x4 (ix3 t k f) = x4 (ix3 (ex x0 h0 t) k f) := by
  have e : val_main_v42 (F := Ideal) x0 (ix2 t 0) = x0 (ix1 t) := index_up x0 h0 t
  refine (slabs_apply (A := 1024) (B := 1024) _ x4 (val_main_v42 (F := Ideal) x0) t k f (by rw [e]; exact h0 t)).trans ?_
  simp only [e]

/-- The down biases of tile `t`. -/
theorem down_bias_apply (t : Fin 321) (f : Fin 1024) : val_main_v51 (F := Ideal) x0 x6 (ix2 t f) = x6 (ix2 (ex x0 h0 t) f) := by
  have e : val_main_v50 (F := Ideal) x0 (ix2 t 0) = x0 (ix1 t) := index_up x0 h0 t
  refine (rows_apply (A := 1024) _ x6 (val_main_v50 (F := Ideal) x0) t f (by rw [e]; exact h0 t)).trans ?_
  simp only [e]

omit h0 in
/-- Row `r` of tile `t`. -/
theorem row_apply (t : Fin 321) (r : Fin 512) (k : Fin 1024) :
    val_main_v1 (F := Ideal) x2 (ix3 t r k) = x2 (ix2 ⟨512 * t.val + r.val, by omega⟩ k) := by
  rw [val_main_v1_apply, val_main_v0_apply]
  refine congrArg x2 (funext fun a => Fin.ext ?_)
  match a with
  | ⟨0, _⟩ => show ((t.val * 512 + r.val) * 1024 + k.val) / 1024 = 512 * t.val + r.val; omega
  | ⟨1, _⟩ => show ((t.val * 512 + r.val) * 1024 + k.val) % 1024 = k.val; omega

/-- A hidden entry before the gate. -/
theorem hidden_apply (t : Fin 321) (r : Fin 512) (f : Fin 2048) :
    val_main_v19 (F := Ideal) x0 x2 x3 x5 (ix3 t r f)
      = Expert.lin (fun k => x2 (ix2 ⟨512 * t.val + r.val, by omega⟩ k)) (fun k => x3 (ix3 (ex x0 h0 t) k f)) (x5 (ix2 (ex x0 h0 t) f)) := by
  rw [val_main_v19_apply, val_main_v9_apply, val_main_v18_apply, val_main_v17_apply]
  unfold Expert.lin
  refine congrArg₂ (fun a b : EReal => a + b) (Finset.sum_congr rfl fun k _ => congrArg₂ (fun a b : EReal => a * b) ?_ ?_) ?_
  · rw [show lidx_main_v9 (ix3 t r f) k = ix3 t r k from funext fun a => by match a with | ⟨0, _⟩ => rfl | ⟨1, _⟩ => rfl | ⟨2, _⟩ => rfl]
    exact row_apply x2 t r k
  · rw [show ridx_main_v9 (ix3 t r f) k = ix3 t k f from funext fun a => by match a with | ⟨0, _⟩ => rfl | ⟨1, _⟩ => rfl | ⟨2, _⟩ => rfl]
    exact up_apply x0 x3 h0 t k f
  · rw [show idx_main_v17 (idx_main_v18 (ix3 t r f)) = ix2 t f from funext fun a => by match a with | ⟨0, _⟩ => rfl | ⟨1, _⟩ => rfl]
    exact up_bias_apply x0 x5 h0 t f

/-- The gated hidden entry. -/
theorem gated_apply (t : Fin 321) (r : Fin 512) (f : Fin 1024) :
    val_main_v36 (F := Ideal) x0 x2 x3 x5 (ix3 t r f)
      = Expert.act
          (Expert.lin (fun k => x2 (ix2 ⟨512 * t.val + r.val, by omega⟩ k)) (fun k => x3 (ix3 (ex x0 h0 t) k ⟨2 * f.val, by omega⟩)) (x5 (ix2 (ex x0 h0 t) ⟨2 * f.val, by omega⟩)))
          (Expert.lin (fun k => x2 (ix2 ⟨512 * t.val + r.val, by omega⟩ k)) (fun k => x3 (ix3 (ex x0 h0 t) k ⟨2 * f.val + 1, by omega⟩)) (x5 (ix2 (ex x0 h0 t) ⟨2 * f.val + 1, by omega⟩))) := by
  have eg : val_main_v20 (F := Ideal) x0 x2 x3 x5 (ix3 t r f) = _ :=
    (congrArg (val_main_v19 (F := Ideal) x0 x2 x3 x5) (funext fun a => Fin.ext (by
      match a with
      | ⟨0, _⟩ => show 0 + 1 * t.val = t.val; omega
      | ⟨1, _⟩ => show 0 + 1 * r.val = r.val; omega
      | ⟨2, _⟩ => show 0 + 2 * f.val = 2 * f.val; omega) : _ = ix3 t r ⟨2 * f.val, by omega⟩)).trans (hidden_apply x0 x2 x3 x5 h0 t r ⟨2 * f.val, by omega⟩)
  have el : val_main_v23 (F := Ideal) x0 x2 x3 x5 (ix3 t r f) = _ :=
    (congrArg (val_main_v19 (F := Ideal) x0 x2 x3 x5) (funext fun a => Fin.ext (by
      match a with
      | ⟨0, _⟩ => show 0 + 1 * t.val = t.val; omega
      | ⟨1, _⟩ => show 0 + 1 * r.val = r.val; omega
      | ⟨2, _⟩ => show 1 + 2 * f.val = 2 * f.val + 1; omega) : _ = ix3 t r ⟨2 * f.val + 1, by omega⟩)).trans (hidden_apply x0 x2 x3 x5 h0 t r ⟨2 * f.val + 1, by omega⟩)
  have ec (w : BitVec 32) : FloatOps.ofBits (F := Ideal) .f32 w = Ideal.ofBits .f32 w := rfl
  have g22 : val_main_v22 (F := Ideal) x0 x2 x3 x5 (ix3 t r f) = min (val_main_v20 (F := Ideal) x0 x2 x3 x5 (ix3 t r f)) (Ideal.ofBits .f32 0x40E00000#32) := by
    rw [val_main_v22_apply, val_main_v21_apply, val_main_cst_apply, ec]; rfl
  have g24 : val_main_v24 (F := Ideal) x0 x2 x3 x5 (ix3 t r f)
      = min (Ideal.ofBits .f32 0x40E00000#32) (max (Ideal.ofBits .f32 0xC0E00000#32) (val_main_v23 (F := Ideal) x0 x2 x3 x5 (ix3 t r f))) := by
    rw [val_main_v24_apply, val_main_call0_v2_apply, val_main_call0_v4_apply, val_main_call0_v3_apply, val_main_call0_v1_apply, val_main_call0_v0_apply,
      val_main_cst_3_apply, val_main_cst_4_apply, ec, ec]; rfl
  have g32 : val_main_v32 (F := Ideal) x0 x2 x3 x5 (ix3 t r f)
      = Ideal.logistic (Ideal.ofBits .f32 0x3FD9DB23#32 * val_main_v22 (F := Ideal) x0 x2 x3 x5 (ix3 t r f)) := by
    rw [val_main_v32_apply, val_main_v30_apply, val_main_v28_apply, val_main_v27_apply, val_main_v26_apply, val_main_v25_apply, val_main_v29_apply,
      val_main_v31_apply, val_main_cst_5_apply, val_main_cst_6_apply, val_main_cst_7_apply, ec, ec, Ideal.ofBits_one_f32]; rfl
  rw [val_main_v36_apply, val_main_v33_apply, val_main_v35_apply, val_main_v34_apply, val_main_cst_8_apply, ec, g32, g24, g22, eg, el]
  rfl

/-- An entry of a tile's output. -/
theorem tile_apply (t : Fin 321) (r : Fin 512) (c : Fin 1024) :
    val_main_v54 (F := Ideal) x0 x2 x3 x4 x5 x6 (ix3 t r c)
      = Expert.out (fun k => x2 (ix2 ⟨512 * t.val + r.val, by omega⟩ k))
          (fun f k => x3 (ix3 (ex x0 h0 t) k ⟨2 * f.val, by omega⟩)) (fun f k => x3 (ix3 (ex x0 h0 t) k ⟨2 * f.val + 1, by omega⟩))
          (fun f => x5 (ix2 (ex x0 h0 t) ⟨2 * f.val, by omega⟩)) (fun f => x5 (ix2 (ex x0 h0 t) ⟨2 * f.val + 1, by omega⟩))
          (fun f => x4 (ix3 (ex x0 h0 t) f c)) (x6 (ix2 (ex x0 h0 t) c)) := by
  rw [val_main_v54_apply, val_main_v44_apply, val_main_v53_apply, val_main_v52_apply]
  unfold Expert.out
  refine congrArg₂ (fun a b : EReal => a + b) (Finset.sum_congr rfl fun k _ => congrArg₂ (fun a b : EReal => a * b) ?_ ?_) ?_
  · rw [show lidx_main_v44 (ix3 t r c) k = ix3 t r k from funext fun a => by match a with | ⟨0, _⟩ => rfl | ⟨1, _⟩ => rfl | ⟨2, _⟩ => rfl]
    exact gated_apply x0 x2 x3 x5 h0 t r k
  · rw [show ridx_main_v44 (ix3 t r c) k = ix3 t k c from funext fun a => by match a with | ⟨0, _⟩ => rfl | ⟨1, _⟩ => rfl | ⟨2, _⟩ => rfl]
    exact down_apply x0 x4 h0 t k c
  · rw [show idx_main_v52 (idx_main_v53 (ix3 t r c)) = ix2 t c from funext fun a => by match a with | ⟨0, _⟩ => rfl | ⟨1, _⟩ => rfl]
    exact down_bias_apply x0 x6 h0 t c

omit h0 in
/-- Which rows the reference keeps: row `512 t + r` when tile `t` is one of the first `x1` tiles. -/
theorem kept_apply (h1 : (x1 (ix1 0)).toNat ≤ 321) (t : Fin 321) (r : Fin 512) (c : Fin 1024) :
    val_main_call1_v1 (F := Ideal) x1 (ix2 ⟨512 * t.val + r.val, by omega⟩ c) = BitVec.ofBool (decide (t.val < (x1 (ix1 0)).toNat)) := by
  rw [val_main_call1_v1_apply, val_main_v60_apply, val_main_v56_apply, val_main_v59_apply, val_main_v58_apply, val_main_c_13_apply]
  have e57 : ∀ i, val_main_v57 (F := Ideal) x1 i = x1 (ix1 0) := fun i => by
    unfold val_main_v57
    exact congrArg x1 (funext fun a => by match a with | ⟨0, _⟩ => exact Fin.ext (Nat.lt_one_iff.mp (Fin.isLt _)))
  rw [e57, cmpi_slt_eq]
  refine congrArg BitVec.ofBool (decide_eq_decide.mpr ?_)
  have hl : (val_main_v55 (F := Ideal) (idx_main_v56 (idx_main_call1_v1 (ix2 ⟨512 * t.val + r.val, by omega⟩ c)))).toInt = 512 * t.val + r.val := by
    show (BitVec.ofNat 32 (512 * t.val + r.val)).toInt = _
    have h : (BitVec.ofNat 32 (512 * t.val + r.val)).toNat = 512 * t.val + r.val := by rw [BitVec.toNat_ofNat]; omega
    rw [BitVec.toInt_eq_toNat_cond, h]; split <;> omega
  have hr : (IntOp.muli (x1 (ix1 0)) 512#32 : BitVec 32).toInt = 512 * (x1 (ix1 0)).toNat := by
    have h : (IntOp.muli (x1 (ix1 0)) 512#32 : BitVec 32).toNat = 512 * (x1 (ix1 0)).toNat := by
      show ((x1 (ix1 0) : BitVec 32) * 512#32).toNat = _
      rw [BitVec.toNat_mul]
      show (x1 (ix1 0) : BitVec 32).toNat * 512 % 2 ^ 32 = _
      omega
    rw [BitVec.toInt_eq_toNat_cond, h]; split <;> omega
  rw [hl, hr]
  omega

/-- The reference's result at row `512 t + r`: the expert's output in a used tile, zero beyond. -/
theorem result_apply (h1 : (x1 (ix1 0)).toNat ≤ 321) (t : Fin 321) (r : Fin 512) (c : Fin 1024) :
    val_main_v62 (F := Ideal) x0 x1 x2 x3 x4 x5 x6 (ix2 ⟨512 * t.val + r.val, by omega⟩ c)
      = if t.val < (x1 (ix1 0)).toNat then
          Expert.out (fun k => x2 (ix2 ⟨512 * t.val + r.val, by omega⟩ k))
            (fun f k => x3 (ix3 (ex x0 h0 t) k ⟨2 * f.val, by omega⟩)) (fun f k => x3 (ix3 (ex x0 h0 t) k ⟨2 * f.val + 1, by omega⟩))
            (fun f => x5 (ix2 (ex x0 h0 t) ⟨2 * f.val, by omega⟩)) (fun f => x5 (ix2 (ex x0 h0 t) ⟨2 * f.val + 1, by omega⟩))
            (fun f => x4 (ix3 (ex x0 h0 t) f c)) (x6 (ix2 (ex x0 h0 t) c))
        else Ideal.ofBits .f32 0x00000000#32 := by
  rw [val_main_v62_apply, kept_apply x1 h1 t r c, val_main_v61_apply, val_main_call1_v2_apply, val_main_call1_v0_apply, val_main_cst_14_apply]
  rw [show idx_main_v61 (ix2 ⟨512 * t.val + r.val, by omega⟩ c) = ix3 t r c from funext fun a => Fin.ext (by
    match a with
    | ⟨0, _⟩ => show ((512 * t.val + r.val) * 1024 + c.val) / 524288 = t.val; omega
    | ⟨1, _⟩ => show ((512 * t.val + r.val) * 1024 + c.val) / 1024 % 512 = r.val; omega
    | ⟨2, _⟩ => show ((512 * t.val + r.val) * 1024 + c.val) % 1024 = c.val; omega), tile_apply x0 x2 x3 x4 x5 x6 h0 t r c]
  by_cases h : t.val < (x1 (ix1 0)).toNat
  · rw [decide_eq_true h, if_pos h]; rfl
  · rw [decide_eq_false h, if_neg h]; rfl

end Values

end Cert.ExpertsRefIdeal.Entry

end
-- ==== Proof.FfnClaim.lean ====
module

/- The claims about the expert kernel. -/

public import proofs.«01_k».proof.Defs
public import proofs.«01_k».proof.Proof.FfnBitsFrame
public import proofs.«01_k».proof.Proof.FfnBitsOk
public import proofs.«01_k».proof.Proof.FfnValue
public import proofs.«01_k».proof.Proof.FfnSort
public import proofs.«01_k».proof.Proof.FfnRef
public import proofs.«01_k».proof.Proof.Gen.Pre_in_range
public import Idealize.ShloMosaic.Init

@[expose] public section

set_option maxRecDepth 16384

noncomputable section

namespace Cert.Experts.Ffn

open Cert.Experts Cert.Experts.Gen Idealize.ShloMosaic Idealize.ShloMosaic.TcCoe Idealize.SL.Sem

variable {F : FTy → Type} [FloatOps F] (m : (ℓ : Loc nD τ sig) → Buf (Elt F) ℓ)

/-- The tables' words are the arguments'. -/
theorem words (c : Dev nD) : (∀ i : Fin 321, te m i = (m ((c.tc : Thread nD τ).loc main_arg0) : IVec S321 32) (ix1 i))
    ∧ nu m = (m ((c.tc : Thread nD τ).loc main_arg1) : IVec S1 32) (ix1 0) := by
  obtain rfl : c = 0 := Subsingleton.elim _ _
  exact ⟨fun i => congrFun (V_args m 0).1 (ix1 i), congrFun (V_args m 0).2.1 (ix1 0)⟩

/-- The precondition makes the tables admissible. -/
theorem ok_of_pre (h : ∀ c : Dev nD, (∀ i : Fin 321, ((m ((c.tc : Thread nD τ).loc main_arg0) : IVec S321 32) (ix1 i)).toNat < 32)
    ∧ 1 ≤ ((m ((c.tc : Thread nD τ).loc main_arg1) : IVec S1 32) (ix1 0)).toNat ∧ ((m ((c.tc : Thread nD τ).loc main_arg1) : IVec S1 32) (ix1 0)).toNat ≤ 321) : Ok m := by
  obtain ⟨h0, h1, h2⟩ := h 0
  obtain ⟨e0, e1⟩ := words m 0
  exact ok_of m (fun i => by rw [e0 i]; exact h0 i) (by rw [e1]; exact h1) (by rw [e1]; exact h2)

end Cert.Experts.Ffn

namespace Cert.ExpertsIdeal.Ffn

open Cert.ExpertsIdeal Cert.ExpertsIdeal.Gen Idealize.ShloMosaic Idealize.ShloMosaic.TcCoe Idealize.SL.Sem

section
variable {F : FTy → Type} [FloatOps F] (m : (ℓ : Loc nD τ sig) → Buf (Elt F) ℓ)

/-- The tables' words are the arguments'. -/
theorem words (c : Dev nD) : (∀ i : Fin 321, te m i = (m ((c.tc : Thread nD τ).loc main_arg0) : IVec S321 32) (ix1 i))
    ∧ nu m = (m ((c.tc : Thread nD τ).loc main_arg1) : IVec S1 32) (ix1 0) := by
  obtain rfl : c = 0 := Subsingleton.elim _ _
  exact ⟨fun i => congrFun (V_args m 0).1 (ix1 i), congrFun (V_args m 0).2.1 (ix1 0)⟩

/-- The precondition makes the tables admissible. -/
theorem ok_of_pre (h : ∀ c : Dev nD, (∀ i : Fin 321, ((m ((c.tc : Thread nD τ).loc main_arg0) : IVec S321 32) (ix1 i)).toNat < 32)
    ∧ 1 ≤ ((m ((c.tc : Thread nD τ).loc main_arg1) : IVec S1 32) (ix1 0)).toNat ∧ ((m ((c.tc : Thread nD τ).loc main_arg1) : IVec S1 32) (ix1 0)).toNat ≤ 321) : Ok m := by
  obtain ⟨h0, h1, h2⟩ := h 0
  obtain ⟨e0, e1⟩ := words m 0
  exact ok_of m (fun i => by rw [e0 i]; exact h0 i) (by rw [e1]; exact h1) (by rw [e1]; exact h2)
end

variable (m : (ℓ : Loc nD τ sig) → Buf (Elt Ideal) ℓ) (ρ : Dev nD → PrngReg)

/-- The kernel's run: the output holds its closed form, the arguments are unchanged. -/
theorem run_value (hO : Ok m) (h1 : 1 ≤ (nu m).toNat) (h2 : (nu m).toNat ≤ 321) :
    θ_run defs (onTc (τ := τ) (main (F := Ideal))) ⟨m, fun _ => 0, ρ⟩ (fun r => ∀ c : Dev nD,
      r.2.mem ((c.tc : Thread nD τ).loc main_v5) = G7 m hO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 7).trans (final7 m hO h1 h2 c (sorts_table _ (V_cst m c))), args_kept m hO r h.1 c⟩) (run m ρ hO)

/-- The closed form is the reference's result of the same arguments. -/
theorem G7_ref (hO : Ok m) (h0 : ∀ c : Dev nD, ∀ i : Fin 321, ((m ((c.tc : Thread nD τ).loc main_arg0) : IVec S321 32) (ix1 i)).toNat < 32)
    (h2 : (nu m).toNat ≤ 321) (c : Dev nD) :
    G7 m hO c = ExpertsRefIdeal.Read.val_main_v62 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  obtain ⟨v0, v1, v2, v3, v4, v5, v6⟩ := V_args m c
  obtain ⟨e0, e1⟩ := words m c
  have hu : ((m ((c.tc : Thread nD τ).loc main_arg1) : IVec S1 32) (ix1 0)).toNat ≤ 321 := by rw [← e1]; exact h2
  refine funext fun (i : S164352x1024.Idx) => ?_
  have hi : (i 0).val < 164352 := (i 0).isLt
  have hN : grid0.N = 321 := N_0
  let t : Fin grid0.N := ⟨(i 0).val / 512, by rw [hN]; omega⟩
  let r : Fin 512 := ⟨(i 0).val % 512, Nat.mod_lt _ (by omega)⟩
  have ei : i = ix2 ⟨512 * (tile t).val + r.val, by have := (tile t).isLt; have := r.isLt; omega⟩ (i 1) := funext fun a => Fin.ext (by
    match a with
    | ⟨0, _⟩ => show (i 0).val = 512 * ((i 0).val / 512) + (i 0).val % 512; omega
    | ⟨1, _⟩ => rfl)
  have ee : expert m hO t = ExpertsRefIdeal.Entry.ex (m ((c.tc : Thread nD τ).loc main_arg0)) (h0 c) (tile t) :=
    Fin.ext (congrArg BitVec.toNat ((congrArg (te m) (coords_eq t)).trans (e0 (tile t))))
  rw [ei]
  refine (G7_apply m hO c t r (i 1)).trans (Eq.trans ?_ (ExpertsRefIdeal.Entry.result_apply _ _ _ _ _ _ _ (h0 c) hu (tile t) r (i 1)).symm)
  unfold entryAt
  rw [v2, v3, v4, v5, v6, ee, e1]

end Cert.ExpertsIdeal.Ffn

namespace Cert.Proof

open Idealize.ShloMosaic Idealize.SL.Sem

/-- The printed expert kernel terminates and leaves its arguments. -/
theorem frame_Experts : quiescent_Experts (hExperts := Cert.Experts.Gen.facts) (hPre_in_range := Cert.Pre_in_range.Gen.facts) := fun m g hp =>
  Cert.Experts.Ffn.frame m g (Cert.Experts.Ffn.ok_of_pre m fun c => Cert.Pre_in_range.bounds _ _ _ _ _ _ _ (hp c))

/-- So does its reading over the extended reals. -/
theorem frame_ExpertsIdeal : quiescent_ExpertsIdeal (hExpertsIdeal := Cert.ExpertsIdeal.Gen.facts) (hPre_in_range := Cert.Pre_in_range.Gen.facts) := fun m g hp =>
  Cert.ExpertsIdeal.Ffn.frame m g (Cert.ExpertsIdeal.Ffn.ok_of_pre m fun c => Cert.Pre_in_range.bounds _ _ _ _ _ _ _ (hp c))

/-- The reference terminates and leaves its arguments. -/
theorem frame_ExpertsRefIdeal : quiescent_ExpertsRefIdeal (hExpertsRefIdeal := Cert.ExpertsRefIdeal.Gen.facts) (hPre_in_range := Cert.Pre_in_range.Gen.facts) := fun m g _ =>
  (θ_run Cert.ExpertsRefIdeal.defs _ _).mono (fun r h => ⟨fun c => (h c).2, Idealize.ShloMosaic.sem_eq_zero_of_no_sems (by decide) r.2⟩)
    (Cert.ExpertsRefIdeal.Value.run (F := Ideal) m g)

/-- Over the extended reals the expert kernel computes the reference's result. -/
theorem algebraic_Experts : algebraic_ExpertsIdeal_ExpertsRefIdeal (hExpertsIdeal := Cert.ExpertsIdeal.Gen.facts)
    (hExpertsRefIdeal := Cert.ExpertsRefIdeal.Gen.facts) (hPre_in_range := Cert.Pre_in_range.Gen.facts) := by
  intro m g m' g' hp hin
  have hb := fun c => Cert.Pre_in_range.bounds _ _ _ _ _ _ _ (hp c)
  have hO : Cert.ExpertsIdeal.Ffn.Ok m := Cert.ExpertsIdeal.Ffn.ok_of_pre m hb
  have e1 := (Cert.ExpertsIdeal.Ffn.words m 0).2
  have h1 : 1 ≤ (Cert.ExpertsIdeal.Ffn.nu m).toNat := by rw [e1]; exact (hb 0).2.1
  have h2 : (Cert.ExpertsIdeal.Ffn.nu m).toNat ≤ 321 := by rw [e1]; exact (hb 0).2.2
  refine ⟨Cert.ExpertsIdeal.Ffn.G7 m hO, Cert.ExpertsIdeal.Ffn.run_value m g hO h1 h2, ?_⟩
  refine (θ_run Cert.ExpertsRefIdeal.defs _ _).mono (fun r h c => ?_) (Cert.ExpertsRefIdeal.Value.run (F := Ideal) m' g')
  obtain ⟨hv, hargs⟩ := h c
  obtain ⟨a0, a1, a2, a3, a4, a5, a6⟩ := hin c
  refine ⟨hv.trans ?_, hargs⟩
  rw [ExpertsRefIdeal.Read.val_main_v62_eq, a0, a1, a2, a3, a4, a5, a6]
  exact (Cert.ExpertsIdeal.Ffn.G7_ref m hO (fun c => (hb c).1) h2 c).symm

end Cert.Proof

end
-- ==== Proof.OutRef.lean ====
module

public import proofs.«01_k».proof.Proof.Gen.OutRefIdeal.Read
public import Idealize.ShloMosaic.Lib.Pointwise

@[expose] public section

set_option maxRecDepth 16384

noncomputable section

namespace Cert.OutRefIdeal.Rows

open Cert.OutRefIdeal Cert.OutRefIdeal.Gen Cert.OutRefIdeal.Read Idealize.ShloMosaic Idealize.ShloMosaic.TcCoe Idealize.SL.Sem

/-- An entry of the projection: the residual entry `x`, then the row's two halves against the column's. -/
def proj (x : EReal) (a h : Fin 512 → EReal) (w : Fin 1024 → EReal) : EReal :=
  x + ((∑ k : Fin 512, a k * w ⟨k.val, by omega⟩) + ∑ k : Fin 512, h k * w ⟨512 + k.val, by omega⟩)

/-- An entry of a normalised row: of the row `y`, its entry `v` and the gain `g`. -/
def norm (y : Fin 1024 → EReal) (v g : EReal) : EReal :=
  v * Ideal.rsqrt (Ideal.div (∑ j : Fin 1024, y j * y j) (Ideal.ofBits .f32 0x44800000#32) + Ideal.ofBits .f32 0x358637BD#32) * g

variable (x0 : FVec Ideal S32768x1024 .f32) (x1 : FVec Ideal S512x1024 .f32) (x2 : FVec Ideal S32768x512 .bf16) (x3 : FVec Ideal S512x512 .bf16)
  (x4 : FVec Ideal S32768x512 .bf16) (x5 : FVec Ideal S512x512 .bf16) (x6 : FVec Ideal S1024x1024 .f32) (x7 : FVec Ideal S1024 .f32)

/-- The rows of the two inputs, one after the other. -/
theorem cat_x (R : Fin 33280) (q : Fin 1024) : (val_main_v0 (F := Ideal) x0 x1 (ix2 R q) : EReal) =
    if h : R.val < 32768 then x0 (ix2 ⟨R.val, h⟩ q) else x1 (ix2 ⟨R.val - 32768, by omega⟩ q) := by
  pointwise [val_main_v0]

theorem cat_a (R : Fin 33280) (q : Fin 512) : (val_main_v1 (F := Ideal) x2 x3 (ix2 R q) : EReal) =
    if h : R.val < 32768 then x2 (ix2 ⟨R.val, h⟩ q) else x3 (ix2 ⟨R.val - 32768, by omega⟩ q) := by
  pointwise [val_main_v1]

theorem cat_h (R : Fin 33280) (q : Fin 512) : (val_main_v2 (F := Ideal) x4 x5 (ix2 R q) : EReal) =
    if h : R.val < 32768 then x4 (ix2 ⟨R.val, h⟩ q) else x5 (ix2 ⟨R.val - 32768, by omega⟩ q) := by
  pointwise [val_main_v2]

/-- The attention's columns stand first, -/
theorem cat_left (R : Fin 33280) (k : Fin 512) :
    (val_main_v3 (F := Ideal) x2 x3 x4 x5 (ix2 R ⟨k.val, by omega⟩) : EReal) = val_main_v1 (F := Ideal) x2 x3 (ix2 R k) := by
  unfold val_main_v3
  generalize val_main_v1 (F := Ideal) x2 x3 = A
  generalize val_main_v2 (F := Ideal) x4 x5 = B
  pointwise

/-- the recurrence's after them. -/
theorem cat_right (R : Fin 33280) (k : Fin 512) :
    (val_main_v3 (F := Ideal) x2 x3 x4 x5 (ix2 R ⟨512 + k.val, by omega⟩) : EReal) = val_main_v2 (F := Ideal) x4 x5 (ix2 R k) := by
  unfold val_main_v3
  generalize val_main_v1 (F := Ideal) x2 x3 = A
  generalize val_main_v2 (F := Ideal) x4 x5 = B
  pointwise

/-- The reference's first result at an entry. -/
theorem y_apply (R : Fin 33280) (q : Fin 1024) : (val_main_v5 (F := Ideal) x0 x1 x2 x3 x4 x5 x6 (ix2 R q) : EReal) =
    proj (val_main_v0 (F := Ideal) x0 x1 (ix2 R q)) (fun k => val_main_v1 (F := Ideal) x2 x3 (ix2 R k))
      (fun k => val_main_v2 (F := Ideal) x4 x5 (ix2 R k)) (fun k => x6 (ix2 k q)) := by
  have e : (val_main_v4 (F := Ideal) x2 x3 x4 x5 x6 (ix2 R q) : EReal) = ∑ k : Fin 1024, (val_main_v3 (F := Ideal) x2 x3 x4 x5 (ix2 R k) : EReal) * x6 (ix2 k q) := by
    unfold val_main_v4
    generalize val_main_v3 (F := Ideal) x2 x3 x4 x5 = A
    pointwise
  rw [Fin.sum_univ_two_halves 512 512 rfl] at e
  simp only [cat_left, cat_right] at e
  exact congrArg (fun s : EReal => (val_main_v0 (F := Ideal) x0 x1 (ix2 R q) : EReal) + s) e

/-- The reference's second result at an entry: the normalised row of the first. -/
theorem xf_apply (R : Fin 33280) (q : Fin 1024) : (val_main_v18 (F := Ideal) x0 x1 x2 x3 x4 x5 x6 x7 (ix2 R q) : EReal) =
    norm (fun j => val_main_v5 (F := Ideal) x0 x1 x2 x3 x4 x5 x6 (ix2 R j)) (val_main_v5 (F := Ideal) x0 x1 x2 x3 x4 x5 x6 (ix2 R q)) (x7 (ix1 q)) := by
  unfold val_main_v18 val_main_v17 val_main_v16 val_main_v15 val_main_v14 val_main_v13 val_main_v12 val_main_v11 val_main_v10 val_main_v9 val_main_v8 val_main_v7 val_main_v6
  generalize val_main_v5 (F := Ideal) x0 x1 x2 x3 x4 x5 x6 = Y
  pointwise [norm, val_main_cst, val_main_cst_0, val_main_cst_1]

end Cert.OutRefIdeal.Rows

end
-- ==== Proof.OutBody.lean ====
module

public import proofs.«01_k».proof.Proof.Gen.OutIdeal.Skeleton
public import proofs.«01_k».proof.Proof.OutRef
public import Idealize.ShloMosaic.Lib.Pointwise

@[expose] public section

set_option maxRecDepth 16384

noncomputable section

namespace Cert.OutIdeal.Rows

open Cert.OutIdeal Cert.OutIdeal.Gen Idealize.ShloMosaic Idealize.ShloMosaic.TcCoe Idealize.SL.Sem
open Cert.OutRefIdeal.Rows (proj norm)

/-- The test of the body: whether the point's rows are the prompt's. -/
abbrev isPrompt (i : grid0.Coords) : BitVec 1 := Scalar.cmpi .slt (BitVec.ofNat 32 (i 0).val) 64#32

/-- An entry of the point's first result, from the rows the test selects. -/
theorem pay3_apply (i : grid0.Coords) (x0 x1 : FVec Ideal S512x1024 .f32) (a0 a1 h0 h1 : FVec Ideal S512x512 .bf16) (u v : FVec Ideal S512x1024 .bf16)
    (w : Fin 1024 → EReal) (r : Fin 512) (q : Fin 1024)
    (hu : ∀ k : Fin 512, (u (ix2 k q) : EReal) = w ⟨k.val, by omega⟩) (hv : ∀ k : Fin 512, (v (ix2 k q) : EReal) = w ⟨512 + k.val, by omega⟩) :
    (k0_pay3 (F := Ideal) i x0 x1 a0 a1 h0 h1 u v (ix2 r q) : EReal) =
      proj ((Scalar.select (isPrompt i) x0 x1 : FVec Ideal S512x1024 .f32) (ix2 r q))
        (fun k => (Scalar.select (isPrompt i) a0 a1 : FVec Ideal S512x512 .bf16) (ix2 r k))
        (fun k => (Scalar.select (isPrompt i) h0 h1 : FVec Ideal S512x512 .bf16) (ix2 r k)) w := by
  unfold k0_pay3 proj
  simp only [← hu, ← hv]
  rw [← add_assoc]
  dsimp only [isPrompt]
  generalize (Scalar.select (Scalar.cmpi .slt (BitVec.ofNat 32 (i 0).val) 64#32) x0 x1 : FVec Ideal S512x1024 .f32) = X
  generalize (Scalar.select (Scalar.cmpi .slt (BitVec.ofNat 32 (i 0).val) 64#32) a0 a1 : FVec Ideal S512x512 .bf16) = A
  generalize (Scalar.select (Scalar.cmpi .slt (BitVec.ofNat 32 (i 0).val) 64#32) h0 h1 : FVec Ideal S512x512 .bf16) = H
  pointwise

/-- An entry of the point's second result: its first, normalised row by row. -/
theorem pay6_apply (i : grid0.Coords) (x0 x1 : FVec Ideal S512x1024 .f32) (a0 a1 h0 h1 : FVec Ideal S512x512 .bf16) (u v : FVec Ideal S512x1024 .bf16)
    (g : FVec Ideal S1x1024 .f32) (r : Fin 512) (q : Fin 1024) :
    (k0_pay6 (F := Ideal) (k0_pay4 i x0 x1 a0 a1 h0 h1 u v) (k0_pay5 g) (ix2 r q) : EReal) =
      norm (fun j => k0_pay3 (F := Ideal) i x0 x1 a0 a1 h0 h1 u v (ix2 r j)) (k0_pay3 (F := Ideal) i x0 x1 a0 a1 h0 h1 u v (ix2 r q)) (g (ix2 0 q)) := by
  unfold k0_pay6 k0_pay4 k0_pay5
  generalize k0_pay3 (F := Ideal) i x0 x1 a0 a1 h0 h1 u v = Y
  pointwise
  rfl

end Cert.OutIdeal.Rows

end
-- ==== Proof.OutValue.lean ====
module

public import proofs.«01_k».proof.Proof.Gen.OutIdeal.Value
public import proofs.«01_k».proof.Proof.OutBody
public import Idealize.ShloMosaic.Lib.StableHlo.Run

@[expose] public section

set_option maxRecDepth 16384

noncomputable section

namespace Cert.OutIdeal.Rows

open Cert.OutIdeal Cert.OutIdeal.Gen Idealize.ShloMosaic Idealize.ShloMosaic.TcCoe Idealize.SL.Sem
open Idealize.ShloMosaic.Pipeline (Dat)
open Cert.OutRefIdeal.Rows (proj norm)

variable (m : (ℓ : Loc nD τ sig) → Buf (Elt Ideal) ℓ) (ρ : Dev nD → PrngReg)

/-- The argument arrays of device `c`: the residual rows, the attention's and the recurrence's, each of the prompt and of
    the sample, then the projection's weight and the gain. -/
abbrev xP (c : Dev nD) : FVec Ideal S32768x1024 .f32 := m ((c : Thread nD τ).loc main_arg0)
abbrev xS (c : Dev nD) : FVec Ideal S512x1024 .f32 := m ((c : Thread nD τ).loc main_arg1)
abbrev aP (c : Dev nD) : FVec Ideal S32768x512 .bf16 := m ((c : Thread nD τ).loc main_arg2)
abbrev aS (c : Dev nD) : FVec Ideal S512x512 .bf16 := m ((c : Thread nD τ).loc main_arg3)
abbrev hP (c : Dev nD) : FVec Ideal S32768x512 .bf16 := m ((c : Thread nD τ).loc main_arg4)
abbrev hS (c : Dev nD) : FVec Ideal S512x512 .bf16 := m ((c : Thread nD τ).loc main_arg5)
abbrev aW (c : Dev nD) : FVec Ideal S1024x1024 .f32 := m ((c : Thread nD τ).loc main_arg6)
abbrev aG (c : Dev nD) : FVec Ideal S1024 .f32 := m ((c : Thread nD τ).loc main_arg7)

/-- The upper half of the weight's rows, as the host hands it over, -/
theorem V_v1 (c : Dev nD) (k : Fin 512) (q : Fin 1024) : (V m c main_v1 : FVec Ideal S512x1024 .bf16) (ix2 k q) = aW m c (ix2 ⟨k.val, by omega⟩ q) := by
  have e : V m c main_v1 = (truncf .bf16 (extractStridedSlice S512x1024 ![0, 0] (aW m c) slices_S1024x1024_S512x1024_0_0) bitsLt_bf16_f32 : FVec Ideal S512x1024 .bf16) := by
    simp only [V, hostOps0, hostOps0_1, hostOps0_2, hostOps0_3, hostOps0_4, List.flatten_cons, List.flatten_nil, List.append_nil, List.cons_append, List.nil_append,
      StableHlo.TRef.binary, StableHlo.TRef.unary, StableHlo.TRef.toBuf, StableHlo.TRef.ofBuf, cast_eq]
    after_results_simp <;> rfl
  rw [e]; pointwise

/-- the lower half, -/
theorem V_v3 (c : Dev nD) (k : Fin 512) (q : Fin 1024) : (V m c main_v3 : FVec Ideal S512x1024 .bf16) (ix2 k q) = aW m c (ix2 ⟨512 + k.val, by omega⟩ q) := by
  have e : V m c main_v3 = (truncf .bf16 (extractStridedSlice S512x1024 ![512, 0] (aW m c) slices_S1024x1024_S512x1024_512_0) bitsLt_bf16_f32 : FVec Ideal S512x1024 .bf16) := by
    simp only [V, hostOps0, hostOps0_1, hostOps0_2, hostOps0_3, hostOps0_4, List.flatten_cons, List.flatten_nil, List.append_nil, List.cons_append, List.nil_append,
      StableHlo.TRef.binary, StableHlo.TRef.unary, StableHlo.TRef.toBuf, StableHlo.TRef.ofBuf, cast_eq]
    after_results_simp <;> rfl
  rw [e]; pointwise

/-- and the gain as a row. -/
theorem V_v4 (c : Dev nD) (q : Fin 1024) : (V m c main_v4 : FVec Ideal S1x1024 .f32) (ix2 0 q) = aG m c (ix1 q) := by
  have e : V m c main_v4 = (broadcastInDim S1x1024 ![1] bcast_S1024_S1x1024_1 (aG m c) : FVec Ideal S1x1024 .f32) := by
    simp only [V, hostOps0, hostOps0_1, hostOps0_2, hostOps0_3, hostOps0_4, List.flatten_cons, List.flatten_nil, List.append_nil, List.cons_append, List.nil_append,
      StableHlo.TRef.binary, StableHlo.TRef.unary, StableHlo.TRef.toBuf, StableHlo.TRef.ofBuf, cast_eq]
    after_results_simp <;> rfl
  rw [e]; pointwise

/-- The windows of the prompt's rows stop at its last block, -/
theorem at_prompt (t : Fin cfg0.N) : win0_0.index t 0 = min t.val 63 ∧ win0_0.index t 1 = 0 ∧ win0_2.index t 0 = min t.val 63 ∧ win0_2.index t 1 = 0 ∧ win0_4.index t 0 = min t.val 63 ∧ win0_4.index t 1 = 0 := by
  revert t
  exact (by decide +kernel : ∀ t : Fin grid0.N, win0_0.index t 0 = min t.val 63 ∧ win0_0.index t 1 = 0 ∧ win0_2.index t 0 = min t.val 63 ∧ win0_2.index t 1 = 0 ∧ win0_4.index t 0 = min t.val 63 ∧ win0_4.index t 1 = 0)

/-- those of the sample's rows stay at the only one, -/
theorem at_sample (t : Fin cfg0.N) : win0_1.index t 0 = 0 ∧ win0_1.index t 1 = 0 ∧ win0_3.index t 0 = 0 ∧ win0_3.index t 1 = 0 ∧ win0_5.index t 0 = 0 ∧ win0_5.index t 1 = 0 := by
  revert t
  exact (by decide +kernel : ∀ t : Fin grid0.N, win0_1.index t 0 = 0 ∧ win0_1.index t 1 = 0 ∧ win0_3.index t 0 = 0 ∧ win0_3.index t 1 = 0 ∧ win0_5.index t 0 = 0 ∧ win0_5.index t 1 = 0)

/-- and so do those of the weight and the gain. -/
theorem at_whole (t : Fin cfg0.N) : win0_6.index t 0 = 0 ∧ win0_6.index t 1 = 0 ∧ win0_7.index t 0 = 0 ∧ win0_7.index t 1 = 0 ∧ win0_8.index t 0 = 0 ∧ win0_8.index t 1 = 0 := by
  revert t
  exact (by decide +kernel : ∀ t : Fin grid0.N, win0_6.index t 0 = 0 ∧ win0_6.index t 1 = 0 ∧ win0_7.index t 0 = 0 ∧ win0_7.index t 1 = 0 ∧ win0_8.index t 0 = 0 ∧ win0_8.index t 1 = 0)

/-- The results' windows move with the point. -/
theorem at_result (t : Fin cfg0.N) : win0_13.index t 0 = t.val ∧ win0_13.index t 1 = 0 ∧ win0_14.index t 0 = t.val ∧ win0_14.index t 1 = 0 := by
  revert t
  exact (by decide +kernel : ∀ t : Fin grid0.N, win0_13.index t 0 = t.val ∧ win0_13.index t 1 = 0 ∧ win0_14.index t 0 = t.val ∧ win0_14.index t 1 = 0)

/-- The body's test, over the points. -/
theorem test_eq (t : Fin cfg0.N) : isPrompt (grid0.coords t) = if t.val < 64 then 1#1 else 0#1 := by
  revert t
  exact (by decide +kernel : ∀ t : Fin grid0.N, isPrompt (grid0.coords t) = if t.val < 64 then 1#1 else 0#1)

theorem points (t : Fin cfg0.N) : t.val < 65 := lt_of_lt_of_eq t.isLt N_0

/-- Row `r` of point `t`'s block. -/
abbrev row (t : Fin cfg0.N) (r : Fin 512) : Fin 33280 := ⟨512 * t.val + r.val, by have := points t; omega⟩

theorem iblk0 (c : Dev nD) (t : Fin cfg0.N) (ht : t.val < 64) (r : Fin 512) (k : Fin 1024) :
    (iblk m c 0 t : FVec Ideal S512x1024 .f32) (ix2 r k) = xP m c (ix2 ⟨512 * t.val + r.val, by omega⟩ k) := by
  unfold iblk
  rw [View.read_apply]
  refine (congrArg (V m c main_arg0) ?_).trans (congrFun (V_main_arg0 m c) _)
  funext a
  apply Fin.ext
  match a with
  | ⟨0, _⟩ => show win0_0.index t 0 * 512 + 1 * r.val = 512 * t.val + r.val; rw [(at_prompt t).1]; omega
  | ⟨1, _⟩ => show win0_0.index t 1 * 1024 + 1 * k.val = k.val; rw [(at_prompt t).2.1]; omega

theorem iblk2 (c : Dev nD) (t : Fin cfg0.N) (ht : t.val < 64) (r : Fin 512) (k : Fin 512) :
    (iblk m c 2 t : FVec Ideal S512x512 .bf16) (ix2 r k) = aP m c (ix2 ⟨512 * t.val + r.val, by omega⟩ k) := by
  unfold iblk
  rw [View.read_apply]
  refine (congrArg (V m c main_arg2) ?_).trans (congrFun (V_main_arg2 m c) _)
  funext a
  apply Fin.ext
  match a with
  | ⟨0, _⟩ => show win0_2.index t 0 * 512 + 1 * r.val = 512 * t.val + r.val; rw [(at_prompt t).2.2.1]; omega
  | ⟨1, _⟩ => show win0_2.index t 1 * 512 + 1 * k.val = k.val; rw [(at_prompt t).2.2.2.1]; omega

theorem iblk4 (c : Dev nD) (t : Fin cfg0.N) (ht : t.val < 64) (r : Fin 512) (k : Fin 512) :
    (iblk m c 4 t : FVec Ideal S512x512 .bf16) (ix2 r k) = hP m c (ix2 ⟨512 * t.val + r.val, by omega⟩ k) := by
  unfold iblk
  rw [View.read_apply]
  refine (congrArg (V m c main_arg4) ?_).trans (congrFun (V_main_arg4 m c) _)
  funext a
  apply Fin.ext
  match a with
  | ⟨0, _⟩ => show win0_4.index t 0 * 512 + 1 * r.val = 512 * t.val + r.val; rw [(at_prompt t).2.2.2.2.1]; omega
  | ⟨1, _⟩ => show win0_4.index t 1 * 512 + 1 * k.val = k.val; rw [(at_prompt t).2.2.2.2.2]; omega

theorem iblk1 (c : Dev nD) (t : Fin cfg0.N) (r : Fin 512) (k : Fin 1024) :
    (iblk m c 1 t : FVec Ideal S512x1024 .f32) (ix2 r k) = xS m c (ix2 r k) := by
  unfold iblk
  rw [View.read_apply]
  refine (congrArg (V m c main_arg1) ?_).trans (congrFun (V_main_arg1 m c) _)
  funext a
  apply Fin.ext
  match a with
  | ⟨0, _⟩ => show win0_1.index t 0 * 512 + 1 * r.val = r.val; rw [(at_sample t).1]; omega
  | ⟨1, _⟩ => show win0_1.index t 1 * 1024 + 1 * k.val = k.val; rw [(at_sample t).2.1]; omega

theorem iblk3 (c : Dev nD) (t : Fin cfg0.N) (r : Fin 512) (k : Fin 512) :
    (iblk m c 3 t : FVec Ideal S512x512 .bf16) (ix2 r k) = aS m c (ix2 r k) := by
  unfold iblk
  rw [View.read_apply]
  refine (congrArg (V m c main_arg3) ?_).trans (congrFun (V_main_arg3 m c) _)
  funext a
  apply Fin.ext
  match a with
  | ⟨0, _⟩ => show win0_3.index t 0 * 512 + 1 * r.val = r.val; rw [(at_sample t).2.2.1]; omega
  | ⟨1, _⟩ => show win0_3.index t 1 * 512 + 1 * k.val = k.val; rw [(at_sample t).2.2.2.1]; omega

theorem iblk5 (c : Dev nD) (t : Fin cfg0.N) (r : Fin 512) (k : Fin 512) :
    (iblk m c 5 t : FVec Ideal S512x512 .bf16) (ix2 r k) = hS m c (ix2 r k) := by
  unfold iblk
  rw [View.read_apply]
  refine (congrArg (V m c main_arg5) ?_).trans (congrFun (V_main_arg5 m c) _)
  funext a
  apply Fin.ext
  match a with
  | ⟨0, _⟩ => show win0_5.index t 0 * 512 + 1 * r.val = r.val; rw [(at_sample t).2.2.2.2.1]; omega
  | ⟨1, _⟩ => show win0_5.index t 1 * 512 + 1 * k.val = k.val; rw [(at_sample t).2.2.2.2.2]; omega

theorem iblk6 (c : Dev nD) (t : Fin cfg0.N) : (iblk m c 6 t : FVec Ideal S512x1024 .bf16) = V m c main_v1 := by
  unfold iblk
  funext i
  rw [View.read_apply]
  refine congrArg (V m c main_v1) ?_
  funext a
  apply Fin.ext
  match a with
  | ⟨0, _⟩ => show win0_6.index t 0 * 512 + 1 * (i 0).val = (i 0).val; rw [(at_whole t).1]; omega
  | ⟨1, _⟩ => show win0_6.index t 1 * 1024 + 1 * (i 1).val = (i 1).val; rw [(at_whole t).2.1]; omega

theorem iblk7 (c : Dev nD) (t : Fin cfg0.N) : (iblk m c 7 t : FVec Ideal S512x1024 .bf16) = V m c main_v3 := by
  unfold iblk
  funext i
  rw [View.read_apply]
  refine congrArg (V m c main_v3) ?_
  funext a
  apply Fin.ext
  match a with
  | ⟨0, _⟩ => show win0_7.index t 0 * 512 + 1 * (i 0).val = (i 0).val; rw [(at_whole t).2.2.1]; omega
  | ⟨1, _⟩ => show win0_7.index t 1 * 1024 + 1 * (i 1).val = (i 1).val; rw [(at_whole t).2.2.2.1]; omega

theorem iblk8 (c : Dev nD) (t : Fin cfg0.N) : (iblk m c 8 t : FVec Ideal S1x1024 .f32) = V m c main_v4 := by
  unfold iblk
  funext i
  rw [View.read_apply]
  refine congrArg (V m c main_v4) ?_
  funext a
  apply Fin.ext
  match a with
  | ⟨0, _⟩ => show win0_8.index t 0 * 1 + 1 * (i 0).val = (i 0).val; rw [(at_whole t).2.2.2.2.1]; omega
  | ⟨1, _⟩ => show win0_8.index t 1 * 1024 + 1 * (i 1).val = (i 1).val; rw [(at_whole t).2.2.2.2.2]; omega

/-- The rows the test selects, of any of the three pairs of arrays, are the rows of the two joined. -/
theorem selected {n : Nat} (t : Fin cfg0.N) (r : Fin 512) (k : Fin n) (bP bS : (⟨2, ![512, n]⟩ : Shape).Idx → EReal) (P : (⟨2, ![32768, n]⟩ : Shape).Idx → EReal)
    (S : (⟨2, ![512, n]⟩ : Shape).Idx → EReal) (hbP : ∀ ht : t.val < 64, bP (ix2 r k) = P (ix2 ⟨512 * t.val + r.val, by omega⟩ k)) (hbS : bS (ix2 r k) = S (ix2 r k)) :
    (Scalar.select (isPrompt (grid0.coords t)) bP bS) (ix2 r k) =
      if h : (row t r).val < 32768 then P (ix2 ⟨(row t r).val, h⟩ k) else S (ix2 ⟨(row t r).val - 32768, by have := (row t r).isLt; omega⟩ k) := by
  have hp := points t
  rw [test_eq]
  by_cases ht : t.val < 64
  · have hr : (row t r).val < 32768 := by show 512 * t.val + r.val < 32768; omega
    rw [if_pos ht, dif_pos hr]
    exact hbP ht
  · have hr : ¬ (row t r).val < 32768 := by show ¬ 512 * t.val + r.val < 32768; omega
    rw [if_neg ht, dif_neg hr]
    refine Eq.trans (b := S (ix2 r k)) hbS (congrArg (fun x => S (ix2 x k)) (Fin.ext ?_))
    show r.val = 512 * t.val + r.val - 32768
    omega

end Cert.OutIdeal.Rows

end
-- ==== Proof.OutRun.lean ====
module

public import proofs.«01_k».proof.Proof.OutValue

@[expose] public section

set_option maxRecDepth 16384

noncomputable section

namespace Cert.OutIdeal.Rows

open Cert.OutIdeal Cert.OutIdeal.Gen Idealize.ShloMosaic Idealize.ShloMosaic.TcCoe Idealize.SL.Sem
open Idealize.ShloMosaic.Pipeline (Dat)
open Cert.OutRefIdeal.Rows (proj norm)

theorem zero2 : (![0, 0] : Fin 2 → Nat) = fun _ => 0 := funext fun a => by fin_cases a <;> rfl

variable (m : (ℓ : Loc nD τ sig) → Buf (Elt Ideal) ℓ) (ρ : Dev nD → PrngReg)

/-- What the first result must hold: the reference's, of the kernel's own arguments. -/
def G13 (c : Dev nD) : FVec Ideal S33280x1024 .f32 :=
  OutRefIdeal.Read.val_main_v5 (F := Ideal) (xP m c) (xS m c) (aP m c) (aS m c) (hP m c) (hS m c) (aW m c)

/-- What the second must hold. -/
def G14 (c : Dev nD) : FVec Ideal S33280x1024 .f32 :=
  OutRefIdeal.Read.val_main_v18 (F := Ideal) (xP m c) (xS m c) (aP m c) (aS m c) (hP m c) (hS m c) (aW m c) (aG m c)

/-- The body's projected rows at a point are the reference's rows there. -/
theorem first (c : Dev nD) (t : Fin cfg0.N) (r : Fin 512) (q : Fin 1024) :
    (k0_pay3 (F := Ideal) (grid0.coords t) (View.ld (iblk m c 0 t) r0_0) (View.ld (iblk m c 1 t) r0_0) (View.ld (iblk m c 2 t) r0_1) (View.ld (iblk m c 3 t) r0_1) (View.ld (iblk m c 4 t) r0_1) (View.ld (iblk m c 5 t) r0_1) (View.ld (iblk m c 6 t) r0_0) (View.ld (iblk m c 7 t) r0_0) (ix2 r q) : EReal) = G13 m c (ix2 (row t r) q) := by
  rw [View.ld_unit_zero (S := S512x1024) zero2, View.ld_unit_zero (S := S512x1024) zero2, View.ld_unit_zero (S := S512x512) zero2,
    View.ld_unit_zero (S := S512x512) zero2, View.ld_unit_zero (S := S512x512) zero2, View.ld_unit_zero (S := S512x512) zero2,
    View.ld_unit_zero (S := S512x1024) zero2, View.ld_unit_zero (S := S512x1024) zero2]
  refine (pay3_apply _ _ _ _ _ _ _ _ _ (fun k => aW m c (ix2 k q)) r q
    (fun k => (congrFun (iblk6 m c t) _).trans (V_v1 m c k q)) (fun k => (congrFun (iblk7 m c t) _).trans (V_v3 m c k q))).trans ?_
  refine Eq.trans ?_ (OutRefIdeal.Rows.y_apply (xP m c) (xS m c) (aP m c) (aS m c) (hP m c) (hS m c) (aW m c) (row t r) q).symm
  have ex := (selected t r q (iblk m c 0 t) (iblk m c 1 t) (xP m c) (xS m c) (fun ht => iblk0 m c t ht r q) (iblk1 m c t r q)).trans
    (OutRefIdeal.Rows.cat_x (xP m c) (xS m c) (row t r) q).symm
  have ea := funext fun k => (selected t r k (iblk m c 2 t) (iblk m c 3 t) (aP m c) (aS m c) (fun ht => iblk2 m c t ht r k) (iblk3 m c t r k)).trans
    (OutRefIdeal.Rows.cat_a (aP m c) (aS m c) (row t r) k).symm
  have eh := funext fun k => (selected t r k (iblk m c 4 t) (iblk m c 5 t) (hP m c) (hS m c) (fun ht => iblk4 m c t ht r k) (iblk5 m c t r k)).trans
    (OutRefIdeal.Rows.cat_h (hP m c) (hS m c) (row t r) k).symm
  exact congr (congr (congrArg proj ex) ea) eh ▸ rfl

/-- What point `t` writes back to the first result, -/
theorem point13 (c : Dev nD) (t : Fin cfg0.N) (r : Fin 512) (q : Fin 1024) :
    (out0_13 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) : FVec Ideal S512x1024 .f32) (ix2 r q) = G13 m c (ix2 (row t r) q) := by
  unfold_out out0_13
  rw [View.canon_unit_zero (S := S512x1024) zero2]
  exact first m c t r q

/-- and to the second. -/
theorem point14 (c : Dev nD) (t : Fin cfg0.N) (r : Fin 512) (q : Fin 1024) :
    (out0_14 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) : FVec Ideal S512x1024 .f32) (ix2 r q) = G14 m c (ix2 (row t r) q) := by
  unfold_out out0_14
  rw [View.canon_unit_zero (S := S512x1024) zero2]
  refine (pay6_apply _ _ _ _ _ _ _ _ _ _ r q).trans ?_
  refine Eq.trans ?_ (OutRefIdeal.Rows.xf_apply (xP m c) (xS m c) (aP m c) (aS m c) (hP m c) (hS m c) (aW m c) (aG m c) (row t r) q).symm
  refine congr (congr (congrArg norm (funext fun j => first m c t r j)) (first m c t r q)) ?_
  rw [View.ld_unit_zero (S := S1x1024) zero2, iblk8]
  exact V_v4 m c q

theorem emb13 (t : Fin cfg0.N) (r : Fin 512) (k : Fin 1024) : ((cfg0.win 13).blk t).view.emb (ix2 r k : S512x1024.Idx) = (ix2 (row t r) k : S33280x1024.Idx) := by
  funext a
  apply Fin.ext
  match a with
  | ⟨0, _⟩ => show win0_13.index t 0 * 512 + 1 * r.val = 512 * t.val + r.val; rw [(at_result t).1]; omega
  | ⟨1, _⟩ => show win0_13.index t 1 * 1024 + 1 * k.val = k.val; rw [(at_result t).2.1]; omega

/-- The first result's blocks hold what they must, -/
theorem block13 (c : Dev nD) (t : Fin cfg0.N) : (dats m 0 c).flushed 13 t = ((cfg0.win 13).blk t).view.read (Elt Ideal) (G13 m c) := by
  rw [Value.flushed13]
  funext i
  obtain ⟨r, k, rfl⟩ : ∃ (r : Fin 512) (k : Fin 1024), i = (ix2 r k : S512x1024.Idx) := ⟨i 0, i 1, eq_ix2 i⟩
  rw [View.read_apply]
  exact (point13 m c t r k).trans (congrArg (G13 m c) (emb13 t r k).symm)

/-- and cover it, -/
theorem cover13 (i : S33280x1024.Idx) : ∃ t : Fin cfg0.N, (cfg0.win 13).flush t = true ∧ i ∈ ((cfg0.win 13).blk t).view.set := by
  have h0 : (i 0 : Nat) < 33280 := (i 0).isLt
  have h1 : (i 1 : Nat) < 1024 := (i 1).isLt
  have hN : cfg0.N = 65 := N_0
  have hq : (i 0 : Nat) / 512 < cfg0.N := by rw [hN]; omega
  refine ⟨⟨(i 0 : Nat) / 512, hq⟩, flush0_13 _, ?_⟩
  have e : ((cfg0.win 13).blk ⟨(i 0 : Nat) / 512, hq⟩).view.emb (ix2 ⟨(i 0 : Nat) % 512, Nat.mod_lt _ (by omega)⟩ ⟨(i 1 : Nat), h1⟩ : S512x1024.Idx) = i := by
    rw [emb13]
    funext a
    apply Fin.ext
    match a with
    | ⟨0, _⟩ => show 512 * ((i 0 : Nat) / 512) + (i 0 : Nat) % 512 = (i 0 : Nat); omega
    | ⟨1, _⟩ => rfl
  have hm := Finset.mem_map_of_mem ((cfg0.win 13).blk ⟨(i 0 : Nat) / 512, hq⟩).view.emb
    (Finset.mem_univ (ix2 ⟨(i 0 : Nat) % 512, Nat.mod_lt _ (by omega)⟩ ⟨(i 1 : Nat), h1⟩ : S512x1024.Idx))
  rw [e] at hm
  exact hm

/-- so the whole of it is that. -/
theorem final13 (c : Dev nD) : (dats m 0 c).arrAt 13 cfg0.N = G13 m c :=
  (dats m 0 c).arrAt_eq_of_cover 13 (G13 m c) (fun t _ => block13 m c t) cover13

theorem emb14 (t : Fin cfg0.N) (r : Fin 512) (k : Fin 1024) : ((cfg0.win 14).blk t).view.emb (ix2 r k : S512x1024.Idx) = (ix2 (row t r) k : S33280x1024.Idx) := by
  funext a
  apply Fin.ext
  match a with
  | ⟨0, _⟩ => show win0_14.index t 0 * 512 + 1 * r.val = 512 * t.val + r.val; rw [(at_result t).2.2.1]; omega
  | ⟨1, _⟩ => show win0_14.index t 1 * 1024 + 1 * k.val = k.val; rw [(at_result t).2.2.2]; omega

/-- The second result's blocks hold what they must, -/
theorem block14 (c : Dev nD) (t : Fin cfg0.N) : (dats m 0 c).flushed 14 t = ((cfg0.win 14).blk t).view.read (Elt Ideal) (G14 m c) := by
  rw [Value.flushed14]
  funext i
  obtain ⟨r, k, rfl⟩ : ∃ (r : Fin 512) (k : Fin 1024), i = (ix2 r k : S512x1024.Idx) := ⟨i 0, i 1, eq_ix2 i⟩
  rw [View.read_apply]
  exact (point14 m c t r k).trans (congrArg (G14 m c) (emb14 t r k).symm)

/-- and cover it, -/
theorem cover14 (i : S33280x1024.Idx) : ∃ t : Fin cfg0.N, (cfg0.win 14).flush t = true ∧ i ∈ ((cfg0.win 14).blk t).view.set := by
  have h0 : (i 0 : Nat) < 33280 := (i 0).isLt
  have h1 : (i 1 : Nat) < 1024 := (i 1).isLt
  have hN : cfg0.N = 65 := N_0
  have hq : (i 0 : Nat) / 512 < cfg0.N := by rw [hN]; omega
  refine ⟨⟨(i 0 : Nat) / 512, hq⟩, flush0_14 _, ?_⟩
  have e : ((cfg0.win 14).blk ⟨(i 0 : Nat) / 512, hq⟩).view.emb (ix2 ⟨(i 0 : Nat) % 512, Nat.mod_lt _ (by omega)⟩ ⟨(i 1 : Nat), h1⟩ : S512x1024.Idx) = i := by
    rw [emb14]
    funext a
    apply Fin.ext
    match a with
    | ⟨0, _⟩ => show 512 * ((i 0 : Nat) / 512) + (i 0 : Nat) % 512 = (i 0 : Nat); omega
    | ⟨1, _⟩ => rfl
  have hm := Finset.mem_map_of_mem ((cfg0.win 14).blk ⟨(i 0 : Nat) / 512, hq⟩).view.emb
    (Finset.mem_univ (ix2 ⟨(i 0 : Nat) % 512, Nat.mod_lt _ (by omega)⟩ ⟨(i 1 : Nat), h1⟩ : S512x1024.Idx))
  rw [e] at hm
  exact hm

/-- so the whole of it is that. -/
theorem final14 (c : Dev nD) : (dats m 0 c).arrAt 14 cfg0.N = G14 m c :=
  (dats m 0 c).arrAt_eq_of_cover 14 (G14 m c) (fun t _ => block14 m c t) cover14

end Cert.OutIdeal.Rows

end
-- ==== Proof.OutClaim.lean ====
module

public import proofs.«01_k».proof.Defs
public import proofs.«01_k».proof.Proof.OutRun
public import proofs.«01_k».proof.Proof.Gen.Out.Frame
public import Idealize.ShloMosaic.Init

@[expose] public section

set_option maxRecDepth 16384

noncomputable section

namespace Cert.OutIdeal.Rows

open Cert.OutIdeal Cert.OutIdeal.Gen Idealize.ShloMosaic Idealize.ShloMosaic.TcCoe Idealize.SL.Sem

variable (m : (ℓ : Loc nD τ sig) → Buf (Elt Ideal) ℓ) (ρ : Dev nD → PrngReg)

/-- The kernel's run: the two claimed results hold their closed forms, the arguments are unchanged. -/
theorem run : θ_run defs (onTc (τ := τ) (main (F := Ideal))) ⟨m, fun _ => 0, ρ⟩ (fun r => ∀ c : Dev nD,
      r.2.mem ((c.tc : Thread nD τ).loc main_v21_0) = G13 m c
      ∧ r.2.mem ((c.tc : Thread nD τ).loc main_v21_1) = G14 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1.trans (final13 m c), (h c).2.1.trans (final14 m c), (h c).2.2.2.2.2⟩) (Value.run_blocks m ρ)

end Cert.OutIdeal.Rows

namespace Cert.Proof

open Idealize.ShloMosaic Idealize.SL.Sem

/-- The printed output projection terminates and leaves its arguments. -/
theorem frame_Out : quiescent_Out (hOut := Cert.Out.Gen.facts) := fun m g _ => Cert.Out.Gen.frame m g

/-- So does its reading over the extended reals. -/
theorem frame_OutIdeal : quiescent_OutIdeal (hOutIdeal := Cert.OutIdeal.Gen.facts) := fun m g _ => Cert.OutIdeal.Gen.frame m g

/-- The reference terminates and leaves its arguments. -/
theorem frame_OutRefIdeal : quiescent_OutRefIdeal (hOutRefIdeal := Cert.OutRefIdeal.Gen.facts) := fun m g _ =>
  (θ_run Cert.OutRefIdeal.defs _ _).mono (fun r h => ⟨fun c => (h c).2.2, Idealize.ShloMosaic.sem_eq_zero_of_no_sems (by decide) r.2⟩)
    (Cert.OutRefIdeal.Value.run (F := Ideal) m g)

/-- Over the extended reals the output projection computes the reference's rows and normalised rows. -/
theorem algebraic_Out : algebraic_OutIdeal_OutRefIdeal (hOutIdeal := Cert.OutIdeal.Gen.facts) (hOutRefIdeal := Cert.OutRefIdeal.Gen.facts) := by
  intro m g m' g' _ hin
  refine ⟨OutIdeal.Rows.G13 m, OutIdeal.Rows.G14 m, OutIdeal.Rows.run m g, ?_⟩
  refine (θ_run Cert.OutRefIdeal.defs _ _).mono (fun r h c => ?_) (Cert.OutRefIdeal.Value.run (F := Ideal) m' g')
  obtain ⟨h0, h1, hargs⟩ := h c
  obtain ⟨e0, e1, e2, e3, e4, e5, e6, e7, -, -⟩ := hin c
  rw [e0, e1, e2, e3, e4, e5, e6] at h0 h1
  rw [e7] at h1
  exact ⟨h0, h1, hargs⟩

end Cert.Proof

end
-- ==== Proof.SampBody.lean ====
module

public import proofs.«01_k».proof.Proof.Gen.SampIdeal.Skeleton
public import Idealize.ShloMosaic.Lib.Pointwise
public import proofs.«01_k».proof.Proof.Sums

@[expose] public section

set_option maxRecDepth 16384

noncomputable section

namespace Cert.SampIdeal.Read

open Cert.SampIdeal Cert.SampIdeal.Gen Idealize.ShloMosaic Idealize.ShloMosaic.TcCoe Idealize.SL.Sem

theorem norm_apply (x : FVec Ideal S512x1024 .f32) (g : FVec Ideal S1x1024 .f32) (r : Fin 512) (k : Fin 1024) :
    (k0_pay4 (F := Ideal) x g (ix2 r k) : EReal) = x (ix2 r k) * Ideal.rsqrt (Ideal.div (∑ j : Fin 1024, x (ix2 r j) * x (ix2 r j)) (Ideal.ofBits .f32 0x44800000#32)
      + Ideal.ofBits .f32 0x358637BD#32) * g (ix2 0 k) := by
  pointwise [k0_pay4]

theorem pay1_apply (v : FVec Ideal S512x1024 .bf16) (w : FVec Ideal S1024x512 .bf16) (r c : Fin 512) :
    k0_pay1 v w (ix2 r c) = ∑ j : Fin 1024, v (ix2 r j) * w (ix2 j c) := by
  pointwise [k0_pay1]

theorem pay2_apply (v : FVec Ideal S512x1024 .bf16) (w : FVec Ideal S1024x512 .bf16) (r c : Fin 512) :
    k0_pay2 v w (ix2 r c) = ∑ j : Fin 1024, v (ix2 r j) * w (ix2 j c) := by
  pointwise [k0_pay2]

theorem pay3_apply (v : FVec Ideal S512x1024 .bf16) (w : FVec Ideal S1024x128 .bf16) (r : Fin 512) (c : Fin 128) :
    k0_pay3 v w (ix2 r c) = ∑ j : Fin 1024, v (ix2 r j) * w (ix2 j c) := by
  pointwise [k0_pay3]

/-- What the table of group means must be for the kernel's normalisation to be the reference's. -/
def IsMeans (G : FVec Ideal S256x256 .bf16) : Prop :=
  ∀ x y : Fin 256, G (ix2 x y) = if x.val / 64 = y.val / 64 then Ideal.ofBits .bf16 0x3C80#16 else 0

/-- The product with the table of group means, over the two halves, is the mean of the head's 64 entries. -/
theorem means_apply (f : Fin 512 → EReal) (G : FVec Ideal S256x256 .bf16) (hG : IsMeans G) (c : Fin 512) :
    (if h : c.val < 256 then ∑ x : Fin 256, f ⟨x.val, by omega⟩ * G (ix2 x ⟨c.val, h⟩)
      else ∑ x : Fin 256, f ⟨256 + x.val, by omega⟩ * G (ix2 x ⟨c.val - 256, by omega⟩))
    = Ideal.div (∑ x : Fin 64, f ⟨c.val / 64 * 64 + x.val, by omega⟩) (Ideal.ofBits .f32 0x42800000#32) := by
  have hw0 : (0 : EReal) ≤ (((1 : ℝ) / 64 : ℝ) : EReal) := by exact_mod_cast (by norm_num : (0 : ℝ) ≤ 1 / 64)
  rw [Sums.ofBits_64, Sums.div_64, ← Sums.sum_mul_real _ hw0 (EReal.coe_ne_top _)]
  split
  · rename_i h
    simp only [hG _ _, Sums.ofBits_inv64, mul_ite, mul_zero]
    rw [Sums.sum_block (fun x => f ⟨x.val, by omega⟩ * _) _ (by omega)]
  · rename_i h
    simp only [hG _ _, Sums.ofBits_inv64, mul_ite, mul_zero]
    rw [Sums.sum_block (fun x => f ⟨256 + x.val, by omega⟩ * _) _ (by omega)]
    refine Finset.sum_congr rfl fun y _ => ?_
    refine congrArg (fun i => f i * _) (Fin.ext ?_)
    dsimp only
    omega

theorem pay6_apply (v : FVec Ideal S512x1024 .bf16) (w : FVec Ideal S1024x512 .bf16) (G : FVec Ideal S256x256 .bf16) (hG : IsMeans G)
    (g : FVec Ideal S1x512 .f32) (z : Fin 512 → EReal) (r c : Fin 512) (hz : ∀ c, ∑ j : Fin 1024, v (ix2 r j) * w (ix2 j c) = z c) :
    k0_pay6 v w G g (ix2 r c) = z c * Ideal.rsqrt (Ideal.div (∑ x : Fin 64, z ⟨c.val / 64 * 64 + x.val, by omega⟩
        * z ⟨c.val / 64 * 64 + x.val, by omega⟩) (Ideal.ofBits .f32 0x42800000#32)
      + Ideal.ofBits .f32 0x358637BD#32) * g (ix2 0 c) := by
  pointwise [k0_pay6]
  simp only [hz]
  rw [means_apply (fun c => z c * z c) G hG c]

theorem pay5_apply (x : FVec Ideal S512x1024 .f32) (g0 : FVec Ideal S1x1024 .f32) (w : FVec Ideal S1024x512 .bf16) (G : FVec Ideal S256x256 .bf16) (hG : IsMeans G)
    (g : FVec Ideal S1x512 .f32) (z : Fin 512 → EReal) (r c : Fin 512) (hz : ∀ c, ∑ j : Fin 1024, (k0_pay4 (F := Ideal) x g0 (ix2 r j) : EReal) * w (ix2 j c) = z c) :
    (k0_pay5 (F := Ideal) x g0 w G g (ix2 r c) : EReal) = z c * Ideal.rsqrt (Ideal.div (∑ x : Fin 64, z ⟨c.val / 64 * 64 + x.val, by omega⟩
        * z ⟨c.val / 64 * 64 + x.val, by omega⟩) (Ideal.ofBits .f32 0x42800000#32)
      + Ideal.ofBits .f32 0x358637BD#32) * g (ix2 0 c) := by
  pointwise [k0_pay5]
  simp only [hz]
  rw [means_apply (fun c => z c * z c) G hG c]

end Cert.SampIdeal.Read

end
-- ==== Proof.SampRef.lean ====
module

public import proofs.«01_k».proof.Proof.Gen.SampRefIdeal.Run
public import Idealize.ShloMosaic.Lib.Pointwise

@[expose] public section

set_option maxRecDepth 16384

noncomputable section

namespace Cert.SampRefIdeal.Read

open Cert.SampRefIdeal Cert.SampRefIdeal.Gen Idealize.ShloMosaic Idealize.ShloMosaic.TcCoe Idealize.SL.Sem

/-- The reference's normalised rows. -/
def xn (X : FVec Ideal S512x1024 .f32) (g : FVec Ideal S1024 .f32) : FVec Ideal S512x1024 .f32 :=
  mulf (mulf X (broadcastInDim S512x1024 ![0, 1] bcast_S512x1_S512x1024_0_1 (Host.rsqrt (addf (Host.divf (broadcastInDim S512x1 ![0] bcast_S512_S512x1_0 (Host.reduceAdd (mulf X X) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))) (broadcastInDim S512x1024 ![0, 1] bcast_S1x1024_S512x1024_0_1 (broadcastInDim S1x1024 ![1] bcast_S1024_S1x1024_1 g))

/-- The reference's projected rows. -/
def zz (X : FVec Ideal S512x1024 .f32) (g : FVec Ideal S1024 .f32) (W : FVec Ideal S1024x3600 .f32) : FVec Ideal S512x3600 .f32 :=
  Host.dotGeneral dot_S512x1024_S1024x3600_S512x3600_1_0_0_1_n_n none (xn X g) W

/-- The reference's normalisation of each head's 64 entries. -/
def hn (Y : FVec Ideal S512x512 .f32) (g : FVec Ideal S64 .f32) : FVec Ideal S512x512 .f32 :=
  shapeCast _ (mulf (mulf (shapeCast _ Y shapeCasts_S512x512_S512x8x64) (broadcastInDim S512x8x64 ![0, 1, 2] bcast_S512x8x1_S512x8x64_0_1_2 (Host.rsqrt (addf (Host.divf (broadcastInDim S512x8x1 ![0, 1] bcast_S512x8_S512x8x1_0_1 (Host.reduceAdd (mulf (shapeCast _ Y shapeCasts_S512x512_S512x8x64) (shapeCast _ Y shapeCasts_S512x512_S512x8x64)) (constant S_ .f32 0x00000000#32) reducesTo_S512x8x64_S512x8_d2 h_S_)) (broadcastInDim S512x8x1 ![] bcast_S_S512x8x1 (constant S_ .f32 0x42800000#32))) (broadcastInDim S512x8x1 ![] bcast_S_S512x8x1 (constant S_ .f32 0x358637BD#32)))))) (broadcastInDim S512x8x64 ![0, 1, 2] bcast_S1x1x64_S512x8x64_0_1_2 (broadcastInDim S1x1x64 ![2] bcast_S64_S1x1x64_2 g))) shapeCasts_S512x8x64_S512x512

theorem xn_apply (X : FVec Ideal S512x1024 .f32) (g : FVec Ideal S1024 .f32) (R : Fin 512) (k : Fin 1024) :
    xn X g (ix2 R k) = X (ix2 R k) * Ideal.rsqrt (Ideal.div (∑ x : Fin 1024, X (ix2 R x) * X (ix2 R x)) (Ideal.ofBits .f32 0x44800000#32)
      + Ideal.ofBits .f32 0x358637BD#32) * g (ix1 k) := by
  pointwise [xn]

theorem zz_apply (X : FVec Ideal S512x1024 .f32) (g : FVec Ideal S1024 .f32) (W : FVec Ideal S1024x3600 .f32) (R : Fin 512) (k : Fin 3600) :
    zz X g W (ix2 R k) = ∑ j : Fin 1024, xn X g (ix2 R j) * W (ix2 j k) := by
  pointwise [zz]

theorem hn_apply (Y : FVec Ideal S512x512 .f32) (g : FVec Ideal S64 .f32) (R : Fin 512) (k : Fin 512) :
    hn Y g (ix2 R k) = Y (ix2 R k) * Ideal.rsqrt (Ideal.div (∑ x : Fin 64, Y (ix2 R ⟨k.val / 64 * 64 + x.val, by omega⟩)
        * Y (ix2 R ⟨k.val / 64 * 64 + x.val, by omega⟩)) (Ideal.ofBits .f32 0x42800000#32)
      + Ideal.ofBits .f32 0x358637BD#32) * g (ix1 ⟨k.val % 64, by omega⟩) := by
  pointwise [hn]

end Cert.SampRefIdeal.Read

end
-- ==== Proof.SampValue.lean ====
module

public import proofs.«01_k».proof.Proof.Gen.SampIdeal.Value
public import proofs.«01_k».proof.Proof.SampBody
public import proofs.«01_k».proof.Proof.SampRef
public import Idealize.ShloMosaic.Lib.StableHlo.Run

@[expose] public section

set_option maxRecDepth 16384

noncomputable section

namespace Cert.SampIdeal.Read

open Cert.SampIdeal Cert.SampIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The argument arrays of device `c`. -/
abbrev aX (c : Dev nD) : FVec Ideal S512x1024 .f32 := m ((c : Thread nD τ).loc main_arg0)
abbrev aG (c : Dev nD) : FVec Ideal S1024 .f32 := m ((c : Thread nD τ).loc main_arg1)
abbrev aW (c : Dev nD) : FVec Ideal S1024x3600 .f32 := m ((c : Thread nD τ).loc main_arg2)
abbrev aQ (c : Dev nD) : FVec Ideal S64 .f32 := m ((c : Thread nD τ).loc main_arg3)
abbrev aK (c : Dev nD) : FVec Ideal S64 .f32 := m ((c : Thread nD τ).loc main_arg4)

theorem V_v0 (c : Dev nD) (k : Fin 1024) : (V m c main_v0 : FVec Ideal S1x1024 .f32) (ix2 0 k) = aG m c (ix1 k) := by
  have e : V m c main_v0 = (broadcastInDim S1x1024 ![1] bcast_S1024_S1x1024_1 (aG m c) : FVec Ideal S1x1024 .f32) := by
    simp only [V, hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results_simp <;> rfl
  rw [e]; pointwise

theorem V_v2 (c : Dev nD) (j : Fin 1024) (k : Fin 3584) : (V m c main_v2 : FVec Ideal S1024x3584 .bf16) (ix2 j k) = aW m c (ix2 j ⟨k.val, by omega⟩) := by
  have e : V m c main_v2 = (truncf .bf16 (extractStridedSlice S1024x3584 ![0, 0] (aW m c) slices_S1024x3600_S1024x3584_0_0) bitsLt_bf16_f32 : FVec Ideal S1024x3584 .bf16) := by
    simp only [V, hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results_simp <;> rfl
  rw [e]; pointwise

theorem V_v5 (c : Dev nD) : V m c main_v5 = (truncf .bf16 (pad S1024x128 ![0, 0] ![0, 112] ![0, 0] (extractStridedSlice S1024x16 ![0, 3584] (aW m c) slices_S1024x3600_S1024x16_0_3584) (sitofp .f32 (constantI S_ 32 0#32)) pads_S1024x16_S1024x128_000_01120 h_S_) bitsLt_bf16_f32 : FVec Ideal S1024x128 .bf16) := by
    simp only [V, hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results_simp <;> rfl

theorem V_v9 (c : Dev nD) (k : Fin 512) : (V m c main_v9 : FVec Ideal S1x512 .f32) (ix2 0 k) = aQ m c (ix1 ⟨k.val % 64, by omega⟩) := by
  have e : V m c main_v9 = (broadcastInDim S1x512 ![1] bcast_S512_S1x512_1 (shapeCast _ (broadcastInDim S8x64 ![0, 1] bcast_S1x64_S8x64_0_1 (shapeCast _ (aQ m c) shapeCasts_S64_S1x64)) shapeCasts_S8x64_S512) : FVec Ideal S1x512 .f32) := by
    simp only [V, hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results_simp <;> rfl
  rw [e]; pointwise

theorem V_v13 (c : Dev nD) (k : Fin 512) : (V m c main_v13 : FVec Ideal S1x512 .f32) (ix2 0 k) = aK m c (ix1 ⟨k.val % 64, by omega⟩) := by
  have e : V m c main_v13 = (broadcastInDim S1x512 ![1] bcast_S512_S1x512_1 (shapeCast _ (broadcastInDim S8x64 ![0, 1] bcast_S1x64_S8x64_0_1 (shapeCast _ (aK m c) shapeCasts_S64_S1x64)) shapeCasts_S8x64_S512) : FVec Ideal S1x512 .f32) := by
    simp only [V, hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results_simp <;> rfl
  rw [e]; pointwise

theorem V_cst (c : Dev nD) (i : S256x256.Idx) : (V m c main_cst : FVec Ideal S256x256 .bf16) i = Ideal.ofBits .bf16 (lit0 (S256x256.rowMajor i)) := by
  have e : V m c main_cst = (fun i => FloatOps.ofBits .bf16 (lit0 (S256x256.rowMajor i)) : FVec Ideal S256x256 .bf16) := by
    simp only [V, hostOps0, hostOps0_1, hostOps0_2, List.flatten_cons, List.flatten_nil, List.append_nil, List.cons_append, List.nil_append,
      StableHlo.TRef.binary, StableHlo.TRef.unary, StableHlo.TRef.toBuf, StableHlo.TRef.ofBuf, cast_eq]
    after_results_simp <;> rfl
  rw [e]; rfl

theorem hidx (t : Fin cfg0.N) : win0_0.index t 0 = t.val ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0
    ∧ win0_4.index t 0 = 0 ∧ win0_4.index t 1 = 0 ∧ win0_5.index t 0 = 0 ∧ win0_5.index t 1 = 0
    ∧ win0_6.index t 0 = 0 ∧ win0_6.index t 1 = 0 := by
  revert t
  exact (by decide +kernel : ∀ t : Fin grid0.N, win0_0.index t 0 = t.val ∧ win0_0.index t 1 = 0 ∧ win0_1.index t 0 = 0 ∧ win0_1.index t 1 = 0
    ∧ win0_2.index t 0 = 0 ∧ win0_2.index t 1 = 0 ∧ win0_3.index t 0 = 0 ∧ win0_3.index t 1 = 0
    ∧ win0_4.index t 0 = 0 ∧ win0_4.index t 1 = 0 ∧ win0_5.index t 0 = 0 ∧ win0_5.index t 1 = 0
    ∧ win0_6.index t 0 = 0 ∧ win0_6.index t 1 = 0)

theorem lt_of_point (t : Fin cfg0.N) (r : Fin 512) : 512 * t.val + r.val < 512 := by
  have : t.val < 1 := lt_of_lt_of_eq t.isLt N_0
  omega

theorem iblk0 (c : Dev nD) (t : Fin cfg0.N) (r : Fin 512) (k : Fin 1024) :
    (iblk m c 0 t : Vec Ideal S512x1024 .f32) (ix2 r k) = aX m c (ix2 ⟨512 * t.val + r.val, lt_of_point t r⟩ k) := by
  unfold iblk
  rw [View.read_apply]
  refine (congrArg (V m c main_arg0) ?_).trans (congrFun (V_main_arg0 m c) _)
  funext a
  apply Fin.ext
  match a with
  | ⟨0, _⟩ => show win0_0.index t 0 * 512 + 1 * r.val = 512 * t.val + r.val; rw [(hidx t).1]; omega
  | ⟨1, _⟩ => show win0_0.index t 1 * 1024 + 1 * k.val = k.val; rw [(hidx t).2.1]; omega

theorem iblk1 (c : Dev nD) (t : Fin cfg0.N) : (iblk m c 1 t : Vec Ideal S1x1024 .f32) = V m c main_v0 := by
  unfold iblk
  funext i
  rw [View.read_apply]
  refine congrArg (V m c main_v0) ?_
  funext a
  apply Fin.ext
  match a with
  | ⟨0, _⟩ => show win0_1.index t 0 * 1 + 1 * (i 0).val = (i 0).val; rw [(hidx t).2.2.1]; omega
  | ⟨1, _⟩ => show win0_1.index t 1 * 1024 + 1 * (i 1).val = (i 1).val; rw [(hidx t).2.2.2.1]; omega

theorem iblk2 (c : Dev nD) (t : Fin cfg0.N) : (iblk m c 2 t : Vec Ideal S1024x3584 .bf16) = V m c main_v2 := by
  unfold iblk
  funext i
  rw [View.read_apply]
  refine congrArg (V m c main_v2) ?_
  funext a
  apply Fin.ext
  match a with
  | ⟨0, _⟩ => show win0_2.index t 0 * 1024 + 1 * (i 0).val = (i 0).val; rw [(hidx t).2.2.2.2.1]; omega
  | ⟨1, _⟩ => show win0_2.index t 1 * 3584 + 1 * (i 1).val = (i 1).val; rw [(hidx t).2.2.2.2.2.1]; omega

theorem iblk3 (c : Dev nD) (t : Fin cfg0.N) : (iblk m c 3 t : Vec Ideal S1024x128 .bf16) = V m c main_v5 := by
  unfold iblk
  funext i
  rw [View.read_apply]
  refine congrArg (V m c main_v5) ?_
  funext a
  apply Fin.ext
  match a with
  | ⟨0, _⟩ => show win0_3.index t 0 * 1024 + 1 * (i 0).val = (i 0).val; rw [(hidx t).2.2.2.2.2.2.1]; omega
  | ⟨1, _⟩ => show win0_3.index t 1 * 128 + 1 * (i 1).val = (i 1).val; rw [(hidx t).2.2.2.2.2.2.2.1]; omega

theorem iblk4 (c : Dev nD) (t : Fin cfg0.N) : (iblk m c 4 t : Vec Ideal S1x512 .f32) = V m c main_v9 := by
  unfold iblk
  funext i
  rw [View.read_apply]
  refine congrArg (V m c main_v9) ?_
  funext a
  apply Fin.ext
  match a with
  | ⟨0, _⟩ => show win0_4.index t 0 * 1 + 1 * (i 0).val = (i 0).val; rw [(hidx t).2.2.2.2.2.2.2.2.1]; omega
  | ⟨1, _⟩ => show win0_4.index t 1 * 512 + 1 * (i 1).val = (i 1).val; rw [(hidx t).2.2.2.2.2.2.2.2.2.1]; omega

theorem iblk5 (c : Dev nD) (t : Fin cfg0.N) : (iblk m c 5 t : Vec Ideal S1x512 .f32) = V m c main_v13 := by
  unfold iblk
  funext i
  rw [View.read_apply]
  refine congrArg (V m c main_v13) ?_
  funext a
  apply Fin.ext
  match a with
  | ⟨0, _⟩ => show win0_5.index t 0 * 1 + 1 * (i 0).val = (i 0).val; rw [(hidx t).2.2.2.2.2.2.2.2.2.2.1]; omega
  | ⟨1, _⟩ => show win0_5.index t 1 * 512 + 1 * (i 1).val = (i 1).val; rw [(hidx t).2.2.2.2.2.2.2.2.2.2.2.1]; omega

theorem iblk6 (c : Dev nD) (t : Fin cfg0.N) : (iblk m c 6 t : Vec Ideal S256x256 .bf16) = V m c main_cst := by
  unfold iblk
  funext i
  rw [View.read_apply]
  refine congrArg (V m c main_cst) ?_
  funext a
  apply Fin.ext
  match a with
  | ⟨0, _⟩ => show win0_6.index t 0 * 256 + 1 * (i 0).val = (i 0).val; rw [(hidx t).2.2.2.2.2.2.2.2.2.2.2.2.1]; omega
  | ⟨1, _⟩ => show win0_6.index t 1 * 256 + 1 * (i 1).val = (i 1).val; rw [(hidx t).2.2.2.2.2.2.2.2.2.2.2.2.2]; omega

end Cert.SampIdeal.Read

end
-- ==== Proof.SampTable.lean ====
module

public import proofs.«01_k».proof.SampIdeal
public import proofs.«01_k».proof.Proof.ProjTable

@[expose] public section

set_option maxRecDepth 100000

noncomputable section

namespace Cert.SampIdeal.Table

/-- The table of group means is the prompt's. -/
theorem lit0_same : Cert.SampIdeal.lit0 = Cert.ProjIdeal.lit0 := rfl

theorem lit0_eq (n : Fin 65536) : lit0 n = if n.val / 256 / 64 = n.val % 256 / 64 then 0x3C80#16 else 0x0000#16 := by
  rw [lit0_same]
  exact Cert.ProjIdeal.Table.lit0_eq n

end Cert.SampIdeal.Table

end
-- ==== Proof.SampRun.lean ====
module

public import proofs.«01_k».proof.Proof.SampValue
public import proofs.«01_k».proof.Proof.SampTable

@[expose] public section

set_option maxRecDepth 16384

noncomputable section

namespace Cert.SampIdeal.Read

open Cert.SampIdeal Cert.SampIdeal.Gen Idealize.ShloMosaic Idealize.ShloMosaic.TcCoe Idealize.SL.Sem
open Idealize.ShloMosaic.Pipeline (Dat)

theorem pay7_apply (v : FVec Ideal S512x1024 .bf16) (w : FVec Ideal S1024x512 .bf16) (r c : Fin 512) :
    k0_pay7 v w (ix2 r c) = ∑ j : Fin 1024, v (ix2 r j) * w (ix2 j c) := by
  pointwise [k0_pay7]

theorem pay8_apply (v : FVec Ideal S512x1024 .bf16) (w : FVec Ideal S1024x512 .bf16) (r c : Fin 512) :
    k0_pay8 v w (ix2 r c) = ∑ j : Fin 1024, v (ix2 r j) * w (ix2 j c) := by
  pointwise [k0_pay8]

theorem pay9_apply (v : FVec Ideal S512x1024 .bf16) (w : FVec Ideal S1024x512 .bf16) (r c : Fin 512) :
    k0_pay9 v w (ix2 r c) = ∑ j : Fin 1024, v (ix2 r j) * w (ix2 j c) := by
  pointwise [k0_pay9]

theorem hz : (![0, 0] : Fin 2 → Nat) = fun _ => 0 := funext fun a => by fin_cases a <;> rfl

variable (m : (ℓ : Loc nD τ sig) → Buf (Elt Ideal) ℓ) (ρ : Dev nD → PrngReg)

/-- The projected rows, as the reference writes them, of the kernel's own arguments. -/
abbrev Z (c : Dev nD) : FVec Ideal SampRefIdeal.S512x3600 .f32 := SampRefIdeal.Read.zz (aX m c) (aG m c) (aW m c)

/-- Row `r` of point `t`'s block. -/
abbrev row (t : Fin cfg0.N) (r : Fin 512) : Fin 512 := ⟨512 * t.val + r.val, lt_of_point t r⟩

/-- There is one point, so the block's rows are the array's. -/
theorem row_eq (t : Fin cfg0.N) (r : Fin 512) : row t r = r :=
  Fin.ext (by have h : t.val < 1 := lt_of_lt_of_eq t.isLt N_0; show 512 * t.val + r.val = r.val; omega)

/-- The normalised rows of point `t`'s block. -/
theorem rows (c : Dev nD) (t : Fin cfg0.N) (r : Fin 512) (j : Fin 1024) :
    (k0_pay4 (F := Ideal) (View.ld (iblk m c 0 t) r0_0) (View.ld (iblk m c 1 t) r0_1) (ix2 r j) : EReal) = SampRefIdeal.Read.xn (aX m c) (aG m c) (ix2 (row t r) j) := by
  rw [View.ld_unit_zero (S := S512x1024) hz, View.ld_unit_zero (S := S1x1024) hz, norm_apply, SampRefIdeal.Read.xn_apply, iblk1, V_v0]
  simp only [iblk0]

/-- A column of the kernel's product is a column of the reference's. -/
theorem zcol (c : Dev nD) (t : Fin cfg0.N) (r : Fin 512) (k : Fin 3584) :
    ∑ j : Fin 1024, (k0_pay4 (F := Ideal) (View.ld (iblk m c 0 t) r0_0) (View.ld (iblk m c 1 t) r0_1) (ix2 r j) : EReal)
      * (iblk m c 2 t : FVec Ideal S1024x3584 .bf16) (ix2 j k) = Z m c (ix2 (row t r) ⟨k.val, by omega⟩) := by
  refine Eq.trans ?_ (SampRefIdeal.Read.zz_apply _ _ _ _ _).symm
  refine Finset.sum_congr rfl fun j _ => ?_
  rw [rows, iblk2, V_v2]

theorem ld2 (w : FVec Ideal S1024x3584 .bf16) (j : Fin 1024) (k : Fin 512) : (View.ld (Val := Elt Ideal) (e' := .bf16) w r0_2 : FVec Ideal S1024x512 .bf16) (ix2 j k) = w (ix2 j ⟨0 + k.val, by omega⟩) := by
  refine congrArg w (funext fun a => Fin.ext ?_)
  match a with
  | ⟨0, _⟩ => show 0 + 1 * j.val = j.val; omega
  | ⟨1, _⟩ => show 0 + 1 * k.val = 0 + k.val; omega

theorem cols2 (c : Dev nD) (t : Fin cfg0.N) (r k : Fin 512) :
    ∑ j : Fin 1024, (k0_pay4 (F := Ideal) (View.ld (iblk m c 0 t) r0_0) (View.ld (iblk m c 1 t) r0_1) (ix2 r j) : EReal)
      * (View.ld (Val := Elt Ideal) (e' := .bf16) (iblk m c 2 t : FVec Ideal S1024x3584 .bf16) r0_2 : FVec Ideal S1024x512 .bf16) (ix2 j k) = Z m c (ix2 (row t r) ⟨0 + k.val, by omega⟩) := by
  refine (Finset.sum_congr rfl fun j _ => ?_).trans (zcol m c t r ⟨0 + k.val, by omega⟩)
  rw [ld2]

theorem ld6 (w : FVec Ideal S1024x3584 .bf16) (j : Fin 1024) (k : Fin 512) : (View.ld (Val := Elt Ideal) (e' := .bf16) w r0_6 : FVec Ideal S1024x512 .bf16) (ix2 j k) = w (ix2 j ⟨512 + k.val, by omega⟩) := by
  refine congrArg w (funext fun a => Fin.ext ?_)
  match a with
  | ⟨0, _⟩ => show 0 + 1 * j.val = j.val; omega
  | ⟨1, _⟩ => show 512 + 1 * k.val = 512 + k.val; omega

theorem cols6 (c : Dev nD) (t : Fin cfg0.N) (r k : Fin 512) :
    ∑ j : Fin 1024, (k0_pay4 (F := Ideal) (View.ld (iblk m c 0 t) r0_0) (View.ld (iblk m c 1 t) r0_1) (ix2 r j) : EReal)
      * (View.ld (Val := Elt Ideal) (e' := .bf16) (iblk m c 2 t : FVec Ideal S1024x3584 .bf16) r0_6 : FVec Ideal S1024x512 .bf16) (ix2 j k) = Z m c (ix2 (row t r) ⟨512 + k.val, by omega⟩) := by
  refine (Finset.sum_congr rfl fun j _ => ?_).trans (zcol m c t r ⟨512 + k.val, by omega⟩)
  rw [ld6]

theorem ld7 (w : FVec Ideal S1024x3584 .bf16) (j : Fin 1024) (k : Fin 512) : (View.ld (Val := Elt Ideal) (e' := .bf16) w r0_7 : FVec Ideal S1024x512 .bf16) (ix2 j k) = w (ix2 j ⟨1024 + k.val, by omega⟩) := by
  refine congrArg w (funext fun a => Fin.ext ?_)
  match a with
  | ⟨0, _⟩ => show 0 + 1 * j.val = j.val; omega
  | ⟨1, _⟩ => show 1024 + 1 * k.val = 1024 + k.val; omega

theorem cols7 (c : Dev nD) (t : Fin cfg0.N) (r k : Fin 512) :
    ∑ j : Fin 1024, (k0_pay4 (F := Ideal) (View.ld (iblk m c 0 t) r0_0) (View.ld (iblk m c 1 t) r0_1) (ix2 r j) : EReal)
      * (View.ld (Val := Elt Ideal) (e' := .bf16) (iblk m c 2 t : FVec Ideal S1024x3584 .bf16) r0_7 : FVec Ideal S1024x512 .bf16) (ix2 j k) = Z m c (ix2 (row t r) ⟨1024 + k.val, by omega⟩) := by
  refine (Finset.sum_congr rfl fun j _ => ?_).trans (zcol m c t r ⟨1024 + k.val, by omega⟩)
  rw [ld7]

theorem ld8 (w : FVec Ideal S1024x3584 .bf16) (j : Fin 1024) (k : Fin 512) : (View.ld (Val := Elt Ideal) (e' := .bf16) w r0_8 : FVec Ideal S1024x512 .bf16) (ix2 j k) = w (ix2 j ⟨1536 + k.val, by omega⟩) := by
  refine congrArg w (funext fun a => Fin.ext ?_)
  match a with
  | ⟨0, _⟩ => show 0 + 1 * j.val = j.val; omega
  | ⟨1, _⟩ => show 1536 + 1 * k.val = 1536 + k.val; omega

theorem cols8 (c : Dev nD) (t : Fin cfg0.N) (r k : Fin 512) :
    ∑ j : Fin 1024, (k0_pay4 (F := Ideal) (View.ld (iblk m c 0 t) r0_0) (View.ld (iblk m c 1 t) r0_1) (ix2 r j) : EReal)
      * (View.ld (Val := Elt Ideal) (e' := .bf16) (iblk m c 2 t : FVec Ideal S1024x3584 .bf16) r0_8 : FVec Ideal S1024x512 .bf16) (ix2 j k) = Z m c (ix2 (row t r) ⟨1536 + k.val, by omega⟩) := by
  refine (Finset.sum_congr rfl fun j _ => ?_).trans (zcol m c t r ⟨1536 + k.val, by omega⟩)
  rw [ld8]

theorem ld9 (w : FVec Ideal S1024x3584 .bf16) (j : Fin 1024) (k : Fin 512) : (View.ld (Val := Elt Ideal) (e' := .bf16) w r0_9 : FVec Ideal S1024x512 .bf16) (ix2 j k) = w (ix2 j ⟨2048 + k.val, by omega⟩) := by
  refine congrArg w (funext fun a => Fin.ext ?_)
  match a with
  | ⟨0, _⟩ => show 0 + 1 * j.val = j.val; omega
  | ⟨1, _⟩ => show 2048 + 1 * k.val = 2048 + k.val; omega

theorem cols9 (c : Dev nD) (t : Fin cfg0.N) (r k : Fin 512) :
    ∑ j : Fin 1024, (k0_pay4 (F := Ideal) (View.ld (iblk m c 0 t) r0_0) (View.ld (iblk m c 1 t) r0_1) (ix2 r j) : EReal)
      * (View.ld (Val := Elt Ideal) (e' := .bf16) (iblk m c 2 t : FVec Ideal S1024x3584 .bf16) r0_9 : FVec Ideal S1024x512 .bf16) (ix2 j k) = Z m c (ix2 (row t r) ⟨2048 + k.val, by omega⟩) := by
  refine (Finset.sum_congr rfl fun j _ => ?_).trans (zcol m c t r ⟨2048 + k.val, by omega⟩)
  rw [ld9]

theorem ld10 (w : FVec Ideal S1024x3584 .bf16) (j : Fin 1024) (k : Fin 512) : (View.ld (Val := Elt Ideal) (e' := .bf16) w r0_10 : FVec Ideal S1024x512 .bf16) (ix2 j k) = w (ix2 j ⟨2560 + k.val, by omega⟩) := by
  refine congrArg w (funext fun a => Fin.ext ?_)
  match a with
  | ⟨0, _⟩ => show 0 + 1 * j.val = j.val; omega
  | ⟨1, _⟩ => show 2560 + 1 * k.val = 2560 + k.val; omega

theorem cols10 (c : Dev nD) (t : Fin cfg0.N) (r k : Fin 512) :
    ∑ j : Fin 1024, (k0_pay4 (F := Ideal) (View.ld (iblk m c 0 t) r0_0) (View.ld (iblk m c 1 t) r0_1) (ix2 r j) : EReal)
      * (View.ld (Val := Elt Ideal) (e' := .bf16) (iblk m c 2 t : FVec Ideal S1024x3584 .bf16) r0_10 : FVec Ideal S1024x512 .bf16) (ix2 j k) = Z m c (ix2 (row t r) ⟨2560 + k.val, by omega⟩) := by
  refine (Finset.sum_congr rfl fun j _ => ?_).trans (zcol m c t r ⟨2560 + k.val, by omega⟩)
  rw [ld10]

theorem ld11 (w : FVec Ideal S1024x3584 .bf16) (j : Fin 1024) (k : Fin 512) : (View.ld (Val := Elt Ideal) (e' := .bf16) w r0_11 : FVec Ideal S1024x512 .bf16) (ix2 j k) = w (ix2 j ⟨3072 + k.val, by omega⟩) := by
  refine congrArg w (funext fun a => Fin.ext ?_)
  match a with
  | ⟨0, _⟩ => show 0 + 1 * j.val = j.val; omega
  | ⟨1, _⟩ => show 3072 + 1 * k.val = 3072 + k.val; omega

theorem cols11 (c : Dev nD) (t : Fin cfg0.N) (r k : Fin 512) :
    ∑ j : Fin 1024, (k0_pay4 (F := Ideal) (View.ld (iblk m c 0 t) r0_0) (View.ld (iblk m c 1 t) r0_1) (ix2 r j) : EReal)
      * (View.ld (Val := Elt Ideal) (e' := .bf16) (iblk m c 2 t : FVec Ideal S1024x3584 .bf16) r0_11 : FVec Ideal S1024x512 .bf16) (ix2 j k) = Z m c (ix2 (row t r) ⟨3072 + k.val, by omega⟩) := by
  refine (Finset.sum_congr rfl fun j _ => ?_).trans (zcol m c t r ⟨3072 + k.val, by omega⟩)
  rw [ld11]

/-- What output 0 must hold. -/
def G7 (c : Dev nD) : FVec Ideal S512x512 .bf16 := truncf .bf16 (SampRefIdeal.Read.hn (extractStridedSlice S512x512 ![0, 0] (Z m c) Cert.SampRefIdeal.Gen.slices_S512x3600_S512x512_0_0) (aQ m c)) bitsLt_bf16_f32

theorem point7 (c : Dev nD) (t : Fin cfg0.N) (r : Fin 512) (k : Fin 512) (hG : IsMeans (V m c main_cst)) :
    (out0_7 (iblk m c 0 t) (iblk m c 1 t) (iblk m c 2 t) (iblk m c 3 t) (iblk m c 4 t) (iblk m c 5 t) (iblk m c 6 t) : FVec Ideal S512x512 .bf16) (ix2 r k) = G7 m c (ix2 (row t r) k) := by
  unfold_out out0_7
  rw [View.canon_unit_zero (S := S512x512) hz]
  refine (pay5_apply _ _ _ _ (by rw [View.ld_unit_zero (S := S256x256) hz, iblk6]; exact hG) _ (fun k => Z m c (ix2 (row t r) ⟨0 + k.val, by omega⟩)) r k (fun k => cols2 m c t r k)).trans ?_
  rw [View.ld_unit_zero (S := S1x512) hz, iblk4, V_v9]
  unfold G7
  rw [truncf_apply]
  rw [SampRefIdeal.Read.hn_apply]
  pointwise
  simp only [row_eq]

theorem hidx7 (t : Fin cfg0.N) : win0_7.index t 0 = t.val ∧ win0_7.index t 1 = 0 := by
  revert t
  exact (by decide +kernel : ∀ t : Fin grid0.N, win0_7.index t 0 = t.val ∧ win0_7.index t 1 = 0)

theorem emb7 (t : Fin cfg0.N) (r : Fin 512) (k : Fin 512) : ((cfg0.win 7).blk t).view.emb (ix2 r k : S512x512.Idx) = (ix2 (row t r) k : S512x512.Idx) := by
  funext a
  apply Fin.ext
  match a with
  | ⟨0, _⟩ => show win0_7.index t 0 * 512 + 1 * r.val = 512 * t.val + r.val; rw [(hidx7 t).1]; omega
  | ⟨1, _⟩ => show win0_7.index t 1 * 512 + 1 * k.val = k.val; rw [(hidx7 t).2]; omega

theorem block7 (c : Dev nD) (t : Fin cfg0.N) (hG : IsMeans (V m c main_cst)) : (dats m 0 c).flushed 7 t = ((cfg0.win 7).blk t).view.read (Elt Ideal) (G7 m c) := by
  rw [Value.flushed7]
  funext i
  obtain ⟨r, k, rfl⟩ : ∃ (r : Fin 512) (k : Fin 512), i = (ix2 r k : S512x512.Idx) := ⟨i 0, i 1, eq_ix2 i⟩
  rw [View.read_apply]
  exact (point7 m c t r k hG).trans (congrArg (G7 m c) (emb7 t r k).symm)

theorem cover7 (i : S512x512.Idx) : ∃ t : Fin cfg0.N, (cfg0.win 7).flush t = true ∧ i ∈ ((cfg0.win 7).blk t).view.set := by
  have h0 : (i 0 : Nat) < 512 := (i 0).isLt
  have h1 : (i 1 : Nat) < 512 := (i 1).isLt
  have hN : cfg0.N = 1 := N_0
  have hq : (i 0 : Nat) / 512 < cfg0.N := by rw [hN]; omega
  refine ⟨⟨(i 0 : Nat) / 512, hq⟩, flush0_7 _, ?_⟩
  have e : ((cfg0.win 7).blk ⟨(i 0 : Nat) / 512, hq⟩).view.emb (ix2 ⟨(i 0 : Nat) % 512, Nat.mod_lt _ (by omega)⟩ ⟨(i 1 : Nat), h1⟩ : S512x512.Idx) = i := by
    rw [emb7]
    funext a
    apply Fin.ext
    match a with
    | ⟨0, _⟩ => show 512 * ((i 0 : Nat) / 512) + (i 0 : Nat) % 512 = (i 0 : Nat); omega
    | ⟨1, _⟩ => rfl
  have hm := Finset.mem_map_of_mem ((cfg0.win 7).blk ⟨(i 0 : Nat) / 512, hq⟩).view.emb
    (Finset.mem_univ (ix2 ⟨(i 0 : Nat) % 512, Nat.mod_lt _ (by omega)⟩ ⟨(i 1 : Nat), h1⟩ : S512x512.Idx))
  rw [e] at hm
  exact hm

theorem final7 (c : Dev nD) (hG : IsMeans (V m c main_cst)) : (dats m 0 c).arrAt 7 cfg0.N = G7 m c :=
  (dats m 0 c).arrAt_eq_of_cover 7 (G7 m c) (fun t _ => block7 m c t hG) cover7

/-- What output 1 must hold. -/
def G8 (c : Dev nD) : FVec Ideal S512x512 .f32 := SampRefIdeal.Read.hn (extractStridedSlice S512x512 ![0, 512] (Z m c) Cert.SampRefIdeal.Gen.slices_S512x3600_S512x512_0_512) (aK m c)

theorem point8 (c : Dev nD) (t : Fin cfg0.N) (r : Fin 512) (k : Fin 512) (hG : IsMeans (V m c main_cst)) :
    (out0_8 (iblk m c 0 t) (iblk m c 1 t) (iblk m c 2 t) (iblk m c 3 t) (iblk m c 4 t) (iblk m c 5 t) (iblk m c 6 t) : FVec Ideal S512x512 .f32) (ix2 r k) = G8 m c (ix2 (row t r) k) := by
  unfold_out out0_8
  rw [View.canon_unit_zero (S := S512x512) hz]
  refine (pay6_apply _ _ _ (by rw [View.ld_unit_zero (S := S256x256) hz, iblk6]; exact hG) _ (fun k => Z m c (ix2 (row t r) ⟨512 + k.val, by omega⟩)) r k (fun k => cols6 m c t r k)).trans ?_
  rw [View.ld_unit_zero (S := S1x512) hz, iblk5, V_v13]
  unfold G8
  skip
  rw [SampRefIdeal.Read.hn_apply]
  pointwise
  simp only [row_eq]

theorem hidx8 (t : Fin cfg0.N) : win0_8.index t 0 = t.val ∧ win0_8.index t 1 = 0 := by
  revert t
  exact (by decide +kernel : ∀ t : Fin grid0.N, win0_8.index t 0 = t.val ∧ win0_8.index t 1 = 0)

theorem emb8 (t : Fin cfg0.N) (r : Fin 512) (k : Fin 512) : ((cfg0.win 8).blk t).view.emb (ix2 r k : S512x512.Idx) = (ix2 (row t r) k : S512x512.Idx) := by
  funext a
  apply Fin.ext
  match a with
  | ⟨0, _⟩ => show win0_8.index t 0 * 512 + 1 * r.val = 512 * t.val + r.val; rw [(hidx8 t).1]; omega
  | ⟨1, _⟩ => show win0_8.index t 1 * 512 + 1 * k.val = k.val; rw [(hidx8 t).2]; omega

theorem block8 (c : Dev nD) (t : Fin cfg0.N) (hG : IsMeans (V m c main_cst)) : (dats m 0 c).flushed 8 t = ((cfg0.win 8).blk t).view.read (Elt Ideal) (G8 m c) := by
  rw [Value.flushed8]
  funext i
  obtain ⟨r, k, rfl⟩ : ∃ (r : Fin 512) (k : Fin 512), i = (ix2 r k : S512x512.Idx) := ⟨i 0, i 1, eq_ix2 i⟩
  rw [View.read_apply]
  exact (point8 m c t r k hG).trans (congrArg (G8 m c) (emb8 t r k).symm)

theorem cover8 (i : S512x512.Idx) : ∃ t : Fin cfg0.N, (cfg0.win 8).flush t = true ∧ i ∈ ((cfg0.win 8).blk t).view.set := by
  have h0 : (i 0 : Nat) < 512 := (i 0).isLt
  have h1 : (i 1 : Nat) < 512 := (i 1).isLt
  have hN : cfg0.N = 1 := N_0
  have hq : (i 0 : Nat) / 512 < cfg0.N := by rw [hN]; omega
  refine ⟨⟨(i 0 : Nat) / 512, hq⟩, flush0_8 _, ?_⟩
  have e : ((cfg0.win 8).blk ⟨(i 0 : Nat) / 512, hq⟩).view.emb (ix2 ⟨(i 0 : Nat) % 512, Nat.mod_lt _ (by omega)⟩ ⟨(i 1 : Nat), h1⟩ : S512x512.Idx) = i := by
    rw [emb8]
    funext a
    apply Fin.ext
    match a with
    | ⟨0, _⟩ => show 512 * ((i 0 : Nat) / 512) + (i 0 : Nat) % 512 = (i 0 : Nat); omega
    | ⟨1, _⟩ => rfl
  have hm := Finset.mem_map_of_mem ((cfg0.win 8).blk ⟨(i 0 : Nat) / 512, hq⟩).view.emb
    (Finset.mem_univ (ix2 ⟨(i 0 : Nat) % 512, Nat.mod_lt _ (by omega)⟩ ⟨(i 1 : Nat), h1⟩ : S512x512.Idx))
  rw [e] at hm
  exact hm

theorem final8 (c : Dev nD) (hG : IsMeans (V m c main_cst)) : (dats m 0 c).arrAt 8 cfg0.N = G8 m c :=
  (dats m 0 c).arrAt_eq_of_cover 8 (G8 m c) (fun t _ => block8 m c t hG) cover8

/-- What output 2 must hold. -/
def G9 (c : Dev nD) : FVec Ideal S512x512 .f32 := (extractStridedSlice S512x512 ![0, 1024] (Z m c) Cert.SampRefIdeal.Gen.slices_S512x3600_S512x512_0_1024)

theorem point9 (c : Dev nD) (t : Fin cfg0.N) (r : Fin 512) (k : Fin 512) :
    (out0_9 (iblk m c 0 t) (iblk m c 1 t) (iblk m c 2 t) (iblk m c 3 t) (iblk m c 4 t) (iblk m c 5 t) (iblk m c 6 t) : FVec Ideal S512x512 .f32) (ix2 r k) = G9 m c (ix2 (row t r) k) := by
  unfold_out out0_9
  rw [View.canon_unit_zero (S := S512x512) hz]
  refine (pay7_apply _ _ r k).trans ((cols7 m c t r k).trans ?_)
  pointwise [G9]
  simp only [row_eq]

theorem hidx9 (t : Fin cfg0.N) : win0_9.index t 0 = t.val ∧ win0_9.index t 1 = 0 := by
  revert t
  exact (by decide +kernel : ∀ t : Fin grid0.N, win0_9.index t 0 = t.val ∧ win0_9.index t 1 = 0)

theorem emb9 (t : Fin cfg0.N) (r : Fin 512) (k : Fin 512) : ((cfg0.win 9).blk t).view.emb (ix2 r k : S512x512.Idx) = (ix2 (row t r) k : S512x512.Idx) := by
  funext a
  apply Fin.ext
  match a with
  | ⟨0, _⟩ => show win0_9.index t 0 * 512 + 1 * r.val = 512 * t.val + r.val; rw [(hidx9 t).1]; omega
  | ⟨1, _⟩ => show win0_9.index t 1 * 512 + 1 * k.val = k.val; rw [(hidx9 t).2]; omega

theorem block9 (c : Dev nD) (t : Fin cfg0.N) : (dats m 0 c).flushed 9 t = ((cfg0.win 9).blk t).view.read (Elt Ideal) (G9 m c) := by
  rw [Value.flushed9]
  funext i
  obtain ⟨r, k, rfl⟩ : ∃ (r : Fin 512) (k : Fin 512), i = (ix2 r k : S512x512.Idx) := ⟨i 0, i 1, eq_ix2 i⟩
  rw [View.read_apply]
  exact (point9 m c t r k).trans (congrArg (G9 m c) (emb9 t r k).symm)

theorem cover9 (i : S512x512.Idx) : ∃ t : Fin cfg0.N, (cfg0.win 9).flush t = true ∧ i ∈ ((cfg0.win 9).blk t).view.set := by
  have h0 : (i 0 : Nat) < 512 := (i 0).isLt
  have h1 : (i 1 : Nat) < 512 := (i 1).isLt
  have hN : cfg0.N = 1 := N_0
  have hq : (i 0 : Nat) / 512 < cfg0.N := by rw [hN]; omega
  refine ⟨⟨(i 0 : Nat) / 512, hq⟩, flush0_9 _, ?_⟩
  have e : ((cfg0.win 9).blk ⟨(i 0 : Nat) / 512, hq⟩).view.emb (ix2 ⟨(i 0 : Nat) % 512, Nat.mod_lt _ (by omega)⟩ ⟨(i 1 : Nat), h1⟩ : S512x512.Idx) = i := by
    rw [emb9]
    funext a
    apply Fin.ext
    match a with
    | ⟨0, _⟩ => show 512 * ((i 0 : Nat) / 512) + (i 0 : Nat) % 512 = (i 0 : Nat); omega
    | ⟨1, _⟩ => rfl
  have hm := Finset.mem_map_of_mem ((cfg0.win 9).blk ⟨(i 0 : Nat) / 512, hq⟩).view.emb
    (Finset.mem_univ (ix2 ⟨(i 0 : Nat) % 512, Nat.mod_lt _ (by omega)⟩ ⟨(i 1 : Nat), h1⟩ : S512x512.Idx))
  rw [e] at hm
  exact hm

theorem final9 (c : Dev nD) : (dats m 0 c).arrAt 9 cfg0.N = G9 m c :=
  (dats m 0 c).arrAt_eq_of_cover 9 (G9 m c) (fun t _ => block9 m c t) cover9

/-- What output 3 must hold. -/
def G10 (c : Dev nD) : FVec Ideal S512x512 .f32 := (extractStridedSlice S512x512 ![0, 1536] (Z m c) Cert.SampRefIdeal.Gen.slices_S512x3600_S512x512_0_1536)

theorem point10 (c : Dev nD) (t : Fin cfg0.N) (r : Fin 512) (k : Fin 512) :
    (out0_10 (iblk m c 0 t) (iblk m c 1 t) (iblk m c 2 t) (iblk m c 3 t) (iblk m c 4 t) (iblk m c 5 t) (iblk m c 6 t) : FVec Ideal S512x512 .f32) (ix2 r k) = G10 m c (ix2 (row t r) k) := by
  unfold_out out0_10
  rw [View.canon_unit_zero (S := S512x512) hz]
  refine (pay8_apply _ _ r k).trans ((cols8 m c t r k).trans ?_)
  pointwise [G10]
  simp only [row_eq]

theorem hidx10 (t : Fin cfg0.N) : win0_10.index t 0 = t.val ∧ win0_10.index t 1 = 0 := by
  revert t
  exact (by decide +kernel : ∀ t : Fin grid0.N, win0_10.index t 0 = t.val ∧ win0_10.index t 1 = 0)

theorem emb10 (t : Fin cfg0.N) (r : Fin 512) (k : Fin 512) : ((cfg0.win 10).blk t).view.emb (ix2 r k : S512x512.Idx) = (ix2 (row t r) k : S512x512.Idx) := by
  funext a
  apply Fin.ext
  match a with
  | ⟨0, _⟩ => show win0_10.index t 0 * 512 + 1 * r.val = 512 * t.val + r.val; rw [(hidx10 t).1]; omega
  | ⟨1, _⟩ => show win0_10.index t 1 * 512 + 1 * k.val = k.val; rw [(hidx10 t).2]; omega

theorem block10 (c : Dev nD) (t : Fin cfg0.N) : (dats m 0 c).flushed 10 t = ((cfg0.win 10).blk t).view.read (Elt Ideal) (G10 m c) := by
  rw [Value.flushed10]
  funext i
  obtain ⟨r, k, rfl⟩ : ∃ (r : Fin 512) (k : Fin 512), i = (ix2 r k : S512x512.Idx) := ⟨i 0, i 1, eq_ix2 i⟩
  rw [View.read_apply]
  exact (point10 m c t r k).trans (congrArg (G10 m c) (emb10 t r k).symm)

theorem cover10 (i : S512x512.Idx) : ∃ t : Fin cfg0.N, (cfg0.win 10).flush t = true ∧ i ∈ ((cfg0.win 10).blk t).view.set := by
  have h0 : (i 0 : Nat) < 512 := (i 0).isLt
  have h1 : (i 1 : Nat) < 512 := (i 1).isLt
  have hN : cfg0.N = 1 := N_0
  have hq : (i 0 : Nat) / 512 < cfg0.N := by rw [hN]; omega
  refine ⟨⟨(i 0 : Nat) / 512, hq⟩, flush0_10 _, ?_⟩
  have e : ((cfg0.win 10).blk ⟨(i 0 : Nat) / 512, hq⟩).view.emb (ix2 ⟨(i 0 : Nat) % 512, Nat.mod_lt _ (by omega)⟩ ⟨(i 1 : Nat), h1⟩ : S512x512.Idx) = i := by
    rw [emb10]
    funext a
    apply Fin.ext
    match a with
    | ⟨0, _⟩ => show 512 * ((i 0 : Nat) / 512) + (i 0 : Nat) % 512 = (i 0 : Nat); omega
    | ⟨1, _⟩ => rfl
  have hm := Finset.mem_map_of_mem ((cfg0.win 10).blk ⟨(i 0 : Nat) / 512, hq⟩).view.emb
    (Finset.mem_univ (ix2 ⟨(i 0 : Nat) % 512, Nat.mod_lt _ (by omega)⟩ ⟨(i 1 : Nat), h1⟩ : S512x512.Idx))
  rw [e] at hm
  exact hm

theorem final10 (c : Dev nD) : (dats m 0 c).arrAt 10 cfg0.N = G10 m c :=
  (dats m 0 c).arrAt_eq_of_cover 10 (G10 m c) (fun t _ => block10 m c t) cover10

/-- What output 4 must hold. -/
def G11 (c : Dev nD) : FVec Ideal S512x512 .f32 := (extractStridedSlice S512x512 ![0, 2048] (Z m c) Cert.SampRefIdeal.Gen.slices_S512x3600_S512x512_0_2048)

theorem point11 (c : Dev nD) (t : Fin cfg0.N) (r : Fin 512) (k : Fin 512) :
    (out0_11 (iblk m c 0 t) (iblk m c 1 t) (iblk m c 2 t) (iblk m c 3 t) (iblk m c 4 t) (iblk m c 5 t) (iblk m c 6 t) : FVec Ideal S512x512 .f32) (ix2 r k) = G11 m c (ix2 (row t r) k) := by
  unfold_out out0_11
  rw [View.canon_unit_zero (S := S512x512) hz]
  refine (pay9_apply _ _ r k).trans ((cols9 m c t r k).trans ?_)
  pointwise [G11]
  simp only [row_eq]

theorem hidx11 (t : Fin cfg0.N) : win0_11.index t 0 = t.val ∧ win0_11.index t 1 = 0 := by
  revert t
  exact (by decide +kernel : ∀ t : Fin grid0.N, win0_11.index t 0 = t.val ∧ win0_11.index t 1 = 0)

theorem emb11 (t : Fin cfg0.N) (r : Fin 512) (k : Fin 512) : ((cfg0.win 11).blk t).view.emb (ix2 r k : S512x512.Idx) = (ix2 (row t r) k : S512x512.Idx) := by
  funext a
  apply Fin.ext
  match a with
  | ⟨0, _⟩ => show win0_11.index t 0 * 512 + 1 * r.val = 512 * t.val + r.val; rw [(hidx11 t).1]; omega
  | ⟨1, _⟩ => show win0_11.index t 1 * 512 + 1 * k.val = k.val; rw [(hidx11 t).2]; omega

theorem block11 (c : Dev nD) (t : Fin cfg0.N) : (dats m 0 c).flushed 11 t = ((cfg0.win 11).blk t).view.read (Elt Ideal) (G11 m c) := by
  rw [Value.flushed11]
  funext i
  obtain ⟨r, k, rfl⟩ : ∃ (r : Fin 512) (k : Fin 512), i = (ix2 r k : S512x512.Idx) := ⟨i 0, i 1, eq_ix2 i⟩
  rw [View.read_apply]
  exact (point11 m c t r k).trans (congrArg (G11 m c) (emb11 t r k).symm)

theorem cover11 (i : S512x512.Idx) : ∃ t : Fin cfg0.N, (cfg0.win 11).flush t = true ∧ i ∈ ((cfg0.win 11).blk t).view.set := by
  have h0 : (i 0 : Nat) < 512 := (i 0).isLt
  have h1 : (i 1 : Nat) < 512 := (i 1).isLt
  have hN : cfg0.N = 1 := N_0
  have hq : (i 0 : Nat) / 512 < cfg0.N := by rw [hN]; omega
  refine ⟨⟨(i 0 : Nat) / 512, hq⟩, flush0_11 _, ?_⟩
  have e : ((cfg0.win 11).blk ⟨(i 0 : Nat) / 512, hq⟩).view.emb (ix2 ⟨(i 0 : Nat) % 512, Nat.mod_lt _ (by omega)⟩ ⟨(i 1 : Nat), h1⟩ : S512x512.Idx) = i := by
    rw [emb11]
    funext a
    apply Fin.ext
    match a with
    | ⟨0, _⟩ => show 512 * ((i 0 : Nat) / 512) + (i 0 : Nat) % 512 = (i 0 : Nat); omega
    | ⟨1, _⟩ => rfl
  have hm := Finset.mem_map_of_mem ((cfg0.win 11).blk ⟨(i 0 : Nat) / 512, hq⟩).view.emb
    (Finset.mem_univ (ix2 ⟨(i 0 : Nat) % 512, Nat.mod_lt _ (by omega)⟩ ⟨(i 1 : Nat), h1⟩ : S512x512.Idx))
  rw [e] at hm
  exact hm

theorem final11 (c : Dev nD) : (dats m 0 c).arrAt 11 cfg0.N = G11 m c :=
  (dats m 0 c).arrAt_eq_of_cover 11 (G11 m c) (fun t _ => block11 m c t) cover11

/-- What output 5 must hold. -/
def G12 (c : Dev nD) : FVec Ideal S512x512 .bf16 := truncf .bf16 (extractStridedSlice S512x512 ![0, 2560] (Z m c) Cert.SampRefIdeal.Gen.slices_S512x3600_S512x512_0_2560) bitsLt_bf16_f32

theorem point12 (c : Dev nD) (t : Fin cfg0.N) (r : Fin 512) (k : Fin 512) :
    (out0_12 (iblk m c 0 t) (iblk m c 1 t) (iblk m c 2 t) (iblk m c 3 t) (iblk m c 4 t) (iblk m c 5 t) (iblk m c 6 t) : FVec Ideal S512x512 .bf16) (ix2 r k) = G12 m c (ix2 (row t r) k) := by
  unfold_out out0_12
  rw [View.canon_unit_zero (S := S512x512) hz]
  refine (pay1_apply _ _ r k).trans ((cols10 m c t r k).trans ?_)
  pointwise [G12]
  simp only [row_eq]

theorem hidx12 (t : Fin cfg0.N) : win0_12.index t 0 = t.val ∧ win0_12.index t 1 = 0 := by
  revert t
  exact (by decide +kernel : ∀ t : Fin grid0.N, win0_12.index t 0 = t.val ∧ win0_12.index t 1 = 0)

theorem emb12 (t : Fin cfg0.N) (r : Fin 512) (k : Fin 512) : ((cfg0.win 12).blk t).view.emb (ix2 r k : S512x512.Idx) = (ix2 (row t r) k : S512x512.Idx) := by
  funext a
  apply Fin.ext
  match a with
  | ⟨0, _⟩ => show win0_12.index t 0 * 512 + 1 * r.val = 512 * t.val + r.val; rw [(hidx12 t).1]; omega
  | ⟨1, _⟩ => show win0_12.index t 1 * 512 + 1 * k.val = k.val; rw [(hidx12 t).2]; omega

theorem block12 (c : Dev nD) (t : Fin cfg0.N) : (dats m 0 c).flushed 12 t = ((cfg0.win 12).blk t).view.read (Elt Ideal) (G12 m c) := by
  rw [Value.flushed12]
  funext i
  obtain ⟨r, k, rfl⟩ : ∃ (r : Fin 512) (k : Fin 512), i = (ix2 r k : S512x512.Idx) := ⟨i 0, i 1, eq_ix2 i⟩
  rw [View.read_apply]
  exact (point12 m c t r k).trans (congrArg (G12 m c) (emb12 t r k).symm)

theorem cover12 (i : S512x512.Idx) : ∃ t : Fin cfg0.N, (cfg0.win 12).flush t = true ∧ i ∈ ((cfg0.win 12).blk t).view.set := by
  have h0 : (i 0 : Nat) < 512 := (i 0).isLt
  have h1 : (i 1 : Nat) < 512 := (i 1).isLt
  have hN : cfg0.N = 1 := N_0
  have hq : (i 0 : Nat) / 512 < cfg0.N := by rw [hN]; omega
  refine ⟨⟨(i 0 : Nat) / 512, hq⟩, flush0_12 _, ?_⟩
  have e : ((cfg0.win 12).blk ⟨(i 0 : Nat) / 512, hq⟩).view.emb (ix2 ⟨(i 0 : Nat) % 512, Nat.mod_lt _ (by omega)⟩ ⟨(i 1 : Nat), h1⟩ : S512x512.Idx) = i := by
    rw [emb12]
    funext a
    apply Fin.ext
    match a with
    | ⟨0, _⟩ => show 512 * ((i 0 : Nat) / 512) + (i 0 : Nat) % 512 = (i 0 : Nat); omega
    | ⟨1, _⟩ => rfl
  have hm := Finset.mem_map_of_mem ((cfg0.win 12).blk ⟨(i 0 : Nat) / 512, hq⟩).view.emb
    (Finset.mem_univ (ix2 ⟨(i 0 : Nat) % 512, Nat.mod_lt _ (by omega)⟩ ⟨(i 1 : Nat), h1⟩ : S512x512.Idx))
  rw [e] at hm
  exact hm

theorem final12 (c : Dev nD) : (dats m 0 c).arrAt 12 cfg0.N = G12 m c :=
  (dats m 0 c).arrAt_eq_of_cover 12 (G12 m c) (fun t _ => block12 m c t) cover12

/-- What output 6 must hold. -/
def G13 (c : Dev nD) : FVec Ideal S512x512 .f32 := (extractStridedSlice S512x512 ![0, 3072] (Z m c) Cert.SampRefIdeal.Gen.slices_S512x3600_S512x512_0_3072)

theorem point13 (c : Dev nD) (t : Fin cfg0.N) (r : Fin 512) (k : Fin 512) :
    (out0_13 (iblk m c 0 t) (iblk m c 1 t) (iblk m c 2 t) (iblk m c 3 t) (iblk m c 4 t) (iblk m c 5 t) (iblk m c 6 t) : FVec Ideal S512x512 .f32) (ix2 r k) = G13 m c (ix2 (row t r) k) := by
  unfold_out out0_13
  rw [View.canon_unit_zero (S := S512x512) hz]
  refine (pay2_apply _ _ r k).trans ((cols11 m c t r k).trans ?_)
  pointwise [G13]
  simp only [row_eq]

theorem hidx13 (t : Fin cfg0.N) : win0_13.index t 0 = t.val ∧ win0_13.index t 1 = 0 := by
  revert t
  exact (by decide +kernel : ∀ t : Fin grid0.N, win0_13.index t 0 = t.val ∧ win0_13.index t 1 = 0)

theorem emb13 (t : Fin cfg0.N) (r : Fin 512) (k : Fin 512) : ((cfg0.win 13).blk t).view.emb (ix2 r k : S512x512.Idx) = (ix2 (row t r) k : S512x512.Idx) := by
  funext a
  apply Fin.ext
  match a with
  | ⟨0, _⟩ => show win0_13.index t 0 * 512 + 1 * r.val = 512 * t.val + r.val; rw [(hidx13 t).1]; omega
  | ⟨1, _⟩ => show win0_13.index t 1 * 512 + 1 * k.val = k.val; rw [(hidx13 t).2]; omega

theorem block13 (c : Dev nD) (t : Fin cfg0.N) : (dats m 0 c).flushed 13 t = ((cfg0.win 13).blk t).view.read (Elt Ideal) (G13 m c) := by
  rw [Value.flushed13]
  funext i
  obtain ⟨r, k, rfl⟩ : ∃ (r : Fin 512) (k : Fin 512), i = (ix2 r k : S512x512.Idx) := ⟨i 0, i 1, eq_ix2 i⟩
  rw [View.read_apply]
  exact (point13 m c t r k).trans (congrArg (G13 m c) (emb13 t r k).symm)

theorem cover13 (i : S512x512.Idx) : ∃ t : Fin cfg0.N, (cfg0.win 13).flush t = true ∧ i ∈ ((cfg0.win 13).blk t).view.set := by
  have h0 : (i 0 : Nat) < 512 := (i 0).isLt
  have h1 : (i 1 : Nat) < 512 := (i 1).isLt
  have hN : cfg0.N = 1 := N_0
  have hq : (i 0 : Nat) / 512 < cfg0.N := by rw [hN]; omega
  refine ⟨⟨(i 0 : Nat) / 512, hq⟩, flush0_13 _, ?_⟩
  have e : ((cfg0.win 13).blk ⟨(i 0 : Nat) / 512, hq⟩).view.emb (ix2 ⟨(i 0 : Nat) % 512, Nat.mod_lt _ (by omega)⟩ ⟨(i 1 : Nat), h1⟩ : S512x512.Idx) = i := by
    rw [emb13]
    funext a
    apply Fin.ext
    match a with
    | ⟨0, _⟩ => show 512 * ((i 0 : Nat) / 512) + (i 0 : Nat) % 512 = (i 0 : Nat); omega
    | ⟨1, _⟩ => rfl
  have hm := Finset.mem_map_of_mem ((cfg0.win 13).blk ⟨(i 0 : Nat) / 512, hq⟩).view.emb
    (Finset.mem_univ (ix2 ⟨(i 0 : Nat) % 512, Nat.mod_lt _ (by omega)⟩ ⟨(i 1 : Nat), h1⟩ : S512x512.Idx))
  rw [e] at hm
  exact hm

theorem final13 (c : Dev nD) : (dats m 0 c).arrAt 13 cfg0.N = G13 m c :=
  (dats m 0 c).arrAt_eq_of_cover 13 (G13 m c) (fun t _ => block13 m c t) cover13

/-- What output 7 must hold. -/
def G14 (c : Dev nD) : FVec Ideal S512x128 .f32 := pad S512x128 ![0, 0] ![0, 112] ![0, 0] (extractStridedSlice SampRefIdeal.S512x16 ![0, 3584] (Z m c) Cert.SampRefIdeal.Gen.slices_S512x3600_S512x16_0_3584) (sitofp .f32 (constantI S_ 32 0#32)) Cert.SampRefIdeal.Gen.pads_S512x16_S512x128_000_01120 h_S_

theorem point14 (c : Dev nD) (t : Fin cfg0.N) (r : Fin 512) (k : Fin 128) :
    (out0_14 (iblk m c 0 t) (iblk m c 1 t) (iblk m c 2 t) (iblk m c 3 t) (iblk m c 4 t) (iblk m c 5 t) (iblk m c 6 t) : FVec Ideal S512x128 .f32) (ix2 r k) = G14 m c (ix2 (row t r) k) := by
  unfold_out out0_14
  rw [View.canon_unit_zero (S := S512x128) hz]
  refine (pay3_apply _ _ r k).trans ?_
  rw [View.ld_unit_zero (S := S1024x128) hz, iblk3, V_v5]
  unfold G14
  refine (Finset.sum_congr rfl fun j _ => congrArg (· * _) (rows m c t r j)).trans ?_
  pointwise
  simp only [row_eq]
  by_cases h : k.val < 16
  · simp only [dif_pos h]
    exact (SampRefIdeal.Read.zz_apply _ _ _ _ _).symm
  · simp only [dif_neg h]
    have e : (FloatOps.sitofp (F := Ideal) FTy.f32 0#32 : EReal) = 0 := by simp [FloatOps.sitofp]
    rw [e]
    simp

theorem hidx14 (t : Fin cfg0.N) : win0_14.index t 0 = t.val ∧ win0_14.index t 1 = 0 := by
  revert t
  exact (by decide +kernel : ∀ t : Fin grid0.N, win0_14.index t 0 = t.val ∧ win0_14.index t 1 = 0)

theorem emb14 (t : Fin cfg0.N) (r : Fin 512) (k : Fin 128) : ((cfg0.win 14).blk t).view.emb (ix2 r k : S512x128.Idx) = (ix2 (row t r) k : S512x128.Idx) := by
  funext a
  apply Fin.ext
  match a with
  | ⟨0, _⟩ => show win0_14.index t 0 * 512 + 1 * r.val = 512 * t.val + r.val; rw [(hidx14 t).1]; omega
  | ⟨1, _⟩ => show win0_14.index t 1 * 128 + 1 * k.val = k.val; rw [(hidx14 t).2]; omega

theorem block14 (c : Dev nD) (t : Fin cfg0.N) : (dats m 0 c).flushed 14 t = ((cfg0.win 14).blk t).view.read (Elt Ideal) (G14 m c) := by
  rw [Value.flushed14]
  funext i
  obtain ⟨r, k, rfl⟩ : ∃ (r : Fin 512) (k : Fin 128), i = (ix2 r k : S512x128.Idx) := ⟨i 0, i 1, eq_ix2 i⟩
  rw [View.read_apply]
  exact (point14 m c t r k).trans (congrArg (G14 m c) (emb14 t r k).symm)

theorem cover14 (i : S512x128.Idx) : ∃ t : Fin cfg0.N, (cfg0.win 14).flush t = true ∧ i ∈ ((cfg0.win 14).blk t).view.set := by
  have h0 : (i 0 : Nat) < 512 := (i 0).isLt
  have h1 : (i 1 : Nat) < 128 := (i 1).isLt
  have hN : cfg0.N = 1 := N_0
  have hq : (i 0 : Nat) / 512 < cfg0.N := by rw [hN]; omega
  refine ⟨⟨(i 0 : Nat) / 512, hq⟩, flush0_14 _, ?_⟩
  have e : ((cfg0.win 14).blk ⟨(i 0 : Nat) / 512, hq⟩).view.emb (ix2 ⟨(i 0 : Nat) % 512, Nat.mod_lt _ (by omega)⟩ ⟨(i 1 : Nat), h1⟩ : S512x128.Idx) = i := by
    rw [emb14]
    funext a
    apply Fin.ext
    match a with
    | ⟨0, _⟩ => show 512 * ((i 0 : Nat) / 512) + (i 0 : Nat) % 512 = (i 0 : Nat); omega
    | ⟨1, _⟩ => rfl
  have hm := Finset.mem_map_of_mem ((cfg0.win 14).blk ⟨(i 0 : Nat) / 512, hq⟩).view.emb
    (Finset.mem_univ (ix2 ⟨(i 0 : Nat) % 512, Nat.mod_lt _ (by omega)⟩ ⟨(i 1 : Nat), h1⟩ : S512x128.Idx))
  rw [e] at hm
  exact hm

theorem final14 (c : Dev nD) : (dats m 0 c).arrAt 14 cfg0.N = G14 m c :=
  (dats m 0 c).arrAt_eq_of_cover 14 (G14 m c) (fun t _ => block14 m c t) cover14

/-- The kernel's table of group means is the one the lemmas ask for. -/
theorem means (c : Dev nD) : IsMeans (V m c main_cst) := by
  intro x y
  have e : (S256x256.rowMajor (ix2 x y : S256x256.Idx)).val = x.val * 256 + y.val := rowMajor_val2 _ 256 rfl
  have hx := x.isLt
  have hy := y.isLt
  have t := Table.lit0_eq (S256x256.rowMajor (ix2 x y : S256x256.Idx))
  have e1 : (x.val * 256 + y.val) / 256 = x.val := by omega
  have e2 : (x.val * 256 + y.val) % 256 = y.val := by omega
  rw [e, e1, e2] at t
  rw [V_cst]
  refine (congrArg (Ideal.ofBits .bf16) t).trans ?_
  split
  · rfl
  · simp [Ideal.ofBits, Ideal.ieee]

end Cert.SampIdeal.Read

end
-- ==== Proof.SampClaim.lean ====
module

public import proofs.«01_k».proof.Defs
public import proofs.«01_k».proof.Proof.SampRun
public import proofs.«01_k».proof.Proof.Gen.Samp.Frame
public import Idealize.ShloMosaic.Init

@[expose] public section

set_option maxRecDepth 16384

noncomputable section

namespace Cert.SampIdeal.Read

open Cert.SampIdeal Cert.SampIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The kernel's run: every output holds its closed form, the arguments are unchanged. -/
theorem run : θ_run defs (onTc (τ := τ) (main (F := Ideal))) ⟨m, fun _ => 0, ρ⟩ (fun r => ∀ c : Dev nD,
      r.2.mem ((c.tc : Thread nD τ).loc main_v14_0) = G7 m c
      ∧ r.2.mem ((c.tc : Thread nD τ).loc main_v14_1) = G8 m c
      ∧ r.2.mem ((c.tc : Thread nD τ).loc main_v14_2) = G9 m c
      ∧ r.2.mem ((c.tc : Thread nD τ).loc main_v14_3) = G10 m c
      ∧ r.2.mem ((c.tc : Thread nD τ).loc main_v14_4) = G11 m c
      ∧ r.2.mem ((c.tc : Thread nD τ).loc main_v14_5) = G12 m c
      ∧ r.2.mem ((c.tc : Thread nD τ).loc main_v14_6) = G13 m c
      ∧ r.2.mem ((c.tc : Thread nD τ).loc main_v14_7) = G14 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 7).trans (final7 m c (means m c)),
    ((h c).1 8).trans (final8 m c (means m c)),
    ((h c).1 9).trans (final9 m c),
    ((h c).1 10).trans (final10 m c),
    ((h c).1 11).trans (final11 m c),
    ((h c).1 12).trans (final12 m c),
    ((h c).1 13).trans (final13 m c),
    ((h c).1 14).trans (final14 m c),
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩) (run_main m ρ)

end Cert.SampIdeal.Read

namespace Cert.Proof

open Idealize.ShloMosaic Idealize.SL.Sem

/-- The printed projection terminates and leaves its arguments. -/
theorem frame_Samp : quiescent_Samp (hSamp := Cert.Samp.Gen.facts) := fun m g _ => Cert.Samp.Gen.frame m g

/-- So does its reading over the extended reals. -/
theorem frame_SampIdeal : quiescent_SampIdeal (hSampIdeal := Cert.SampIdeal.Gen.facts) := fun m g _ => Cert.SampIdeal.Gen.frame m g

/-- The reference terminates and leaves its arguments. -/
theorem frame_SampRefIdeal : quiescent_SampRefIdeal (hSampRefIdeal := Cert.SampRefIdeal.Gen.facts) := fun m g _ =>
  (θ_run Cert.SampRefIdeal.defs _ _).mono (fun r h => ⟨fun c => (h c).2.2.2.2.2.2.2.2, Idealize.ShloMosaic.sem_eq_zero_of_no_sems (by decide) r.2⟩)
    (Cert.SampRefIdeal.Value.run (F := Ideal) m g)

/-- Over the extended reals the projection computes the reference's eight results. -/
theorem algebraic_Samp : algebraic_SampIdeal_SampRefIdeal (hSampIdeal := Cert.SampIdeal.Gen.facts) (hSampRefIdeal := Cert.SampRefIdeal.Gen.facts) := by
  intro m g m' g' _ hin
  refine ⟨SampIdeal.Read.G7 m, SampIdeal.Read.G8 m, SampIdeal.Read.G9 m, SampIdeal.Read.G10 m, SampIdeal.Read.G11 m, SampIdeal.Read.G12 m, SampIdeal.Read.G13 m, SampIdeal.Read.G14 m, SampIdeal.Read.run m g, ?_⟩
  refine (θ_run Cert.SampRefIdeal.defs _ _).mono (fun r h c => ?_) (Cert.SampRefIdeal.Value.run (F := Ideal) m' g')
  obtain ⟨h0, h1, h2, h3, h4, h5, h6, h7, hargs⟩ := h c
  obtain ⟨e0, e1, e2, e3, e4⟩ := hin c
  rw [e0, e1, e2] at h0 h1 h2 h3 h4 h5 h6 h7
  rw [e3] at h0
  rw [e4] at h1
  exact ⟨h0, h1, h2, h3, h4, h5, h6, h7, hargs⟩

end Cert.Proof

end
-- ==== Proof.lean ====
module

public import proofs.«01_k».proof.Defs
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Gen.ProjIdeal.Value
public import proofs.«01_k».proof.Proof.ProjClaim
public import proofs.«01_k».proof.Proof.FfnClaim
public import proofs.«01_k».proof.Proof.OutClaim
public import proofs.«01_k».proof.Proof.SampClaim
public import Idealize.ShloMosaic.Adequacy
public import Idealize.ShloMosaic.Init

@[expose] public section

noncomputable section

namespace Cert.Proof

open Idealize.ShloMosaic Idealize.SL.Sem Cert.Proj

/-- The claims. -/
theorem claim : Cert.Claim := ⟨Cert.Proj.Gen.facts, Cert.ProjIdeal.Gen.facts, Cert.ProjRefIdeal.Gen.facts,
  Cert.Experts.Gen.facts, Cert.ExpertsIdeal.Gen.facts, Cert.ExpertsRefIdeal.Gen.facts,
  Cert.Out.Gen.facts, Cert.OutIdeal.Gen.facts, Cert.OutRefIdeal.Gen.facts,
  Cert.Samp.Gen.facts, Cert.SampIdeal.Gen.facts, Cert.SampRefIdeal.Gen.facts, Cert.Pre_in_range.Gen.facts,
  frame_Proj, frame_ProjIdeal, frame_ProjRefIdeal, frame_Experts, frame_ExpertsIdeal, frame_ExpertsRefIdeal,
  frame_Out, frame_OutIdeal, frame_OutRefIdeal, frame_Samp, frame_SampIdeal, frame_SampRefIdeal,
  trivial, algebraic_Proj, trivial, algebraic_Experts, trivial, algebraic_Out, trivial, algebraic_Samp⟩

end Cert.Proof

end
